-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_KernelQkvIdeal_finite_projection [hPre_finite_projection : Cert.Pre_finite_projection.Facts] (m : (ℓ : Loc Cert.KernelQkvIdeal.nD Cert.KernelQkvIdeal.τ Cert.KernelQkvIdeal.sig) → Buf (Elt Ideal) ℓ) : Prop :=
  ∀ c : Dev Cert.KernelQkvIdeal.nD,
    (Cert.Pre_finite_projection.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5))).1 = (fun _ => 1#1)
    ∧ (Cert.Pre_finite_projection.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5))).2.1 = (fun _ => 1#1)
    ∧ (Cert.Pre_finite_projection.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5))).2.2 = (fun _ => 1#1)

def Pre_ReferenceQkvIdeal (m : (ℓ : Loc Cert.ReferenceQkvIdeal.nD Cert.ReferenceQkvIdeal.τ Cert.ReferenceQkvIdeal.sig) → Buf (Elt Ideal) ℓ) : Prop :=
  True

def Pre_ReferenceQkvIdeal_finite_projection [hPre_finite_projection : Cert.Pre_finite_projection.Facts] (m : (ℓ : Loc Cert.ReferenceQkvIdeal.nD Cert.ReferenceQkvIdeal.τ Cert.ReferenceQkvIdeal.sig) → Buf (Elt Ideal) ℓ) : Prop :=
  ∀ c : Dev Cert.ReferenceQkvIdeal.nD,
    (Cert.Pre_finite_projection.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5))).1 = (fun _ => 1#1)
    ∧ (Cert.Pre_finite_projection.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5))).2.1 = (fun _ => 1#1)
    ∧ (Cert.Pre_finite_projection.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5))).2.2 = (fun _ => 1#1)

def Pre_KernelCtx (m : (ℓ : Loc Cert.KernelCtx.nD Cert.KernelCtx.τ Cert.KernelCtx.sig) → Buf (Elt Bits) ℓ) : Prop :=
  True

def Pre_KernelCtxIdeal (m : (ℓ : Loc Cert.KernelCtxIdeal.nD Cert.KernelCtxIdeal.τ Cert.KernelCtxIdeal.sig) → Buf (Elt Ideal) ℓ) : Prop :=
  True

def Pre_KernelCtxIdeal_finite_prompt_scores [hPre_finite_prompt_scores : Cert.Pre_finite_prompt_scores.Facts] (m : (ℓ : Loc Cert.KernelCtxIdeal.nD Cert.KernelCtxIdeal.τ Cert.KernelCtxIdeal.sig) → Buf (Elt Ideal) ℓ) : Prop :=
  ∀ c : Dev Cert.KernelCtxIdeal.nD,
    (Cert.Pre_finite_prompt_scores.fn (F := Ideal) (m ((c.tc : Thread Cert.KernelCtxIdeal.nD Cert.KernelCtxIdeal.τ).loc Cert.KernelCtxIdeal.main_arg0)) (m ((c.tc : Thread Cert.KernelCtxIdeal.nD Cert.KernelCtxIdeal.τ).loc Cert.KernelCtxIdeal.main_arg1)) (m ((c.tc : Thread Cert.KernelCtxIdeal.nD Cert.KernelCtxIdeal.τ).loc Cert.KernelCtxIdeal.main_arg2)) (m ((c.tc : Thread Cert.KernelCtxIdeal.nD Cert.KernelCtxIdeal.τ).loc Cert.KernelCtxIdeal.main_arg3)) (m ((c.tc : Thread Cert.KernelCtxIdeal.nD Cert.KernelCtxIdeal.τ).loc Cert.KernelCtxIdeal.main_arg4)) (m ((c.tc : Thread Cert.KernelCtxIdeal.nD Cert.KernelCtxIdeal.τ).loc Cert.KernelCtxIdeal.main_arg5))).1 = (fun _ => 1#1)
    ∧ (Cert.Pre_finite_prompt_scores.fn (F := Ideal) (m ((c.tc : Thread Cert.KernelCtxIdeal.nD Cert.KernelCtxIdeal.τ).loc Cert.KernelCtxIdeal.main_arg0)) (m ((c.tc : Thread Cert.KernelCtxIdeal.nD Cert.KernelCtxIdeal.τ).loc Cert.KernelCtxIdeal.main_arg1)) (m ((c.tc : Thread Cert.KernelCtxIdeal.nD Cert.KernelCtxIdeal.τ).loc Cert.KernelCtxIdeal.main_arg2)) (m ((c.tc : Thread Cert.KernelCtxIdeal.nD Cert.KernelCtxIdeal.τ).loc Cert.KernelCtxIdeal.main_arg3)) (m ((c.tc : Thread Cert.KernelCtxIdeal.nD Cert.KernelCtxIdeal.τ).loc Cert.KernelCtxIdeal.main_arg4)) (m ((c.tc : Thread Cert.KernelCtxIdeal.nD Cert.KernelCtxIdeal.τ).loc Cert.KernelCtxIdeal.main_arg5))).2 = (fun _ => 1#1)

def Pre_ReferenceCtxIdeal (m : (ℓ : Loc Cert.ReferenceCtxIdeal.nD Cert.ReferenceCtxIdeal.τ Cert.ReferenceCtxIdeal.sig) → Buf (Elt Ideal) ℓ) : Prop :=
  True

def Pre_ReferenceCtxIdeal_finite_prompt_scores [hPre_finite_prompt_scores : Cert.Pre_finite_prompt_scores.Facts] (m : (ℓ : Loc Cert.ReferenceCtxIdeal.nD Cert.ReferenceCtxIdeal.τ Cert.ReferenceCtxIdeal.sig) → Buf (Elt Ideal) ℓ) : Prop :=
  ∀ c : Dev Cert.ReferenceCtxIdeal.nD,
    (Cert.Pre_finite_prompt_scores.fn (F := Ideal) (m ((c.tc : Thread Cert.ReferenceCtxIdeal.nD Cert.ReferenceCtxIdeal.τ).loc Cert.ReferenceCtxIdeal.main_arg0)) (m ((c.tc : Thread Cert.ReferenceCtxIdeal.nD Cert.ReferenceCtxIdeal.τ).loc Cert.ReferenceCtxIdeal.main_arg1)) (m ((c.tc : Thread Cert.ReferenceCtxIdeal.nD Cert.ReferenceCtxIdeal.τ).loc Cert.ReferenceCtxIdeal.main_arg2)) (m ((c.tc : Thread Cert.ReferenceCtxIdeal.nD Cert.ReferenceCtxIdeal.τ).loc Cert.ReferenceCtxIdeal.main_arg3)) (m ((c.tc : Thread Cert.ReferenceCtxIdeal.nD Cert.ReferenceCtxIdeal.τ).loc Cert.ReferenceCtxIdeal.main_arg4)) (m ((c.tc : Thread Cert.ReferenceCtxIdeal.nD Cert.ReferenceCtxIdeal.τ).loc Cert.ReferenceCtxIdeal.main_arg5))).1 = (fun _ => 1#1)
    ∧ (Cert.Pre_finite_prompt_scores.fn (F := Ideal) (m ((c.tc : Thread Cert.ReferenceCtxIdeal.nD Cert.ReferenceCtxIdeal.τ).loc Cert.ReferenceCtxIdeal.main_arg0)) (m ((c.tc : Thread Cert.ReferenceCtxIdeal.nD Cert.ReferenceCtxIdeal.τ).loc Cert.ReferenceCtxIdeal.main_arg1)) (m ((c.tc : Thread Cert.ReferenceCtxIdeal.nD Cert.ReferenceCtxIdeal.τ).loc Cert.ReferenceCtxIdeal.main_arg2)) (m ((c.tc : Thread Cert.ReferenceCtxIdeal.nD Cert.ReferenceCtxIdeal.τ).loc Cert.ReferenceCtxIdeal.main_arg3)) (m ((c.tc : Thread Cert.ReferenceCtxIdeal.nD Cert.ReferenceCtxIdeal.τ).loc Cert.ReferenceCtxIdeal.main_arg4)) (m ((c.tc : Thread Cert.ReferenceCtxIdeal.nD Cert.ReferenceCtxIdeal.τ).loc Cert.ReferenceCtxIdeal.main_arg5))).2 = (fun _ => 1#1)

def Pre_KernelSelect (m : (ℓ : Loc Cert.KernelSelect.nD Cert.KernelSelect.τ Cert.KernelSelect.sig) → Buf (Elt Bits) ℓ) : Prop :=
  True

def Pre_KernelSelectIdeal (m : (ℓ : Loc Cert.KernelSelectIdeal.nD Cert.KernelSelectIdeal.τ Cert.KernelSelectIdeal.sig) → Buf (Elt Ideal) ℓ) : Prop :=
  True

def Pre_KernelSelectIdeal_finite_keys [hPre_finite_keys : Cert.Pre_finite_keys.Facts] (m : (ℓ : Loc Cert.KernelSelectIdeal.nD Cert.KernelSelectIdeal.τ Cert.KernelSelectIdeal.sig) → Buf (Elt Ideal) ℓ) : Prop :=
  ∀ c : Dev Cert.KernelSelectIdeal.nD,
    (Cert.Pre_finite_keys.fn (F := Ideal) (m ((c.tc : Thread Cert.KernelSelectIdeal.nD Cert.KernelSelectIdeal.τ).loc Cert.KernelSelectIdeal.main_arg0)) (m ((c.tc : Thread Cert.KernelSelectIdeal.nD Cert.KernelSelectIdeal.τ).loc Cert.KernelSelectIdeal.main_arg1)) (m ((c.tc : Thread Cert.KernelSelectIdeal.nD Cert.KernelSelectIdeal.τ).loc Cert.KernelSelectIdeal.main_arg2)) (m ((c.tc : Thread Cert.KernelSelectIdeal.nD Cert.KernelSelectIdeal.τ).loc Cert.KernelSelectIdeal.main_arg3)) (m ((c.tc : Thread Cert.KernelSelectIdeal.nD Cert.KernelSelectIdeal.τ).loc Cert.KernelSelectIdeal.main_arg4))).1 = (fun _ => 1#1)
    ∧ (Cert.Pre_finite_keys.fn (F := Ideal) (m ((c.tc : Thread Cert.KernelSelectIdeal.nD Cert.KernelSelectIdeal.τ).loc Cert.KernelSelectIdeal.main_arg0)) (m ((c.tc : Thread Cert.KernelSelectIdeal.nD Cert.KernelSelectIdeal.τ).loc Cert.KernelSelectIdeal.main_arg1)) (m ((c.tc : Thread Cert.KernelSelectIdeal.nD Cert.KernelSelectIdeal.τ).loc Cert.KernelSelectIdeal.main_arg2)) (m ((c.tc : Thread Cert.KernelSelectIdeal.nD Cert.KernelSelectIdeal.τ).loc Cert.KernelSelectIdeal.main_arg3)) (m ((c.tc : Thread Cert.KernelSelectIdeal.nD Cert.KernelSelectIdeal.τ).loc Cert.KernelSelectIdeal.main_arg4))).2.1 = (fun _ => 1#1)
    ∧ (Cert.Pre_finite_keys.fn (F := Ideal) (m ((c.tc : Thread Cert.KernelSelectIdeal.nD Cert.KernelSelectIdeal.τ).loc Cert.KernelSelectIdeal.main_arg0)) (m ((c.tc : Thread Cert.KernelSelectIdeal.nD Cert.KernelSelectIdeal.τ).loc Cert.KernelSelectIdeal.main_arg1)) (m ((c.tc : Thread Cert.KernelSelectIdeal.nD Cert.KernelSelectIdeal.τ).loc Cert.KernelSelectIdeal.main_arg2)) (m ((c.tc : Thread Cert.KernelSelectIdeal.nD Cert.KernelSelectIdeal.τ).loc Cert.KernelSelectIdeal.main_arg3)) (m ((c.tc : Thread Cert.KernelSelectIdeal.nD Cert.KernelSelectIdeal.τ).loc Cert.KernelSelectIdeal.main_arg4))).2.2.1 = (fun _ => 1#1)
    ∧ (Cert.Pre_finite_keys.fn (F := Ideal) (m ((c.tc : Thread Cert.KernelSelectIdeal.nD Cert.KernelSelectIdeal.τ).loc Cert.KernelSelectIdeal.main_arg0)) (m ((c.tc : Thread Cert.KernelSelectIdeal.nD Cert.KernelSelectIdeal.τ).loc Cert.KernelSelectIdeal.main_arg1)) (m ((c.tc : Thread Cert.KernelSelectIdeal.nD Cert.KernelSelectIdeal.τ).loc Cert.KernelSelectIdeal.main_arg2)) (m ((c.tc : Thread Cert.KernelSelectIdeal.nD Cert.KernelSelectIdeal.τ).loc Cert.KernelSelectIdeal.main_arg3)) (m ((c.tc : Thread Cert.KernelSelectIdeal.nD Cert.KernelSelectIdeal.τ).loc Cert.KernelSelectIdeal.main_arg4))).2.2.2 = (fun _ => 1#1)

def Pre_ReferenceSelectIdeal (m : (ℓ : Loc Cert.ReferenceSelectIdeal.nD Cert.ReferenceSelectIdeal.τ Cert.ReferenceSelectIdeal.sig) → Buf (Elt Ideal) ℓ) : Prop :=
  True

def Pre_ReferenceSelectIdeal_finite_keys [hPre_finite_keys : Cert.Pre_finite_keys.Facts] (m : (ℓ : Loc Cert.ReferenceSelectIdeal.nD Cert.ReferenceSelectIdeal.τ Cert.ReferenceSelectIdeal.sig) → Buf (Elt Ideal) ℓ) : Prop :=
  ∀ c : Dev Cert.ReferenceSelectIdeal.nD,
    (Cert.Pre_finite_keys.fn (F := Ideal) (m ((c.tc : Thread Cert.ReferenceSelectIdeal.nD Cert.ReferenceSelectIdeal.τ).loc Cert.ReferenceSelectIdeal.main_arg0)) (m ((c.tc : Thread Cert.ReferenceSelectIdeal.nD Cert.ReferenceSelectIdeal.τ).loc Cert.ReferenceSelectIdeal.main_arg1)) (m ((c.tc : Thread Cert.ReferenceSelectIdeal.nD Cert.ReferenceSelectIdeal.τ).loc Cert.ReferenceSelectIdeal.main_arg2)) (m ((c.tc : Thread Cert.ReferenceSelectIdeal.nD Cert.ReferenceSelectIdeal.τ).loc Cert.ReferenceSelectIdeal.main_arg3)) (m ((c.tc : Thread Cert.ReferenceSelectIdeal.nD Cert.ReferenceSelectIdeal.τ).loc Cert.ReferenceSelectIdeal.main_arg4))).1 = (fun _ => 1#1)
    ∧ (Cert.Pre_finite_keys.fn (F := Ideal) (m ((c.tc : Thread Cert.ReferenceSelectIdeal.nD Cert.ReferenceSelectIdeal.τ).loc Cert.ReferenceSelectIdeal.main_arg0)) (m ((c.tc : Thread Cert.ReferenceSelectIdeal.nD Cert.ReferenceSelectIdeal.τ).loc Cert.ReferenceSelectIdeal.main_arg1)) (m ((c.tc : Thread Cert.ReferenceSelectIdeal.nD Cert.ReferenceSelectIdeal.τ).loc Cert.ReferenceSelectIdeal.main_arg2)) (m ((c.tc : Thread Cert.ReferenceSelectIdeal.nD Cert.ReferenceSelectIdeal.τ).loc Cert.ReferenceSelectIdeal.main_arg3)) (m ((c.tc : Thread Cert.ReferenceSelectIdeal.nD Cert.ReferenceSelectIdeal.τ).loc Cert.ReferenceSelectIdeal.main_arg4))).2.1 = (fun _ => 1#1)
    ∧ (Cert.Pre_finite_keys.fn (F := Ideal) (m ((c.tc : Thread Cert.ReferenceSelectIdeal.nD Cert.ReferenceSelectIdeal.τ).loc Cert.ReferenceSelectIdeal.main_arg0)) (m ((c.tc : Thread Cert.ReferenceSelectIdeal.nD Cert.ReferenceSelectIdeal.τ).loc Cert.ReferenceSelectIdeal.main_arg1)) (m ((c.tc : Thread Cert.ReferenceSelectIdeal.nD Cert.ReferenceSelectIdeal.τ).loc Cert.ReferenceSelectIdeal.main_arg2)) (m ((c.tc : Thread Cert.ReferenceSelectIdeal.nD Cert.ReferenceSelectIdeal.τ).loc Cert.ReferenceSelectIdeal.main_arg3)) (m ((c.tc : Thread Cert.ReferenceSelectIdeal.nD Cert.ReferenceSelectIdeal.τ).loc Cert.ReferenceSelectIdeal.main_arg4))).2.2.1 = (fun _ => 1#1)
    ∧ (Cert.Pre_finite_keys.fn (F := Ideal) (m ((c.tc : Thread Cert.ReferenceSelectIdeal.nD Cert.ReferenceSelectIdeal.τ).loc Cert.ReferenceSelectIdeal.main_arg0)) (m ((c.tc : Thread Cert.ReferenceSelectIdeal.nD Cert.ReferenceSelectIdeal.τ).loc Cert.ReferenceSelectIdeal.main_arg1)) (m ((c.tc : Thread Cert.ReferenceSelectIdeal.nD Cert.ReferenceSelectIdeal.τ).loc Cert.ReferenceSelectIdeal.main_arg2)) (m ((c.tc : Thread Cert.ReferenceSelectIdeal.nD Cert.ReferenceSelectIdeal.τ).loc Cert.ReferenceSelectIdeal.main_arg3)) (m ((c.tc : Thread Cert.ReferenceSelectIdeal.nD Cert.ReferenceSelectIdeal.τ).loc Cert.ReferenceSelectIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4)
      ∧ r.2.mem ((c.tc : Thread Cert.KernelQkv.nD Cert.KernelQkv.τ).loc Cert.KernelQkv.main_arg5) = m ((c.tc : Thread Cert.KernelQkv.nD Cert.KernelQkv.τ).loc Cert.KernelQkv.main_arg5))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5))
      ∧ r.2.sem = fun _ => 0)

def quiescent_KernelQkvIdeal_pre_finite_projection [hKernelQkvIdeal : Cert.KernelQkvIdeal.Facts] [hPre_finite_projection : Cert.Pre_finite_projection.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal_finite_projection m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5))
      ∧ r.2.sem = fun _ => 0)

def quiescent_ReferenceQkvIdeal_pre_finite_projection [hReferenceQkvIdeal : Cert.ReferenceQkvIdeal.Facts] [hPre_finite_projection : Cert.Pre_finite_projection.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal_finite_projection m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5))
      ∧ r.2.sem = fun _ => 0)

def quiescent_KernelCtx [hKernelCtx : Cert.KernelCtx.Facts] : Prop :=
  ∀ (m : (ℓ : Loc Cert.KernelCtx.nD Cert.KernelCtx.τ Cert.KernelCtx.sig) → Buf (Elt Bits) ℓ) (g : Dev Cert.KernelCtx.nD → PrngReg), Pre_KernelCtx m →
    θ_run (Cert.KernelCtx.defs (F := Bits)) (onTc (τ := Cert.KernelCtx.τ) (Cert.KernelCtx.main (F := Bits))) ⟨m, fun _ => 0, g⟩ (fun r => (∀ c : Dev Cert.KernelCtx.nD,
      r.2.mem ((c.tc : Thread Cert.KernelCtx.nD Cert.KernelCtx.τ).loc Cert.KernelCtx.main_arg0) = m ((c.tc : Thread Cert.KernelCtx.nD Cert.KernelCtx.τ).loc Cert.KernelCtx.main_arg0)
      ∧ r.2.mem ((c.tc : Thread Cert.KernelCtx.nD Cert.KernelCtx.τ).loc Cert.KernelCtx.main_arg1) = m ((c.tc : Thread Cert.KernelCtx.nD Cert.KernelCtx.τ).loc Cert.KernelCtx.main_arg1)
      ∧ r.2.mem ((c.tc : Thread Cert.KernelCtx.nD Cert.KernelCtx.τ).loc Cert.KernelCtx.main_arg2) = m ((c.tc : Thread Cert.KernelCtx.nD Cert.KernelCtx.τ).loc Cert.KernelCtx.main_arg2)
      ∧ r.2.mem ((c.tc : Thread Cert.KernelCtx.nD Cert.KernelCtx.τ).loc Cert.KernelCtx.main_arg3) = m ((c.tc : Thread Cert.KernelCtx.nD Cert.KernelCtx.τ).loc Cert.KernelCtx.main_arg3)
      ∧ r.2.mem ((c.tc : Thread Cert.KernelCtx.nD Cert.KernelCtx.τ).loc Cert.KernelCtx.main_arg4) = m ((c.tc : Thread Cert.KernelCtx.nD Cert.KernelCtx.τ).loc Cert.KernelCtx.main_arg4)
      ∧ r.2.mem ((c.tc : Thread Cert.KernelCtx.nD Cert.KernelCtx.τ).loc Cert.KernelCtx.main_arg5) = m ((c.tc : Thread Cert.KernelCtx.nD Cert.KernelCtx.τ).loc Cert.KernelCtx.main_arg5))
      ∧ r.2.sem = fun _ => 0)

def quiescent_KernelCtxIdeal [hKernelCtxIdeal : Cert.KernelCtxIdeal.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
      ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
      ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3)
      ∧ r.2.mem ((c.tc : Thread Cert.KernelCtxIdeal.nD Cert.KernelCtxIdeal.τ).loc Cert.KernelCtxIdeal.main_arg4) = m ((c.tc : Thread Cert.KernelCtxIdeal.nD Cert.KernelCtxIdeal.τ).loc Cert.KernelCtxIdeal.main_arg4)
      ∧ r.2.mem ((c.tc : Thread Cert.KernelCtxIdeal.nD Cert.KernelCtxIdeal.τ).loc Cert.KernelCtxIdeal.main_arg5) = m ((c.tc : Thread Cert.KernelCtxIdeal.nD Cert.KernelCtxIdeal.τ).loc Cert.KernelCtxIdeal.main_arg5))
      ∧ r.2.sem = fun _ => 0)

def quiescent_KernelCtxIdeal_pre_finite_prompt_scores [hKernelCtxIdeal : Cert.KernelCtxIdeal.Facts] [hPre_finite_prompt_scores : Cert.Pre_finite_prompt_scores.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal_finite_prompt_scores m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
      ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
      ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3)
      ∧ r.2.mem ((c.tc : Thread Cert.KernelCtxIdeal.nD Cert.KernelCtxIdeal.τ).loc Cert.KernelCtxIdeal.main_arg4) = m ((c.tc : Thread Cert.KernelCtxIdeal.nD Cert.KernelCtxIdeal.τ).loc Cert.KernelCtxIdeal.main_arg4)
      ∧ r.2.mem ((c.tc : Thread Cert.KernelCtxIdeal.nD Cert.KernelCtxIdeal.τ).loc Cert.KernelCtxIdeal.main_arg5) = m ((c.tc : Thread Cert.KernelCtxIdeal.nD Cert.KernelCtxIdeal.τ).loc Cert.KernelCtxIdeal.main_arg5))
      ∧ r.2.sem = fun _ => 0)

def quiescent_ReferenceCtxIdeal [hReferenceCtxIdeal : Cert.ReferenceCtxIdeal.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1)
      ∧ r.2.mem ((c.tc : Thread Cert.ReferenceCtxIdeal.nD Cert.ReferenceCtxIdeal.τ).loc Cert.ReferenceCtxIdeal.main_arg2) = m ((c.tc : Thread Cert.ReferenceCtxIdeal.nD Cert.ReferenceCtxIdeal.τ).loc Cert.ReferenceCtxIdeal.main_arg2)
      ∧ r.2.mem ((c.tc : Thread Cert.ReferenceCtxIdeal.nD Cert.ReferenceCtxIdeal.τ).loc Cert.ReferenceCtxIdeal.main_arg3) = m ((c.tc : Thread Cert.ReferenceCtxIdeal.nD Cert.ReferenceCtxIdeal.τ).loc Cert.ReferenceCtxIdeal.main_arg3)
      ∧ r.2.mem ((c.tc : Thread Cert.ReferenceCtxIdeal.nD Cert.ReferenceCtxIdeal.τ).loc Cert.ReferenceCtxIdeal.main_arg4) = m ((c.tc : Thread Cert.ReferenceCtxIdeal.nD Cert.ReferenceCtxIdeal.τ).loc Cert.ReferenceCtxIdeal.main_arg4)
      ∧ r.2.mem ((c.tc : Thread Cert.ReferenceCtxIdeal.nD Cert.ReferenceCtxIdeal.τ).loc Cert.ReferenceCtxIdeal.main_arg5) = m ((c.tc : Thread Cert.ReferenceCtxIdeal.nD Cert.ReferenceCtxIdeal.τ).loc Cert.ReferenceCtxIdeal.main_arg5))
      ∧ r.2.sem = fun _ => 0)

def quiescent_ReferenceCtxIdeal_pre_finite_prompt_scores [hReferenceCtxIdeal : Cert.ReferenceCtxIdeal.Facts] [hPre_finite_prompt_scores : Cert.Pre_finite_prompt_scores.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal_finite_prompt_scores m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1)
      ∧ r.2.mem ((c.tc : Thread Cert.ReferenceCtxIdeal.nD Cert.ReferenceCtxIdeal.τ).loc Cert.ReferenceCtxIdeal.main_arg2) = m ((c.tc : Thread Cert.ReferenceCtxIdeal.nD Cert.ReferenceCtxIdeal.τ).loc Cert.ReferenceCtxIdeal.main_arg2)
      ∧ r.2.mem ((c.tc : Thread Cert.ReferenceCtxIdeal.nD Cert.ReferenceCtxIdeal.τ).loc Cert.ReferenceCtxIdeal.main_arg3) = m ((c.tc : Thread Cert.ReferenceCtxIdeal.nD Cert.ReferenceCtxIdeal.τ).loc Cert.ReferenceCtxIdeal.main_arg3)
      ∧ r.2.mem ((c.tc : Thread Cert.ReferenceCtxIdeal.nD Cert.ReferenceCtxIdeal.τ).loc Cert.ReferenceCtxIdeal.main_arg4) = m ((c.tc : Thread Cert.ReferenceCtxIdeal.nD Cert.ReferenceCtxIdeal.τ).loc Cert.ReferenceCtxIdeal.main_arg4)
      ∧ r.2.mem ((c.tc : Thread Cert.ReferenceCtxIdeal.nD Cert.ReferenceCtxIdeal.τ).loc Cert.ReferenceCtxIdeal.main_arg5) = m ((c.tc : Thread Cert.ReferenceCtxIdeal.nD Cert.ReferenceCtxIdeal.τ).loc Cert.ReferenceCtxIdeal.main_arg5))
      ∧ r.2.sem = fun _ => 0)

def quiescent_KernelSelect [hKernelSelect : Cert.KernelSelect.Facts] : Prop :=
  ∀ (m : (ℓ : Loc Cert.KernelSelect.nD Cert.KernelSelect.τ Cert.KernelSelect.sig) → Buf (Elt Bits) ℓ) (g : Dev Cert.KernelSelect.nD → PrngReg), Pre_KernelSelect m →
    θ_run (Cert.KernelSelect.defs (F := Bits)) (onTc (τ := Cert.KernelSelect.τ) (Cert.KernelSelect.main (F := Bits))) ⟨m, fun _ => 0, g⟩ (fun r => (∀ c : Dev Cert.KernelSelect.nD,
      r.2.mem ((c.tc : Thread Cert.KernelSelect.nD Cert.KernelSelect.τ).loc Cert.KernelSelect.main_arg0) = m ((c.tc : Thread Cert.KernelSelect.nD Cert.KernelSelect.τ).loc Cert.KernelSelect.main_arg0)
      ∧ r.2.mem ((c.tc : Thread Cert.KernelSelect.nD Cert.KernelSelect.τ).loc Cert.KernelSelect.main_arg1) = m ((c.tc : Thread Cert.KernelSelect.nD Cert.KernelSelect.τ).loc Cert.KernelSelect.main_arg1)
      ∧ r.2.mem ((c.tc : Thread Cert.KernelSelect.nD Cert.KernelSelect.τ).loc Cert.KernelSelect.main_arg2) = m ((c.tc : Thread Cert.KernelSelect.nD Cert.KernelSelect.τ).loc Cert.KernelSelect.main_arg2)
      ∧ r.2.mem ((c.tc : Thread Cert.KernelSelect.nD Cert.KernelSelect.τ).loc Cert.KernelSelect.main_arg3) = m ((c.tc : Thread Cert.KernelSelect.nD Cert.KernelSelect.τ).loc Cert.KernelSelect.main_arg3)
      ∧ r.2.mem ((c.tc : Thread Cert.KernelSelect.nD Cert.KernelSelect.τ).loc Cert.KernelSelect.main_arg4) = m ((c.tc : Thread Cert.KernelSelect.nD Cert.KernelSelect.τ).loc Cert.KernelSelect.main_arg4))
      ∧ r.2.sem = fun _ => 0)

def quiescent_KernelSelectIdeal [hKernelSelectIdeal : Cert.KernelSelectIdeal.Facts] : Prop :=
  ∀ (m : (ℓ : Loc Cert.KernelSelectIdeal.nD Cert.KernelSelectIdeal.τ Cert.KernelSelectIdeal.sig) → Buf (Elt Ideal) ℓ) (g : Dev Cert.KernelSelectIdeal.nD → PrngReg), Pre_KernelSelectIdeal m →
    θ_run (Cert.KernelSelectIdeal.defs (F := Ideal)) (onTc (τ := Cert.KernelSelectIdeal.τ) (Cert.KernelSelectIdeal.main (F := Ideal))) ⟨m, fun _ => 0, g⟩ (fun r => (∀ c : Dev Cert.KernelSelectIdeal.nD,
      r.2.mem ((c.tc : Thread Cert.KernelSelectIdeal.nD Cert.KernelSelectIdeal.τ).loc Cert.KernelSelectIdeal.main_arg0) = m ((c.tc : Thread Cert.KernelSelectIdeal.nD Cert.KernelSelectIdeal.τ).loc Cert.KernelSelectIdeal.main_arg0)
      ∧ r.2.mem ((c.tc : Thread Cert.KernelSelectIdeal.nD Cert.KernelSelectIdeal.τ).loc Cert.KernelSelectIdeal.main_arg1) = m ((c.tc : Thread Cert.KernelSelectIdeal.nD Cert.KernelSelectIdeal.τ).loc Cert.KernelSelectIdeal.main_arg1)
      ∧ r.2.mem ((c.tc : Thread Cert.KernelSelectIdeal.nD Cert.KernelSelectIdeal.τ).loc Cert.KernelSelectIdeal.main_arg2) = m ((c.tc : Thread Cert.KernelSelectIdeal.nD Cert.KernelSelectIdeal.τ).loc Cert.KernelSelectIdeal.main_arg2)
      ∧ r.2.mem ((c.tc : Thread Cert.KernelSelectIdeal.nD Cert.KernelSelectIdeal.τ).loc Cert.KernelSelectIdeal.main_arg3) = m ((c.tc : Thread Cert.KernelSelectIdeal.nD Cert.KernelSelectIdeal.τ).loc Cert.KernelSelectIdeal.main_arg3)
      ∧ r.2.mem ((c.tc : Thread Cert.KernelSelectIdeal.nD Cert.KernelSelectIdeal.τ).loc Cert.KernelSelectIdeal.main_arg4) = m ((c.tc : Thread Cert.KernelSelectIdeal.nD Cert.KernelSelectIdeal.τ).loc Cert.KernelSelectIdeal.main_arg4))
      ∧ r.2.sem = fun _ => 0)

def quiescent_KernelSelectIdeal_pre_finite_keys [hKernelSelectIdeal : Cert.KernelSelectIdeal.Facts] [hPre_finite_keys : Cert.Pre_finite_keys.Facts] : Prop :=
  ∀ (m : (ℓ : Loc Cert.KernelSelectIdeal.nD Cert.KernelSelectIdeal.τ Cert.KernelSelectIdeal.sig) → Buf (Elt Ideal) ℓ) (g : Dev Cert.KernelSelectIdeal.nD → PrngReg), Pre_KernelSelectIdeal_finite_keys m →
    θ_run (Cert.KernelSelectIdeal.defs (F := Ideal)) (onTc (τ := Cert.KernelSelectIdeal.τ) (Cert.KernelSelectIdeal.main (F := Ideal))) ⟨m, fun _ => 0, g⟩ (fun r => (∀ c : Dev Cert.KernelSelectIdeal.nD,
      r.2.mem ((c.tc : Thread Cert.KernelSelectIdeal.nD Cert.KernelSelectIdeal.τ).loc Cert.KernelSelectIdeal.main_arg0) = m ((c.tc : Thread Cert.KernelSelectIdeal.nD Cert.KernelSelectIdeal.τ).loc Cert.KernelSelectIdeal.main_arg0)
      ∧ r.2.mem ((c.tc : Thread Cert.KernelSelectIdeal.nD Cert.KernelSelectIdeal.τ).loc Cert.KernelSelectIdeal.main_arg1) = m ((c.tc : Thread Cert.KernelSelectIdeal.nD Cert.KernelSelectIdeal.τ).loc Cert.KernelSelectIdeal.main_arg1)
      ∧ r.2.mem ((c.tc : Thread Cert.KernelSelectIdeal.nD Cert.KernelSelectIdeal.τ).loc Cert.KernelSelectIdeal.main_arg2) = m ((c.tc : Thread Cert.KernelSelectIdeal.nD Cert.KernelSelectIdeal.τ).loc Cert.KernelSelectIdeal.main_arg2)
      ∧ r.2.mem ((c.tc : Thread Cert.KernelSelectIdeal.nD Cert.KernelSelectIdeal.τ).loc Cert.KernelSelectIdeal.main_arg3) = m ((c.tc : Thread Cert.KernelSelectIdeal.nD Cert.KernelSelectIdeal.τ).loc Cert.KernelSelectIdeal.main_arg3)
      ∧ r.2.mem ((c.tc : Thread Cert.KernelSelectIdeal.nD Cert.KernelSelectIdeal.τ).loc Cert.KernelSelectIdeal.main_arg4) = m ((c.tc : Thread Cert.KernelSelectIdeal.nD Cert.KernelSelectIdeal.τ).loc Cert.KernelSelectIdeal.main_arg4))
      ∧ r.2.sem = fun _ => 0)

def quiescent_ReferenceSelectIdeal [hReferenceSelectIdeal : Cert.ReferenceSelectIdeal.Facts] : Prop :=
  ∀ (m : (ℓ : Loc Cert.ReferenceSelectIdeal.nD Cert.ReferenceSelectIdeal.τ Cert.ReferenceSelectIdeal.sig) → Buf (Elt Ideal) ℓ) (g : Dev Cert.ReferenceSelectIdeal.nD → PrngReg), Pre_ReferenceSelectIdeal m →
    θ_run (Cert.ReferenceSelectIdeal.defs (F := Ideal)) (onTc (τ := Cert.ReferenceSelectIdeal.τ) (Cert.ReferenceSelectIdeal.main (F := Ideal))) ⟨m, fun _ => 0, g⟩ (fun r => (∀ c : Dev Cert.ReferenceSelectIdeal.nD,
      r.2.mem ((c.tc : Thread Cert.ReferenceSelectIdeal.nD Cert.ReferenceSelectIdeal.τ).loc Cert.ReferenceSelectIdeal.main_arg0) = m ((c.tc : Thread Cert.ReferenceSelectIdeal.nD Cert.ReferenceSelectIdeal.τ).loc Cert.ReferenceSelectIdeal.main_arg0)
      ∧ r.2.mem ((c.tc : Thread Cert.ReferenceSelectIdeal.nD Cert.ReferenceSelectIdeal.τ).loc Cert.ReferenceSelectIdeal.main_arg1) = m ((c.tc : Thread Cert.ReferenceSelectIdeal.nD Cert.ReferenceSelectIdeal.τ).loc Cert.ReferenceSelectIdeal.main_arg1)
      ∧ r.2.mem ((c.tc : Thread Cert.ReferenceSelectIdeal.nD Cert.ReferenceSelectIdeal.τ).loc Cert.ReferenceSelectIdeal.main_arg2) = m ((c.tc : Thread Cert.ReferenceSelectIdeal.nD Cert.ReferenceSelectIdeal.τ).loc Cert.ReferenceSelectIdeal.main_arg2)
      ∧ r.2.mem ((c.tc : Thread Cert.ReferenceSelectIdeal.nD Cert.ReferenceSelectIdeal.τ).loc Cert.ReferenceSelectIdeal.main_arg3) = m ((c.tc : Thread Cert.ReferenceSelectIdeal.nD Cert.ReferenceSelectIdeal.τ).loc Cert.ReferenceSelectIdeal.main_arg3)
      ∧ r.2.mem ((c.tc : Thread Cert.ReferenceSelectIdeal.nD Cert.ReferenceSelectIdeal.τ).loc Cert.ReferenceSelectIdeal.main_arg4) = m ((c.tc : Thread Cert.ReferenceSelectIdeal.nD Cert.ReferenceSelectIdeal.τ).loc Cert.ReferenceSelectIdeal.main_arg4))
      ∧ r.2.sem = fun _ => 0)

def quiescent_ReferenceSelectIdeal_pre_finite_keys [hReferenceSelectIdeal : Cert.ReferenceSelectIdeal.Facts] [hPre_finite_keys : Cert.Pre_finite_keys.Facts] : Prop :=
  ∀ (m : (ℓ : Loc Cert.ReferenceSelectIdeal.nD Cert.ReferenceSelectIdeal.τ Cert.ReferenceSelectIdeal.sig) → Buf (Elt Ideal) ℓ) (g : Dev Cert.ReferenceSelectIdeal.nD → PrngReg), Pre_ReferenceSelectIdeal_finite_keys m →
    θ_run (Cert.ReferenceSelectIdeal.defs (F := Ideal)) (onTc (τ := Cert.ReferenceSelectIdeal.τ) (Cert.ReferenceSelectIdeal.main (F := Ideal))) ⟨m, fun _ => 0, g⟩ (fun r => (∀ c : Dev Cert.ReferenceSelectIdeal.nD,
      r.2.mem ((c.tc : Thread Cert.ReferenceSelectIdeal.nD Cert.ReferenceSelectIdeal.τ).loc Cert.ReferenceSelectIdeal.main_arg0) = m ((c.tc : Thread Cert.ReferenceSelectIdeal.nD Cert.ReferenceSelectIdeal.τ).loc Cert.ReferenceSelectIdeal.main_arg0)
      ∧ r.2.mem ((c.tc : Thread Cert.ReferenceSelectIdeal.nD Cert.ReferenceSelectIdeal.τ).loc Cert.ReferenceSelectIdeal.main_arg1) = m ((c.tc : Thread Cert.ReferenceSelectIdeal.nD Cert.ReferenceSelectIdeal.τ).loc Cert.ReferenceSelectIdeal.main_arg1)
      ∧ r.2.mem ((c.tc : Thread Cert.ReferenceSelectIdeal.nD Cert.ReferenceSelectIdeal.τ).loc Cert.ReferenceSelectIdeal.main_arg2) = m ((c.tc : Thread Cert.ReferenceSelectIdeal.nD Cert.ReferenceSelectIdeal.τ).loc Cert.ReferenceSelectIdeal.main_arg2)
      ∧ r.2.mem ((c.tc : Thread Cert.ReferenceSelectIdeal.nD Cert.ReferenceSelectIdeal.τ).loc Cert.ReferenceSelectIdeal.main_arg3) = m ((c.tc : Thread Cert.ReferenceSelectIdeal.nD Cert.ReferenceSelectIdeal.τ).loc Cert.ReferenceSelectIdeal.main_arg3)
      ∧ r.2.mem ((c.tc : Thread Cert.ReferenceSelectIdeal.nD Cert.ReferenceSelectIdeal.τ).loc Cert.ReferenceSelectIdeal.main_arg4) = m ((c.tc : Thread Cert.ReferenceSelectIdeal.nD Cert.ReferenceSelectIdeal.τ).loc Cert.ReferenceSelectIdeal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v302)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v302) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)) →
    ∃ (v0 : (c : Dev Cert.KernelMixIdeal.nD) → Buf (Elt Ideal) ((c.tc : Thread Cert.KernelMixIdeal.nD Cert.KernelMixIdeal.τ).loc Cert.KernelMixIdeal.main_v9)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v9) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v71) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7))

def preserves_KernelQkv_KernelQkvIdeal : Prop :=
  True

def algebraic_KernelQkvIdeal_ReferenceQkvIdeal_pre_finite_projection [hKernelQkvIdeal : Cert.KernelQkvIdeal.Facts] [hReferenceQkvIdeal : Cert.ReferenceQkvIdeal.Facts] [hPre_finite_projection : Cert.Pre_finite_projection.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal_finite_projection m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)
      ∧ m' ((c.tc : Thread Cert.ReferenceQkvIdeal.nD Cert.ReferenceQkvIdeal.τ).loc Cert.ReferenceQkvIdeal.main_arg5) = m ((c.tc : Thread Cert.KernelQkvIdeal.nD Cert.KernelQkvIdeal.τ).loc Cert.KernelQkvIdeal.main_arg5)) →
    ∃ (v0 : (c : Dev Cert.KernelQkvIdeal.nD) → Buf (Elt Ideal) ((c.tc : Thread Cert.KernelQkvIdeal.nD Cert.KernelQkvIdeal.τ).loc Cert.KernelQkvIdeal.main_v21_0)) (v1 : (c : Dev Cert.KernelQkvIdeal.nD) → Buf (Elt Ideal) ((c.tc : Thread Cert.KernelQkvIdeal.nD Cert.KernelQkvIdeal.τ).loc Cert.KernelQkvIdeal.main_v21_1)) (v2 : (c : Dev Cert.KernelQkvIdeal.nD) → Buf (Elt Ideal) ((c.tc : Thread Cert.KernelQkvIdeal.nD Cert.KernelQkvIdeal.τ).loc Cert.KernelQkvIdeal.main_v21_2)) (v3 : (c : Dev Cert.KernelQkvIdeal.nD) → Buf (Elt Ideal) ((c.tc : Thread Cert.KernelQkvIdeal.nD Cert.KernelQkvIdeal.τ).loc Cert.KernelQkvIdeal.main_v21_3)) (v4 : (c : Dev Cert.KernelQkvIdeal.nD) → Buf (Elt Ideal) ((c.tc : Thread Cert.KernelQkvIdeal.nD Cert.KernelQkvIdeal.τ).loc Cert.KernelQkvIdeal.main_v21_4)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v21_0) = v0 c
          ∧ r.2.mem ((c.tc : Thread Cert.KernelQkvIdeal.nD Cert.KernelQkvIdeal.τ).loc Cert.KernelQkvIdeal.main_v21_1) = v1 c
          ∧ r.2.mem ((c.tc : Thread Cert.KernelQkvIdeal.nD Cert.KernelQkvIdeal.τ).loc Cert.KernelQkvIdeal.main_v21_2) = v2 c
          ∧ r.2.mem ((c.tc : Thread Cert.KernelQkvIdeal.nD Cert.KernelQkvIdeal.τ).loc Cert.KernelQkvIdeal.main_v21_3) = v3 c
          ∧ r.2.mem ((c.tc : Thread Cert.KernelQkvIdeal.nD Cert.KernelQkvIdeal.τ).loc Cert.KernelQkvIdeal.main_v21_4) = v4 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
          ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v65) = v0 c
          ∧ r.2.mem ((c.tc : Thread Cert.ReferenceQkvIdeal.nD Cert.ReferenceQkvIdeal.τ).loc Cert.ReferenceQkvIdeal.main_v66) = v1 c
          ∧ r.2.mem ((c.tc : Thread Cert.ReferenceQkvIdeal.nD Cert.ReferenceQkvIdeal.τ).loc Cert.ReferenceQkvIdeal.main_v67) = v2 c
          ∧ r.2.mem ((c.tc : Thread Cert.ReferenceQkvIdeal.nD Cert.ReferenceQkvIdeal.τ).loc Cert.ReferenceQkvIdeal.main_v59) = v3 c
          ∧ r.2.mem ((c.tc : Thread Cert.ReferenceQkvIdeal.nD Cert.ReferenceQkvIdeal.τ).loc Cert.ReferenceQkvIdeal.main_v62) = v4 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4)
          ∧ r.2.mem ((c.tc : Thread Cert.ReferenceQkvIdeal.nD Cert.ReferenceQkvIdeal.τ).loc Cert.ReferenceQkvIdeal.main_arg5) = m' ((c.tc : Thread Cert.ReferenceQkvIdeal.nD Cert.ReferenceQkvIdeal.τ).loc Cert.ReferenceQkvIdeal.main_arg5))

def preserves_KernelCtx_KernelCtxIdeal : Prop :=
  True

def algebraic_KernelCtxIdeal_ReferenceCtxIdeal_pre_finite_prompt_scores [hKernelCtxIdeal : Cert.KernelCtxIdeal.Facts] [hReferenceCtxIdeal : Cert.ReferenceCtxIdeal.Facts] [hPre_finite_prompt_scores : Cert.Pre_finite_prompt_scores.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg)
    (m' : (ℓ : Loc Cert.ReferenceCtxIdeal.nD Cert.ReferenceCtxIdeal.τ Cert.ReferenceCtxIdeal.sig) → Buf (Elt Ideal) ℓ) (g' : Dev Cert.ReferenceCtxIdeal.nD → PrngReg), Pre_KernelCtxIdeal_finite_prompt_scores m →
    (∀ c : Dev Cert.KernelCtxIdeal.nD,
      m' ((c.tc : Thread Cert.ReferenceCtxIdeal.nD Cert.ReferenceCtxIdeal.τ).loc Cert.ReferenceCtxIdeal.main_arg0) = m ((c.tc : Thread Cert.KernelCtxIdeal.nD Cert.KernelCtxIdeal.τ).loc Cert.KernelCtxIdeal.main_arg0)
      ∧ m' ((c.tc : Thread Cert.ReferenceCtxIdeal.nD Cert.ReferenceCtxIdeal.τ).loc Cert.ReferenceCtxIdeal.main_arg1) = m ((c.tc : Thread Cert.KernelCtxIdeal.nD Cert.KernelCtxIdeal.τ).loc Cert.KernelCtxIdeal.main_arg1)
      ∧ m' ((c.tc : Thread Cert.ReferenceCtxIdeal.nD Cert.ReferenceCtxIdeal.τ).loc Cert.ReferenceCtxIdeal.main_arg2) = m ((c.tc : Thread Cert.KernelCtxIdeal.nD Cert.KernelCtxIdeal.τ).loc Cert.KernelCtxIdeal.main_arg2)
      ∧ m' ((c.tc : Thread Cert.ReferenceCtxIdeal.nD Cert.ReferenceCtxIdeal.τ).loc Cert.ReferenceCtxIdeal.main_arg3) = m ((c.tc : Thread Cert.KernelCtxIdeal.nD Cert.KernelCtxIdeal.τ).loc Cert.KernelCtxIdeal.main_arg3)
      ∧ m' ((c.tc : Thread Cert.ReferenceCtxIdeal.nD Cert.ReferenceCtxIdeal.τ).loc Cert.ReferenceCtxIdeal.main_arg4) = m ((c.tc : Thread Cert.KernelCtxIdeal.nD Cert.KernelCtxIdeal.τ).loc Cert.KernelCtxIdeal.main_arg4)
      ∧ m' ((c.tc : Thread Cert.ReferenceCtxIdeal.nD Cert.ReferenceCtxIdeal.τ).loc Cert.ReferenceCtxIdeal.main_arg5) = m ((c.tc : Thread Cert.KernelCtxIdeal.nD Cert.KernelCtxIdeal.τ).loc Cert.KernelCtxIdeal.main_arg5)) →
    ∃ (v0 : (c : Dev Cert.KernelCtxIdeal.nD) → Buf (Elt Ideal) ((c.tc : Thread Cert.KernelCtxIdeal.nD Cert.KernelCtxIdeal.τ).loc Cert.KernelCtxIdeal.main_v1)),
      θ_run (Cert.KernelCtxIdeal.defs (F := Ideal)) (onTc (τ := Cert.KernelCtxIdeal.τ) (Cert.KernelCtxIdeal.main (F := Ideal))) ⟨m, fun _ => 0, g⟩ (fun r => ∀ c : Dev Cert.KernelCtxIdeal.nD,
          r.2.mem ((c.tc : Thread Cert.KernelCtxIdeal.nD Cert.KernelCtxIdeal.τ).loc Cert.KernelCtxIdeal.main_v1) = v0 c
          ∧ r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
          ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
          ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
          ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3)
          ∧ r.2.mem ((c.tc : Thread Cert.KernelCtxIdeal.nD Cert.KernelCtxIdeal.τ).loc Cert.KernelCtxIdeal.main_arg4) = m ((c.tc : Thread Cert.KernelCtxIdeal.nD Cert.KernelCtxIdeal.τ).loc Cert.KernelCtxIdeal.main_arg4)
          ∧ r.2.mem ((c.tc : Thread Cert.KernelCtxIdeal.nD Cert.KernelCtxIdeal.τ).loc Cert.KernelCtxIdeal.main_arg5) = m ((c.tc : Thread Cert.KernelCtxIdeal.nD Cert.KernelCtxIdeal.τ).loc Cert.KernelCtxIdeal.main_arg5))
      ∧ θ_run (Cert.ReferenceCtxIdeal.defs (F := Ideal)) (onTc (τ := Cert.ReferenceCtxIdeal.τ) (Cert.ReferenceCtxIdeal.main (F := Ideal))) ⟨m', fun _ => 0, g'⟩ (fun r => ∀ c : Dev Cert.ReferenceCtxIdeal.nD,
          r.2.mem ((c.tc : Thread Cert.ReferenceCtxIdeal.nD Cert.ReferenceCtxIdeal.τ).loc Cert.ReferenceCtxIdeal.main_v33) = v0 c
          ∧ r.2.mem ((c.tc : Thread Cert.ReferenceCtxIdeal.nD Cert.ReferenceCtxIdeal.τ).loc Cert.ReferenceCtxIdeal.main_arg0) = m' ((c.tc : Thread Cert.ReferenceCtxIdeal.nD Cert.ReferenceCtxIdeal.τ).loc Cert.ReferenceCtxIdeal.main_arg0)
          ∧ r.2.mem ((c.tc : Thread Cert.ReferenceCtxIdeal.nD Cert.ReferenceCtxIdeal.τ).loc Cert.ReferenceCtxIdeal.main_arg1) = m' ((c.tc : Thread Cert.ReferenceCtxIdeal.nD Cert.ReferenceCtxIdeal.τ).loc Cert.ReferenceCtxIdeal.main_arg1)
          ∧ r.2.mem ((c.tc : Thread Cert.ReferenceCtxIdeal.nD Cert.ReferenceCtxIdeal.τ).loc Cert.ReferenceCtxIdeal.main_arg2) = m' ((c.tc : Thread Cert.ReferenceCtxIdeal.nD Cert.ReferenceCtxIdeal.τ).loc Cert.ReferenceCtxIdeal.main_arg2)
          ∧ r.2.mem ((c.tc : Thread Cert.ReferenceCtxIdeal.nD Cert.ReferenceCtxIdeal.τ).loc Cert.ReferenceCtxIdeal.main_arg3) = m' ((c.tc : Thread Cert.ReferenceCtxIdeal.nD Cert.ReferenceCtxIdeal.τ).loc Cert.ReferenceCtxIdeal.main_arg3)
          ∧ r.2.mem ((c.tc : Thread Cert.ReferenceCtxIdeal.nD Cert.ReferenceCtxIdeal.τ).loc Cert.ReferenceCtxIdeal.main_arg4) = m' ((c.tc : Thread Cert.ReferenceCtxIdeal.nD Cert.ReferenceCtxIdeal.τ).loc Cert.ReferenceCtxIdeal.main_arg4)
          ∧ r.2.mem ((c.tc : Thread Cert.ReferenceCtxIdeal.nD Cert.ReferenceCtxIdeal.τ).loc Cert.ReferenceCtxIdeal.main_arg5) = m' ((c.tc : Thread Cert.ReferenceCtxIdeal.nD Cert.ReferenceCtxIdeal.τ).loc Cert.ReferenceCtxIdeal.main_arg5))

def preserves_KernelSelect_KernelSelectIdeal : Prop :=
  True

def algebraic_KernelSelectIdeal_ReferenceSelectIdeal_pre_finite_keys [hKernelSelectIdeal : Cert.KernelSelectIdeal.Facts] [hReferenceSelectIdeal : Cert.ReferenceSelectIdeal.Facts] [hPre_finite_keys : Cert.Pre_finite_keys.Facts] : Prop :=
  ∀ (m : (ℓ : Loc Cert.KernelSelectIdeal.nD Cert.KernelSelectIdeal.τ Cert.KernelSelectIdeal.sig) → Buf (Elt Ideal) ℓ) (g : Dev Cert.KernelSelectIdeal.nD → PrngReg)
    (m' : (ℓ : Loc Cert.ReferenceSelectIdeal.nD Cert.ReferenceSelectIdeal.τ Cert.ReferenceSelectIdeal.sig) → Buf (Elt Ideal) ℓ) (g' : Dev Cert.ReferenceSelectIdeal.nD → PrngReg), Pre_KernelSelectIdeal_finite_keys m →
    (∀ c : Dev Cert.KernelSelectIdeal.nD,
      m' ((c.tc : Thread Cert.ReferenceSelectIdeal.nD Cert.ReferenceSelectIdeal.τ).loc Cert.ReferenceSelectIdeal.main_arg0) = m ((c.tc : Thread Cert.KernelSelectIdeal.nD Cert.KernelSelectIdeal.τ).loc Cert.KernelSelectIdeal.main_arg0)
      ∧ m' ((c.tc : Thread Cert.ReferenceSelectIdeal.nD Cert.ReferenceSelectIdeal.τ).loc Cert.ReferenceSelectIdeal.main_arg1) = m ((c.tc : Thread Cert.KernelSelectIdeal.nD Cert.KernelSelectIdeal.τ).loc Cert.KernelSelectIdeal.main_arg1)
      ∧ m' ((c.tc : Thread Cert.ReferenceSelectIdeal.nD Cert.ReferenceSelectIdeal.τ).loc Cert.ReferenceSelectIdeal.main_arg2) = m ((c.tc : Thread Cert.KernelSelectIdeal.nD Cert.KernelSelectIdeal.τ).loc Cert.KernelSelectIdeal.main_arg2)
      ∧ m' ((c.tc : Thread Cert.ReferenceSelectIdeal.nD Cert.ReferenceSelectIdeal.τ).loc Cert.ReferenceSelectIdeal.main_arg3) = m ((c.tc : Thread Cert.KernelSelectIdeal.nD Cert.KernelSelectIdeal.τ).loc Cert.KernelSelectIdeal.main_arg3)
      ∧ m' ((c.tc : Thread Cert.ReferenceSelectIdeal.nD Cert.ReferenceSelectIdeal.τ).loc Cert.ReferenceSelectIdeal.main_arg4) = m ((c.tc : Thread Cert.KernelSelectIdeal.nD Cert.KernelSelectIdeal.τ).loc Cert.KernelSelectIdeal.main_arg4)) →
    ∃ (v0 : (c : Dev Cert.KernelSelectIdeal.nD) → Buf (Elt Ideal) ((c.tc : Thread Cert.KernelSelectIdeal.nD Cert.KernelSelectIdeal.τ).loc Cert.KernelSelectIdeal.main_v4_0)) (v1 : (c : Dev Cert.KernelSelectIdeal.nD) → Buf (Elt Ideal) ((c.tc : Thread Cert.KernelSelectIdeal.nD Cert.KernelSelectIdeal.τ).loc Cert.KernelSelectIdeal.main_v4_1)) (v2 : (c : Dev Cert.KernelSelectIdeal.nD) → Buf (Elt Ideal) ((c.tc : Thread Cert.KernelSelectIdeal.nD Cert.KernelSelectIdeal.τ).loc Cert.KernelSelectIdeal.main_v4_2)) (v3 : (c : Dev Cert.KernelSelectIdeal.nD) → Buf (Elt Ideal) ((c.tc : Thread Cert.KernelSelectIdeal.nD Cert.KernelSelectIdeal.τ).loc Cert.KernelSelectIdeal.main_v4_3)),
      θ_run (Cert.KernelSelectIdeal.defs (F := Ideal)) (onTc (τ := Cert.KernelSelectIdeal.τ) (Cert.KernelSelectIdeal.main (F := Ideal))) ⟨m, fun _ => 0, g⟩ (fun r => ∀ c : Dev Cert.KernelSelectIdeal.nD,
          r.2.mem ((c.tc : Thread Cert.KernelSelectIdeal.nD Cert.KernelSelectIdeal.τ).loc Cert.KernelSelectIdeal.main_v4_0) = v0 c
          ∧ r.2.mem ((c.tc : Thread Cert.KernelSelectIdeal.nD Cert.KernelSelectIdeal.τ).loc Cert.KernelSelectIdeal.main_v4_1) = v1 c
          ∧ r.2.mem ((c.tc : Thread Cert.KernelSelectIdeal.nD Cert.KernelSelectIdeal.τ).loc Cert.KernelSelectIdeal.main_v4_2) = v2 c
          ∧ r.2.mem ((c.tc : Thread Cert.KernelSelectIdeal.nD Cert.KernelSelectIdeal.τ).loc Cert.KernelSelectIdeal.main_v4_3) = v3 c
          ∧ r.2.mem ((c.tc : Thread Cert.KernelSelectIdeal.nD Cert.KernelSelectIdeal.τ).loc Cert.KernelSelectIdeal.main_arg0) = m ((c.tc : Thread Cert.KernelSelectIdeal.nD Cert.KernelSelectIdeal.τ).loc Cert.KernelSelectIdeal.main_arg0)
          ∧ r.2.mem ((c.tc : Thread Cert.KernelSelectIdeal.nD Cert.KernelSelectIdeal.τ).loc Cert.KernelSelectIdeal.main_arg1) = m ((c.tc : Thread Cert.KernelSelectIdeal.nD Cert.KernelSelectIdeal.τ).loc Cert.KernelSelectIdeal.main_arg1)
          ∧ r.2.mem ((c.tc : Thread Cert.KernelSelectIdeal.nD Cert.KernelSelectIdeal.τ).loc Cert.KernelSelectIdeal.main_arg2) = m ((c.tc : Thread Cert.KernelSelectIdeal.nD Cert.KernelSelectIdeal.τ).loc Cert.KernelSelectIdeal.main_arg2)
          ∧ r.2.mem ((c.tc : Thread Cert.KernelSelectIdeal.nD Cert.KernelSelectIdeal.τ).loc Cert.KernelSelectIdeal.main_arg3) = m ((c.tc : Thread Cert.KernelSelectIdeal.nD Cert.KernelSelectIdeal.τ).loc Cert.KernelSelectIdeal.main_arg3)
          ∧ r.2.mem ((c.tc : Thread Cert.KernelSelectIdeal.nD Cert.KernelSelectIdeal.τ).loc Cert.KernelSelectIdeal.main_arg4) = m ((c.tc : Thread Cert.KernelSelectIdeal.nD Cert.KernelSelectIdeal.τ).loc Cert.KernelSelectIdeal.main_arg4))
      ∧ θ_run (Cert.ReferenceSelectIdeal.defs (F := Ideal)) (onTc (τ := Cert.ReferenceSelectIdeal.τ) (Cert.ReferenceSelectIdeal.main (F := Ideal))) ⟨m', fun _ => 0, g'⟩ (fun r => ∀ c : Dev Cert.ReferenceSelectIdeal.nD,
          r.2.mem ((c.tc : Thread Cert.ReferenceSelectIdeal.nD Cert.ReferenceSelectIdeal.τ).loc Cert.ReferenceSelectIdeal.main_v59) = v0 c
          ∧ r.2.mem ((c.tc : Thread Cert.ReferenceSelectIdeal.nD Cert.ReferenceSelectIdeal.τ).loc Cert.ReferenceSelectIdeal.main_v60) = v1 c
          ∧ r.2.mem ((c.tc : Thread Cert.ReferenceSelectIdeal.nD Cert.ReferenceSelectIdeal.τ).loc Cert.ReferenceSelectIdeal.main_v61) = v2 c
          ∧ r.2.mem ((c.tc : Thread Cert.ReferenceSelectIdeal.nD Cert.ReferenceSelectIdeal.τ).loc Cert.ReferenceSelectIdeal.main_v62) = v3 c
          ∧ r.2.mem ((c.tc : Thread Cert.ReferenceSelectIdeal.nD Cert.ReferenceSelectIdeal.τ).loc Cert.ReferenceSelectIdeal.main_arg0) = m' ((c.tc : Thread Cert.ReferenceSelectIdeal.nD Cert.ReferenceSelectIdeal.τ).loc Cert.ReferenceSelectIdeal.main_arg0)
          ∧ r.2.mem ((c.tc : Thread Cert.ReferenceSelectIdeal.nD Cert.ReferenceSelectIdeal.τ).loc Cert.ReferenceSelectIdeal.main_arg1) = m' ((c.tc : Thread Cert.ReferenceSelectIdeal.nD Cert.ReferenceSelectIdeal.τ).loc Cert.ReferenceSelectIdeal.main_arg1)
          ∧ r.2.mem ((c.tc : Thread Cert.ReferenceSelectIdeal.nD Cert.ReferenceSelectIdeal.τ).loc Cert.ReferenceSelectIdeal.main_arg2) = m' ((c.tc : Thread Cert.ReferenceSelectIdeal.nD Cert.ReferenceSelectIdeal.τ).loc Cert.ReferenceSelectIdeal.main_arg2)
          ∧ r.2.mem ((c.tc : Thread Cert.ReferenceSelectIdeal.nD Cert.ReferenceSelectIdeal.τ).loc Cert.ReferenceSelectIdeal.main_arg3) = m' ((c.tc : Thread Cert.ReferenceSelectIdeal.nD Cert.ReferenceSelectIdeal.τ).loc Cert.ReferenceSelectIdeal.main_arg3)
          ∧ r.2.mem ((c.tc : Thread Cert.ReferenceSelectIdeal.nD Cert.ReferenceSelectIdeal.τ).loc Cert.ReferenceSelectIdeal.main_arg4) = m' ((c.tc : Thread Cert.ReferenceSelectIdeal.nD Cert.ReferenceSelectIdeal.τ).loc Cert.ReferenceSelectIdeal.main_arg4))

def Claim : Prop :=
  ∃ (hKernel : Cert.Kernel.Facts) (hKernelIdeal : Cert.KernelIdeal.Facts) (hReferenceIdeal : Cert.ReferenceIdeal.Facts) (hKernelMix : Cert.KernelMix.Facts) (hKernelMixIdeal : Cert.KernelMixIdeal.Facts) (hReferenceMixIdeal : Cert.ReferenceMixIdeal.Facts) (hKernelQkv : Cert.KernelQkv.Facts) (hKernelQkvIdeal : Cert.KernelQkvIdeal.Facts) (hReferenceQkvIdeal : Cert.ReferenceQkvIdeal.Facts) (hKernelCtx : Cert.KernelCtx.Facts) (hKernelCtxIdeal : Cert.KernelCtxIdeal.Facts) (hReferenceCtxIdeal : Cert.ReferenceCtxIdeal.Facts) (hKernelSelect : Cert.KernelSelect.Facts) (hKernelSelectIdeal : Cert.KernelSelectIdeal.Facts) (hReferenceSelectIdeal : Cert.ReferenceSelectIdeal.Facts) (hPre_finite_scores : Cert.Pre_finite_scores.Facts) (hPre_finite_projection : Cert.Pre_finite_projection.Facts) (hPre_finite_prompt_scores : Cert.Pre_finite_prompt_scores.Facts) (hPre_finite_keys : Cert.Pre_finite_keys.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelQkv (hKernelQkv := hKernelQkv)
    ∧ quiescent_KernelQkvIdeal (hKernelQkvIdeal := hKernelQkvIdeal)
    ∧ quiescent_KernelQkvIdeal_pre_finite_projection (hKernelQkvIdeal := hKernelQkvIdeal) (hPre_finite_projection := hPre_finite_projection)
    ∧ quiescent_ReferenceQkvIdeal (hReferenceQkvIdeal := hReferenceQkvIdeal)
    ∧ quiescent_ReferenceQkvIdeal_pre_finite_projection (hReferenceQkvIdeal := hReferenceQkvIdeal) (hPre_finite_projection := hPre_finite_projection)
    ∧ quiescent_KernelCtx (hKernelCtx := hKernelCtx)
    ∧ quiescent_KernelCtxIdeal (hKernelCtxIdeal := hKernelCtxIdeal)
    ∧ quiescent_KernelCtxIdeal_pre_finite_prompt_scores (hKernelCtxIdeal := hKernelCtxIdeal) (hPre_finite_prompt_scores := hPre_finite_prompt_scores)
    ∧ quiescent_ReferenceCtxIdeal (hReferenceCtxIdeal := hReferenceCtxIdeal)
    ∧ quiescent_ReferenceCtxIdeal_pre_finite_prompt_scores (hReferenceCtxIdeal := hReferenceCtxIdeal) (hPre_finite_prompt_scores := hPre_finite_prompt_scores)
    ∧ quiescent_KernelSelect (hKernelSelect := hKernelSelect)
    ∧ quiescent_KernelSelectIdeal (hKernelSelectIdeal := hKernelSelectIdeal)
    ∧ quiescent_KernelSelectIdeal_pre_finite_keys (hKernelSelectIdeal := hKernelSelectIdeal) (hPre_finite_keys := hPre_finite_keys)
    ∧ quiescent_ReferenceSelectIdeal (hReferenceSelectIdeal := hReferenceSelectIdeal)
    ∧ quiescent_ReferenceSelectIdeal_pre_finite_keys (hReferenceSelectIdeal := hReferenceSelectIdeal) (hPre_finite_keys := hPre_finite_keys)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelMix_KernelMixIdeal
    ∧ algebraic_KernelMixIdeal_ReferenceMixIdeal (hKernelMixIdeal := hKernelMixIdeal) (hReferenceMixIdeal := hReferenceMixIdeal)
    ∧ preserves_KernelQkv_KernelQkvIdeal
    ∧ algebraic_KernelQkvIdeal_ReferenceQkvIdeal_pre_finite_projection (hKernelQkvIdeal := hKernelQkvIdeal) (hReferenceQkvIdeal := hReferenceQkvIdeal) (hPre_finite_projection := hPre_finite_projection)
    ∧ preserves_KernelCtx_KernelCtxIdeal
    ∧ algebraic_KernelCtxIdeal_ReferenceCtxIdeal_pre_finite_prompt_scores (hKernelCtxIdeal := hKernelCtxIdeal) (hReferenceCtxIdeal := hReferenceCtxIdeal) (hPre_finite_prompt_scores := hPre_finite_prompt_scores)
    ∧ preserves_KernelSelect_KernelSelectIdeal
    ∧ algebraic_KernelSelectIdeal_ReferenceSelectIdeal_pre_finite_keys (hKernelSelectIdeal := hKernelSelectIdeal) (hReferenceSelectIdeal := hReferenceSelectIdeal) (hPre_finite_keys := hPre_finite_keys)
-- ==== Pre_finite_keys.lean ====
abbrev S12288x1024 : Shape := ⟨2, ![12288, 1024]⟩
abbrev S8x6x1024 : Shape := ⟨3, ![8, 6, 1024]⟩
abbrev S1024 : Shape := ⟨1, ![1024]⟩
abbrev S1024x2048 : Shape := ⟨2, ![1024, 2048]⟩
abbrev S2x128x128 : Shape := ⟨3, ![2, 128, 128]⟩
abbrev S3x2x1024 : Shape := ⟨3, ![3, 2, 1024]⟩
abbrev S_ : Shape := ⟨0, ![]⟩

class Facts : Prop where
  slices_S8x6x1024_S3x2x1024_0_3_0 : S8x6x1024.Slices ![0, 3, 0] S3x2x1024
  bcast_S_S3x2x1024 : S_.BroadcastsInDim S3x2x1024 (![] : Fin 0 → Fin S3x2x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S2x128x128 : S_.BroadcastsInDim S2x128x128 (![] : Fin 0 → Fin S2x128x128.rank)

variable [Facts]

def fn {F : FTy → Type} [FloatOps F] (main_arg0 : FVec F S12288x1024 .f32) (main_arg1 : FVec F S8x6x1024 .f32) (main_arg2 : FVec F S1024 .f32) (main_arg3 : FVec F S1024x2048 .f32) (main_arg4 : FVec F S2x128x128 .f32) : IVec S3x2x1024 1 × IVec S1024 1 × IVec S1024x2048 1 × IVec S2x128x128 1 :=
  let main_v0 : FVec F S3x2x1024 .f32 := (extractStridedSlice S3x2x1024 ![0, 3, 0] · slices_S8x6x1024_S3x2x1024_0_3_0) main_arg1
  let main_v1 : FVec F S3x2x1024 .f32 := Host.absf main_v0
  let main_cst : FVec F S_ .f32 := constant S_ .f32 0x7F800000#32
  let main_v2 : FVec F S3x2x1024 .f32 := broadcastInDim S3x2x1024 ![] bcast_S_S3x2x1024 main_cst
  let main_v3 : IVec S3x2x1024 1 := cmpf .olt main_v1 main_v2
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x2048 .f32 := Host.absf main_arg3
  let main_cst_1 : FVec F S_ .f32 := constant S_ .f32 0x7F800000#32
  let main_v8 : FVec F S1024x2048 .f32 := broadcastInDim S1024x2048 ![] bcast_S_S1024x2048 main_cst_1
  let main_v9 : IVec S1024x2048 1 := cmpf .olt main_v7 main_v8
  let main_v10 : FVec F S2x128x128 .f32 := Host.absf main_arg4
  let main_cst_2 : FVec F S_ .f32 := constant S_ .f32 0x7F800000#32
  let main_v11 : FVec F S2x128x128 .f32 := broadcastInDim S2x128x128 ![] bcast_S_S2x128x128 main_cst_2
  let main_v12 : IVec S2x128x128 1 := cmpf .olt main_v10 main_v11
  (main_v3, main_v6, main_v9, main_v12)
-- ==== Pre_finite_projection.lean ====
abbrev S12288x1024 : Shape := ⟨2, ![12288, 1024]⟩
abbrev S8x6x1024 : Shape := ⟨3, ![8, 6, 1024]⟩
abbrev S1024 : Shape := ⟨1, ![1024]⟩
abbrev S1024x3072 : Shape := ⟨2, ![1024, 3072]⟩
abbrev S64 : Shape := ⟨1, ![64]⟩
abbrev S3x2x1024 : Shape := ⟨3, ![3, 2, 1024]⟩
abbrev S_ : Shape := ⟨0, ![]⟩
abbrev S1024x2048 : Shape := ⟨2, ![1024, 2048]⟩

class Facts : Prop where
  slices_S8x6x1024_S3x2x1024_0_0_0 : S8x6x1024.Slices ![0, 0, 0] S3x2x1024
  bcast_S_S3x2x1024 : S_.BroadcastsInDim S3x2x1024 (![] : Fin 0 → Fin S3x2x1024.rank)
  bcast_S_S1024 : S_.BroadcastsInDim S1024 (![] : Fin 0 → Fin S1024.rank)
  slices_S1024x3072_S1024x2048_0_0 : S1024x3072.Slices ![0, 0] S1024x2048
  bcast_S_S1024x2048 : S_.BroadcastsInDim S1024x2048 (![] : Fin 0 → Fin S1024x2048.rank)

variable [Facts]

def fn {F : FTy → Type} [FloatOps F] (main_arg0 : FVec F S12288x1024 .f32) (main_arg1 : FVec F S8x6x1024 .f32) (main_arg2 : FVec F S1024 .f32) (main_arg3 : FVec F S1024x3072 .f32) (main_arg4 : FVec F S64 .f32) (main_arg5 : FVec F S64 .f32) : IVec S3x2x1024 1 × IVec S1024 1 × IVec S1024x2048 1 :=
  let main_v0 : FVec F S3x2x1024 .f32 := (extractStridedSlice S3x2x1024 ![0, 0, 0] · slices_S8x6x1024_S3x2x1024_0_0_0) main_arg1
  let main_v1 : FVec F S3x2x1024 .f32 := Host.absf main_v0
  let main_cst : FVec F S_ .f32 := constant S_ .f32 0x7F800000#32
  let main_v2 : FVec F S3x2x1024 .f32 := broadcastInDim S3x2x1024 ![] bcast_S_S3x2x1024 main_cst
  let main_v3 : IVec S3x2x1024 1 := cmpf .olt main_v1 main_v2
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x2048 .f32 := (extractStridedSlice S1024x2048 ![0, 0] · slices_S1024x3072_S1024x2048_0_0) main_arg3
  let main_v8 : FVec F S1024x2048 .f32 := Host.absf main_v7
  let main_cst_1 : FVec F S_ .f32 := constant S_ .f32 0x7F800000#32
  let main_v9 : FVec F S1024x2048 .f32 := broadcastInDim S1024x2048 ![] bcast_S_S1024x2048 main_cst_1
  let main_v10 : IVec S1024x2048 1 := cmpf .olt main_v8 main_v9
  (main_v3, main_v6, main_v10)
-- ==== Pre_finite_prompt_scores.lean ====
abbrev S12288x1024 : Shape := ⟨2, ![12288, 1024]⟩
abbrev S8x6x1024 : Shape := ⟨3, ![8, 6, 1024]⟩
abbrev S1024x1024 : Shape := ⟨2, ![1024, 1024]⟩
abbrev S4096x1024 : Shape := ⟨2, ![4096, 1024]⟩
abbrev S_ : Shape := ⟨0, ![]⟩

class Facts : Prop where
  slices_S12288x1024_S4096x1024_0_0 : S12288x1024.Slices ![0, 0] S4096x1024
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S12288x1024 .bf16) (main_arg1 : FVec F S12288x1024 .bf16) (main_arg2 : FVec F S12288x1024 .bf16) (main_arg3 : FVec F S12288x1024 .f32) (main_arg4 : FVec F S8x6x1024 .f32) (main_arg5 : FVec F S1024x1024 .f32) : IVec S4096x1024 1 × IVec S4096x1024 1 :=
  let main_v0 : FVec F S4096x1024 .bf16 := (extractStridedSlice S4096x1024 ![0, 0] · slices_S12288x1024_S4096x1024_0_0) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_v5 : FVec F S4096x1024 .bf16 := (extractStridedSlice S4096x1024 ![0, 0] · slices_S12288x1024_S4096x1024_0_0) main_arg1
  let main_v6 : FVec F S4096x1024 .f32 := (extf .f32 · bitsLt_bf16_f32) main_v5
  let main_v7 : FVec F S4096x1024 .f32 := Host.absf main_v6
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  (main_v4, main_v9)
-- ==== Pre_finite_scores.lean ====
abbrev S12288x1024 : Shape := ⟨2, ![12288, 1024]⟩
abbrev S2x256x16x64 : Shape := ⟨4, ![2, 256, 16, 64]⟩
abbrev S16x15x31 : Shape := ⟨3, ![16, 15, 31]⟩
abbrev S8x6x1024 : Shape := ⟨3, ![8, 6, 1024]⟩
abbrev S1024x1024 : Shape := ⟨2, ![1024, 1024]⟩
abbrev S_ : Shape := ⟨0, ![]⟩

class Facts : Prop where
  bitsLt_bf16_f32 : FTy.bits .bf16 < FTy.bits .f32
  bcast_S_S12288x1024 : S_.BroadcastsInDim S12288x1024 (![] : Fin 0 → Fin S12288x1024.rank)
  bcast_S_S2x256x16x64 : S_.BroadcastsInDim S2x256x16x64 (![] : Fin 0 → Fin S2x256x16x64.rank)
  bcast_S_S16x15x31 : S_.BroadcastsInDim S16x15x31 (![] : Fin 0 → Fin S16x15x31.rank)

variable [Facts]

def fn {F : FTy → Type} [FloatOps F] (main_arg0 : FVec F S12288x1024 .bf16) (main_arg1 : FVec F S12288x1024 .bf16) (main_arg2 : FVec F S12288x1024 .bf16) (main_arg3 : FVec F S2x256x16x64 .f32) (main_arg4 : FVec F S2x256x16x64 .f32) (main_arg5 : FVec F S16x15x31 .f32) (main_arg6 : FVec F S12288x1024 .f32) (main_arg7 : FVec F S8x6x1024 .f32) (main_arg8 : FVec F S1024x1024 .f32) : IVec S12288x1024 1 × IVec S12288x1024 1 × IVec S2x256x16x64 1 × IVec S16x15x31 1 :=
  let main_v0 : FVec F S12288x1024 .f32 := (extf .f32 · bitsLt_bf16_f32) main_arg0
  let main_v1 : FVec F S12288x1024 .f32 := Host.absf main_v0
  let main_cst : FVec F S_ .f32 := constant S_ .f32 0x7F800000#32
  let main_v2 : FVec F S12288x1024 .f32 := broadcastInDim S12288x1024 ![] bcast_S_S12288x1024 main_cst
  let main_v3 : IVec S12288x1024 1 := cmpf .olt main_v1 main_v2
  let main_v4 : FVec F S12288x1024 .f32 := (extf .f32 · bitsLt_bf16_f32) main_arg1
  let main_v5 : FVec F S12288x1024 .f32 := Host.absf main_v4
  let main_cst_0 : FVec F S_ .f32 := constant S_ .f32 0x7F800000#32
  let main_v6 : FVec F S12288x1024 .f32 := broadcastInDim S12288x1024 ![] bcast_S_S12288x1024 main_cst_0
  let main_v7 : IVec S12288x1024 1 := cmpf .olt main_v5 main_v6
  let main_v8 : FVec F S2x256x16x64 .f32 := Host.absf main_arg3
  let main_cst_1 : FVec F S_ .f32 := constant S_ .f32 0x7F800000#32
  let main_v9 : FVec F S2x256x16x64 .f32 := broadcastInDim S2x256x16x64 ![] bcast_S_S2x256x16x64 main_cst_1
  let main_v10 : IVec S2x256x16x64 1 := cmpf .olt main_v8 main_v9
  let main_v11 : FVec F S16x15x31 .f32 := Host.absf main_arg5
  let main_cst_2 : FVec F S_ .f32 := constant S_ .f32 0x7F800000#32
  let main_v12 : FVec F S16x15x31 .f32 := broadcastInDim S16x15x31 ![] bcast_S_S16x15x31 main_cst_2
  let main_v13 : IVec S16x15x31 1 := cmpf .olt main_v11 main_v12
  (main_v3, main_v7, main_v10, main_v13)
-- ==== Kernel.lean ====
abbrev S12288x1024 : Shape := ⟨2, ![12288, 1024]⟩
abbrev S2x256x16x64 : Shape := ⟨4, ![2, 256, 16, 64]⟩
abbrev S16x15x31 : Shape := ⟨3, ![16, 15, 31]⟩
abbrev S8x6x1024 : Shape := ⟨3, ![8, 6, 1024]⟩
abbrev S1024x1024 : Shape := ⟨2, ![1024, 1024]⟩
abbrev S2x256x1024 : Shape := ⟨3, ![2, 256, 1024]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S16x15x64x64 : Shape := ⟨4, ![16, 15, 64, 64]⟩
abbrev S1x1x64x64 : Shape := ⟨4, ![1, 1, 64, 64]⟩
abbrev S16x15x1 : Shape := ⟨3, ![16, 15, 1]⟩
abbrev S16x15 : Shape := ⟨2, ![16, 15]⟩
abbrev S16x15x1x1 : Shape := ⟨4, ![16, 15, 1, 1]⟩
abbrev S16x8x64x64 : Shape := ⟨4, ![16, 8, 64, 64]⟩
abbrev S1x16x8x64x64 : Shape := ⟨5, ![1, 16, 8, 64, 64]⟩
abbrev S8x16x8x64x64 : Shape := ⟨5, ![8, 16, 8, 64, 64]⟩
abbrev S8x16x64x8x64 : Shape := ⟨5, ![8, 16, 64, 8, 64]⟩
abbrev S8x16x64x512 : Shape := ⟨4, ![8, 16, 64, 512]⟩
abbrev S64x1024 : Shape := ⟨2, ![64, 1024]⟩
abbrev S4096x1024 : Shape := ⟨2, ![4096, 1024]⟩
abbrev S1x256x1024 : Shape := ⟨3, ![1, 256, 1024]⟩
abbrev S1x16x64x512 : Shape := ⟨4, ![1, 16, 64, 512]⟩
abbrev S1x6x1024 : Shape := ⟨3, ![1, 6, 1024]⟩
abbrev S512x128 : Shape := ⟨2, ![512, 128]⟩
abbrev S64x128 : Shape := ⟨2, ![64, 128]⟩
abbrev S1x256x128 : Shape := ⟨3, ![1, 256, 128]⟩
abbrev S256x128 : Shape := ⟨2, ![256, 128]⟩
abbrev S1x128 : Shape := ⟨2, ![1, 128]⟩
abbrev S64x512 : Shape := ⟨2, ![64, 512]⟩
abbrev S1x1x64x512 : Shape := ⟨4, ![1, 1, 64, 512]⟩
abbrev S64x256 : Shape := ⟨2, ![64, 256]⟩
abbrev S1x1x1024 : Shape := ⟨3, ![1, 1, 1024]⟩
abbrev S1x1024 : Shape := ⟨2, ![1, 1024]⟩

abbrev nBuf : Space → Nat
  | .hbm => 421
  | .vmem => 19
  | .smem => 0
  | _ => 0

abbrev hbmTy0_0 (i : Nat) : BufTy := match i % 128 with
  | 0 => ⟨S12288x1024, .bf16⟩
  | 1 => ⟨S12288x1024, .bf16⟩
  | 2 => ⟨S12288x1024, .bf16⟩
  | 3 => ⟨S2x256x16x64, .f32⟩
  | 4 => ⟨S2x256x16x64, .f32⟩
  | 5 => ⟨S16x15x31, .f32⟩
  | 6 => ⟨S12288x1024, .f32⟩
  | 7 => ⟨S8x6x1024, .f32⟩
  | 8 => ⟨S1024x1024, .f32⟩
  | 9 => ⟨S2x256x1024, .f32⟩
  | 10 => ⟨S2x256x1024, .bf16⟩
  | 11 => ⟨S2x256x1024, .f32⟩
  | 12 => ⟨S2x256x1024, .bf16⟩
  | 13 => ⟨S64, .i32⟩
  | 14 => ⟨S_, .i32⟩
  | 15 => ⟨S64, .i32⟩
  | 16 => ⟨S64, .i32⟩
  | 17 => ⟨S_, .i32⟩
  | 18 => ⟨S_, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S64, .i32⟩
  | 26 => ⟨S1x64, .i32⟩
  | 27 => ⟨S64x1, .i32⟩
  | 28 => ⟨S64x64, .i32⟩
  | 29 => ⟨S64x64, .i32⟩
  | 30 => ⟨S64x64, .i1⟩
  | 31 => ⟨S1x64, .i32⟩
  | 32 => ⟨S64x1, .i32⟩
  | 33 => ⟨S_, .i32⟩
  | 34 => ⟨S64x1, .i32⟩
  | 35 => ⟨S64x1, .i32⟩
  | 36 => ⟨S64x64, .i32⟩
  | 37 => ⟨S64x64, .i32⟩
  | 38 => ⟨S64x64, .i1⟩
  | 39 => ⟨S64x64, .i1⟩
  | 40 => ⟨S1x64, .i32⟩
  | 41 => ⟨S64x1, .i32⟩
  | 42 => ⟨S64x64, .i32⟩
  | 43 => ⟨S64x64, .i32⟩
  | 44 => ⟨S64x64, .i32⟩
  | 45 => ⟨S_, .i32⟩
  | 46 => ⟨S64x64, .i32⟩
  | 47 => ⟨S64x64, .i32⟩
  | 48 => ⟨S_, .i32⟩
  | 49 => ⟨S64x64, .i32⟩
  | 50 => ⟨S64x64, .i32⟩
  | 51 => ⟨S_, .f32⟩
  | 52 => ⟨S16x15x64x64, .f32⟩
  | 53 => ⟨S_, .i32⟩
  | 54 => ⟨S64x64, .i32⟩
  | 55 => ⟨S64x64, .i1⟩
  | 56 => ⟨S64x64, .i1⟩
  | 57 => ⟨S1x1x64x64, .i1⟩
  | 58 => ⟨S16x15x1, .f32⟩
  | 59 => ⟨S16x15, .f32⟩
  | 60 => ⟨S16x15x1x1, .f32⟩
  | 61 => ⟨S16x15x64x64, .i1⟩
  | 62 => ⟨S16x15x64x64, .f32⟩
  | 63 => ⟨S16x15x64x64, .f32⟩
  | 64 => ⟨S_, .i32⟩
  | 65 => ⟨S64x64, .i32⟩
  | 66 => ⟨S64x64, .i1⟩
  | 67 => ⟨S64x64, .i1⟩
  | 68 => ⟨S1x1x64x64, .i1⟩
  | 69 => ⟨S16x15x1, .f32⟩
  | 70 => ⟨S16x15, .f32⟩
  | 71 => ⟨S16x15x1x1, .f32⟩
  | 72 => ⟨S16x15x64x64, .i1⟩
  | 73 => ⟨S16x15x64x64, .f32⟩
  | 74 => ⟨S16x15x64x64, .f32⟩
  | 75 => ⟨S_, .i32⟩
  | 76 => ⟨S64x64, .i32⟩
  | 77 => ⟨S64x64, .i1⟩
  | 78 => ⟨S64x64, .i1⟩
  | 79 => ⟨S1x1x64x64, .i1⟩
  | 80 => ⟨S16x15x1, .f32⟩
  | 81 => ⟨S16x15, .f32⟩
  | 82 => ⟨S16x15x1x1, .f32⟩
  | 83 => ⟨S16x15x64x64, .i1⟩
  | 84 => ⟨S16x15x64x64, .f32⟩
  | 85 => ⟨S16x15x64x64, .f32⟩
  | 86 => ⟨S_, .i32⟩
  | 87 => ⟨S64x64, .i32⟩
  | 88 => ⟨S64x64, .i1⟩
  | 89 => ⟨S64x64, .i1⟩
  | 90 => ⟨S1x1x64x64, .i1⟩
  | 91 => ⟨S16x15x1, .f32⟩
  | 92 => ⟨S16x15, .f32⟩
  | 93 => ⟨S16x15x1x1, .f32⟩
  | 94 => ⟨S16x15x64x64, .i1⟩
  | 95 => ⟨S16x15x64x64, .f32⟩
  | 96 => ⟨S16x15x64x64, .f32⟩
  | 97 => ⟨S_, .i32⟩
  | 98 => ⟨S64x64, .i32⟩
  | 99 => ⟨S64x64, .i1⟩
  | 100 => ⟨S64x64, .i1⟩
  | 101 => ⟨S1x1x64x64, .i1⟩
  | 102 => ⟨S16x15x1, .f32⟩
  | 103 => ⟨S16x15, .f32⟩
  | 104 => ⟨S16x15x1x1, .f32⟩
  | 105 => ⟨S16x15x64x64, .i1⟩
  | 106 => ⟨S16x15x64x64, .f32⟩
  | 107 => ⟨S16x15x64x64, .f32⟩
  | 108 => ⟨S_, .i32⟩
  | 109 => ⟨S64x64, .i32⟩
  | 110 => ⟨S64x64, .i1⟩
  | 111 => ⟨S64x64, .i1⟩
  | 112 => ⟨S1x1x64x64, .i1⟩
  | 113 => ⟨S16x15x1, .f32⟩
  | 114 => ⟨S16x15, .f32⟩
  | 115 => ⟨S16x15x1x1, .f32⟩
  | 116 => ⟨S16x15x64x64, .i1⟩
  | 117 => ⟨S16x15x64x64, .f32⟩
  | 118 => ⟨S16x15x64x64, .f32⟩
  | 119 => ⟨S_, .i32⟩
  | 120 => ⟨S64x64, .i32⟩
  | 121 => ⟨S64x64, .i1⟩
  | 122 => ⟨S64x64, .i1⟩
  | 123 => ⟨S1x1x64x64, .i1⟩
  | 124 => ⟨S16x15x1, .f32⟩
  | 125 => ⟨S16x15, .f32⟩
  | 126 => ⟨S16x15x1x1, .f32⟩
  | 127 => ⟨S16x15x64x64, .i1⟩
  | _ => ⟨S12288x1024, .bf16⟩

abbrev hbmTy0_1 (i : Nat) : BufTy := match i % 128 with
  | 0 => ⟨S16x15x64x64, .f32⟩
  | 1 => ⟨S16x15x64x64, .f32⟩
  | 2 => ⟨S_, .i32⟩
  | 3 => ⟨S64x64, .i32⟩
  | 4 => ⟨S64x64, .i1⟩
  | 5 => ⟨S64x64, .i1⟩
  | 6 => ⟨S1x1x64x64, .i1⟩
  | 7 => ⟨S16x15x1, .f32⟩
  | 8 => ⟨S16x15, .f32⟩
  | 9 => ⟨S16x15x1x1, .f32⟩
  | 10 => ⟨S16x15x64x64, .i1⟩
  | 11 => ⟨S16x15x64x64, .f32⟩
  | 12 => ⟨S16x15x64x64, .f32⟩
  | 13 => ⟨S_, .i32⟩
  | 14 => ⟨S64x64, .i32⟩
  | 15 => ⟨S64x64, .i1⟩
  | 16 => ⟨S64x64, .i1⟩
  | 17 => ⟨S1x1x64x64, .i1⟩
  | 18 => ⟨S16x15x1, .f32⟩
  | 19 => ⟨S16x15, .f32⟩
  | 20 => ⟨S16x15x1x1, .f32⟩
  | 21 => ⟨S16x15x64x64, .i1⟩
  | 22 => ⟨S16x15x64x64, .f32⟩
  | 23 => ⟨S16x15x64x64, .f32⟩
  | 24 => ⟨S_, .i32⟩
  | 25 => ⟨S64x64, .i32⟩
  | 26 => ⟨S64x64, .i1⟩
  | 27 => ⟨S64x64, .i1⟩
  | 28 => ⟨S1x1x64x64, .i1⟩
  | 29 => ⟨S16x15x1, .f32⟩
  | 30 => ⟨S16x15, .f32⟩
  | 31 => ⟨S16x15x1x1, .f32⟩
  | 32 => ⟨S16x15x64x64, .i1⟩
  | 33 => ⟨S16x15x64x64, .f32⟩
  | 34 => ⟨S16x15x64x64, .f32⟩
  | 35 => ⟨S_, .i32⟩
  | 36 => ⟨S64x64, .i32⟩
  | 37 => ⟨S64x64, .i1⟩
  | 38 => ⟨S64x64, .i1⟩
  | 39 => ⟨S1x1x64x64, .i1⟩
  | 40 => ⟨S16x15x1, .f32⟩
  | 41 => ⟨S16x15, .f32⟩
  | 42 => ⟨S16x15x1x1, .f32⟩
  | 43 => ⟨S16x15x64x64, .i1⟩
  | 44 => ⟨S16x15x64x64, .f32⟩
  | 45 => ⟨S16x15x64x64, .f32⟩
  | 46 => ⟨S_, .i32⟩
  | 47 => ⟨S64x64, .i32⟩
  | 48 => ⟨S64x64, .i1⟩
  | 49 => ⟨S64x64, .i1⟩
  | 50 => ⟨S1x1x64x64, .i1⟩
  | 51 => ⟨S16x15x1, .f32⟩
  | 52 => ⟨S16x15, .f32⟩
  | 53 => ⟨S16x15x1x1, .f32⟩
  | 54 => ⟨S16x15x64x64, .i1⟩
  | 55 => ⟨S16x15x64x64, .f32⟩
  | 56 => ⟨S16x15x64x64, .f32⟩
  | 57 => ⟨S_, .i32⟩
  | 58 => ⟨S64x64, .i32⟩
  | 59 => ⟨S64x64, .i1⟩
  | 60 => ⟨S64x64, .i1⟩
  | 61 => ⟨S1x1x64x64, .i1⟩
  | 62 => ⟨S16x15x1, .f32⟩
  | 63 => ⟨S16x15, .f32⟩
  | 64 => ⟨S16x15x1x1, .f32⟩
  | 65 => ⟨S16x15x64x64, .i1⟩
  | 66 => ⟨S16x15x64x64, .f32⟩
  | 67 => ⟨S16x15x64x64, .f32⟩
  | 68 => ⟨S_, .i32⟩
  | 69 => ⟨S64x64, .i32⟩
  | 70 => ⟨S64x64, .i1⟩
  | 71 => ⟨S64x64, .i1⟩
  | 72 => ⟨S1x1x64x64, .i1⟩
  | 73 => ⟨S16x15x1, .f32⟩
  | 74 => ⟨S16x15, .f32⟩
  | 75 => ⟨S16x15x1x1, .f32⟩
  | 76 => ⟨S16x15x64x64, .i1⟩
  | 77 => ⟨S16x15x64x64, .f32⟩
  | 78 => ⟨S16x15x64x64, .f32⟩
  | 79 => ⟨S_, .i32⟩
  | 80 => ⟨S64x64, .i32⟩
  | 81 => ⟨S64x64, .i1⟩
  | 82 => ⟨S64x64, .i1⟩
  | 83 => ⟨S1x1x64x64, .i1⟩
  | 84 => ⟨S16x15x1, .f32⟩
  | 85 => ⟨S16x15, .f32⟩
  | 86 => ⟨S16x15x1x1, .f32⟩
  | 87 => ⟨S16x15x64x64, .i1⟩
  | 88 => ⟨S16x15x64x64, .f32⟩
  | 89 => ⟨S16x15x64x64, .f32⟩
  | 90 => ⟨S_, .i32⟩
  | 91 => ⟨S64x64, .i32⟩
  | 92 => ⟨S64x64, .i1⟩
  | 93 => ⟨S64x64, .i1⟩
  | 94 => ⟨S1x1x64x64, .i1⟩
  | 95 => ⟨S16x15x1, .f32⟩
  | 96 => ⟨S16x15, .f32⟩
  | 97 => ⟨S16x15x1x1, .f32⟩
  | 98 => ⟨S16x15x64x64, .i1⟩
  | 99 => ⟨S16x15x64x64, .f32⟩
  | 100 => ⟨S16x15x64x64, .f32⟩
  | 101 => ⟨S_, .i32⟩
  | 102 => ⟨S64x64, .i32⟩
  | 103 => ⟨S64x64, .i1⟩
  | 104 => ⟨S64x64, .i1⟩
  | 105 => ⟨S1x1x64x64, .i1⟩
  | 106 => ⟨S16x15x1, .f32⟩
  | 107 => ⟨S16x15, .f32⟩
  | 108 => ⟨S16x15x1x1, .f32⟩
  | 109 => ⟨S16x15x64x64, .i1⟩
  | 110 => ⟨S16x15x64x64, .f32⟩
  | 111 => ⟨S16x15x64x64, .f32⟩
  | 112 => ⟨S_, .i32⟩
  | 113 => ⟨S64x64, .i32⟩
  | 114 => ⟨S64x64, .i1⟩
  | 115 => ⟨S64x64, .i1⟩
  | 116 => ⟨S1x1x64x64, .i1⟩
  | 117 => ⟨S16x15x1, .f32⟩
  | 118 => ⟨S16x15, .f32⟩
  | 119 => ⟨S16x15x1x1, .f32⟩
  | 120 => ⟨S16x15x64x64, .i1⟩
  | 121 => ⟨S16x15x64x64, .f32⟩
  | 122 => ⟨S16x15x64x64, .f32⟩
  | 123 => ⟨S_, .i32⟩
  | 124 => ⟨S64x64, .i32⟩
  | 125 => ⟨S64x64, .i1⟩
  | 126 => ⟨S64x64, .i1⟩
  | 127 => ⟨S1x1x64x64, .i1⟩
  | _ => ⟨S12288x1024, .bf16⟩

abbrev hbmTy0_2 (i : Nat) : BufTy := match i % 128 with
  | 0 => ⟨S16x15x1, .f32⟩
  | 1 => ⟨S16x15, .f32⟩
  | 2 => ⟨S16x15x1x1, .f32⟩
  | 3 => ⟨S16x15x64x64, .i1⟩
  | 4 => ⟨S16x15x64x64, .f32⟩
  | 5 => ⟨S16x15x64x64, .f32⟩
  | 6 => ⟨S_, .i32⟩
  | 7 => ⟨S64x64, .i32⟩
  | 8 => ⟨S64x64, .i1⟩
  | 9 => ⟨S64x64, .i1⟩
  | 10 => ⟨S1x1x64x64, .i1⟩
  | 11 => ⟨S16x15x1, .f32⟩
  | 12 => ⟨S16x15, .f32⟩
  | 13 => ⟨S16x15x1x1, .f32⟩
  | 14 => ⟨S16x15x64x64, .i1⟩
  | 15 => ⟨S16x15x64x64, .f32⟩
  | 16 => ⟨S16x15x64x64, .f32⟩
  | 17 => ⟨S_, .i32⟩
  | 18 => ⟨S64x64, .i32⟩
  | 19 => ⟨S64x64, .i1⟩
  | 20 => ⟨S64x64, .i1⟩
  | 21 => ⟨S1x1x64x64, .i1⟩
  | 22 => ⟨S16x15x1, .f32⟩
  | 23 => ⟨S16x15, .f32⟩
  | 24 => ⟨S16x15x1x1, .f32⟩
  | 25 => ⟨S16x15x64x64, .i1⟩
  | 26 => ⟨S16x15x64x64, .f32⟩
  | 27 => ⟨S16x15x64x64, .f32⟩
  | 28 => ⟨S_, .i32⟩
  | 29 => ⟨S64x64, .i32⟩
  | 30 => ⟨S64x64, .i1⟩
  | 31 => ⟨S64x64, .i1⟩
  | 32 => ⟨S1x1x64x64, .i1⟩
  | 33 => ⟨S16x15x1, .f32⟩
  | 34 => ⟨S16x15, .f32⟩
  | 35 => ⟨S16x15x1x1, .f32⟩
  | 36 => ⟨S16x15x64x64, .i1⟩
  | 37 => ⟨S16x15x64x64, .f32⟩
  | 38 => ⟨S16x15x64x64, .f32⟩
  | 39 => ⟨S_, .i32⟩
  | 40 => ⟨S64x64, .i32⟩
  | 41 => ⟨S64x64, .i1⟩
  | 42 => ⟨S64x64, .i1⟩
  | 43 => ⟨S1x1x64x64, .i1⟩
  | 44 => ⟨S16x15x1, .f32⟩
  | 45 => ⟨S16x15, .f32⟩
  | 46 => ⟨S16x15x1x1, .f32⟩
  | 47 => ⟨S16x15x64x64, .i1⟩
  | 48 => ⟨S16x15x64x64, .f32⟩
  | 49 => ⟨S16x15x64x64, .f32⟩
  | 50 => ⟨S_, .i32⟩
  | 51 => ⟨S64x64, .i32⟩
  | 52 => ⟨S64x64, .i1⟩
  | 53 => ⟨S64x64, .i1⟩
  | 54 => ⟨S1x1x64x64, .i1⟩
  | 55 => ⟨S16x15x1, .f32⟩
  | 56 => ⟨S16x15, .f32⟩
  | 57 => ⟨S16x15x1x1, .f32⟩
  | 58 => ⟨S16x15x64x64, .i1⟩
  | 59 => ⟨S16x15x64x64, .f32⟩
  | 60 => ⟨S16x15x64x64, .f32⟩
  | 61 => ⟨S_, .i32⟩
  | 62 => ⟨S64x64, .i32⟩
  | 63 => ⟨S64x64, .i1⟩
  | 64 => ⟨S64x64, .i1⟩
  | 65 => ⟨S1x1x64x64, .i1⟩
  | 66 => ⟨S16x15x1, .f32⟩
  | 67 => ⟨S16x15, .f32⟩
  | 68 => ⟨S16x15x1x1, .f32⟩
  | 69 => ⟨S16x15x64x64, .i1⟩
  | 70 => ⟨S16x15x64x64, .f32⟩
  | 71 => ⟨S16x15x64x64, .f32⟩
  | 72 => ⟨S_, .i32⟩
  | 73 => ⟨S64x64, .i32⟩
  | 74 => ⟨S64x64, .i1⟩
  | 75 => ⟨S64x64, .i1⟩
  | 76 => ⟨S1x1x64x64, .i1⟩
  | 77 => ⟨S16x15x1, .f32⟩
  | 78 => ⟨S16x15, .f32⟩
  | 79 => ⟨S16x15x1x1, .f32⟩
  | 80 => ⟨S16x15x64x64, .i1⟩
  | 81 => ⟨S16x15x64x64, .f32⟩
  | 82 => ⟨S16x15x64x64, .f32⟩
  | 83 => ⟨S_, .i32⟩
  | 84 => ⟨S64x64, .i32⟩
  | 85 => ⟨S64x64, .i1⟩
  | 86 => ⟨S64x64, .i1⟩
  | 87 => ⟨S1x1x64x64, .i1⟩
  | 88 => ⟨S16x15x1, .f32⟩
  | 89 => ⟨S16x15, .f32⟩
  | 90 => ⟨S16x15x1x1, .f32⟩
  | 91 => ⟨S16x15x64x64, .i1⟩
  | 92 => ⟨S16x15x64x64, .f32⟩
  | 93 => ⟨S16x15x64x64, .f32⟩
  | 94 => ⟨S_, .i32⟩
  | 95 => ⟨S64x64, .i32⟩
  | 96 => ⟨S64x64, .i1⟩
  | 97 => ⟨S64x64, .i1⟩
  | 98 => ⟨S1x1x64x64, .i1⟩
  | 99 => ⟨S16x15x1, .f32⟩
  | 100 => ⟨S16x15, .f32⟩
  | 101 => ⟨S16x15x1x1, .f32⟩
  | 102 => ⟨S16x15x64x64, .i1⟩
  | 103 => ⟨S16x15x64x64, .f32⟩
  | 104 => ⟨S16x15x64x64, .f32⟩
  | 105 => ⟨S_, .i32⟩
  | 106 => ⟨S64x64, .i32⟩
  | 107 => ⟨S64x64, .i1⟩
  | 108 => ⟨S64x64, .i1⟩
  | 109 => ⟨S1x1x64x64, .i1⟩
  | 110 => ⟨S16x15x1, .f32⟩
  | 111 => ⟨S16x15, .f32⟩
  | 112 => ⟨S16x15x1x1, .f32⟩
  | 113 => ⟨S16x15x64x64, .i1⟩
  | 114 => ⟨S16x15x64x64, .f32⟩
  | 115 => ⟨S16x15x64x64, .f32⟩
  | 116 => ⟨S_, .i32⟩
  | 117 => ⟨S64x64, .i32⟩
  | 118 => ⟨S64x64, .i1⟩
  | 119 => ⟨S64x64, .i1⟩
  | 120 => ⟨S1x1x64x64, .i1⟩
  | 121 => ⟨S16x15x1, .f32⟩
  | 122 => ⟨S16x15, .f32⟩
  | 123 => ⟨S16x15x1x1, .f32⟩
  | 124 => ⟨S16x15x64x64, .i1⟩
  | 125 => ⟨S16x15x64x64, .f32⟩
  | 126 => ⟨S16x15x64x64, .f32⟩
  | 127 => ⟨S_, .i32⟩
  | _ => ⟨S12288x1024, .bf16⟩

abbrev hbmTy0_3 (i : Nat) : BufTy := match i % 128 with
  | 0 => ⟨S64x64, .i32⟩
  | 1 => ⟨S64x64, .i1⟩
  | 2 => ⟨S64x64, .i1⟩
  | 3 => ⟨S1x1x64x64, .i1⟩
  | 4 => ⟨S16x15x1, .f32⟩
  | 5 => ⟨S16x15, .f32⟩
  | 6 => ⟨S16x15x1x1, .f32⟩
  | 7 => ⟨S16x15x64x64, .i1⟩
  | 8 => ⟨S16x15x64x64, .f32⟩
  | 9 => ⟨S16x15x64x64, .f32⟩
  | 10 => ⟨S1x1x64x64, .i1⟩
  | 11 => ⟨S_, .f32⟩
  | 12 => ⟨S_, .f32⟩
  | 13 => ⟨S16x15x64x64, .i1⟩
  | 14 => ⟨S16x15x64x64, .f32⟩
  | 15 => ⟨S16x15x64x64, .f32⟩
  | 16 => ⟨S16x8x64x64, .f32⟩
  | 17 => ⟨S16x8x64x64, .f32⟩
  | 18 => ⟨S16x8x64x64, .f32⟩
  | 19 => ⟨S16x8x64x64, .f32⟩
  | 20 => ⟨S16x8x64x64, .f32⟩
  | 21 => ⟨S16x8x64x64, .f32⟩
  | 22 => ⟨S16x8x64x64, .f32⟩
  | 23 => ⟨S16x8x64x64, .f32⟩
  | 24 => ⟨S1x16x8x64x64, .f32⟩
  | 25 => ⟨S1x16x8x64x64, .f32⟩
  | 26 => ⟨S1x16x8x64x64, .f32⟩
  | 27 => ⟨S1x16x8x64x64, .f32⟩
  | 28 => ⟨S1x16x8x64x64, .f32⟩
  | 29 => ⟨S1x16x8x64x64, .f32⟩
  | 30 => ⟨S1x16x8x64x64, .f32⟩
  | 31 => ⟨S1x16x8x64x64, .f32⟩
  | 32 => ⟨S8x16x8x64x64, .f32⟩
  | 33 => ⟨S8x16x64x8x64, .f32⟩
  | 34 => ⟨S8x16x64x512, .f32⟩
  | 35 => ⟨S1024x1024, .bf16⟩
  | 36 => ⟨S12288x1024, .f32⟩
  | _ => ⟨S12288x1024, .bf16⟩

abbrev hbmTy (i : Nat) : BufTy := match i / 128 with
  | 0 => hbmTy0_0 i
  | 1 => hbmTy0_1 i
  | 2 => hbmTy0_2 i
  | 3 => hbmTy0_3 i
  | _ => ⟨S12288x1024, .bf16⟩

abbrev bufTy : (tb : Table) → Fin (tcTables nBuf tb) → BufTy
  | .hbm, ⟨i, _⟩ => hbmTy i
  | .local _ .vmem, ⟨0, _⟩ => ⟨S64x1024, .bf16⟩
  | .local _ .vmem, ⟨1, _⟩ => ⟨S64x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x16x64x512, .f32⟩
  | .local _ .vmem, ⟨11, _⟩ => ⟨S1x16x64x512, .f32⟩
  | .local _ .vmem, ⟨12, _⟩ => ⟨S64x1024, .f32⟩
  | .local _ .vmem, ⟨13, _⟩ => ⟨S64x1024, .f32⟩
  | .local _ .vmem, ⟨14, _⟩ => ⟨S1x6x1024, .f32⟩
  | .local _ .vmem, ⟨15, _⟩ => ⟨S1x6x1024, .f32⟩
  | .local _ .vmem, ⟨16, _⟩ => ⟨S1024x1024, .bf16⟩
  | .local _ .vmem, ⟨17, _⟩ => ⟨S64x1024, .f32⟩
  | .local _ .vmem, ⟨18, _⟩ => ⟨S64x1024, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_v0 : Ref sig .tc := ⟨.hbm, 61, rfl⟩
abbrev main_call1_v1 : Ref sig .tc := ⟨.hbm, 62, rfl⟩
abbrev main_v39 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call2_v0 : Ref sig .tc := ⟨.hbm, 72, rfl⟩
abbrev main_call2_v1 : Ref sig .tc := ⟨.hbm, 73, rfl⟩
abbrev main_v47 : Ref sig .tc := ⟨.hbm, 74, rfl⟩
abbrev main_c_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call3_v0 : Ref sig .tc := ⟨.hbm, 83, rfl⟩
abbrev main_call3_v1 : Ref sig .tc := ⟨.hbm, 84, rfl⟩
abbrev main_v55 : Ref sig .tc := ⟨.hbm, 85, rfl⟩
abbrev main_c_8 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call4_v0 : Ref sig .tc := ⟨.hbm, 94, rfl⟩
abbrev main_call4_v1 : Ref sig .tc := ⟨.hbm, 95, rfl⟩
abbrev main_v63 : Ref sig .tc := ⟨.hbm, 96, rfl⟩
abbrev main_c_9 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call5_v0 : Ref sig .tc := ⟨.hbm, 105, rfl⟩
abbrev main_call5_v1 : Ref sig .tc := ⟨.hbm, 106, rfl⟩
abbrev main_v71 : Ref sig .tc := ⟨.hbm, 107, rfl⟩
abbrev main_c_10 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_call6_v0 : Ref sig .tc := ⟨.hbm, 116, rfl⟩
abbrev main_call6_v1 : Ref sig .tc := ⟨.hbm, 117, rfl⟩
abbrev main_v79 : Ref sig .tc := ⟨.hbm, 118, rfl⟩
abbrev main_c_11 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call7_v0 : Ref sig .tc := ⟨.hbm, 127, rfl⟩
abbrev main_call7_v1 : Ref sig .tc := ⟨.hbm, 128, rfl⟩
abbrev main_v87 : Ref sig .tc := ⟨.hbm, 129, rfl⟩
abbrev main_c_12 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_call8_v0 : Ref sig .tc := ⟨.hbm, 138, rfl⟩
abbrev main_call8_v1 : Ref sig .tc := ⟨.hbm, 139, rfl⟩
abbrev main_v95 : Ref sig .tc := ⟨.hbm, 140, rfl⟩
abbrev main_c_13 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_call9_v0 : Ref sig .tc := ⟨.hbm, 149, rfl⟩
abbrev main_call9_v1 : Ref sig .tc := ⟨.hbm, 150, rfl⟩
abbrev main_v103 : Ref sig .tc := ⟨.hbm, 151, rfl⟩
abbrev main_c_14 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_call10_v0 : Ref sig .tc := ⟨.hbm, 160, rfl⟩
abbrev main_call10_v1 : Ref sig .tc := ⟨.hbm, 161, rfl⟩
abbrev main_v111 : Ref sig .tc := ⟨.hbm, 162, rfl⟩
abbrev main_c_15 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_call11_v0 : Ref sig .tc := ⟨.hbm, 171, rfl⟩
abbrev main_call11_v1 : Ref sig .tc := ⟨.hbm, 172, rfl⟩
abbrev main_v119 : Ref sig .tc := ⟨.hbm, 173, rfl⟩
abbrev main_c_16 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_call12_v0 : Ref sig .tc := ⟨.hbm, 182, rfl⟩
abbrev main_call12_v1 : Ref sig .tc := ⟨.hbm, 183, rfl⟩
abbrev main_v127 : Ref sig .tc := ⟨.hbm, 184, rfl⟩
abbrev main_c_17 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_call13_v0 : Ref sig .tc := ⟨.hbm, 193, rfl⟩
abbrev main_call13_v1 : Ref sig .tc := ⟨.hbm, 194, rfl⟩
abbrev main_v135 : Ref sig .tc := ⟨.hbm, 195, rfl⟩
abbrev main_c_18 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_call14_v0 : Ref sig .tc := ⟨.hbm, 204, rfl⟩
abbrev main_call14_v1 : Ref sig .tc := ⟨.hbm, 205, rfl⟩
abbrev main_v143 : Ref sig .tc := ⟨.hbm, 206, rfl⟩
abbrev main_c_19 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_call15_v0 : Ref sig .tc := ⟨.hbm, 215, rfl⟩
abbrev main_call15_v1 : Ref sig .tc := ⟨.hbm, 216, rfl⟩
abbrev main_v151 : Ref sig .tc := ⟨.hbm, 217, rfl⟩
abbrev main_c_20 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_call16_v0 : Ref sig .tc := ⟨.hbm, 226, rfl⟩
abbrev main_call16_v1 : Ref sig .tc := ⟨.hbm, 227, rfl⟩
abbrev main_v159 : Ref sig .tc := ⟨.hbm, 228, rfl⟩
abbrev main_c_21 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_call17_v0 : Ref sig .tc := ⟨.hbm, 237, rfl⟩
abbrev main_call17_v1 : Ref sig .tc := ⟨.hbm, 238, rfl⟩
abbrev main_v167 : Ref sig .tc := ⟨.hbm, 239, rfl⟩
abbrev main_c_22 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_call18_v0 : Ref sig .tc := ⟨.hbm, 248, rfl⟩
abbrev main_call18_v1 : Ref sig .tc := ⟨.hbm, 249, rfl⟩
abbrev main_v175 : Ref sig .tc := ⟨.hbm, 250, rfl⟩
abbrev main_c_23 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_call19_v0 : Ref sig .tc := ⟨.hbm, 259, rfl⟩
abbrev main_call19_v1 : Ref sig .tc := ⟨.hbm, 260, rfl⟩
abbrev main_v183 : Ref sig .tc := ⟨.hbm, 261, rfl⟩
abbrev main_c_24 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_call20_v0 : Ref sig .tc := ⟨.hbm, 270, rfl⟩
abbrev main_call20_v1 : Ref sig .tc := ⟨.hbm, 271, rfl⟩
abbrev main_v191 : Ref sig .tc := ⟨.hbm, 272, rfl⟩
abbrev main_c_25 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_call21_v0 : Ref sig .tc := ⟨.hbm, 281, rfl⟩
abbrev main_call21_v1 : Ref sig .tc := ⟨.hbm, 282, rfl⟩
abbrev main_v199 : Ref sig .tc := ⟨.hbm, 283, rfl⟩
abbrev main_c_26 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_call22_v0 : Ref sig .tc := ⟨.hbm, 292, rfl⟩
abbrev main_call22_v1 : Ref sig .tc := ⟨.hbm, 293, rfl⟩
abbrev main_v207 : Ref sig .tc := ⟨.hbm, 294, rfl⟩
abbrev main_c_27 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_call23_v0 : Ref sig .tc := ⟨.hbm, 303, rfl⟩
abbrev main_call23_v1 : Ref sig .tc := ⟨.hbm, 304, rfl⟩
abbrev main_v215 : Ref sig .tc := ⟨.hbm, 305, rfl⟩
abbrev main_c_28 : Ref sig .tc := ⟨.hbm, 306, rfl⟩
abbrev main_v216 : Ref sig .tc := ⟨.hbm, 307, rfl⟩
abbrev main_v217 : Ref sig .tc := ⟨.hbm, 308, rfl⟩
abbrev main_v218 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_call24_v0 : Ref sig .tc := ⟨.hbm, 314, rfl⟩
abbrev main_call24_v1 : Ref sig .tc := ⟨.hbm, 315, rfl⟩
abbrev main_v223 : Ref sig .tc := ⟨.hbm, 316, rfl⟩
abbrev main_c_29 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_call25_v0 : Ref sig .tc := ⟨.hbm, 325, rfl⟩
abbrev main_call25_v1 : Ref sig .tc := ⟨.hbm, 326, rfl⟩
abbrev main_v231 : Ref sig .tc := ⟨.hbm, 327, rfl⟩
abbrev main_c_30 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_v238 : Ref sig .tc := ⟨.hbm, 335, rfl⟩
abbrev main_call26_v0 : Ref sig .tc := ⟨.hbm, 336, rfl⟩
abbrev main_call26_v1 : Ref sig .tc := ⟨.hbm, 337, rfl⟩
abbrev main_v239 : Ref sig .tc := ⟨.hbm, 338, rfl⟩
abbrev main_c_31 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_v243 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_call27_v0 : Ref sig .tc := ⟨.hbm, 347, rfl⟩
abbrev main_call27_v1 : Ref sig .tc := ⟨.hbm, 348, rfl⟩
abbrev main_v247 : Ref sig .tc := ⟨.hbm, 349, rfl⟩
abbrev main_c_32 : Ref sig .tc := ⟨.hbm, 350, rfl⟩
abbrev main_v248 : Ref sig .tc := ⟨.hbm, 351, rfl⟩
abbrev main_v249 : Ref sig .tc := ⟨.hbm, 352, rfl⟩
abbrev main_v250 : Ref sig .tc := ⟨.hbm, 353, rfl⟩
abbrev main_v251 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_call28_v0 : Ref sig .tc := ⟨.hbm, 358, rfl⟩
abbrev main_call28_v1 : Ref sig .tc := ⟨.hbm, 359, rfl⟩
abbrev main_v255 : Ref sig .tc := ⟨.hbm, 360, rfl⟩
abbrev main_c_33 : Ref sig .tc := ⟨.hbm, 361, rfl⟩
abbrev main_v256 : Ref sig .tc := ⟨.hbm, 362, rfl⟩
abbrev main_v257 : Ref sig .tc := ⟨.hbm, 363, rfl⟩
abbrev main_v258 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_v262 : Ref sig .tc := ⟨.hbm, 368, rfl⟩
abbrev main_call29_v0 : Ref sig .tc := ⟨.hbm, 369, rfl⟩
abbrev main_call29_v1 : Ref sig .tc := ⟨.hbm, 370, rfl⟩
abbrev main_v263 : Ref sig .tc := ⟨.hbm, 371, rfl⟩
abbrev main_c_34 : Ref sig .tc := ⟨.hbm, 372, rfl⟩
abbrev main_v264 : Ref sig .tc := ⟨.hbm, 373, rfl⟩
abbrev main_v265 : Ref sig .tc := ⟨.hbm, 374, rfl⟩
abbrev main_v266 : Ref sig .tc := ⟨.hbm, 375, rfl⟩
abbrev main_v267 : Ref sig .tc := ⟨.hbm, 376, rfl⟩
abbrev main_v268 : Ref sig .tc := ⟨.hbm, 377, rfl⟩
abbrev main_v269 : Ref sig .tc := ⟨.hbm, 378, rfl⟩
abbrev main_v270 : Ref sig .tc := ⟨.hbm, 379, rfl⟩
abbrev main_call30_v0 : Ref sig .tc := ⟨.hbm, 380, rfl⟩
abbrev main_call30_v1 : Ref sig .tc := ⟨.hbm, 381, rfl⟩
abbrev main_v271 : Ref sig .tc := ⟨.hbm, 382, rfl⟩
abbrev main_c_35 : Ref sig .tc := ⟨.hbm, 383, rfl⟩
abbrev main_v272 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩
abbrev main_v278 : Ref sig .tc := ⟨.hbm, 390, rfl⟩
abbrev main_call31_v0 : Ref sig .tc := ⟨.hbm, 391, rfl⟩
abbrev main_call31_v1 : Ref sig .tc := ⟨.hbm, 392, rfl⟩
abbrev main_v279 : Ref sig .tc := ⟨.hbm, 393, rfl⟩
abbrev main_v280 : Ref sig .tc := ⟨.hbm, 394, rfl⟩
abbrev main_cst_36 : Ref sig .tc := ⟨.hbm, 395, rfl⟩
abbrev main_call32_v0 : Ref sig .tc := ⟨.hbm, 396, rfl⟩
abbrev main_call32_v1 : Ref sig .tc := ⟨.hbm, 397, rfl⟩
abbrev main_call32_v2 : Ref sig .tc := ⟨.hbm, 398, rfl⟩
abbrev main_v281 : Ref sig .tc := ⟨.hbm, 399, rfl⟩
abbrev main_v282 : Ref sig .tc := ⟨.hbm, 400, rfl⟩
abbrev main_v283 : Ref sig .tc := ⟨.hbm, 401, rfl⟩
abbrev main_v284 : Ref sig .tc := ⟨.hbm, 402, rfl⟩
abbrev main_v285 : Ref sig .tc := ⟨.hbm, 403, rfl⟩
abbrev main_v286 : Ref sig .tc := ⟨.hbm, 404, rfl⟩
abbrev main_v287 : Ref sig .tc := ⟨.hbm, 405, rfl⟩
abbrev main_v288 : Ref sig .tc := ⟨.hbm, 406, rfl⟩
abbrev main_v289 : Ref sig .tc := ⟨.hbm, 407, rfl⟩
abbrev main_v290 : Ref sig .tc := ⟨.hbm, 408, rfl⟩
abbrev main_v291 : Ref sig .tc := ⟨.hbm, 409, rfl⟩
abbrev main_v292 : Ref sig .tc := ⟨.hbm, 410, rfl⟩
abbrev main_v293 : Ref sig .tc := ⟨.hbm, 411, rfl⟩
abbrev main_v294 : Ref sig .tc := ⟨.hbm, 412, rfl⟩
abbrev main_v295 : Ref sig .tc := ⟨.hbm, 413, rfl⟩
abbrev main_v296 : Ref sig .tc := ⟨.hbm, 414, rfl⟩
abbrev main_v297 : Ref sig .tc := ⟨.hbm, 415, rfl⟩
abbrev main_v298 : Ref sig .tc := ⟨.hbm, 416, rfl⟩
abbrev main_v299 : Ref sig .tc := ⟨.hbm, 417, rfl⟩
abbrev main_v300 : Ref sig .tc := ⟨.hbm, 418, rfl⟩
abbrev main_v301 : Ref sig .tc := ⟨.hbm, 419, rfl⟩
abbrev main_v302 : Ref sig .tc := ⟨.hbm, 420, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  v3
def k0_off1 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v5 : Index := Scalar.indexCast v4
  let c0 : Index := 0#32
  ![v5.toNat, 0]
def k0_off2 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v85 : Index := Scalar.indexCast v4
  let c128 : Index := 128#32
  ![v85.toNat, 128]
def k0_off3 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v165 : Index := Scalar.indexCast v4
  let c256 : Index := 256#32
  ![v165.toNat, 256]
def k0_off4 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v245 : Index := Scalar.indexCast v4
  let c384 : Index := 384#32
  ![v245.toNat, 384]
def k0_off5 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v325 : Index := Scalar.indexCast v4
  let c512 : Index := 512#32
  ![v325.toNat, 512]
def k0_off6 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v405 : Index := Scalar.indexCast v4
  let c640 : Index := 640#32
  ![v405.toNat, 640]
def k0_off7 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v485 : Index := Scalar.indexCast v4
  let c768 : Index := 768#32
  ![v485.toNat, 768]
def k0_off8 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v565 : Index := Scalar.indexCast v4
  let c896 : Index := 896#32
  ![v565.toNat, 896]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi c64_i32_0 v0
  let v2 : BitVec 32 := Scalar.addi v1 arg1
  let c0_i32 : BitVec 32 := 0#32
  let c0_i32_1 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c56_i32 : BitVec 32 := 56#32
  let v1 : BitVec 32 := Scalar.maxsi c0_i32 v0
  let v2 : BitVec 32 := Scalar.minsi c56_i32 v1
  let v3 : BitVec 32 := Scalar.subi v2 arg1
  let c8_i32 : BitVec 32 := 8#32
  let v4 : BitVec 32 := Scalar.addi v3 c8_i32
  let c1_i32 : BitVec 32 := 1#32
  let v5 : BitVec 32 := Scalar.subi v4 c1_i32
  let c0_i32_0 : BitVec 32 := 0#32
  let c0_i32_1 : BitVec 32 := 0#32
  let c0_i32_2 : BitVec 32 := 0#32
  let c0_i32_3 : BitVec 32 := 0#32
  ![v5.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi c64_i32_0 v0
  let v2 : BitVec 32 := Scalar.addi v1 arg1
  let c0_i32 : BitVec 32 := 0#32
  let c0_i32_1 : BitVec 32 := 0#32
  ![v2.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi c64_i32_0 v0
  let v2 : BitVec 32 := Scalar.addi v1 arg1
  let c0_i32 : BitVec 32 := 0#32
  let c0_i32_1 : BitVec 32 := 0#32
  ![v2.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S12288x1024 : Shape := ⟨2, ![12288, 1024]⟩
abbrev S2x256x16x64 : Shape := ⟨4, ![2, 256, 16, 64]⟩
abbrev S16x15x31 : Shape := ⟨3, ![16, 15, 31]⟩
abbrev S8x6x1024 : Shape := ⟨3, ![8, 6, 1024]⟩
abbrev S1024x1024 : Shape := ⟨2, ![1024, 1024]⟩
abbrev S8192x1024 : Shape := ⟨2, ![8192, 1024]⟩
abbrev S2x64x64x16x64 : Shape := ⟨5, ![2, 64, 64, 16, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x8x1 : Shape := ⟨3, ![64, 8, 1]⟩
abbrev S64x8x16 : Shape := ⟨3, ![64, 8, 16]⟩
abbrev S64x128 : Shape := ⟨2, ![64, 128]⟩
abbrev S64x1x16 : Shape := ⟨3, ![64, 1, 16]⟩
abbrev S64x1x128 : Shape := ⟨3, ![64, 1, 128]⟩
abbrev S1x64x128 : Shape := ⟨3, ![1, 64, 128]⟩
abbrev S64x64x128 : Shape := ⟨3, ![64, 64, 128]⟩
abbrev S64x64x128x1 : Shape := ⟨4, ![64, 64, 128, 1]⟩
abbrev S64x64x128x2 : Shape := ⟨4, ![64, 64, 128, 2]⟩
abbrev S2x64x64x128x16x64 : Shape := ⟨6, ![2, 64, 64, 128, 16, 64]⟩
abbrev S16x64x64x128 : Shape := ⟨4, ![16, 64, 64, 128]⟩
abbrev S2x16x64x64x128 : Shape := ⟨5, ![2, 16, 64, 64, 128]⟩
abbrev S1x16x64x64x128 : Shape := ⟨5, ![1, 16, 64, 64, 128]⟩
abbrev S2x16x64x64x256 : Shape := ⟨5, ![2, 16, 64, 64, 256]⟩
abbrev S2x16x64x64x384 : Shape := ⟨5, ![2, 16, 64, 64, 384]⟩
abbrev S2x16x64x64 : Shape := ⟨4, ![2, 16, 64, 64]⟩
abbrev S2x16x64x64x1 : Shape := ⟨5, ![2, 16, 64, 64, 1]⟩
abbrev S2x16x64x64x64 : Shape := ⟨5, ![2, 16, 64, 64, 64]⟩
abbrev S2x4096x1024 : Shape := ⟨3, ![2, 4096, 1024]⟩
abbrev S2x1x1024 : Shape := ⟨3, ![2, 1, 1024]⟩
abbrev S2x1024 : Shape := ⟨2, ![2, 1024]⟩
abbrev S4096x1024 : Shape := ⟨2, ![4096, 1024]⟩

abbrev nBuf : Space → Nat
  | .hbm => 183
  | .vmem => 0
  | .smem => 0
  | _ => 0

abbrev hbmTy0_0 (i : Nat) : BufTy := match i % 128 with
  | 0 => ⟨S12288x1024, .bf16⟩
  | 1 => ⟨S12288x1024, .bf16⟩
  | 2 => ⟨S12288x1024, .bf16⟩
  | 3 => ⟨S2x256x16x64, .f32⟩
  | 4 => ⟨S2x256x16x64, .f32⟩
  | 5 => ⟨S16x15x31, .f32⟩
  | 6 => ⟨S12288x1024, .f32⟩
  | 7 => ⟨S8x6x1024, .f32⟩
  | 8 => ⟨S1024x1024, .f32⟩
  | 9 => ⟨S8192x1024, .bf16⟩
  | 10 => ⟨S8192x1024, .f32⟩
  | 11 => ⟨S2x64x64x16x64, .f32⟩
  | 12 => ⟨S8192x1024, .bf16⟩
  | 13 => ⟨S8192x1024, .f32⟩
  | 14 => ⟨S2x64x64x16x64, .f32⟩
  | 15 => ⟨S8192x1024, .bf16⟩
  | 16 => ⟨S8192x1024, .f32⟩
  | 17 => ⟨S2x64x64x16x64, .f32⟩
  | 18 => ⟨S64, .i32⟩
  | 19 => ⟨S64, .i32⟩
  | 20 => ⟨S_, .i32⟩
  | 21 => ⟨S64, .i32⟩
  | 22 => ⟨S64, .i32⟩
  | 23 => ⟨S_, .i32⟩
  | 24 => ⟨S_, .i32⟩
  | 25 => ⟨S_, .i32⟩
  | 26 => ⟨S64, .i32⟩
  | 27 => ⟨S64, .i32⟩
  | 28 => ⟨S_, .i32⟩
  | 29 => ⟨S64, .i32⟩
  | 30 => ⟨S64, .i32⟩
  | 31 => ⟨S64x1, .i32⟩
  | 32 => ⟨S8, .i32⟩
  | 33 => ⟨S1x8, .i32⟩
  | 34 => ⟨S64x8, .i32⟩
  | 35 => ⟨S64x8, .i32⟩
  | 36 => ⟨S64x8, .i32⟩
  | 37 => ⟨S_, .i32⟩
  | 38 => ⟨S64, .i32⟩
  | 39 => ⟨S64, .i32⟩
  | 40 => ⟨S_, .i32⟩
  | 41 => ⟨S_, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S64x1, .i32⟩
  | 49 => ⟨S16, .i32⟩
  | 50 => ⟨S1x16, .i32⟩
  | 51 => ⟨S64x16, .i32⟩
  | 52 => ⟨S64x16, .i32⟩
  | 53 => ⟨S64x16, .i32⟩
  | 54 => ⟨S64x8x1, .i32⟩
  | 55 => ⟨S64x8x16, .i32⟩
  | 56 => ⟨S64x128, .i32⟩
  | 57 => ⟨S64x1x16, .i32⟩
  | 58 => ⟨S64x8x16, .i32⟩
  | 59 => ⟨S64x128, .i32⟩
  | 60 => ⟨S64x1, .i32⟩
  | 61 => ⟨S64x128, .i32⟩
  | 62 => ⟨S64x128, .i32⟩
  | 63 => ⟨S_, .i32⟩
  | 64 => ⟨S64x128, .i32⟩
  | 65 => ⟨S64x128, .i32⟩
  | 66 => ⟨S_, .i32⟩
  | 67 => ⟨S64x128, .i32⟩
  | 68 => ⟨S64x128, .i32⟩
  | 69 => ⟨S64x1, .i32⟩
  | 70 => ⟨S64x128, .i32⟩
  | 71 => ⟨S64x128, .i32⟩
  | 72 => ⟨S_, .i32⟩
  | 73 => ⟨S64x128, .i32⟩
  | 74 => ⟨S64x128, .i32⟩
  | 75 => ⟨S_, .i32⟩
  | 76 => ⟨S64x128, .i32⟩
  | 77 => ⟨S64x128, .i32⟩
  | 78 => ⟨S64x1x128, .i32⟩
  | 79 => ⟨S1x64x128, .i32⟩
  | 80 => ⟨S_, .i32⟩
  | 81 => ⟨S64x1x128, .i32⟩
  | 82 => ⟨S64x1x128, .i1⟩
  | 83 => ⟨S_, .i32⟩
  | 84 => ⟨S64x1x128, .i32⟩
  | 85 => ⟨S64x1x128, .i32⟩
  | 86 => ⟨S64x1x128, .i32⟩
  | 87 => ⟨S_, .i32⟩
  | 88 => ⟨S1x64x128, .i32⟩
  | 89 => ⟨S1x64x128, .i1⟩
  | 90 => ⟨S_, .i32⟩
  | 91 => ⟨S1x64x128, .i32⟩
  | 92 => ⟨S1x64x128, .i32⟩
  | 93 => ⟨S1x64x128, .i32⟩
  | 94 => ⟨S64x64x128, .i32⟩
  | 95 => ⟨S64x64x128, .i32⟩
  | 96 => ⟨S64x64x128x1, .i32⟩
  | 97 => ⟨S64x64x128x1, .i32⟩
  | 98 => ⟨S64x64x128x2, .i32⟩
  | 99 => ⟨S2x64x64x128x16x64, .f32⟩
  | 100 => ⟨S64x1x128, .i32⟩
  | 101 => ⟨S1x64x128, .i32⟩
  | 102 => ⟨S_, .i32⟩
  | 103 => ⟨S64x1x128, .i32⟩
  | 104 => ⟨S64x1x128, .i1⟩
  | 105 => ⟨S_, .i32⟩
  | 106 => ⟨S64x1x128, .i32⟩
  | 107 => ⟨S64x1x128, .i32⟩
  | 108 => ⟨S64x1x128, .i32⟩
  | 109 => ⟨S_, .i32⟩
  | 110 => ⟨S1x64x128, .i32⟩
  | 111 => ⟨S1x64x128, .i1⟩
  | 112 => ⟨S_, .i32⟩
  | 113 => ⟨S1x64x128, .i32⟩
  | 114 => ⟨S1x64x128, .i32⟩
  | 115 => ⟨S1x64x128, .i32⟩
  | 116 => ⟨S64x64x128, .i32⟩
  | 117 => ⟨S64x64x128, .i32⟩
  | 118 => ⟨S64x64x128x1, .i32⟩
  | 119 => ⟨S64x64x128x1, .i32⟩
  | 120 => ⟨S64x64x128x2, .i32⟩
  | 121 => ⟨S2x64x64x128x16x64, .f32⟩
  | 122 => ⟨S64x1x128, .i32⟩
  | 123 => ⟨S1x64x128, .i32⟩
  | 124 => ⟨S_, .i32⟩
  | 125 => ⟨S64x1x128, .i32⟩
  | 126 => ⟨S64x1x128, .i1⟩
  | 127 => ⟨S_, .i32⟩
  | _ => ⟨S12288x1024, .bf16⟩

abbrev hbmTy0_1 (i : Nat) : BufTy := match i % 128 with
  | 0 => ⟨S64x1x128, .i32⟩
  | 1 => ⟨S64x1x128, .i32⟩
  | 2 => ⟨S64x1x128, .i32⟩
  | 3 => ⟨S_, .i32⟩
  | 4 => ⟨S1x64x128, .i32⟩
  | 5 => ⟨S1x64x128, .i1⟩
  | 6 => ⟨S_, .i32⟩
  | 7 => ⟨S1x64x128, .i32⟩
  | 8 => ⟨S1x64x128, .i32⟩
  | 9 => ⟨S1x64x128, .i32⟩
  | 10 => ⟨S64x64x128, .i32⟩
  | 11 => ⟨S64x64x128, .i32⟩
  | 12 => ⟨S64x64x128x1, .i32⟩
  | 13 => ⟨S64x64x128x1, .i32⟩
  | 14 => ⟨S64x64x128x2, .i32⟩
  | 15 => ⟨S16x64x64x128, .f32⟩
  | 16 => ⟨S2x16x64x64x128, .f32⟩
  | 17 => ⟨S1x16x64x64x128, .f32⟩
  | 18 => ⟨S2x16x64x64x128, .f32⟩
  | 19 => ⟨S2x16x64x64x128, .f32⟩
  | 20 => ⟨S2x16x64x64x256, .f32⟩
  | 21 => ⟨S2x16x64x64x384, .f32⟩
  | 22 => ⟨S_, .f32⟩
  | 23 => ⟨S2x16x64x64, .f32⟩
  | 24 => ⟨S_, .f32⟩
  | 25 => ⟨S2x16x64x64, .f32⟩
  | 26 => ⟨S2x16x64x64, .f32⟩
  | 27 => ⟨S2x16x64x64x1, .f32⟩
  | 28 => ⟨S2x16x64x64x384, .f32⟩
  | 29 => ⟨S2x16x64x64x384, .f32⟩
  | 30 => ⟨S2x16x64x64x384, .f32⟩
  | 31 => ⟨S_, .f32⟩
  | 32 => ⟨S2x16x64x64, .f32⟩
  | 33 => ⟨S2x16x64x64x1, .f32⟩
  | 34 => ⟨S2x16x64x64x384, .f32⟩
  | 35 => ⟨S2x16x64x64x384, .f32⟩
  | 36 => ⟨S2x16x64x64x128, .f32⟩
  | 37 => ⟨S2x64x64x16x64, .f32⟩
  | 38 => ⟨S2x16x64x64x256, .f32⟩
  | 39 => ⟨S2x16x64x64x64, .f32⟩
  | 40 => ⟨S2x64x64x16x64, .f32⟩
  | 41 => ⟨S2x64x64x16x64, .f32⟩
  | 42 => ⟨S8192x1024, .f32⟩
  | 43 => ⟨S2x4096x1024, .f32⟩
  | 44 => ⟨S2x1x1024, .f32⟩
  | 45 => ⟨S2x1024, .f32⟩
  | 46 => ⟨S2x1x1024, .f32⟩
  | 47 => ⟨S2x4096x1024, .f32⟩
  | 48 => ⟨S2x4096x1024, .f32⟩
  | 49 => ⟨S2x4096x1024, .f32⟩
  | 50 => ⟨S2x4096x1024, .f32⟩
  | 51 => ⟨S2x4096x1024, .f32⟩
  | 52 => ⟨S4096x1024, .f32⟩
  | 53 => ⟨S8192x1024, .f32⟩
  | 54 => ⟨S12288x1024, .f32⟩
  | _ => ⟨S12288x1024, .bf16⟩

abbrev hbmTy (i : Nat) : BufTy := match i / 128 with
  | 0 => hbmTy0_0 i
  | 1 => hbmTy0_1 i
  | _ => ⟨S12288x1024, .bf16⟩

abbrev bufTy : (tb : Table) → Fin (tcTables nBuf tb) → BufTy
  | .hbm, ⟨i, _⟩ => hbmTy i
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_5 : Ref sig .tc := ⟨.hbm, 63, rfl⟩
abbrev main_v38 : Ref sig .tc := ⟨.hbm, 64, rfl⟩
abbrev main_v39 : Ref sig .tc := ⟨.hbm, 65, rfl⟩
abbrev main_c_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_7 : Ref sig .tc := ⟨.hbm, 72, rfl⟩
abbrev main_v45 : Ref sig .tc := ⟨.hbm, 73, rfl⟩
abbrev main_v46 : Ref sig .tc := ⟨.hbm, 74, rfl⟩
abbrev main_c_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_13 : Ref sig .tc := ⟨.hbm, 102, rfl⟩
abbrev main_v69 : Ref sig .tc := ⟨.hbm, 103, rfl⟩
abbrev main_v70 : Ref sig .tc := ⟨.hbm, 104, rfl⟩
abbrev main_c_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_15 : Ref sig .tc := ⟨.hbm, 109, rfl⟩
abbrev main_v74 : Ref sig .tc := ⟨.hbm, 110, rfl⟩
abbrev main_v75 : Ref sig .tc := ⟨.hbm, 111, rfl⟩
abbrev main_c_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_17 : Ref sig .tc := ⟨.hbm, 124, rfl⟩
abbrev main_v87 : Ref sig .tc := ⟨.hbm, 125, rfl⟩
abbrev main_v88 : Ref sig .tc := ⟨.hbm, 126, rfl⟩
abbrev main_c_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_19 : Ref sig .tc := ⟨.hbm, 131, rfl⟩
abbrev main_v92 : Ref sig .tc := ⟨.hbm, 132, rfl⟩
abbrev main_v93 : Ref sig .tc := ⟨.hbm, 133, rfl⟩
abbrev main_c_20 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst : Ref sig .tc := ⟨.hbm, 150, rfl⟩
abbrev main_v109 : Ref sig .tc := ⟨.hbm, 151, rfl⟩
abbrev main_cst_21 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_22 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩

abbrev nD : Nat := 1
abbrev τ : Topo := Topo.v7x

variable {F : FTy → Type} [FloatOps F]
-- ==== KernelMix.lean ====
abbrev S12288x1024 : Shape := ⟨2, ![12288, 1024]⟩
abbrev S8x6x1024 : Shape := ⟨3, ![8, 6, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S128x8 : Shape := ⟨2, ![128, 8]⟩
abbrev S128x8x128 : Shape := ⟨3, ![128, 8, 128]⟩
abbrev S128x1024 : Shape := ⟨2, ![128, 1024]⟩
abbrev S98304x128 : Shape := ⟨2, ![98304, 128]⟩
abbrev S1x1024 : Shape := ⟨2, ![1, 1024]⟩
abbrev S2048x128 : Shape := ⟨2, ![2048, 128]⟩
abbrev S1x6x1024 : Shape := ⟨3, ![1, 6, 1024]⟩
abbrev S256x1024 : Shape := ⟨2, ![256, 1024]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩
abbrev S128x128 : Shape := ⟨2, ![128, 128]⟩
abbrev S1x128x128 : Shape := ⟨3, ![1, 128, 128]⟩

abbrev nBuf : Space → Nat
  | .hbm => 18
  | .vmem => 12
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024x2048, .f32⟩
  | .hbm, ⟨4, _⟩ => ⟨S8x128x128, .f32⟩
  | .hbm, ⟨5, _⟩ => ⟨S8x128, .f32⟩
  | .hbm, ⟨6, _⟩ => ⟨S1024, .f32⟩
  | .hbm, ⟨7, _⟩ => ⟨S1024x1024, .f32⟩
  | .hbm, ⟨8, _⟩ => ⟨S128x8, .f32⟩
  | .hbm, ⟨9, _⟩ => ⟨S128x8x128, .f32⟩
  | .hbm, ⟨10, _⟩ => ⟨S128x1024, .f32⟩
  | .hbm, ⟨11, _⟩ => ⟨S98304x128, .f32⟩
  | .hbm, ⟨12, _⟩ => ⟨S1x1024, .f32⟩
  | .hbm, ⟨13, _⟩ => ⟨S1024x2048, .bf16⟩
  | .hbm, ⟨14, _⟩ => ⟨S8x128x128, .bf16⟩
  | .hbm, ⟨15, _⟩ => ⟨S1x1024, .f32⟩
  | .hbm, ⟨16, _⟩ => ⟨S1024x1024, .bf16⟩
  | .hbm, ⟨17, _⟩ => ⟨S12288x1024, .f32⟩
  | .local _ .vmem, ⟨0, _⟩ => ⟨S2048x128, .f32⟩
  | .local _ .vmem, ⟨1, _⟩ => ⟨S2048x128, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S8x128x128, .bf16⟩
  | .local _ .vmem, ⟨7, _⟩ => ⟨S128x1024, .f32⟩
  | .local _ .vmem, ⟨8, _⟩ => ⟨S1x1024, .f32⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMixIdeal.lean ====
abbrev S12288x1024 : Shape := ⟨2, ![12288, 1024]⟩
abbrev S8x6x1024 : Shape := ⟨3, ![8, 6, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S3x4096x1024 : Shape := ⟨3, ![3, 4096, 1024]⟩
abbrev S3x1x1024 : Shape := ⟨3, ![3, 1, 1024]⟩
abbrev S3x1024 : Shape := ⟨2, ![3, 1024]⟩
abbrev S_ : Shape := ⟨0, ![]⟩
abbrev S3x4096 : Shape := ⟨2, ![3, 4096]⟩
abbrev S3x4096x1 : Shape := ⟨3, ![3, 4096, 1]⟩
abbrev S1x1x1024 : Shape := ⟨3, ![1, 1, 1024]⟩
abbrev S3x4096x2048 : Shape := ⟨3, ![3, 4096, 2048]⟩
abbrev S3x32x128x8x128 : Shape := ⟨5, ![3, 32, 128, 8, 128]⟩
abbrev S8x3x32x128x128 : Shape := ⟨5, ![8, 3, 32, 128, 128]⟩
abbrev S128x8 : Shape := ⟨2, ![128, 8]⟩
abbrev S1x1x128x8x1 : Shape := ⟨5, ![1, 1, 128, 8, 1]⟩

abbrev nBuf : Space → Nat
  | .hbm => 91
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024x2048, .f32⟩
  | .hbm, ⟨4, _⟩ => ⟨S8x128x128, .f32⟩
  | .hbm, ⟨5, _⟩ => ⟨S8x128, .f32⟩
  | .hbm, ⟨6, _⟩ => ⟨S1024, .f32⟩
  | .hbm, ⟨7, _⟩ => ⟨S1024x1024, .f32⟩
  | .hbm, ⟨8, _⟩ => ⟨S3x4096x1024, .f32⟩
  | .hbm, ⟨9, _⟩ => ⟨S3x1x1024, .f32⟩
  | .hbm, ⟨10, _⟩ => ⟨S3x1024, .f32⟩
  | .hbm, ⟨11, _⟩ => ⟨S3x1x1024, .f32⟩
  | .hbm, ⟨12, _⟩ => ⟨S3x1x1024, .f32⟩
  | .hbm, ⟨13, _⟩ => ⟨S3x1024, .f32⟩
  | .hbm, ⟨14, _⟩ => ⟨S3x1x1024, .f32⟩
  | .hbm, ⟨15, _⟩ => ⟨S3x1x1024, .f32⟩
  | .hbm, ⟨16, _⟩ => ⟨S3x1024, .f32⟩
  | .hbm, ⟨17, _⟩ => ⟨S3x1x1024, .f32⟩
  | .hbm, ⟨18, _⟩ => ⟨S3x4096x1024, .f32⟩
  | .hbm, ⟨19, _⟩ => ⟨S_, .f32⟩
  | .hbm, ⟨20, _⟩ => ⟨S3x4096, .f32⟩
  | .hbm, ⟨21, _⟩ => ⟨S3x4096x1, .f32⟩
  | .hbm, ⟨22, _⟩ => ⟨S_, .f32⟩
  | .hbm, ⟨23, _⟩ => ⟨S3x4096x1, .f32⟩
  | .hbm, ⟨24, _⟩ => ⟨S3x4096x1, .f32⟩
  | .hbm, ⟨25, _⟩ => ⟨S_, .f32⟩
  | .hbm, ⟨26, _⟩ => ⟨S3x4096x1, .f32⟩
  | .hbm, ⟨27, _⟩ => ⟨S3x4096x1, .f32⟩
  | .hbm, ⟨28, _⟩ => ⟨S3x4096x1, .f32⟩
  | .hbm, ⟨29, _⟩ => ⟨S3x4096x1024, .f32⟩
  | .hbm, ⟨30, _⟩ => ⟨S3x4096x1024, .f32⟩
  | .hbm, ⟨31, _⟩ => ⟨S1x1x1024, .f32⟩
  | .hbm, ⟨32, _⟩ => ⟨S3x4096x1024, .f32⟩
  | .hbm, ⟨33, _⟩ => ⟨S3x4096x1024, .f32⟩
  | .hbm, ⟨34, _⟩ => ⟨S_, .f32⟩
  | .hbm, ⟨35, _⟩ => ⟨S3x1x1024, .f32⟩
  | .hbm, ⟨36, _⟩ => ⟨S3x1x1024, .f32⟩
  | .hbm, ⟨37, _⟩ => ⟨S3x4096x1024, .f32⟩
  | .hbm, ⟨38, _⟩ => ⟨S3x4096x1024, .f32⟩
  | .hbm, ⟨39, _⟩ => ⟨S3x4096x1024, .f32⟩
  | .hbm, ⟨40, _⟩ => ⟨S3x4096x1024, .f32⟩
  | .hbm, ⟨41, _⟩ => ⟨S3x4096x2048, .f32⟩
  | .hbm, ⟨42, _⟩ => ⟨S3x4096x2048, .f32⟩
  | .hbm, ⟨43, _⟩ => ⟨S3x4096x2048, .f32⟩
  | .hbm, ⟨44, _⟩ => ⟨S_, .f32⟩
  | .hbm, ⟨45, _⟩ => ⟨S3x4096x2048, .f32⟩
  | .hbm, ⟨46, _⟩ => ⟨S3x4096x2048, .f32⟩
  | .hbm, ⟨47, _⟩ => ⟨S3x4096x2048, .f32⟩
  | .hbm, ⟨48, _⟩ => ⟨S_, .f32⟩
  | .hbm, ⟨49, _⟩ => ⟨S3x4096x2048, .f32⟩
  | .hbm, ⟨50, _⟩ => ⟨S3x4096x2048, .f32⟩
  | .hbm, ⟨51, _⟩ => ⟨S3x4096x2048, .f32⟩
  | .hbm, ⟨52, _⟩ => ⟨S_, .f32⟩
  | .hbm, ⟨53, _⟩ => ⟨S3x4096x2048, .f32⟩
  | .hbm, ⟨54, _⟩ => ⟨S3x4096x2048, .f32⟩
  | .hbm, ⟨55, _⟩ => ⟨S_, .f32⟩
  | .hbm, ⟨56, _⟩ => ⟨S3x4096x2048, .f32⟩
  | .hbm, ⟨57, _⟩ => ⟨S3x4096x2048, .f32⟩
  | .hbm, ⟨58, _⟩ => ⟨S3x4096x2048, .f32⟩
  | .hbm, ⟨59, _⟩ => ⟨S3x4096x1024, .f32⟩
  | .hbm, ⟨60, _⟩ => ⟨S3x4096x1024, .f32⟩
  | .hbm, ⟨61, _⟩ => ⟨S3x4096x1024, .f32⟩
  | .hbm, ⟨62, _⟩ => ⟨S_, .f32⟩
  | .hbm, ⟨63, _⟩ => ⟨S3x4096, .f32⟩
  | .hbm, ⟨64, _⟩ => ⟨S3x4096x1, .f32⟩
  | .hbm, ⟨65, _⟩ => ⟨S_, .f32⟩
  | .hbm, ⟨66, _⟩ => ⟨S3x4096x1, .f32⟩
  | .hbm, ⟨67, _⟩ => ⟨S3x4096x1, .f32⟩
  | .hbm, ⟨68, _⟩ => ⟨S_, .f32⟩
  | .hbm, ⟨69, _⟩ => ⟨S3x4096x1, .f32⟩
  | .hbm, ⟨70, _⟩ => ⟨S3x4096x1, .f32⟩
  | .hbm, ⟨71, _⟩ => ⟨S3x4096x1, .f32⟩
  | .hbm, ⟨72, _⟩ => ⟨S3x4096x1024, .f32⟩
  | .hbm, ⟨73, _⟩ => ⟨S3x4096x1024, .f32⟩
  | .hbm, ⟨74, _⟩ => ⟨S1x1x1024, .f32⟩
  | .hbm, ⟨75, _⟩ => ⟨S3x4096x1024, .f32⟩
  | .hbm, ⟨76, _⟩ => ⟨S3x4096x1024, .f32⟩
  | .hbm, ⟨77, _⟩ => ⟨S3x32x128x8x128, .f32⟩
  | .hbm, ⟨78, _⟩ => ⟨S8x3x32x128x128, .f32⟩
  | .hbm, ⟨79, _⟩ => ⟨S3x32x128x8x128, .f32⟩
  | .hbm, ⟨80, _⟩ => ⟨S128x8, .f32⟩
  | .hbm, ⟨81, _⟩ => ⟨S1x1x128x8x1, .f32⟩
  | .hbm, ⟨82, _⟩ => ⟨S3x32x128x8x128, .f32⟩
  | .hbm, ⟨83, _⟩ => ⟨S3x32x128x8x128, .f32⟩
  | .hbm, ⟨84, _⟩ => ⟨S3x4096x1024, .f32⟩
  | .hbm, ⟨85, _⟩ => ⟨S3x4096x1024, .f32⟩
  | .hbm, ⟨86, _⟩ => ⟨S3x4096x1024, .f32⟩
  | .hbm, ⟨87, _⟩ => ⟨S3x4096x1024, .f32⟩
  | .hbm, ⟨88, _⟩ => ⟨S3x4096x1024, .f32⟩
  | .hbm, ⟨89, _⟩ => ⟨S3x4096x1024, .f32⟩
  | .hbm, ⟨90, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== KernelQkv.lean ====
abbrev S12288x1024 : Shape := ⟨2, ![12288, 1024]⟩
abbrev S8x6x1024 : Shape := ⟨3, ![8, 6, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S1x64 : Shape := ⟨2, ![1, 64]⟩
abbrev S16x64 : Shape := ⟨2, ![16, 64]⟩
abbrev S1x1024 : Shape := ⟨2, ![1, 1024]⟩
abbrev S98304x128 : Shape := ⟨2, ![98304, 128]⟩
abbrev S2048x128 : Shape := ⟨2, ![2048, 128]⟩
abbrev S1x6x1024 : Shape := ⟨3, ![1, 6, 1024]⟩
abbrev S256x1024 : Shape := ⟨2, ![256, 1024]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩
abbrev S256x3072 : Shape := ⟨2, ![256, 3072]⟩

abbrev nBuf : Space → Nat
  | .hbm => 49
  | .vmem => 20
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S1024, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S128, .i32⟩
  | .hbm, ⟨27, _⟩ => ⟨S1x128, .i32⟩
  | .hbm, ⟨28, _⟩ => ⟨S1024x128, .i32⟩
  | .hbm, ⟨29, _⟩ => ⟨S1024x128, .i32⟩
  | .hbm, ⟨30, _⟩ => ⟨S1024x128, .i1⟩
  | .hbm, ⟨31, _⟩ => ⟨S1024x128, .bf16⟩
  | .hbm, ⟨32, _⟩ => ⟨S128x1024, .bf16⟩
  | .hbm, ⟨33, _⟩ => ⟨S1x64, .f32⟩
  | .hbm, ⟨34, _⟩ => ⟨S16x64, .f32⟩
  | .hbm, ⟨35, _⟩ => ⟨S1024, .f32⟩
  | .hbm, ⟨36, _⟩ => ⟨S1x1024, .f32⟩
  | .hbm, ⟨37, _⟩ => ⟨S1x64, .f32⟩
  | .hbm, ⟨38, _⟩ => ⟨S16x64, .f32⟩
  | .hbm, ⟨39, _⟩ => ⟨S1024, .f32⟩
  | .hbm, ⟨40, _⟩ => ⟨S1x1024, .f32⟩
  | .hbm, ⟨41, _⟩ => ⟨S98304x128, .f32⟩
  | .hbm, ⟨42, _⟩ => ⟨S1x1024, .f32⟩
  | .hbm, ⟨43, _⟩ => ⟨S1024x3072, .bf16⟩
  | .hbm, ⟨44, _⟩ => ⟨S12288x1024, .bf16⟩
  | .hbm, ⟨45, _⟩ => ⟨S12288x1024, .bf16⟩
  | .hbm, ⟨46, _⟩ => ⟨S12288x1024, .bf16⟩
  | .hbm, ⟨47, _⟩ => ⟨S12288x1024, .f32⟩
  | .hbm, ⟨48, _⟩ => ⟨S12288x1024, .f32⟩
  | .local _ .vmem, ⟨0, _⟩ => ⟨S2048x128, .f32⟩
  | .local _ .vmem, ⟨1, _⟩ => ⟨S2048x128, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1x1024, .f32⟩
  | .local _ .vmem, ⟨7, _⟩ => ⟨S1x1024, .f32⟩
  | .local _ .vmem, ⟨8, _⟩ => ⟨S1024x128, .bf16⟩
  | .local _ .vmem, ⟨9, _⟩ => ⟨S128x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_v21_2 : Ref sig .tc := ⟨.hbm, 46, rfl⟩
abbrev main_v21_3 : Ref sig .tc := ⟨.hbm, 47, rfl⟩
abbrev main_v21_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceQkvIdeal.lean ====
abbrev S12288x1024 : Shape := ⟨2, ![12288, 1024]⟩
abbrev S8x6x1024 : Shape := ⟨3, ![8, 6, 1024]⟩
abbrev S1024 : Shape := ⟨1, ![1024]⟩
abbrev S1024x3072 : Shape := ⟨2, ![1024, 3072]⟩
abbrev S64 : Shape := ⟨1, ![64]⟩
abbrev S3x4096x1024 : Shape := ⟨3, ![3, 4096, 1024]⟩
abbrev S3x1x1024 : Shape := ⟨3, ![3, 1, 1024]⟩
abbrev S3x1024 : Shape := ⟨2, ![3, 1024]⟩
abbrev S_ : Shape := ⟨0, ![]⟩
abbrev S3x4096 : Shape := ⟨2, ![3, 4096]⟩
abbrev S3x4096x1 : Shape := ⟨3, ![3, 4096, 1]⟩
abbrev S1x1x1024 : Shape := ⟨3, ![1, 1, 1024]⟩
abbrev S3x4096x3072 : Shape := ⟨3, ![3, 4096, 3072]⟩
abbrev S3x4096x3x16x64 : Shape := ⟨5, ![3, 4096, 3, 16, 64]⟩
abbrev S3x4096x1x16x64 : Shape := ⟨5, ![3, 4096, 1, 16, 64]⟩
abbrev S3x4096x16x64 : Shape := ⟨4, ![3, 4096, 16, 64]⟩
abbrev S3x4096x16 : Shape := ⟨3, ![3, 4096, 16]⟩
abbrev S3x4096x16x1 : Shape := ⟨4, ![3, 4096, 16, 1]⟩
abbrev S1x1x1x64 : Shape := ⟨4, ![1, 1, 1, 64]⟩

abbrev nBuf : Space → Nat
  | .hbm => 85
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S3x4096x1024, .f32⟩
  | .hbm, ⟨7, _⟩ => ⟨S3x1x1024, .f32⟩
  | .hbm, ⟨8, _⟩ => ⟨S3x1024, .f32⟩
  | .hbm, ⟨9, _⟩ => ⟨S3x1x1024, .f32⟩
  | .hbm, ⟨10, _⟩ => ⟨S3x1x1024, .f32⟩
  | .hbm, ⟨11, _⟩ => ⟨S3x1024, .f32⟩
  | .hbm, ⟨12, _⟩ => ⟨S3x1x1024, .f32⟩
  | .hbm, ⟨13, _⟩ => ⟨S3x4096x1024, .f32⟩
  | .hbm, ⟨14, _⟩ => ⟨S_, .f32⟩
  | .hbm, ⟨15, _⟩ => ⟨S3x4096, .f32⟩
  | .hbm, ⟨16, _⟩ => ⟨S3x4096x1, .f32⟩
  | .hbm, ⟨17, _⟩ => ⟨S_, .f32⟩
  | .hbm, ⟨18, _⟩ => ⟨S3x4096x1, .f32⟩
  | .hbm, ⟨19, _⟩ => ⟨S3x4096x1, .f32⟩
  | .hbm, ⟨20, _⟩ => ⟨S_, .f32⟩
  | .hbm, ⟨21, _⟩ => ⟨S3x4096x1, .f32⟩
  | .hbm, ⟨22, _⟩ => ⟨S3x4096x1, .f32⟩
  | .hbm, ⟨23, _⟩ => ⟨S3x4096x1, .f32⟩
  | .hbm, ⟨24, _⟩ => ⟨S3x4096x1024, .f32⟩
  | .hbm, ⟨25, _⟩ => ⟨S3x4096x1024, .f32⟩
  | .hbm, ⟨26, _⟩ => ⟨S1x1x1024, .f32⟩
  | .hbm, ⟨27, _⟩ => ⟨S3x4096x1024, .f32⟩
  | .hbm, ⟨28, _⟩ => ⟨S3x4096x1024, .f32⟩
  | .hbm, ⟨29, _⟩ => ⟨S_, .f32⟩
  | .hbm, ⟨30, _⟩ => ⟨S3x1x1024, .f32⟩
  | .hbm, ⟨31, _⟩ => ⟨S3x1x1024, .f32⟩
  | .hbm, ⟨32, _⟩ => ⟨S3x4096x1024, .f32⟩
  | .hbm, ⟨33, _⟩ => ⟨S3x4096x1024, .f32⟩
  | .hbm, ⟨34, _⟩ => ⟨S3x4096x1024, .f32⟩
  | .hbm, ⟨35, _⟩ => ⟨S3x4096x1024, .f32⟩
  | .hbm, ⟨36, _⟩ => ⟨S3x4096x3072, .f32⟩
  | .hbm, ⟨37, _⟩ => ⟨S3x4096x3x16x64, .f32⟩
  | .hbm, ⟨38, _⟩ => ⟨S3x4096x1x16x64, .f32⟩
  | .hbm, ⟨39, _⟩ => ⟨S3x4096x16x64, .f32⟩
  | .hbm, ⟨40, _⟩ => ⟨S3x4096x16x64, .f32⟩
  | .hbm, ⟨41, _⟩ => ⟨S_, .f32⟩
  | .hbm, ⟨42, _⟩ => ⟨S3x4096x16, .f32⟩
  | .hbm, ⟨43, _⟩ => ⟨S3x4096x16x1, .f32⟩
  | .hbm, ⟨44, _⟩ => ⟨S_, .f32⟩
  | .hbm, ⟨45, _⟩ => ⟨S3x4096x16x1, .f32⟩
  | .hbm, ⟨46, _⟩ => ⟨S3x4096x16x1, .f32⟩
  | .hbm, ⟨47, _⟩ => ⟨S_, .f32⟩
  | .hbm, ⟨48, _⟩ => ⟨S3x4096x16x1, .f32⟩
  | .hbm, ⟨49, _⟩ => ⟨S3x4096x16x1, .f32⟩
  | .hbm, ⟨50, _⟩ => ⟨S3x4096x16x1, .f32⟩
  | .hbm, ⟨51, _⟩ => ⟨S3x4096x16x64, .f32⟩
  | .hbm, ⟨52, _⟩ => ⟨S3x4096x16x64, .f32⟩
  | .hbm, ⟨53, _⟩ => ⟨S1x1x1x64, .f32⟩
  | .hbm, ⟨54, _⟩ => ⟨S3x4096x16x64, .f32⟩
  | .hbm, ⟨55, _⟩ => ⟨S3x4096x16x64, .f32⟩
  | .hbm, ⟨56, _⟩ => ⟨S12288x1024, .f32⟩
  | .hbm, ⟨57, _⟩ => ⟨S3x4096x1x16x64, .f32⟩
  | .hbm, ⟨58, _⟩ => ⟨S3x4096x16x64, .f32⟩
  | .hbm, ⟨59, _⟩ => ⟨S3x4096x16x64, .f32⟩
  | .hbm, ⟨60, _⟩ => ⟨S_, .f32⟩
  | .hbm, ⟨61, _⟩ => ⟨S3x4096x16, .f32⟩
  | .hbm, ⟨62, _⟩ => ⟨S3x4096x16x1, .f32⟩
  | .hbm, ⟨63, _⟩ => ⟨S_, .f32⟩
  | .hbm, ⟨64, _⟩ => ⟨S3x4096x16x1, .f32⟩
  | .hbm, ⟨65, _⟩ => ⟨S3x4096x16x1, .f32⟩
  | .hbm, ⟨66, _⟩ => ⟨S_, .f32⟩
  | .hbm, ⟨67, _⟩ => ⟨S3x4096x16x1, .f32⟩
  | .hbm, ⟨68, _⟩ => ⟨S3x4096x16x1, .f32⟩
  | .hbm, ⟨69, _⟩ => ⟨S3x4096x16x1, .f32⟩
  | .hbm, ⟨70, _⟩ => ⟨S3x4096x16x64, .f32⟩
  | .hbm, ⟨71, _⟩ => ⟨S3x4096x16x64, .f32⟩
  | .hbm, ⟨72, _⟩ => ⟨S1x1x1x64, .f32⟩
  | .hbm, ⟨73, _⟩ => ⟨S3x4096x16x64, .f32⟩
  | .hbm, ⟨74, _⟩ => ⟨S3x4096x16x64, .f32⟩
  | .hbm, ⟨75, _⟩ => ⟨S12288x1024, .f32⟩
  | .hbm, ⟨76, _⟩ => ⟨S3x4096x1x16x64, .f32⟩
  | .hbm, ⟨77, _⟩ => ⟨S3x4096x16x64, .f32⟩
  | .hbm, ⟨78, _⟩ => ⟨S12288x1024, .f32⟩
  | .hbm, ⟨79, _⟩ => ⟨S_, .f32⟩
  | .hbm, ⟨80, _⟩ => ⟨S12288x1024, .f32⟩
  | .hbm, ⟨81, _⟩ => ⟨S12288x1024, .f32⟩
  | .hbm, ⟨82, _⟩ => ⟨S12288x1024, .bf16⟩
  | .hbm, ⟨83, _⟩ => ⟨S12288x1024, .bf16⟩
  | .hbm, ⟨84, _⟩ => ⟨S12288x1024, .bf16⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== KernelCtx.lean ====
abbrev S12288x1024 : Shape := ⟨2, ![12288, 1024]⟩
abbrev S8x6x1024 : Shape := ⟨3, ![8, 6, 1024]⟩
abbrev S1024x1024 : Shape := ⟨2, ![1024, 1024]⟩
abbrev S256x1024 : Shape := ⟨2, ![256, 1024]⟩
abbrev S1x6x1024 : Shape := ⟨3, ![1, 6, 1024]⟩
abbrev S256x128 : Shape := ⟨2, ![256, 128]⟩
abbrev S1x128 : Shape := ⟨2, ![1, 128]⟩
abbrev S256x256 : Shape := ⟨2, ![256, 256]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x1024, .bf16⟩
  | .hbm, ⟨3, _⟩ => ⟨S12288x1024, .f32⟩
  | .hbm, ⟨4, _⟩ => ⟨S8x6x1024, .f32⟩
  | .hbm, ⟨5, _⟩ => ⟨S1024x1024, .f32⟩
  | .hbm, ⟨6, _⟩ => ⟨S1024x1024, .bf16⟩
  | .hbm, ⟨7, _⟩ => ⟨S12288x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x6x1024, .f32⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceCtxIdeal.lean ====
abbrev S12288x1024 : Shape := ⟨2, ![12288, 1024]⟩
abbrev S8x6x1024 : Shape := ⟨3, ![8, 6, 1024]⟩
abbrev S1024x1024 : Shape := ⟨2, ![1024, 1024]⟩
abbrev S4096x1024 : Shape := ⟨2, ![4096, 1024]⟩
abbrev S16x256x16x64 : Shape := ⟨4, ![16, 256, 16, 64]⟩
abbrev S16x16x256x256 : Shape := ⟨4, ![16, 16, 256, 256]⟩
abbrev S_ : Shape := ⟨0, ![]⟩
abbrev S16x16x256 : Shape := ⟨3, ![16, 16, 256]⟩
abbrev S16x16x256x1 : Shape := ⟨4, ![16, 16, 256, 1]⟩
abbrev S16x16x64x256 : Shape := ⟨4, ![16, 16, 64, 256]⟩
abbrev S1x1x1024 : Shape := ⟨3, ![1, 1, 1024]⟩
abbrev S1024 : Shape := ⟨1, ![1024]⟩
abbrev S1x1024 : Shape := ⟨2, ![1, 1024]⟩
abbrev S8192x1024 : Shape := ⟨2, ![8192, 1024]⟩

abbrev nBuf : Space → Nat
  | .hbm => 43
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x1024, .bf16⟩
  | .hbm, ⟨3, _⟩ => ⟨S12288x1024, .f32⟩
  | .hbm, ⟨4, _⟩ => ⟨S8x6x1024, .f32⟩
  | .hbm, ⟨5, _⟩ => ⟨S1024x1024, .f32⟩
  | .hbm, ⟨6, _⟩ => ⟨S4096x1024, .bf16⟩
  | .hbm, ⟨7, _⟩ => ⟨S4096x1024, .f32⟩
  | .hbm, ⟨8, _⟩ => ⟨S16x256x16x64, .f32⟩
  | .hbm, ⟨9, _⟩ => ⟨S4096x1024, .bf16⟩
  | .hbm, ⟨10, _⟩ => ⟨S4096x1024, .f32⟩
  | .hbm, ⟨11, _⟩ => ⟨S16x256x16x64, .f32⟩
  | .hbm, ⟨12, _⟩ => ⟨S4096x1024, .bf16⟩
  | .hbm, ⟨13, _⟩ => ⟨S4096x1024, .f32⟩
  | .hbm, ⟨14, _⟩ => ⟨S16x256x16x64, .f32⟩
  | .hbm, ⟨15, _⟩ => ⟨S16x16x256x256, .f32⟩
  | .hbm, ⟨16, _⟩ => ⟨S_, .f32⟩
  | .hbm, ⟨17, _⟩ => ⟨S16x16x256, .f32⟩
  | .hbm, ⟨18, _⟩ => ⟨S_, .f32⟩
  | .hbm, ⟨19, _⟩ => ⟨S16x16x256, .f32⟩
  | .hbm, ⟨20, _⟩ => ⟨S16x16x256, .f32⟩
  | .hbm, ⟨21, _⟩ => ⟨S16x16x256x1, .f32⟩
  | .hbm, ⟨22, _⟩ => ⟨S16x16x256x256, .f32⟩
  | .hbm, ⟨23, _⟩ => ⟨S16x16x256x256, .f32⟩
  | .hbm, ⟨24, _⟩ => ⟨S16x16x256x256, .f32⟩
  | .hbm, ⟨25, _⟩ => ⟨S_, .f32⟩
  | .hbm, ⟨26, _⟩ => ⟨S16x16x256, .f32⟩
  | .hbm, ⟨27, _⟩ => ⟨S16x16x256x1, .f32⟩
  | .hbm, ⟨28, _⟩ => ⟨S16x16x256x256, .f32⟩
  | .hbm, ⟨29, _⟩ => ⟨S16x16x256x256, .f32⟩
  | .hbm, ⟨30, _⟩ => ⟨S16x16x64x256, .f32⟩
  | .hbm, ⟨31, _⟩ => ⟨S16x256x16x64, .f32⟩
  | .hbm, ⟨32, _⟩ => ⟨S4096x1024, .f32⟩
  | .hbm, ⟨33, _⟩ => ⟨S1x1x1024, .f32⟩
  | .hbm, ⟨34, _⟩ => ⟨S1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S8192x1024, .f32⟩
  | .hbm, ⟨42, _⟩ => ⟨S12288x1024, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== KernelSelect.lean ====
abbrev S12288x1024 : Shape := ⟨2, ![12288, 1024]⟩
abbrev S8x6x1024 : Shape := ⟨3, ![8, 6, 1024]⟩
abbrev S1024 : Shape := ⟨1, ![1024]⟩
abbrev S1024x2048 : Shape := ⟨2, ![1024, 2048]⟩
abbrev S2x128x128 : Shape := ⟨3, ![2, 128, 128]⟩
abbrev S1x1024 : Shape := ⟨2, ![1, 1024]⟩
abbrev S2048x1024 : Shape := ⟨2, ![2048, 1024]⟩
abbrev S98304x128 : Shape := ⟨2, ![98304, 128]⟩
abbrev S12288x128 : Shape := ⟨2, ![12288, 128]⟩
abbrev S256x1024 : Shape := ⟨2, ![256, 1024]⟩
abbrev S1x6x1024 : Shape := ⟨3, ![1, 6, 1024]⟩
abbrev S2048x128 : Shape := ⟨2, ![2048, 128]⟩
abbrev S256x128 : Shape := ⟨2, ![256, 128]⟩
abbrev S2048x256 : Shape := ⟨2, ![2048, 256]⟩
abbrev S128x256 : Shape := ⟨2, ![128, 256]⟩
abbrev S1x1x1024 : Shape := ⟨3, ![1, 1, 1024]⟩
abbrev S256 : Shape := ⟨1, ![256]⟩
abbrev S256x1 : Shape := ⟨2, ![256, 1]⟩
abbrev S16x256 : Shape := ⟨2, ![16, 256]⟩
abbrev S8x256 : Shape := ⟨2, ![8, 256]⟩
abbrev S80x256 : Shape := ⟨2, ![80, 256]⟩
abbrev S1x128x128 : Shape := ⟨3, ![1, 128, 128]⟩
abbrev S128x128 : Shape := ⟨2, ![128, 128]⟩
abbrev S1x256 : Shape := ⟨2, ![1, 256]⟩

abbrev nBuf : Space → Nat
  | .hbm => 13
  | .vmem => 18
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024x2048, .f32⟩
  | .hbm, ⟨4, _⟩ => ⟨S2x128x128, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S2x128x128, .bf16⟩
  | .hbm, ⟨9, _⟩ => ⟨S98304x128, .f32⟩
  | .hbm, ⟨10, _⟩ => ⟨S98304x128, .f32⟩
  | .hbm, ⟨11, _⟩ => ⟨S12288x128, .i32⟩
  | .hbm, ⟨12, _⟩ => ⟨S12288x128, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S2048x1024, .bf16⟩
  | .local _ .vmem, ⟨6, _⟩ => ⟨S2x128x128, .bf16⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S256x128, .i32⟩
  | .local _ .vmem, ⟨12, _⟩ => ⟨S256x128, .i32⟩
  | .local _ .vmem, ⟨13, _⟩ => ⟨S256x128, .f32⟩
  | .local _ .vmem, ⟨14, _⟩ => ⟨S256x128, .f32⟩
  | .local _ .vmem, ⟨15, _⟩ => ⟨S2048x256, .f32⟩
  | .local _ .vmem, ⟨16, _⟩ => ⟨S128x256, .f32⟩
  | .local _ .vmem, ⟨17, _⟩ => ⟨S128x256, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c8_i32_44 : BitVec 32 := 8#32
  let v88 : BitVec 32 := Scalar.addi c0_i32 c8_i32_44
  let c1_i32 : BitVec 32 := 1#32
  ⟨c0_i32, v88, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c2_i32 : BitVec 32 := 2#32
  let v96 : BitVec 32 := Scalar.muli arg13 c2_i32
  let c128_i32 : BitVec 32 := 128#32
  let v97 : BitVec 32 := Scalar.muli v96 c128_i32
  let c0_i32_54 : BitVec 32 := 0#32
  let v98 : BitVec 32 := Scalar.addi v97 c0_i32_54
  v98
def k0_off1 (k0_t1 : Fin k0_t1_loop.trips) (c0_i32_54 : BitVec 32) : Fin 2 → Nat :=
  let c0_i32 : BitVec 32 := 0#32
  let c1_i32 : BitVec 32 := 1#32
  let arg13 : BitVec 32 := Scf.iv c0_i32 c1_i32 k0_t1
  let c2_i32 : BitVec 32 := 2#32
  let v96 : BitVec 32 := Scalar.muli arg13 c2_i32
  let c128_i32 : BitVec 32 := 128#32
  let v97 : BitVec 32 := Scalar.muli v96 c128_i32
  let v98 : BitVec 32 := Scalar.addi v97 c0_i32_54
  let v99 : BitVec 32 := v98
  let v102 : Index := Scalar.indexCast v99
  let c0_58 : Index := 0#32
  ![v102.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c2_i32_108 : BitVec 32 := 2#32
  let v294 : BitVec 32 := Scalar.muli arg13 c2_i32_108
  let c128_i32_109 : BitVec 32 := 128#32
  let v295 : BitVec 32 := Scalar.muli v294 c128_i32_109
  let c128_i32_110 : BitVec 32 := 128#32
  let v296 : BitVec 32 := Scalar.addi v295 c128_i32_110
  v296
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_334 : BitVec 32 := 16#32
  let v1253 : BitVec 32 := Scalar.muli arg13 c16_i32_334
  v1253
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c16_i32_334 : BitVec 32 := 16#32
  let v1253 : BitVec 32 := Scalar.muli arg13 c16_i32_334
  let v1254 : BitVec 32 := v1253
  let v1255 : Index := Scalar.indexCast v1254
  let c0_335 : Index := 0#32
  ![v1255.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceSelectIdeal.lean ====
abbrev S12288x1024 : Shape := ⟨2, ![12288, 1024]⟩
abbrev S8x6x1024 : Shape := ⟨3, ![8, 6, 1024]⟩
abbrev S1024 : Shape := ⟨1, ![1024]⟩
abbrev S1024x2048 : Shape := ⟨2, ![1024, 2048]⟩
abbrev S2x128x128 : Shape := ⟨3, ![2, 128, 128]⟩
abbrev S3x4096x1024 : Shape := ⟨3, ![3, 4096, 1024]⟩
abbrev S3x1x1024 : Shape := ⟨3, ![3, 1, 1024]⟩
abbrev S3x1024 : Shape := ⟨2, ![3, 1024]⟩
abbrev S_ : Shape := ⟨0, ![]⟩
abbrev S3x4096 : Shape := ⟨2, ![3, 4096]⟩
abbrev S3x4096x1 : Shape := ⟨3, ![3, 4096, 1]⟩
abbrev S1x1x1024 : Shape := ⟨3, ![1, 1, 1024]⟩
abbrev S12288x2048 : Shape := ⟨2, ![12288, 2048]⟩
abbrev S12288x8x2x128 : Shape := ⟨4, ![12288, 8, 2, 128]⟩
abbrev S2x128x12288x8 : Shape := ⟨4, ![2, 128, 12288, 8]⟩
abbrev S12288x8x1x128 : Shape := ⟨4, ![12288, 8, 1, 128]⟩
abbrev S12288x8x128 : Shape := ⟨3, ![12288, 8, 128]⟩
abbrev S12288x8x16 : Shape := ⟨3, ![12288, 8, 16]⟩
abbrev S12288x8x16x1 : Shape := ⟨4, ![12288, 8, 16, 1]⟩
abbrev S12288x8x1x16 : Shape := ⟨4, ![12288, 8, 1, 16]⟩
abbrev S12288x8x16x16 : Shape := ⟨4, ![12288, 8, 16, 16]⟩
abbrev S12288x8x256 : Shape := ⟨3, ![12288, 8, 256]⟩
abbrev S1 : Shape := ⟨1, ![1]⟩
abbrev S1x1x1x1 : Shape := ⟨4, ![1, 1, 1, 1]⟩
abbrev S12288x8 : Shape := ⟨2, ![12288, 8]⟩
abbrev S12288x8x1 : Shape := ⟨3, ![12288, 8, 1]⟩
abbrev S98304x128 : Shape := ⟨2, ![98304, 128]⟩
abbrev S12288x128 : Shape := ⟨2, ![12288, 128]⟩

abbrev nBuf : Space → Nat
  | .hbm => 162
  | .vmem => 0
  | .smem => 0
  | _ => 0

abbrev hbmTy0_0 (i : Nat) : BufTy := match i % 128 with
  | 0 => ⟨S12288x1024, .f32⟩
  | 1 => ⟨S8x6x1024, .f32⟩
  | 2 => ⟨S1024, .f32⟩
  | 3 => ⟨S1024x2048, .f32⟩
  | 4 => ⟨S2x128x128, .f32⟩
  | 5 => ⟨S3x4096x1024, .f32⟩
  | 6 => ⟨S3x1x1024, .f32⟩
  | 7 => ⟨S3x1024, .f32⟩
  | 8 => ⟨S3x1x1024, .f32⟩
  | 9 => ⟨S3x1x1024, .f32⟩
  | 10 => ⟨S3x1024, .f32⟩
  | 11 => ⟨S3x1x1024, .f32⟩
  | 12 => ⟨S3x4096x1024, .f32⟩
  | 13 => ⟨S_, .f32⟩
  | 14 => ⟨S3x4096, .f32⟩
  | 15 => ⟨S3x4096x1, .f32⟩
  | 16 => ⟨S_, .f32⟩
  | 17 => ⟨S3x4096x1, .f32⟩
  | 18 => ⟨S3x4096x1, .f32⟩
  | 19 => ⟨S_, .f32⟩
  | 20 => ⟨S3x4096x1, .f32⟩
  | 21 => ⟨S3x4096x1, .f32⟩
  | 22 => ⟨S3x4096x1, .f32⟩
  | 23 => ⟨S3x4096x1024, .f32⟩
  | 24 => ⟨S3x4096x1024, .f32⟩
  | 25 => ⟨S1x1x1024, .f32⟩
  | 26 => ⟨S3x4096x1024, .f32⟩
  | 27 => ⟨S3x4096x1024, .f32⟩
  | 28 => ⟨S_, .f32⟩
  | 29 => ⟨S3x1x1024, .f32⟩
  | 30 => ⟨S3x1x1024, .f32⟩
  | 31 => ⟨S3x4096x1024, .f32⟩
  | 32 => ⟨S3x4096x1024, .f32⟩
  | 33 => ⟨S3x4096x1024, .f32⟩
  | 34 => ⟨S3x4096x1024, .f32⟩
  | 35 => ⟨S12288x1024, .f32⟩
  | 36 => ⟨S12288x2048, .f32⟩
  | 37 => ⟨S12288x8x2x128, .f32⟩
  | 38 => ⟨S2x128x12288x8, .f32⟩
  | 39 => ⟨S12288x8x2x128, .f32⟩
  | 40 => ⟨S12288x8x1x128, .f32⟩
  | 41 => ⟨S12288x8x128, .f32⟩
  | 42 => ⟨S12288x8x16, .f32⟩
  | 43 => ⟨S12288x8x16, .i32⟩
  | 44 => ⟨S12288x8x1x128, .f32⟩
  | 45 => ⟨S12288x8x128, .f32⟩
  | 46 => ⟨S12288x8x16, .f32⟩
  | 47 => ⟨S12288x8x16, .i32⟩
  | 48 => ⟨S12288x8x16x1, .f32⟩
  | 49 => ⟨S12288x8x1x16, .f32⟩
  | 50 => ⟨S12288x8x16x16, .f32⟩
  | 51 => ⟨S12288x8x16x16, .f32⟩
  | 52 => ⟨S12288x8x16x16, .f32⟩
  | 53 => ⟨S12288x8x256, .f32⟩
  | 54 => ⟨S12288x8x16, .f32⟩
  | 55 => ⟨S12288x8x16, .i32⟩
  | 56 => ⟨S_, .i32⟩
  | 57 => ⟨S_, .i32⟩
  | 58 => ⟨S12288x8x16, .i32⟩
  | 59 => ⟨S12288x8x16, .i32⟩
  | 60 => ⟨S12288x8x16, .i32⟩
  | 61 => ⟨S_, .i32⟩
  | 62 => ⟨S12288x8x16, .i32⟩
  | 63 => ⟨S12288x8x16, .i1⟩
  | 64 => ⟨S12288x8x16, .i32⟩
  | 65 => ⟨S12288x8x16, .i32⟩
  | 66 => ⟨S_, .i32⟩
  | 67 => ⟨S12288x8x16, .i32⟩
  | 68 => ⟨S12288x8x16, .i1⟩
  | 69 => ⟨S12288x8x16, .i1⟩
  | 70 => ⟨S_, .i32⟩
  | 71 => ⟨S12288x8x16, .i32⟩
  | 72 => ⟨S12288x8x16, .i32⟩
  | 73 => ⟨S12288x8x16, .i32⟩
  | 74 => ⟨S_, .i32⟩
  | 75 => ⟨S12288x8x16, .i32⟩
  | 76 => ⟨S12288x8x16, .i1⟩
  | 77 => ⟨S_, .i32⟩
  | 78 => ⟨S12288x8x16, .i32⟩
  | 79 => ⟨S12288x8x16, .i32⟩
  | 80 => ⟨S12288x8x16, .i32⟩
  | 81 => ⟨S12288x8x16x1, .i32⟩
  | 82 => ⟨S1, .i32⟩
  | 83 => ⟨S_, .i32⟩
  | 84 => ⟨S12288x8x16x1, .i32⟩
  | 85 => ⟨S12288x8x16x1, .i1⟩
  | 86 => ⟨S1x1x1x1, .i32⟩
  | 87 => ⟨S12288x8x16x1, .i32⟩
  | 88 => ⟨S12288x8x16x1, .i1⟩
  | 89 => ⟨S12288x8x16x1, .i1⟩
  | 90 => ⟨S_, .i1⟩
  | 91 => ⟨S12288x8x16, .i1⟩
  | 92 => ⟨S12288x8x16, .i32⟩
  | 93 => ⟨S_, .i32⟩
  | 94 => ⟨S12288x8x16, .i32⟩
  | 95 => ⟨S12288x8x16, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S12288x8x16, .i32⟩
  | 103 => ⟨S12288x8x16, .i32⟩
  | 104 => ⟨S_, .i32⟩
  | 105 => ⟨S12288x8x16, .i32⟩
  | 106 => ⟨S12288x8x16, .i1⟩
  | 107 => ⟨S_, .i32⟩
  | 108 => ⟨S12288x8x16, .i32⟩
  | 109 => ⟨S12288x8x16, .i1⟩
  | 110 => ⟨S_, .i32⟩
  | 111 => ⟨S_, .i1⟩
  | 112 => ⟨S12288x8x16, .i1⟩
  | 113 => ⟨S12288x8x16, .i1⟩
  | 114 => ⟨S12288x8x16, .i1⟩
  | 115 => ⟨S12288x8x16, .i32⟩
  | 116 => ⟨S12288x8x16, .i32⟩
  | 117 => ⟨S12288x8x16, .i32⟩
  | 118 => ⟨S_, .i32⟩
  | 119 => ⟨S12288x8x16, .i32⟩
  | 120 => ⟨S12288x8x16, .i1⟩
  | 121 => ⟨S_, .i32⟩
  | 122 => ⟨S12288x8x16, .i32⟩
  | 123 => ⟨S12288x8x16, .i32⟩
  | 124 => ⟨S12288x8x16, .i32⟩
  | 125 => ⟨S12288x8x16x1, .i32⟩
  | 126 => ⟨S1, .i32⟩
  | 127 => ⟨S_, .i32⟩
  | _ => ⟨S12288x1024, .f32⟩

abbrev hbmTy0_1 (i : Nat) : BufTy := match i % 128 with
  | 0 => ⟨S12288x8x16x1, .i32⟩
  | 1 => ⟨S12288x8x16x1, .i1⟩
  | 2 => ⟨S1x1x1x1, .i32⟩
  | 3 => ⟨S12288x8x16x1, .i32⟩
  | 4 => ⟨S12288x8x16x1, .i1⟩
  | 5 => ⟨S12288x8x16x1, .i1⟩
  | 6 => ⟨S_, .i1⟩
  | 7 => ⟨S12288x8x16, .i1⟩
  | 8 => ⟨S12288x8x16, .i32⟩
  | 9 => ⟨S_, .i32⟩
  | 10 => ⟨S12288x8x16, .i32⟩
  | 11 => ⟨S12288x8x16, .i32⟩
  | 12 => ⟨S_, .i32⟩
  | 13 => ⟨S12288x8x16, .i32⟩
  | 14 => ⟨S12288x8x16, .i32⟩
  | 15 => ⟨S12288x8x16, .i32⟩
  | 16 => ⟨S_, .f32⟩
  | 17 => ⟨S12288x8, .f32⟩
  | 18 => ⟨S_, .f32⟩
  | 19 => ⟨S12288x8, .f32⟩
  | 20 => ⟨S12288x8, .f32⟩
  | 21 => ⟨S12288x8x1, .f32⟩
  | 22 => ⟨S12288x8x16, .f32⟩
  | 23 => ⟨S12288x8x16, .f32⟩
  | 24 => ⟨S12288x8x16, .f32⟩
  | 25 => ⟨S_, .f32⟩
  | 26 => ⟨S12288x8, .f32⟩
  | 27 => ⟨S12288x8x1, .f32⟩
  | 28 => ⟨S12288x8x16, .f32⟩
  | 29 => ⟨S12288x8x16, .f32⟩
  | 30 => ⟨S98304x128, .f32⟩
  | 31 => ⟨S98304x128, .f32⟩
  | 32 => ⟨S12288x128, .i32⟩
  | 33 => ⟨S12288x128, .f32⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_values : Ref sig .tc := ⟨.hbm, 42, rfl⟩
abbrev main_indices : Ref sig .tc := ⟨.hbm, 43, rfl⟩
abbrev main_v33 : Ref sig .tc := ⟨.hbm, 44, rfl⟩
abbrev main_v34 : Ref sig .tc := ⟨.hbm, 45, rfl⟩
abbrev main_values_3 : Ref sig .tc := ⟨.hbm, 46, rfl⟩
abbrev main_indices_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_values_5 : Ref sig .tc := ⟨.hbm, 54, rfl⟩
abbrev main_indices_6 : Ref sig .tc := ⟨.hbm, 55, rfl⟩
abbrev main_c : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_c : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_0 : Ref sig .tc := ⟨.hbm, 70, rfl⟩
abbrev main_call0_v12 : Ref sig .tc := ⟨.hbm, 71, rfl⟩
abbrev main_call0_v13 : Ref sig .tc := ⟨.hbm, 72, rfl⟩
abbrev main_v41 : Ref sig .tc := ⟨.hbm, 73, rfl⟩
abbrev main_call1_c : Ref sig .tc := ⟨.hbm, 74, rfl⟩
abbrev main_call1_v0 : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_c_1 : Ref sig .tc := ⟨.hbm, 82, rfl⟩
abbrev main_call1_c_2 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_3 : Ref sig .tc := ⟨.hbm, 90, rfl⟩
abbrev main_call1_v12 : Ref sig .tc := ⟨.hbm, 91, rfl⟩
abbrev main_call1_v13 : Ref sig .tc := ⟨.hbm, 92, rfl⟩
abbrev main_call1_c_4 : Ref sig .tc := ⟨.hbm, 93, rfl⟩
abbrev main_call1_v14 : Ref sig .tc := ⟨.hbm, 94, rfl⟩
abbrev main_v42 : Ref sig .tc := ⟨.hbm, 95, rfl⟩
abbrev main_c_7 : Ref sig .tc := ⟨.hbm, 96, rfl⟩
abbrev main_call2_v0 : Ref sig .tc := ⟨.hbm, 97, rfl⟩
abbrev main_call2_c : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_c_1 : Ref sig .tc := ⟨.hbm, 104, rfl⟩
abbrev main_call2_v5 : Ref sig .tc := ⟨.hbm, 105, rfl⟩
abbrev main_call2_v6 : Ref sig .tc := ⟨.hbm, 106, rfl⟩
abbrev main_call2_c_2 : Ref sig .tc := ⟨.hbm, 107, rfl⟩
abbrev main_call2_v7 : Ref sig .tc := ⟨.hbm, 108, rfl⟩
abbrev main_call2_v8 : Ref sig .tc := ⟨.hbm, 109, rfl⟩
abbrev main_call2_c_3 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_v43 : Ref sig .tc := ⟨.hbm, 117, rfl⟩
abbrev main_call3_c : Ref sig .tc := ⟨.hbm, 118, rfl⟩
abbrev main_call3_v0 : Ref sig .tc := ⟨.hbm, 119, rfl⟩
abbrev main_call3_v1 : Ref sig .tc := ⟨.hbm, 120, rfl⟩
abbrev main_call3_c_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_c_1 : Ref sig .tc := ⟨.hbm, 126, rfl⟩
abbrev main_call3_c_2 : Ref sig .tc := ⟨.hbm, 127, rfl⟩
abbrev main_call3_v6 : Ref sig .tc := ⟨.hbm, 128, rfl⟩
abbrev main_call3_v7 : Ref sig .tc := ⟨.hbm, 129, rfl⟩
abbrev main_call3_v8 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_c_3 : Ref sig .tc := ⟨.hbm, 134, rfl⟩
abbrev main_call3_v12 : Ref sig .tc := ⟨.hbm, 135, rfl⟩
abbrev main_call3_v13 : Ref sig .tc := ⟨.hbm, 136, rfl⟩
abbrev main_call3_c_4 : Ref sig .tc := ⟨.hbm, 137, rfl⟩
abbrev main_call3_v14 : Ref sig .tc := ⟨.hbm, 138, rfl⟩
abbrev main_v44 : Ref sig .tc := ⟨.hbm, 139, rfl⟩
abbrev main_c_8 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_cst_9 : Ref sig .tc := ⟨.hbm, 144, rfl⟩
abbrev main_v48 : Ref sig .tc := ⟨.hbm, 145, rfl⟩
abbrev main_cst_10 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_v52 : Ref sig .tc := ⟨.hbm, 150, rfl⟩
abbrev main_v53 : Ref sig .tc := ⟨.hbm, 151, rfl⟩
abbrev main_v54 : Ref sig .tc := ⟨.hbm, 152, rfl⟩
abbrev main_cst_11 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩

abbrev nD : Nat := 1
abbrev τ : Topo := Topo.v7x

variable {F : FTy → Type} [FloatOps F]
-- ==== Proof.NaRun.lean ====
/-
  The reference's run, its result named by the stages it is read through.
-/
module

public import proofs.«01_k».proof.Proof.Gen.ReferenceIdeal
public import proofs.«01_k».proof.Proof.Gen.ReferenceIdeal.Run
public import proofs.«01_k».proof.Proof.Gen.ReferenceIdeal.Read

@[expose] public section

set_option maxRecDepth 16384

noncomputable section

namespace Cert.Na

open Cert.ReferenceIdeal Cert.ReferenceIdeal.Gen Idealize.ShloMosaic Idealize.ShloMosaic.TcCoe Idealize.SL.Sem Idealize.ShloMosaic.StableHlo

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v138)
          = Read.val_main_v138 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c).1.trans (Read.val_main_v138_eq (F := Ideal) (launchContents m c)), (h c).2⟩)
    (Cert.ReferenceIdeal.Value.run (F := Ideal) m ρ)

end Cert.Na

end
-- ==== Proof.NaPure.lean ====
/-
  The mathematics of the neighbourhood attention, free of any program: a softmax over a window of keys and a
  context, computed two ways over the extended reals. One way takes scores over MORE keys, those outside the window
  at −∞, sums the weighted values and divides once; the other takes the window's keys only and divides every weight.
-/
module

public import Idealize.ShloMosaic.PureOps.Ideal

@[expose] public section

noncomputable section

namespace Cert.Na

open Idealize.ShloMosaic
open scoped BigOperators

variable {A B C : Type} [Fintype A] [Fintype B] [Fintype C]

/-- The greatest score of a window and a context. -/
def peak (s : B → EReal) (t : C → EReal) : EReal := max (Finset.univ.sup s) (Finset.univ.sup t)

/-- The softmax's normalizer. -/
def den (s : B → EReal) (t : C → EReal) : EReal :=
  (∑ b, Ideal.exp (s b - peak s t)) + ∑ c, Ideal.exp (t c - peak s t)

/-- Softmax attention: every weight divided by the normalizer, then the weighted values summed. -/
def att (s : B → EReal) (t : C → EReal) (v : B → EReal) (w : C → EReal) : EReal :=
  (∑ b, Ideal.div (Ideal.exp (s b - peak s t)) (den s t) * v b)
    + ∑ c, Ideal.div (Ideal.exp (t c - peak s t)) (den s t) * w c

/-- The same, the weighted values summed first and divided once. -/
def attOnce (s : B → EReal) (t : C → EReal) (v : B → EReal) (w : C → EReal) : EReal :=
  Ideal.div ((∑ b, Ideal.exp (s b - peak s t) * v b) + ∑ c, Ideal.exp (t c - peak s t) * w c) (den s t)

/-- A value that is a real number. -/
def Real' (x : EReal) : Prop := ∃ r : ℝ, x = r

theorem Real'.zero : Real' 0 := ⟨0, rfl⟩

theorem Real'.add {x y : EReal} (hx : Real' x) (hy : Real' y) : Real' (x + y) := by
  obtain ⟨a, rfl⟩ := hx; obtain ⟨b, rfl⟩ := hy; exact ⟨a + b, rfl⟩

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.sum {ι : Type} (S : Finset ι) {f : ι → EReal} (h : ∀ i, Real' (f i)) : Real' (∑ i ∈ S, f i) := by
  classical
  induction S using Finset.induction_on with
  | empty => exact Real'.zero
  | insert i S hi ih => rw [Finset.sum_insert hi]; exact (h i).add ih

theorem Real'.of_max_lt {x : EReal} (h : max x (-x) < ⊤) : Real' x := by
  induction x using EReal.rec with
  | bot => simp at h
  | top => simp at h
  | coe r => exact ⟨r, rfl⟩

/-- The greatest of at least one real number is real. -/
theorem Real'.sup {ι : Type} [Fintype ι] [Nonempty ι] {f : ι → EReal} (h : ∀ i, Real' (f i)) : Real' (Finset.univ.sup f) := by
  obtain ⟨i, -, hi⟩ := Finset.exists_mem_eq_sup Finset.univ Finset.univ_nonempty f
  rw [hi]; exact h i

theorem sup_of_injective (e : B → A) (sA : A → EReal) (sB : B → EReal) (h : ∀ b, sA (e b) = sB b)
    (h' : ∀ a, a ∉ Set.range e → sA a = ⊥) : Finset.univ.sup sA = Finset.univ.sup sB := by
  apply le_antisymm
  · refine Finset.sup_le fun a _ => ?_
    by_cases ha : a ∈ Set.range e
    · obtain ⟨b, rfl⟩ := ha; rw [h]; exact Finset.le_sup (Finset.mem_univ b)
    · rw [h' a ha]; exact bot_le
  · refine Finset.sup_le fun b _ => ?_
    rw [← h]; exact Finset.le_sup (Finset.mem_univ _)

theorem sup_le_of_real {f : B → EReal} (h : ∀ i, Real' (f i)) : Finset.univ.sup f = ⊥ ∨ Real' (Finset.univ.sup f) := by
  rcases isEmpty_or_nonempty B with hB | hB
  · left; simp
  · right; exact Real'.sup h

theorem peak_real [Nonempty C] {s : B → EReal} {t : C → EReal} (hs : ∀ b, Real' (s b)) (ht : ∀ c, Real' (t c)) :
    Real' (peak s t) := by
  unfold peak
  rcases max_choice (Finset.univ.sup s) (Finset.univ.sup t) with h | h
  · rcases sup_le_of_real hs with h' | h'
    · rw [h', max_eq_right bot_le]; exact Real'.sup ht
    · rw [h]; exact h'
  · rw [h]; exact Real'.sup ht

/-- A real score's weight is a positive real. -/
theorem exp_sub_real {x m : EReal} (hx : Real' x) (hm : Real' m) : ∃ r : ℝ, 0 < r ∧ Ideal.exp (x - m) = r := by
  obtain ⟨a, rfl⟩ := hx; obtain ⟨b, rfl⟩ := hm
  exact ⟨Real.exp (a - b), Real.exp_pos _, by rw [← EReal.coe_sub]; rfl⟩

/-- A score of −∞ weighs nothing. -/
theorem exp_bot_sub {m : EReal} : Ideal.exp (⊥ - m) = 0 := by
  rw [EReal.bot_sub]; rfl

theorem sum_pos_real {ι : Type} (S : Finset ι) {f : ι → EReal} (h : ∀ i, ∃ r : ℝ, 0 < r ∧ f i = r) :
    ∃ r : ℝ, 0 ≤ r ∧ (S.Nonempty → 0 < r) ∧ (∑ i ∈ S, f i) = r := by
  choose g hg hf using h
  refine ⟨∑ i ∈ S, g i, Finset.sum_nonneg fun i _ => (hg i).le, fun hS => Finset.sum_pos (fun i _ => hg i) hS, ?_⟩
  classical
  induction S using Finset.induction_on with
  | empty => simp
  | insert i S hi ih => rw [Finset.sum_insert hi, Finset.sum_insert hi, ih, hf, EReal.coe_add]

theorem den_real [Nonempty C] {s : B → EReal} {t : C → EReal} (hs : ∀ b, Real' (s b)) (ht : ∀ c, Real' (t c)) :
    ∃ r : ℝ, 0 < r ∧ den s t = r := by
  have hm := peak_real hs ht
  obtain ⟨a, ha, -, e1⟩ := sum_pos_real Finset.univ fun b => exp_sub_real (hs b) hm
  obtain ⟨b, -, hb, e2⟩ := sum_pos_real Finset.univ fun c => exp_sub_real (ht c) hm
  exact ⟨a + b, add_pos_of_nonneg_of_pos ha (hb Finset.univ_nonempty), by rw [den, e1, e2, EReal.coe_add]⟩

/-- Multiplying by a nonnegative real passes through a sum of extended reals. -/
theorem mul_sum_of_nonneg {ι : Type} (S : Finset ι) (f : ι → EReal) {c : ℝ} (hc : 0 ≤ c) :
    (c : EReal) * (∑ i ∈ S, f i) = ∑ i ∈ S, (c : EReal) * f i := by
  classical
  induction S using Finset.induction_on with
  | empty => simp
  | insert i S hi ih =>
    rw [Finset.sum_insert hi, Finset.sum_insert hi,
      EReal.left_distrib_of_nonneg_of_ne_top (EReal.coe_nonneg.mpr hc) (EReal.coe_ne_top c), ih]

theorem div_real {y : ℝ} (hy : 0 < y) (x : EReal) : Ideal.div x y = ((1 / y : ℝ) : EReal) * x := by
  rw [Ideal.div_coe hy.ne', mul_comm]

/-- Dividing once is dividing every weight. -/
theorem attOnce_eq_att [Nonempty C] {s : B → EReal} {t : C → EReal} (hs : ∀ b, Real' (s b)) (ht : ∀ c, Real' (t c))
    (v : B → EReal) (w : C → EReal) : attOnce s t v w = att s t v w := by
  obtain ⟨r, hr, hd⟩ := den_real hs ht
  have hc : 0 ≤ 1 / r := (div_pos one_pos hr).le
  unfold attOnce att
  simp only [hd, div_real hr, mul_assoc]
  rw [EReal.left_distrib_of_nonneg_of_ne_top (EReal.coe_nonneg.mpr hc) (EReal.coe_ne_top _),
    mul_sum_of_nonneg _ _ hc, mul_sum_of_nonneg _ _ hc]

/-- Scores of −∞ outside the image of an injection change nothing. -/
theorem attOnce_of_injective (e : B → A) (he : Function.Injective e) {sA : A → EReal} {sB : B → EReal} (t : C → EReal)
    {vA : A → EReal} {vB : B → EReal} (w : C → EReal) (h : ∀ b, sA (e b) = sB b)
    (h' : ∀ a, a ∉ Set.range e → sA a = ⊥) (hv : ∀ b, vA (e b) = vB b) :
    attOnce sA t vA w = attOnce sB t vB w := by
  have hp : peak sA t = peak sB t := by unfold peak; rw [sup_of_injective e sA sB h h']
  have h1 : (∑ a, Ideal.exp (sA a - peak sB t)) = ∑ b, Ideal.exp (sB b - peak sB t) :=
    (Fintype.sum_of_injective e he _ _ (fun a ha => by rw [h' a ha, exp_bot_sub]) fun b => by rw [h]).symm
  have h2 : (∑ a, Ideal.exp (sA a - peak sB t) * vA a) = ∑ b, Ideal.exp (sB b - peak sB t) * vB b :=
    (Fintype.sum_of_injective e he _ _ (fun a ha => by rw [h' a ha, exp_bot_sub, zero_mul]) fun b => by rw [h, hv]).symm
  unfold attOnce den
  rw [hp, h1, h2]

/-- THE TWO ATTENTIONS AGREE: the dense scores, −∞ outside the window and divided once, against the window's softmax. -/
theorem dense_eq_window [Nonempty C] (e : B → A) (he : Function.Injective e) {sA : A → EReal} {sB : B → EReal} {t : C → EReal}
    {vA : A → EReal} {vB : B → EReal} (w : C → EReal) (h : ∀ b, sA (e b) = sB b)
    (h' : ∀ a, a ∉ Set.range e → sA a = ⊥) (hv : ∀ b, vA (e b) = vB b)
    (hs : ∀ b, Real' (sB b)) (ht : ∀ c, Real' (t c)) :
    attOnce sA t vA w = att sB t vB w :=
  (attOnce_of_injective e he t w h h' hv).trans (attOnce_eq_att hs ht vB w)

/-- A maximum folded from −∞ is the supremum. -/
theorem fold_max_eq_sup (f : B → EReal) : Finset.univ.fold max ⊥ f = Finset.univ.sup f := rfl

/-- A sum over 128 lanes of which only the first 64 count. -/
theorem sum_lo (f : Fin 128 → EReal) (h : ∀ l : Fin 128, 64 ≤ l.val → f l = 0) :
    ∑ l, f l = ∑ d : Fin 64, f ⟨d.val, by omega⟩ := by
  rw [← Fintype.sum_of_injective (fun d : Fin 64 => (⟨d.val, by omega⟩ : Fin 128))
    (fun a b hab => Fin.ext (Fin.mk.inj hab)) (fun d : Fin 64 => f ⟨d.val, by omega⟩) f
    (fun l hl => h l (by by_contra hlt; exact hl ⟨⟨l.val, by omega⟩, rfl⟩)) fun _ => rfl]

/-- A sum over 128 lanes of which only the last 64 count. -/
theorem sum_hi (f : Fin 128 → EReal) (h : ∀ l : Fin 128, l.val < 64 → f l = 0) :
    ∑ l, f l = ∑ d : Fin 64, f ⟨64 + d.val, by omega⟩ := by
  rw [← Fintype.sum_of_injective (fun d : Fin 64 => (⟨64 + d.val, by omega⟩ : Fin 128))
    (fun a b hab => Fin.ext (by have := Fin.mk.inj hab; omega)) (fun d : Fin 64 => f ⟨64 + d.val, by omega⟩) f
    (fun l hl => h l (by by_contra hlt; exact hl ⟨⟨l.val - 64, by omega⟩, Fin.ext (by show 64 + (l.val - 64) = l.val; omega)⟩)) fun _ => rfl]

/-- Lane `e` of head `h`. -/
abbrev lane (h : Fin 16) (e : Fin 64) : Fin 1024 := ⟨h.val * 64 + e.val, by omega⟩

/-- The first row of query row `r`'s window. -/
def rowStart (r : Nat) : Nat := min (r - 4) 56

/-- The first column of query column `w`'s window. -/
def colStart (w : Nat) : Nat := min (w - 8) 48

end Cert.Na

end
-- ==== Proof.NaBlock.lean ====
/-
  What the kernel's body leaves in its output block: eight pairs of heads, each two dense softmaxes over eight rows of
  keys and the context, joined, projected, gated and added to the residual.
-/
module

public import proofs.«01_k».proof.Proof.Gen.KernelIdeal.Value
public import proofs.«01_k».proof.Proof.NaPure
public import Idealize.ShloMosaic.Lib.Pointwise

@[expose] public section

noncomputable section

namespace Cert.Na

open Cert.KernelIdeal Cert.KernelIdeal.Gen Idealize.ShloMosaic Idealize.ShloMosaic.TcCoe
  Idealize.ShloMosaic.Tactic

/-- Whether a lane of a pair is the first head's. -/
def firstHead : IVec S1x128 1 := cmpi .slt (iota .tc S1x128 32 [1] iota_S1x128_d1_w32) (broadcast S1x128 64#32)

/-- One head's attention: its queries with the other head's lanes zeroed, over the window's rows and the context. -/
def headOut (q : FVec Ideal S64x128 .bf16) (kw vw : FVec Ideal S512x128 .bf16) (kc vc : FVec Ideal S1x256x128 .bf16)
    (bias : FVec Ideal S1x1x64x512 .f32) : FVec Ideal S64x128 .f32 :=
  have sw : FVec Ideal S64x512 .f32 := addf
    (matmul dot_S64x128_S512x128_S64x512_1_1_0_0_n_n none q kw (constant S64x512 .f32 0x00000000#32))
    (shapeCast S64x512 bias shapeCasts_S1x1x64x512_S64x512)
  have sc : FVec Ideal S64x256 .f32 := matmul dot_S64x128_S256x128_S64x256_1_1_0_0_n_n none q
    (shapeCast S256x128 kc shapeCasts_S1x256x128_S256x128) (constant S64x256 .f32 0x00000000#32)
  have top : FVec Ideal S64x1 .f32 := maximumf
    (shapeCast S64x1 (multiReduction .maximumf [1] S64 sw 0xFF800000#32 reduces_S64x512_S64 (.inl rfl) rfl) shapeCasts_S64_S64x1)
    (shapeCast S64x1 (multiReduction .maximumf [1] S64 sc 0xFF800000#32 reduces_S64x256_S64 (.inl rfl) rfl) shapeCasts_S64_S64x1)
  have pw : FVec Ideal S64x512 .f32 := exp (subf sw (broadcastTo S64x512 top broadcasts_S64x1_S64x512))
  have pc : FVec Ideal S64x256 .f32 := exp (subf sc (broadcastTo S64x256 top broadcasts_S64x1_S64x256))
  have norm : FVec Ideal S64x1 .f32 := addf
    (shapeCast S64x1 (multiReduction .add [1] S64 pw 0x00000000#32 reduces_S64x512_S64 (.inl rfl) rfl) shapeCasts_S64_S64x1)
    (shapeCast S64x1 (multiReduction .add [1] S64 pc 0x00000000#32 reduces_S64x256_S64 (.inl rfl) rfl) shapeCasts_S64_S64x1)
  divf
    (addf
      (matmul dot_S64x512_S512x128_S64x128_1_0_0_1_n_n none (truncf .bf16 pw bitsLt_bf16_f32) vw
        (constant S64x128 .f32 0x00000000#32))
      (matmul dot_S64x256_S256x128_S64x128_1_0_0_1_n_n none (truncf .bf16 pc bitsLt_bf16_f32)
        (shapeCast S256x128 vc shapeCasts_S1x256x128_S256x128) (constant S64x128 .f32 0x00000000#32)))
    (broadcastTo S64x128 norm broadcasts_S64x1_S64x128)

/-- The lanes of `q` under a mask, the others zero. -/
def onlyLanes (mask : IVec S1x128 1) (q : FVec Ideal S64x128 .bf16) : FVec Ideal S64x128 .bf16 :=
  select (broadcastTo S64x128 (shapeCast S1x128 mask shapeCasts_S1x128_S1x128) broadcasts_S1x128_S64x128) q
    (broadcast S64x128 (Scalar.ofBits .bf16 0x0000#16))

/-- Two heads' attention, each on its half of the lanes. -/
def headPair (kw vw : FVec Ideal S512x128 .bf16) (q : FVec Ideal S64x128 .bf16) (kc vc : FVec Ideal S1x256x128 .bf16)
    (b0 b1 : FVec Ideal S1x1x64x512 .f32) : FVec Ideal S64x128 .f32 :=
  select (broadcastTo S64x128 (shapeCast S1x128 firstHead shapeCasts_S1x128_S1x128) broadcasts_S1x128_S64x128)
    (headOut (onlyLanes firstHead q) kw vw kc vc b0)
    (headOut (onlyLanes (xori firstHead (constantI S1x128 1 1#1)) q) kw vw kc vc b1)

/-- The first key row of a block's window, as the kernel computes it. -/
abbrev startWord (i : grid0.Coords) : Nat :=
  BitVec.toNat (Scalar.indexCast (Scalar.muli (Scalar.minsi (56#32) (Scalar.maxsi (0#32)
    (Scalar.subi (BitVec.ofNat 32 (i 1).val) 4#32))) 64#32))

theorem startWord_le (i : grid0.Coords) : startWord i + 512 ≤ 4096 := by
  have h : ∀ r : Fin 64, BitVec.toNat (Scalar.indexCast (Scalar.muli (Scalar.minsi (56#32) (Scalar.maxsi (0#32)
    (Scalar.subi (BitVec.ofNat 32 r.val) 4#32))) 64#32)) + 512 ≤ 4096 := by decide
  exact h (i 1)

section
variable (i : grid0.Coords) (x0 : Vec Ideal S64x1024 .bf16) (x1 x2 : Vec Ideal S4096x1024 .bf16)
  (x3 x4 : Vec Ideal S1x256x1024 .bf16) (x5 : Vec Ideal S1x16x64x512 .f32) (x6 : Vec Ideal S64x1024 .f32)
  (x7 : Vec Ideal S1x6x1024 .f32) (x8 : Vec Ideal S1024x1024 .bf16)

/-- A pair's 128 lanes of the window's eight rows. -/
def winRows (x : Vec Ideal S4096x1024 .bf16) (o : Nat) (ho : o + 128 ≤ 1024) : Vec Ideal S512x128 .bf16 :=
  View.ld x (Rect.unit ![startWord i, o] ![512, 128] (by
    have := startWord_le i; intro a; fin_cases a <;> first | exact this | exact ho))

/-- A pair's 128 lanes of the context. -/
def ctxRows (x : Vec Ideal S1x256x1024 .bf16) (o : Nat) (ho : o + 128 ≤ 1024) : Vec Ideal S1x256x128 .bf16 :=
  View.ld x (Rect.unit ![0, 0, o] ![1, 256, 128] (by intro a; fin_cases a <;> first | exact ho | exact Nat.le_refl _))

/-- A pair's 128 lanes of the queries. -/
def qRows (x : Vec Ideal S64x1024 .bf16) (o : Nat) (ho : o + 128 ≤ 1024) : Vec Ideal S64x128 .bf16 :=
  View.ld x (Rect.unit ![0, o] ![64, 128] (by intro a; fin_cases a <;> first | exact ho | exact Nat.le_refl _))

/-- A head's bias rows. -/
def biasRows (x : Vec Ideal S1x16x64x512 .f32) (h : Nat) (hh : h + 1 ≤ 16) : Vec Ideal S1x1x64x512 .f32 :=
  View.ld x (Rect.unit ![0, h, 0, 0] ![1, 1, 64, 512] (by intro a; fin_cases a <;> first | exact hh | exact Nat.le_refl _))

/-- The pair of heads at lane offset `o`, whose first head is `h`. -/
def pairOut (o h : Nat) (ho : o + 128 ≤ 1024) (hh : h + 2 ≤ 16) : FVec Ideal S64x128 .f32 :=
  headPair (winRows i x1 o ho) (winRows i x2 o ho) (qRows x0 o ho) (ctxRows x3 o ho) (ctxRows x4 o ho)
    (biasRows x5 h (by omega)) (biasRows x5 (h + 1) hh)

/-- The sixteen heads' outputs side by side. -/
def allHeads : FVec Ideal S64x1024 .f32 :=
  concatenate S64x1024 1
    [⟨S64x128, pairOut i x0 x1 x2 x3 x4 x5 0 0 (by decide) (by decide)⟩,
     ⟨S64x128, pairOut i x0 x1 x2 x3 x4 x5 128 2 (by decide) (by decide)⟩,
     ⟨S64x128, pairOut i x0 x1 x2 x3 x4 x5 256 4 (by decide) (by decide)⟩,
     ⟨S64x128, pairOut i x0 x1 x2 x3 x4 x5 384 6 (by decide) (by decide)⟩,
     ⟨S64x128, pairOut i x0 x1 x2 x3 x4 x5 512 8 (by decide) (by decide)⟩,
     ⟨S64x128, pairOut i x0 x1 x2 x3 x4 x5 640 10 (by decide) (by decide)⟩,
     ⟨S64x128, pairOut i x0 x1 x2 x3 x4 x5 768 12 (by decide) (by decide)⟩,
     ⟨S64x128, pairOut i x0 x1 x2 x3 x4 x5 896 14 (by decide) (by decide)⟩]
    concatenates_S64x128_S64x128_S64x128_S64x128_S64x128_S64x128_S64x128_S64x128_S64x1024_d1

/-- The whole block. -/
def blockOut : FVec Ideal S64x1024 .f32 :=
  k0_pay1 (truncf .bf16 (allHeads i x0 x1 x2 x3 x4 x5) bitsLt_bf16_f32)
    (View.ld x6 (Rect.unit ![0, 0] ![64, 1024] (by decide))) (View.ld x7 (Rect.unit ![0, 2, 0] ![1, 1, 1024] (by decide)))
    (View.ld x8 (Rect.unit ![0, 0] ![1024, 1024] (by decide)))

end

variable (m : (ℓ : Loc nD τ sig) → Buf (Elt Ideal) ℓ)

theorem outsAt_eq (c : Dev nD) (t : Fin cfg0.N) :
    outsAt0 m c t = blockOut (grid0.coords t) (iblk m c 0 t) (iblk m c 1 t) (iblk m c 2 t) (iblk m c 3 t) (iblk m c 4 t)
      (iblk m c 5 t) (iblk m c 6 t) (iblk m c 7 t) (iblk m c 8 t) := by
  unfold outsAt0 out0_A_9
  rw [View.read_writes_eq_canon _ _ _ (cover0_A_9 c _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  refine (View.canon_unit_zero (S := S64x1024) (by funext a; fin_cases a <;> rfl) _ _).trans ?_
  unfold blockOut
  refine congrArg (fun v => k0_pay1 v _ _ _) ?_
  rfl

end Cert.Na

end
-- ==== Proof.NaHead.lean ====
/-
  The kernel's head and its pair of heads, read at an index.
-/
module

public import proofs.«01_k».proof.Proof.NaBlock

@[expose] public section

noncomputable section

namespace Cert.Na

open Cert.KernelIdeal Cert.KernelIdeal.Gen Idealize.ShloMosaic Idealize.ShloMosaic.TcCoe

theorem neg_inf' : Ideal.ofBits .f32 0xFF800000#32 = (⊥ : EReal) := by
  simp [Ideal.ofBits, Ideal.ieee]

theorem headOut_apply (q : FVec Ideal S64x128 .bf16) (kw vw : FVec Ideal S512x128 .bf16) (kc vc : FVec Ideal S1x256x128 .bf16)
    (bias : FVec Ideal S1x1x64x512 .f32) (a : Fin 64) (l : Fin 128) :
    headOut q kw vw kc vc bias (ix2 a l)
      = attOnce (fun n : Fin 512 => (∑ e : Fin 128, q (ix2 a e) * kw (ix2 n e)) + bias (ix4 0 0 a n))
          (fun c : Fin 256 => ∑ e : Fin 128, q (ix2 a e) * kc (ix3 0 c e))
          (fun n => vw (ix2 n l)) (fun c => vc (ix3 0 c l)) := by
  unfold headOut
  dsimp only
  pointwise
  simp only [neg_inf', fold_max_eq_sup]
  rfl

theorem lane_test : ∀ e : Fin 128, IntOp.cmpi .slt (BitVec.ofNat 32 e.val) 64#32 = if e.val < 64 then 1#1 else 0#1 := by
  decide

theorem firstHead_apply (e : Fin 128) : firstHead (ix2 0 e) = if e.val < 64 then 1#1 else 0#1 := by
  unfold firstHead
  pointwise
  exact lane_test e

theorem zero16 : Ideal.ofBits .bf16 0x0000#16 = (0 : EReal) := by
  simp [Ideal.ofBits, Ideal.ieee]

theorem onlyFirst_apply (q : FVec Ideal S64x128 .bf16) (a : Fin 64) (e : Fin 128) :
    onlyLanes firstHead q (ix2 a e) = if e.val < 64 then (q (ix2 a e) : EReal) else 0 := by
  unfold onlyLanes
  pointwise
  rw [firstHead_apply]
  split <;> rfl

theorem onlySecond_apply (q : FVec Ideal S64x128 .bf16) (a : Fin 64) (e : Fin 128) :
    onlyLanes (xori firstHead (constantI S1x128 1 1#1)) q (ix2 a e) = if e.val < 64 then (0 : EReal) else q (ix2 a e) := by
  unfold onlyLanes
  pointwise
  rw [firstHead_apply]
  split <;> rfl

section
variable (i : grid0.Coords) (x0 : Vec Ideal S64x1024 .bf16) (x1 x2 : Vec Ideal S4096x1024 .bf16)
  (x3 x4 : Vec Ideal S1x256x1024 .bf16) (x5 : Vec Ideal S1x16x64x512 .f32)

/-- Head `h`'s output at query column `a`, lane `e`, of the block's eight rows of keys and its context. -/
def kernelHead (h : Fin 16) (a e : Fin 64) : EReal :=
  attOnce
    (fun n : Fin 512 => (∑ d : Fin 64, x0 (ix2 a (lane h d))
      * x1 (ix2 ⟨startWord i + n.val, by have := startWord_le i; omega⟩ (lane h d))) + x5 (ix4 0 h a n))
    (fun c : Fin 256 => ∑ d : Fin 64, x0 (ix2 a (lane h d)) * x3 (ix3 0 c (lane h d)))
    (fun n => x2 (ix2 ⟨startWord i + n.val, by have := startWord_le i; omega⟩ (lane h e)))
    (fun c => x4 (ix3 0 c (lane h e)))

theorem low_lanes (f g : Fin 128 → EReal) :
    (∑ x, (if x.val < 64 then f x else 0) * g x) = ∑ d : Fin 64, f ⟨d.val, by omega⟩ * g ⟨d.val, by omega⟩ := by
  rw [sum_lo _ fun x hx => by rw [if_neg (by omega), zero_mul]]
  exact Finset.sum_congr rfl fun d _ => by rw [if_pos d.isLt]

theorem high_lanes (f g : Fin 128 → EReal) :
    (∑ x, (if x.val < 64 then 0 else f x) * g x) = ∑ d : Fin 64, f ⟨64 + d.val, by omega⟩ * g ⟨64 + d.val, by omega⟩ := by
  rw [sum_hi _ fun x hx => by rw [if_pos hx, zero_mul]]
  exact Finset.sum_congr rfl fun d _ => by rw [if_neg (by simp)]

theorem headPair_apply (kw vw : FVec Ideal S512x128 .bf16) (q : FVec Ideal S64x128 .bf16) (kc vc : FVec Ideal S1x256x128 .bf16)
    (b0 b1 : FVec Ideal S1x1x64x512 .f32) (a : Fin 64) (l : Fin 128) :
    headPair kw vw q kc vc b0 b1 (ix2 a l)
      = if l.val < 64
        then attOnce (fun n : Fin 512 => (∑ d : Fin 64, q (ix2 a ⟨d.val, by omega⟩) * kw (ix2 n ⟨d.val, by omega⟩)) + b0 (ix4 0 0 a n))
          (fun c : Fin 256 => ∑ d : Fin 64, q (ix2 a ⟨d.val, by omega⟩) * kc (ix3 0 c ⟨d.val, by omega⟩))
          (fun n => vw (ix2 n l)) (fun c => vc (ix3 0 c l))
        else attOnce (fun n : Fin 512 => (∑ d : Fin 64, q (ix2 a ⟨64 + d.val, by omega⟩) * kw (ix2 n ⟨64 + d.val, by omega⟩)) + b1 (ix4 0 0 a n))
          (fun c : Fin 256 => ∑ d : Fin 64, q (ix2 a ⟨64 + d.val, by omega⟩) * kc (ix3 0 c ⟨64 + d.val, by omega⟩))
          (fun n => vw (ix2 n l)) (fun c => vc (ix3 0 c l)) := by
  unfold headPair
  pointwise
  simp only [firstHead_apply, headOut_apply, onlyFirst_apply, onlySecond_apply,
    low_lanes (fun x => q (ix2 a x)), high_lanes (fun x => q (ix2 a x))]
  split <;> rfl

theorem pairOut_apply (o h : Nat) (ho : o + 128 ≤ 1024) (hh : h + 2 ≤ 16) (hoh : o = 64 * h) (a : Fin 64) (l : Fin 128) :
    pairOut i x0 x1 x2 x3 x4 x5 o h ho hh (ix2 a l)
      = kernelHead i x0 x1 x2 x3 x4 x5 ⟨h + l.val / 64, by omega⟩ a ⟨l.val % 64, by omega⟩ := by
  unfold pairOut
  rw [headPair_apply]
  unfold winRows ctxRows qRows biasRows
  pointwise
  subst hoh
  unfold kernelHead
  have e0 : ∀ x : Nat, 64 * h + x = h * 64 + x := fun x => by omega
  have e1 : ∀ x : Nat, h * 64 + (64 + x) = (h + 1) * 64 + x := fun x => by omega
  by_cases hl : l.val < 64
  · have e3 : l.val / 64 = 0 := by omega
    have e4 : l.val % 64 = l.val := by omega
    simp only [if_pos hl, e0, e3, e4, Nat.add_zero]
  · have e3 : l.val / 64 = 1 := by omega
    have e4 : h * 64 + l.val = (h + 1) * 64 + l.val % 64 := by omega
    simp only [if_neg hl, e0, e1, e3, e4]

theorem kernelHead_eq (a : Fin 64) {h h' : Fin 16} {e e' : Fin 64} (hh : h.val = h'.val) (he : e.val = e'.val) :
    kernelHead i x0 x1 x2 x3 x4 x5 h a e = kernelHead i x0 x1 x2 x3 x4 x5 h' a e' := by
  rw [Fin.ext hh, Fin.ext he]

theorem allHeads_apply (a : Fin 64) (l : Fin 1024) :
    allHeads i x0 x1 x2 x3 x4 x5 (ix2 a l)
      = kernelHead i x0 x1 x2 x3 x4 x5 ⟨l.val / 64, by omega⟩ a ⟨l.val % 64, by omega⟩ := by
  unfold allHeads
  pointwise
  simp (discharger := omega) only [pairOut_apply]
  repeat' split
  all_goals exact kernelHead_eq i x0 x1 x2 x3 x4 x5 a (by simp only [] <;> omega) (by simp only [] <;> omega)

variable (x6 : Vec Ideal S64x1024 .f32) (x7 : Vec Ideal S1x6x1024 .f32) (x8 : Vec Ideal S1024x1024 .bf16)

theorem blockOut_apply (a : Fin 64) (n : Fin 1024) :
    blockOut i x0 x1 x2 x3 x4 x5 x6 x7 x8 (ix2 a n)
      = x6 (ix2 a n) + x7 (ix3 0 2 n)
        * ∑ l : Fin 1024, kernelHead i x0 x1 x2 x3 x4 x5 ⟨l.val / 64, by omega⟩ a ⟨l.val % 64, by omega⟩ * x8 (ix2 l n) := by
  unfold blockOut k0_pay1
  pointwise
  simp only [allHeads_apply]

end

end Cert.Na

end
-- ==== Proof.NaHost.lean ====
/-
  What the host hands to the neighbourhood attention: the context's keys and values as rows of lanes, the projection's
  weights, the rows of the residual, and the table of biases with the columns outside a window at minus infinity.
-/
module

public import proofs.«01_k».proof.Proof.NaPure
public import proofs.«01_k».proof.Proof.Gen.KernelIdeal.Value
public import Idealize.ShloMosaic.Lib.StableHlo.ReadAt

@[expose] public section

set_option maxRecDepth 16384

noncomputable section

namespace Cert.Na

open Cert.KernelIdeal Cert.KernelIdeal.Gen Idealize.ShloMosaic Idealize.ShloMosaic.TcCoe

/-- Whether key column `j` lies in the window of query column `i`, as the host computes it. -/
def insideWord (i j : Fin 64) : BitVec 1 :=
  IntOp.andi
    (IntOp.cmpi .sge (BitVec.ofNat 32 j.val)
      (IntOp.minsi 48#32 (IntOp.maxsi 0#32 (IntOp.subi (BitVec.ofNat 32 i.val) 8#32))))
    (IntOp.cmpi .slt (BitVec.ofNat 32 j.val)
      (IntOp.addi (IntOp.minsi 48#32 (IntOp.maxsi 0#32 (IntOp.subi (BitVec.ofNat 32 i.val) 8#32))) 16#32))

/-- The key column relative to the query column, as the host computes it. -/
def relWord (i j : Fin 64) : BitVec 32 :=
  IntOp.subi (IntOp.addi (IntOp.subi (BitVec.ofNat 32 j.val) (BitVec.ofNat 32 i.val)) 16#32) 1#32

theorem insideWord_eq : ∀ i j : Fin 64,
    insideWord i j = if colStart i.val ≤ j.val ∧ j.val < colStart i.val + 16 then 1#1 else 0#1 := by decide +kernel

theorem relWord_eq : ∀ i j : Fin 64, colStart i.val ≤ j.val → j.val < colStart i.val + 16 →
    j.val + 15 - i.val < 31 ∧ relWord i j = BitVec.ofNat 32 (j.val + 15 - i.val) := by decide +kernel

/-- The host's chain of selections: the bias of the last relative column below `n` that equals `r`. -/
def pick (b : BitVec 1) (r : BitVec 32) (f : ℕ → EReal) : ℕ → EReal
  | 0 => Ideal.ofBits .f32 0x00000000#32
  | n + 1 => Scalar.select (IntOp.andi b (IntOp.cmpi .eq r (BitVec.ofNat 32 n))) (f n) (pick b r f n)

theorem cmp_col : ∀ d n : Fin 31, IntOp.andi 1#1 (IntOp.cmpi .eq (BitVec.ofNat 32 d.val) (BitVec.ofNat 32 n.val))
    = if d = n then 1#1 else 0#1 := by decide +kernel

theorem pick_eq (f : ℕ → EReal) (d : Fin 31) : ∀ n, n ≤ 31 → d.val < n → pick 1#1 (BitVec.ofNat 32 d.val) f n = f d.val
  | n + 1, hn, hd => by
    unfold pick
    rw [cmp_col d ⟨n, by omega⟩]
    by_cases h : d = ⟨n, by omega⟩
    · rw [if_pos h, h]; rfl
    · rw [if_neg h]
      exact pick_eq f d n (by omega) (by rcases Nat.lt_succ_iff_lt_or_eq.1 hd with h' | h'; exacts [h', absurd (Fin.ext h') h])

variable (m : (ℓ : Loc nD τ sig) → Buf (Elt Ideal) ℓ) (c : Dev nD)

theorem keys_row (b : Fin 2) (r : Fin 256) (l : Fin 1024) : (V m c main_v1 : FVec Ideal S2x256x1024 .bf16) (ix3 b r l)
    = (m ((c : Thread nD τ).loc main_arg3) : FVec Ideal S2x256x16x64 .f32) (ix4 b r ⟨l.val / 64, by omega⟩ ⟨l.val % 64, by omega⟩) := by
  unfold V
  after_reads_at
  rfl

theorem values_row (b : Fin 2) (r : Fin 256) (l : Fin 1024) : (V m c main_v3 : FVec Ideal S2x256x1024 .bf16) (ix3 b r l)
    = (m ((c : Thread nD τ).loc main_arg4) : FVec Ideal S2x256x16x64 .f32) (ix4 b r ⟨l.val / 64, by omega⟩ ⟨l.val % 64, by omega⟩) := by
  unfold V
  after_reads_at
  rfl

theorem weights_at (j : S1024x1024.Idx) : (V m c main_v301 : FVec Ideal S1024x1024 .bf16) j
    = (m ((c : Thread nD τ).loc main_arg8) : FVec Ideal S1024x1024 .f32) j := by
  unfold V
  after_reads_at
  rfl

theorem rest_at (j : S12288x1024.Idx) : (V m c main_v302 : FVec Ideal S12288x1024 .f32) j
    = (m ((c : Thread nD τ).loc main_arg6) : FVec Ideal S12288x1024 .f32) j := by
  unfold V
  after_reads_at
  rfl

/-- The host's operations up to the table of biases, in their order. -/
def firstOps : List (List (HloOp τ sig (Elt Ideal))) :=
  [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20, hostOps0_21, hostOps0_22, hostOps0_23, hostOps0_24,
    hostOps0_25, hostOps0_26, hostOps0_27, hostOps0_28, hostOps0_29, hostOps0_30, hostOps0_31, hostOps0_32,
    hostOps0_33, hostOps0_34, hostOps0_35, hostOps0_36, hostOps0_37, hostOps0_38, hostOps0_39, hostOps0_40,
    hostOps0_41, hostOps0_42, hostOps0_43, hostOps0_44, hostOps0_45, hostOps0_46, hostOps0_47, hostOps0_48,
    hostOps0_49, hostOps0_50, hostOps0_51, hostOps0_52, hostOps0_53, hostOps0_54, hostOps0_55, hostOps0_56,
    hostOps0_57, hostOps0_58, hostOps0_59, hostOps0_60, hostOps0_61, hostOps0_62, hostOps0_63, hostOps0_64,
    hostOps0_65]

/-- The contents that the last operations of the host start from. -/
theorem last_part (b : Ref sig .tc) :
    V m c b = StableHlo.after hostOps0_66 (StableHlo.after firstOps.flatten fun b => m (c, b)) b := by
  show StableHlo.after (List.flatten (firstOps ++ [hostOps0_66])) _ _ = _
  rw [List.flatten_append, StableHlo.after_append, List.flatten_singleton]

theorem at_row (f : FVec Ideal S16x15x64x64 .f32) (h : Fin 16) (w j : Fin 64) {y y' : Fin 15} (hy : y.val = y'.val) :
    f (ix4 h y w j) = f (ix4 h y' w j) := by
  rw [Fin.ext hy]

set_option maxHeartbeats 2000000 in
theorem table_of_part (U : Valuation τ sig (Elt Ideal)) (v : Fin 8) (h : Fin 16) (w : Fin 64) (n : Fin 512) :
    (StableHlo.after hostOps0_66 U main_v300 : FVec Ideal S8x16x64x512 .f32) (ix4 v h w n)
      = (U main_v281 : FVec Ideal S16x15x64x64 .f32) (ix4 h ⟨v.val + n.val / 64, by omega⟩ w ⟨n.val % 64, by omega⟩) := by
  after_reads_at
  after_reads_at
  repeat' split
  all_goals exact at_row _ h w _ (by simp only [] <;> omega)

theorem bias_of_part (U : Valuation τ sig (Elt Ideal)) :
    StableHlo.after hostOps0_66 U main_v281 = U main_v281 := by
  after_results

set_option maxHeartbeats 4000000 in
/-- The biases of every relative row, before they are cut into windows. -/
theorem bias_at (h : Fin 16) (y : Fin 15) (i j : Fin 64) :
    (V m c main_v281 : FVec Ideal S16x15x64x64 .f32) (ix4 h y i j)
      = Scalar.select (insideWord i j) (pick (insideWord i j) (relWord i j)
          (fun n => if hn : n < 31 then (m ((c : Thread nD τ).loc main_arg5) : FVec Ideal S16x15x31 .f32) (ix3 h y ⟨n, hn⟩) else 0) 31)
          (Ideal.ofBits .f32 0xFF800000#32) := by
  unfold V
  after_reads_at
  rfl

end Cert.Na

end
-- ==== Proof.NaTable.lean ====
/-
  The table of biases as the attention reads it: a relative row's and column's bias inside the window, minus infinity
  outside it.
-/
module

public import proofs.«01_k».proof.Proof.NaHost

@[expose] public section

set_option maxRecDepth 16384

noncomputable section

namespace Cert.Na

open Cert.KernelIdeal Cert.KernelIdeal.Gen Idealize.ShloMosaic Idealize.ShloMosaic.TcCoe

variable (m : (ℓ : Loc nD τ sig) → Buf (Elt Ideal) ℓ) (c : Dev nD)

theorem mask_word : Ideal.ofBits .f32 0xFF800000#32 = (⊥ : EReal) := by
  simp [Ideal.ofBits, Ideal.ieee]

theorem table_at (v : Fin 8) (h : Fin 16) (w : Fin 64) (n : Fin 512) :
    (V m c main_v300 : FVec Ideal S8x16x64x512 .f32) (ix4 v h w n)
      = (V m c main_v281 : FVec Ideal S16x15x64x64 .f32) (ix4 h ⟨v.val + n.val / 64, by omega⟩ w ⟨n.val % 64, by omega⟩) := by
  rw [last_part, table_of_part, last_part m c main_v281, bias_of_part]

/-- Outside the window the table is minus infinity. -/
theorem table_out (v : Fin 8) (h : Fin 16) (w : Fin 64) (n : Fin 512)
    (hn : ¬(colStart w.val ≤ n.val % 64 ∧ n.val % 64 < colStart w.val + 16)) :
    (V m c main_v300 : FVec Ideal S8x16x64x512 .f32) (ix4 v h w n) = (⊥ : EReal) := by
  rw [table_at, bias_at, insideWord_eq, if_neg hn]
  exact mask_word

/-- Inside the window the table is the bias of the key's row and column relative to the query. -/
theorem table_in (v : Fin 8) (h : Fin 16) (w : Fin 64) (n : Fin 512)
    (hn : colStart w.val ≤ n.val % 64 ∧ n.val % 64 < colStart w.val + 16) (y : Fin 15) (x : Fin 31)
    (hy : y.val = v.val + n.val / 64) (hx : x.val = n.val % 64 + 15 - w.val) :
    (V m c main_v300 : FVec Ideal S8x16x64x512 .f32) (ix4 v h w n)
      = (m ((c : Thread nD τ).loc main_arg5) : FVec Ideal S16x15x31 .f32) (ix3 h y x) := by
  have hr := (relWord_eq w ⟨n.val % 64, by omega⟩ hn.1 hn.2).2
  rw [table_at, bias_at, insideWord_eq, if_pos hn, hr]
  show pick 1#1 (BitVec.ofNat 32 (n.val % 64 + 15 - w.val)) _ 31 = _
  rw [← hx, pick_eq _ x 31 le_rfl x.isLt, dif_pos x.isLt]
  rw [show y = ⟨v.val + n.val / 64, by omega⟩ from Fin.ext hy]

end Cert.Na

end
-- ==== Proof.NaGrid.lean ====
/-
  Which part of each array a grid point of the neighbourhood attention stages: batch `b`'s row `r` of queries, the
  batch's whole grid of keys and values, its context, the biases of row `r`'s window, and the batch's modulation.
-/
module

public import proofs.«01_k».proof.Proof.NaHead
public import proofs.«01_k».proof.Proof.NaTable

@[expose] public section

set_option maxRecDepth 16384

noncomputable section

namespace Cert.Na

open Cert.KernelIdeal Cert.KernelIdeal.Gen Idealize.ShloMosaic Idealize.ShloMosaic.TcCoe

/-- The batch of a grid point. -/
abbrev batchOf (t : Fin cfg0.N) : Fin 2 := grid0.coords t 0

/-- The row of queries of a grid point. -/
abbrev rowOf (t : Fin cfg0.N) : Fin 64 := grid0.coords t 1

theorem index_row : ∀ t : Fin cfg0.N,
    (win0_0.index t 0 = 64 + (batchOf t).val * 64 + (rowOf t).val ∧ win0_0.index t 1 = 0)
    ∧ (win0_6.index t 0 = 64 + (batchOf t).val * 64 + (rowOf t).val ∧ win0_6.index t 1 = 0)
    ∧ (win0_9.index t 0 = 64 + (batchOf t).val * 64 + (rowOf t).val ∧ win0_9.index t 1 = 0) :=
  (by decide +kernel : ∀ t : Fin grid0.N, _)

theorem index_batch : ∀ t : Fin cfg0.N,
    (win0_1.index t 0 = 1 + (batchOf t).val ∧ win0_1.index t 1 = 0)
    ∧ (win0_2.index t 0 = 1 + (batchOf t).val ∧ win0_2.index t 1 = 0)
    ∧ (win0_3.index t 0 = (batchOf t).val ∧ win0_3.index t 1 = 0 ∧ win0_3.index t 2 = 0)
    ∧ (win0_4.index t 0 = (batchOf t).val ∧ win0_4.index t 1 = 0 ∧ win0_4.index t 2 = 0)
    ∧ (win0_7.index t 0 = 1 + (batchOf t).val ∧ win0_7.index t 1 = 0 ∧ win0_7.index t 2 = 0)
    ∧ (win0_8.index t 0 = 0 ∧ win0_8.index t 1 = 0) :=
  (by decide +kernel : ∀ t : Fin grid0.N, _)

/-- The table of biases that the window of row `r` takes. -/
abbrev variant (r : Fin 64) : Fin 8 := ⟨rowStart r.val + 7 - r.val, by unfold rowStart; omega⟩

theorem index_bias : ∀ t : Fin cfg0.N,
    win0_5.index t 0 = (variant (rowOf t)).val ∧ win0_5.index t 1 = 0 ∧ win0_5.index t 2 = 0 ∧ win0_5.index t 3 = 0 :=
  (by decide +kernel : ∀ t : Fin grid0.N, _)

theorem startWord_eq (i : grid0.Coords) : startWord i = 64 * rowStart (i 1).val := by
  have h : ∀ r : Fin 64, BitVec.toNat (Scalar.indexCast (Scalar.muli (Scalar.minsi (56#32) (Scalar.maxsi (0#32)
    (Scalar.subi (BitVec.ofNat 32 r.val) 4#32))) 64#32)) = 64 * rowStart r.val := by decide
  exact h (i 1)

/-- Batch `b`'s query row `r` and column `w`, among all tokens. -/
abbrev tokRow (b : Fin 2) (r w : Fin 64) : Fin 12288 := ⟨4096 + (b.val * 4096 + r.val * 64 + w.val), by omega⟩

/-- Batch `b`'s latent token `n`, among all tokens. -/
abbrev tok (b : Fin 2) (n : Fin 4096) : Fin 12288 := ⟨(1 + b.val) * 4096 + n.val, by omega⟩

/-- Segment `1 + b`. -/
abbrev segOf (b : Fin 2) : Fin 8 := ⟨1 + b.val, by omega⟩

variable (m : (ℓ : Loc nD τ sig) → Buf (Elt Ideal) ℓ) (c : Dev nD) (t : Fin cfg0.N)

theorem block0 (a : Fin 64) (l : Fin 1024) : (iblk m c 0 t : Vec Ideal S64x1024 .bf16) (ix2 a l)
    = (m ((c : Thread nD τ).loc main_arg0) : FVec Ideal S12288x1024 .bf16) (ix2 (tokRow (batchOf t) (rowOf t) a) l) := by
  obtain ⟨⟨h0, h1⟩, -⟩ := index_row t
  unfold iblk
  rw [View.read_apply]
  show V m c main_arg0 _ = _
  rw [V_main_arg0]
  congr 1
  funext x
  apply Fin.ext
  match x with
  | ⟨0, _⟩ => show win0_0.index t 0 * 64 + 1 * a.val = 4096 + _; rw [h0]; omega
  | ⟨1, _⟩ => show win0_0.index t 1 * 1024 + 1 * l.val = l.val; rw [h1]; omega

theorem block6 (a : Fin 64) (l : Fin 1024) : (iblk m c 6 t : Vec Ideal S64x1024 .f32) (ix2 a l)
    = (m ((c : Thread nD τ).loc main_arg6) : FVec Ideal S12288x1024 .f32) (ix2 (tokRow (batchOf t) (rowOf t) a) l) := by
  obtain ⟨-, ⟨h0, h1⟩, -⟩ := index_row t
  unfold iblk
  rw [View.read_apply]
  show V m c main_arg6 _ = _
  rw [V_main_arg6]
  congr 1
  funext x
  apply Fin.ext
  match x with
  | ⟨0, _⟩ => show win0_6.index t 0 * 64 + 1 * a.val = 4096 + _; rw [h0]; omega
  | ⟨1, _⟩ => show win0_6.index t 1 * 1024 + 1 * l.val = l.val; rw [h1]; omega

theorem block1 (n : Fin 4096) (l : Fin 1024) : (iblk m c 1 t : Vec Ideal S4096x1024 .bf16) (ix2 n l)
    = (m ((c : Thread nD τ).loc main_arg1) : FVec Ideal S12288x1024 .bf16) (ix2 (tok (batchOf t) n) l) := by
  obtain ⟨⟨h0, h1⟩, -⟩ := index_batch t
  unfold iblk
  rw [View.read_apply]
  show V m c main_arg1 _ = _
  rw [V_main_arg1]
  congr 1
  funext x
  apply Fin.ext
  match x with
  | ⟨0, _⟩ => show win0_1.index t 0 * 4096 + 1 * n.val = _ * 4096 + n.val; rw [h0]; omega
  | ⟨1, _⟩ => show win0_1.index t 1 * 1024 + 1 * l.val = l.val; rw [h1]; omega

theorem block2 (n : Fin 4096) (l : Fin 1024) : (iblk m c 2 t : Vec Ideal S4096x1024 .bf16) (ix2 n l)
    = (m ((c : Thread nD τ).loc main_arg2) : FVec Ideal S12288x1024 .bf16) (ix2 (tok (batchOf t) n) l) := by
  obtain ⟨-, ⟨h0, h1⟩, -⟩ := index_batch t
  unfold iblk
  rw [View.read_apply]
  show V m c main_arg2 _ = _
  rw [V_main_arg2]
  congr 1
  funext x
  apply Fin.ext
  match x with
  | ⟨0, _⟩ => show win0_2.index t 0 * 4096 + 1 * n.val = _ * 4096 + n.val; rw [h0]; omega
  | ⟨1, _⟩ => show win0_2.index t 1 * 1024 + 1 * l.val = l.val; rw [h1]; omega

theorem block3 (n : Fin 256) (h : Fin 16) (d : Fin 64) : (iblk m c 3 t : Vec Ideal S1x256x1024 .bf16) (ix3 0 n (lane h d))
    = (m ((c : Thread nD τ).loc main_arg3) : FVec Ideal S2x256x16x64 .f32) (ix4 (batchOf t) n h d) := by
  obtain ⟨-, -, ⟨h0, h1, h2⟩, -⟩ := index_batch t
  unfold iblk
  rw [View.read_apply]
  refine (congrArg (V m c main_v1) (?_ : _ = ix3 (batchOf t) n (lane h d))).trans ((keys_row m c _ _ _).trans ?_)
  · funext x
    apply Fin.ext
    match x with
    | ⟨0, _⟩ => show win0_3.index t 0 * 1 + 1 * 0 = (batchOf t).val; rw [h0]; omega
    | ⟨1, _⟩ => show win0_3.index t 1 * 256 + 1 * n.val = n.val; rw [h1]; omega
    | ⟨2, _⟩ => show win0_3.index t 2 * 1024 + 1 * (lane h d).val = (lane h d).val; rw [h2]; omega
  · rw [show (⟨(lane h d).val / 64, by omega⟩ : Fin 16) = h from Fin.ext (by simp only []; omega),
      show (⟨(lane h d).val % 64, by omega⟩ : Fin 64) = d from Fin.ext (by simp only []; omega)]

theorem block4 (n : Fin 256) (h : Fin 16) (d : Fin 64) : (iblk m c 4 t : Vec Ideal S1x256x1024 .bf16) (ix3 0 n (lane h d))
    = (m ((c : Thread nD τ).loc main_arg4) : FVec Ideal S2x256x16x64 .f32) (ix4 (batchOf t) n h d) := by
  obtain ⟨-, -, -, ⟨h0, h1, h2⟩, -⟩ := index_batch t
  unfold iblk
  rw [View.read_apply]
  refine (congrArg (V m c main_v3) (?_ : _ = ix3 (batchOf t) n (lane h d))).trans ((values_row m c _ _ _).trans ?_)
  · funext x
    apply Fin.ext
    match x with
    | ⟨0, _⟩ => show win0_4.index t 0 * 1 + 1 * 0 = (batchOf t).val; rw [h0]; omega
    | ⟨1, _⟩ => show win0_4.index t 1 * 256 + 1 * n.val = n.val; rw [h1]; omega
    | ⟨2, _⟩ => show win0_4.index t 2 * 1024 + 1 * (lane h d).val = (lane h d).val; rw [h2]; omega
  · rw [show (⟨(lane h d).val / 64, by omega⟩ : Fin 16) = h from Fin.ext (by simp only []; omega),
      show (⟨(lane h d).val % 64, by omega⟩ : Fin 64) = d from Fin.ext (by simp only []; omega)]

theorem block5 (h : Fin 16) (a : Fin 64) (n : Fin 512) : (iblk m c 5 t : Vec Ideal S1x16x64x512 .f32) (ix4 0 h a n)
    = (V m c main_v300 : FVec Ideal S8x16x64x512 .f32) (ix4 (variant (rowOf t)) h a n) := by
  obtain ⟨h0, h1, h2, h3⟩ := index_bias t
  unfold iblk
  rw [View.read_apply]
  refine congrArg (V m c main_v300) (?_ : _ = ix4 (variant (rowOf t)) h a n)
  funext x
  apply Fin.ext
  match x with
  | ⟨0, _⟩ => show win0_5.index t 0 * 1 + 1 * 0 = _; rw [h0]; simp
  | ⟨1, _⟩ => show win0_5.index t 1 * 16 + 1 * h.val = h.val; rw [h1]; omega
  | ⟨2, _⟩ => show win0_5.index t 2 * 64 + 1 * a.val = a.val; rw [h2]; omega
  | ⟨3, _⟩ => show win0_5.index t 3 * 512 + 1 * n.val = n.val; rw [h3]; omega

theorem block7 (g : Fin 6) (n : Fin 1024) : (iblk m c 7 t : Vec Ideal S1x6x1024 .f32) (ix3 0 g n)
    = (m ((c : Thread nD τ).loc main_arg7) : FVec Ideal S8x6x1024 .f32) (ix3 (segOf (batchOf t)) g n) := by
  obtain ⟨-, -, -, -, ⟨h0, h1, h2⟩, -⟩ := index_batch t
  unfold iblk
  rw [View.read_apply]
  show V m c main_arg7 _ = _
  rw [V_main_arg7]
  congr 1
  funext x
  apply Fin.ext
  match x with
  | ⟨0, _⟩ => show win0_7.index t 0 * 1 + 1 * 0 = 1 + _; rw [h0]; omega
  | ⟨1, _⟩ => show win0_7.index t 1 * 6 + 1 * g.val = g.val; rw [h1]; omega
  | ⟨2, _⟩ => show win0_7.index t 2 * 1024 + 1 * n.val = n.val; rw [h2]; omega

theorem block8 (l n : Fin 1024) : (iblk m c 8 t : Vec Ideal S1024x1024 .bf16) (ix2 l n)
    = (m ((c : Thread nD τ).loc main_arg8) : FVec Ideal S1024x1024 .f32) (ix2 l n) := by
  obtain ⟨-, -, -, -, -, ⟨h0, h1⟩⟩ := index_batch t
  unfold iblk
  rw [View.read_apply]
  refine (congrArg (V m c main_v301) (?_ : _ = ix2 l n)).trans (weights_at m c _)
  funext x
  apply Fin.ext
  match x with
  | ⟨0, _⟩ => show win0_8.index t 0 * 1024 + 1 * l.val = l.val; rw [h0]; omega
  | ⟨1, _⟩ => show win0_8.index t 1 * 1024 + 1 * n.val = n.val; rw [h1]; omega

end Cert.Na

end
-- ==== Proof.NaIdx.lean ====
/-
  The reference's indices: which row, which column and which entry of the bias table each of a query's 128 window keys
  is, as the printed program computes them, and what the gathers read there.
-/
module

public import proofs.«01_k».proof.Proof.Gen.ReferenceIdeal.Read
public import proofs.«01_k».proof.Proof.NaPure
public import Idealize.ShloMosaic.Lib.Pointwise

@[expose] public section

noncomputable section

namespace Cert.Na

open Cert.ReferenceIdeal Cert.ReferenceIdeal.Read Idealize.ShloMosaic

/-- The integer clip of a position less an offset, at each of the 64 positions. -/
theorem clip_row : ∀ r : Fin 64, Scalar.minsi (56#32) (Scalar.maxsi (0#32) (Scalar.subi (BitVec.ofNat 32 r.val) 4#32))
    = BitVec.ofNat 32 (rowStart r.val) := by decide

theorem clip_col : ∀ r : Fin 64, Scalar.minsi (48#32) (Scalar.maxsi (0#32) (Scalar.subi (BitVec.ofNat 32 r.val) 8#32))
    = BitVec.ofNat 32 (colStart r.val) := by decide

theorem row_word (r : Fin 64) (n : Fin 128) :
    val_main_v31 (F := Ideal) (ix2 r n) = BitVec.ofNat 32 (rowStart r.val + n.val / 16) := by
  unfold val_main_v31 val_main_v30 val_main_v29 val_main_v19 val_main_v18 val_main_v17 val_main_v16 val_main_v15
    val_main_v14 val_main_v13 val_main_call0_v4 val_main_call0_v3 val_main_call0_v2 val_main_call0_v1 val_main_call0_v0
    val_main_v12 val_main_v11 val_main_v9 val_main_c val_main_c_0 val_main_c_1
  pointwise
  have h := clip_row r
  simp only [Scalar.minsi, Scalar.maxsi, Scalar.subi, id, constantI] at h ⊢
  rw [h, BitVec.ofNat_add]
  rfl

theorem col_word (w : Fin 64) (n : Fin 128) :
    val_main_v34 (F := Ideal) (ix2 w n) = BitVec.ofNat 32 (colStart w.val + n.val % 16) := by
  unfold val_main_v34 val_main_v33 val_main_v32 val_main_v28 val_main_v27 val_main_v26 val_main_v25 val_main_v24
    val_main_v23 val_main_v22 val_main_call1_v4 val_main_call1_v3 val_main_call1_v2 val_main_call1_v1 val_main_call1_v0
    val_main_v21 val_main_v20 val_main_v10 val_main_c_2 val_main_c_3 val_main_c_4
  pointwise
  have h := clip_col w
  simp only [Scalar.minsi, Scalar.maxsi, Scalar.subi, id, constantI] at h ⊢
  rw [h, BitVec.ofNat_add]
  rfl

theorem rowStart_lt (r : Fin 64) (n : Fin 128) : rowStart r.val + n.val / 16 < 64 := by
  unfold rowStart; omega

theorem colStart_lt (w : Fin 64) (n : Fin 128) : colStart w.val + n.val % 16 < 64 := by
  unfold colStart; omega

theorem biasRow_lt (r : Fin 64) (n : Fin 128) : rowStart r.val + n.val / 16 + 7 - r.val < 15 := by
  unfold rowStart; omega

theorem biasCol_lt (w : Fin 64) (n : Fin 128) : colStart w.val + n.val % 16 + 15 - w.val < 31 := by
  unfold colStart; omega

theorem biasRow_word (r : Fin 64) (n : Fin 128) :
    val_main_v41 (F := Ideal) (ix2 r n) = BitVec.ofNat 32 (rowStart r.val + n.val / 16 + 7 - r.val) := by
  unfold val_main_v41 val_main_v40 val_main_v39 val_main_v38 val_main_v37 val_main_v36 val_main_v35 val_main_v9
    val_main_c_5 val_main_c_6
  pointwise
  rw [row_word]
  have h1 := rowStart_lt r n
  have h2 : r.val ≤ rowStart r.val + n.val / 16 + 7 := by unfold rowStart; omega
  generalize rowStart r.val + n.val / 16 = m at *
  apply BitVec.eq_of_toNat_eq
  simp [IntOp.addi, IntOp.subi]
  omega

theorem biasCol_word (w : Fin 64) (n : Fin 128) :
    val_main_v48 (F := Ideal) (ix2 w n) = BitVec.ofNat 32 (colStart w.val + n.val % 16 + 15 - w.val) := by
  unfold val_main_v48 val_main_v47 val_main_v46 val_main_v45 val_main_v44 val_main_v43 val_main_v42 val_main_v10
    val_main_c_7 val_main_c_8
  pointwise
  rw [col_word]
  have h1 := colStart_lt w n
  have h2 : w.val ≤ colStart w.val + n.val % 16 + 15 := by unfold colStart; omega
  generalize colStart w.val + n.val % 16 = m at *
  apply BitVec.eq_of_toNat_eq
  simp [IntOp.addi, IntOp.subi]
  omega

/-- A small natural number's word is not negative, so the wrap of a negative index leaves it. -/
theorem wrap_word (c : BitVec 32) {m : Nat} (hm : m < 64) :
    Scalar.select (IntOp.cmpi .slt (BitVec.ofNat 32 m) 0#32) (IntOp.addi (BitVec.ofNat 32 m) c) (BitVec.ofNat 32 m)
      = BitVec.ofNat 32 m := by
  have h : ∀ m : Fin 64, IntOp.cmpi .slt (BitVec.ofNat 32 m.val) 0#32 ≠ 1#1 := by decide
  exact if_neg (h ⟨m, hm⟩)

theorem word_toNat {m : Nat} (hm : m < 64) : (BitVec.ofNat 32 m).toInt.toNat = m := by
  have h : ∀ m : Fin 64, (BitVec.ofNat 32 m.val).toInt.toNat = m.val := by decide
  exact h ⟨m, hm⟩

theorem gather_window {α : Type} (x : S2x64x64x16x64.Idx → α) (idx : IVec S64x64x128x2 32) (b : Fin 2) (r w : Fin 64)
    (n : Fin 128) (h : Fin 16) (e : Fin 64) {R C : Nat}
    (hR : (idx (ix4 r w n 0)).toInt.toNat = R) (hC : (idx (ix4 r w n 1)).toInt.toNat = C) (hR' : R < 64) (hC' : C < 64) :
    Host.gather gather_S2x64x64x16x64_S64x64x128x2_S2x64x64x128x16x64_045_12_n_n_12_3_2111664 x idx (ix6 b r w n h e)
      = x (ix5 b ⟨R, hR'⟩ ⟨C, hC'⟩ h e) := by
  unfold Host.gather
  congr 1
  funext a
  apply Fin.ext
  subst hR hC
  match a with
  | ⟨0, _⟩ =>
    show GatherDims.start (s := S2x64x64x16x64) _ _ _ (0 : Fin 5) + GatherDims.batchCoord (s := S2x64x64x16x64) _ _ (0 : Fin 5)
      + GatherDims.offCoord (s := S2x64x64x16x64) _ _ (0 : Fin 5) = _
    rw [GatherDims.start, dif_neg (by decide), GatherDims.batchCoord, dif_neg (by decide), GatherDims.offCoord,
      dif_pos (by decide), Nat.zero_add]
    rfl
  | ⟨1, _⟩ =>
    show GatherDims.start (s := S2x64x64x16x64) _ _ _ (1 : Fin 5) + GatherDims.batchCoord (s := S2x64x64x16x64) _ _ (1 : Fin 5)
      + GatherDims.offCoord (s := S2x64x64x16x64) _ _ (1 : Fin 5) = _
    rw [GatherDims.start, dif_pos (by decide), GatherDims.batchCoord, dif_neg (by decide), GatherDims.offCoord,
      dif_neg (by decide), Nat.add_zero,
      show GatherDims.siIdx _ _ _ = (ix4 r w n 0 : S64x64x128x2.Idx) from by funext b; fin_cases b <;> rfl]
    exact min_eq_left (Nat.le_sub_one_of_lt (b := 64) hR')
  | ⟨2, _⟩ =>
    show GatherDims.start (s := S2x64x64x16x64) _ _ _ (2 : Fin 5) + GatherDims.batchCoord (s := S2x64x64x16x64) _ _ (2 : Fin 5)
      + GatherDims.offCoord (s := S2x64x64x16x64) _ _ (2 : Fin 5) = _
    rw [GatherDims.start, dif_pos (by decide), GatherDims.batchCoord, dif_neg (by decide), GatherDims.offCoord,
      dif_neg (by decide), Nat.add_zero,
      show GatherDims.siIdx _ _ _ = (ix4 r w n 1 : S64x64x128x2.Idx) from by funext b; fin_cases b <;> rfl]
    exact min_eq_left (Nat.le_sub_one_of_lt (b := 64) hC')
  | ⟨3, _⟩ =>
    show GatherDims.start (s := S2x64x64x16x64) _ _ _ (3 : Fin 5) + GatherDims.batchCoord (s := S2x64x64x16x64) _ _ (3 : Fin 5)
      + GatherDims.offCoord (s := S2x64x64x16x64) _ _ (3 : Fin 5) = _
    rw [GatherDims.start, dif_neg (by decide), GatherDims.batchCoord, dif_neg (by decide), GatherDims.offCoord,
      dif_pos (by decide), Nat.zero_add]
    rfl
  | ⟨4, _⟩ =>
    show GatherDims.start (s := S2x64x64x16x64) _ _ _ (4 : Fin 5) + GatherDims.batchCoord (s := S2x64x64x16x64) _ _ (4 : Fin 5)
      + GatherDims.offCoord (s := S2x64x64x16x64) _ _ (4 : Fin 5) = _
    rw [GatherDims.start, dif_neg (by decide), GatherDims.batchCoord, dif_neg (by decide), GatherDims.offCoord,
      dif_pos (by decide), Nat.zero_add]
    rfl

theorem gather_bias {α : Type} (x : S16x15x31.Idx → α) (idx : IVec S64x64x128x2 32) (h : Fin 16) (r w : Fin 64)
    (n : Fin 128) {R C : Nat}
    (hR : (idx (ix4 r w n 0)).toInt.toNat = R) (hC : (idx (ix4 r w n 1)).toInt.toNat = C) (hR' : R < 15) (hC' : C < 31) :
    Host.gather gather_S16x15x31_S64x64x128x2_S16x64x64x128_0_12_n_n_12_3_1611 x idx (ix4 h r w n)
      = x (ix3 h ⟨R, hR'⟩ ⟨C, hC'⟩) := by
  unfold Host.gather
  congr 1
  funext a
  apply Fin.ext
  subst hR hC
  match a with
  | ⟨0, _⟩ =>
    show GatherDims.start (s := S16x15x31) _ _ _ (0 : Fin 3) + GatherDims.batchCoord (s := S16x15x31) _ _ (0 : Fin 3)
      + GatherDims.offCoord (s := S16x15x31) _ _ (0 : Fin 3) = _
    rw [GatherDims.start, dif_neg (by decide), GatherDims.batchCoord, dif_neg (by decide), GatherDims.offCoord,
      dif_pos (by decide), Nat.zero_add]
    rfl
  | ⟨1, _⟩ =>
    show GatherDims.start (s := S16x15x31) _ _ _ (1 : Fin 3) + GatherDims.batchCoord (s := S16x15x31) _ _ (1 : Fin 3)
      + GatherDims.offCoord (s := S16x15x31) _ _ (1 : Fin 3) = _
    rw [GatherDims.start, dif_pos (by decide), GatherDims.batchCoord, dif_neg (by decide), GatherDims.offCoord,
      dif_neg (by decide), Nat.add_zero,
      show GatherDims.siIdx _ _ _ = (ix4 r w n 0 : S64x64x128x2.Idx) from by funext b; fin_cases b <;> rfl]
    exact min_eq_left (Nat.le_sub_one_of_lt (b := 15) hR')
  | ⟨2, _⟩ =>
    show GatherDims.start (s := S16x15x31) _ _ _ (2 : Fin 3) + GatherDims.batchCoord (s := S16x15x31) _ _ (2 : Fin 3)
      + GatherDims.offCoord (s := S16x15x31) _ _ (2 : Fin 3) = _
    rw [GatherDims.start, dif_pos (by decide), GatherDims.batchCoord, dif_neg (by decide), GatherDims.offCoord,
      dif_neg (by decide), Nat.add_zero,
      show GatherDims.siIdx _ _ _ = (ix4 r w n 1 : S64x64x128x2.Idx) from by funext b; fin_cases b <;> rfl]
    exact min_eq_left (Nat.le_sub_one_of_lt (b := 31) hC')

theorem key_words (r w : Fin 64) (n : Fin 128) :
    val_main_v65 (F := Ideal) (ix4 r w n 0) = BitVec.ofNat 32 (rowStart r.val + n.val / 16)
      ∧ val_main_v65 (F := Ideal) (ix4 r w n 1) = BitVec.ofNat 32 (colStart w.val + n.val % 16) := by
  unfold val_main_v65 val_main_v64 val_main_v63 val_main_v62 val_main_v61 val_main_v60 val_main_v55 val_main_v59
    val_main_v58 val_main_v57 val_main_v56 val_main_v54 val_main_v53 val_main_v52 val_main_v51 val_main_v50 val_main_v49
    val_main_c_9 val_main_c_10 val_main_c_11 val_main_c_12
  pointwise
  simp only [row_word, col_word]
  exact ⟨wrap_word _ (rowStart_lt r n), wrap_word _ (colStart_lt w n)⟩

theorem value_words (r w : Fin 64) (n : Fin 128) :
    val_main_v83 (F := Ideal) (ix4 r w n 0) = BitVec.ofNat 32 (rowStart r.val + n.val / 16)
      ∧ val_main_v83 (F := Ideal) (ix4 r w n 1) = BitVec.ofNat 32 (colStart w.val + n.val % 16) :=
  key_words r w n

theorem bias_words (r w : Fin 64) (n : Fin 128) :
    val_main_v101 (F := Ideal) (ix4 r w n 0) = BitVec.ofNat 32 (rowStart r.val + n.val / 16 + 7 - r.val)
      ∧ val_main_v101 (F := Ideal) (ix4 r w n 1) = BitVec.ofNat 32 (colStart w.val + n.val % 16 + 15 - w.val) := by
  unfold val_main_v101 val_main_v100 val_main_v99 val_main_v98 val_main_v97 val_main_v96 val_main_v91 val_main_v95
    val_main_v94 val_main_v93 val_main_v92 val_main_v90 val_main_v89 val_main_v88 val_main_v87 val_main_v86 val_main_v85
    val_main_c_17 val_main_c_18 val_main_c_19 val_main_c_20
  pointwise
  simp only [biasRow_word, biasCol_word]
  exact ⟨wrap_word _ ((biasRow_lt r n).trans (by decide)), wrap_word _ ((biasCol_lt w n).trans (by decide))⟩

/-- The row of query row `r`'s window key `n`. -/
abbrev keyRow (r : Fin 64) (n : Fin 128) : Fin 64 := ⟨_, rowStart_lt r n⟩

/-- The column of query column `w`'s window key `n`. -/
abbrev keyCol (w : Fin 64) (n : Fin 128) : Fin 64 := ⟨_, colStart_lt w n⟩

abbrev biasRow (r : Fin 64) (n : Fin 128) : Fin 15 := ⟨_, biasRow_lt r n⟩

abbrev biasCol (w : Fin 64) (n : Fin 128) : Fin 31 := ⟨_, biasCol_lt w n⟩

theorem key_apply (x1 : FVec Ideal S12288x1024 .bf16) (b : Fin 2) (r w : Fin 64) (n : Fin 128) (h : Fin 16) (e : Fin 64) :
    val_main_v66 (F := Ideal) x1 (ix6 b r w n h e) = val_main_v5 x1 (ix5 b (keyRow r n) (keyCol w n) h e) := by
  unfold val_main_v66
  obtain ⟨h0, h1⟩ := key_words r w n
  exact gather_window _ _ b r w n h e (by rw [h0, word_toNat (rowStart_lt r n)]) (by rw [h1, word_toNat (colStart_lt w n)]) _ _

theorem value_apply (x2 : FVec Ideal S12288x1024 .bf16) (b : Fin 2) (r w : Fin 64) (n : Fin 128) (h : Fin 16) (e : Fin 64) :
    val_main_v84 (F := Ideal) x2 (ix6 b r w n h e) = val_main_v8 x2 (ix5 b (keyRow r n) (keyCol w n) h e) := by
  unfold val_main_v84
  obtain ⟨h0, h1⟩ := value_words r w n
  exact gather_window _ _ b r w n h e (by rw [h0, word_toNat (rowStart_lt r n)]) (by rw [h1, word_toNat (colStart_lt w n)]) _ _

theorem bias_apply (x5 : FVec Ideal S16x15x31 .f32) (h : Fin 16) (r w : Fin 64) (n : Fin 128) :
    val_main_v102 (F := Ideal) x5 (ix4 h r w n) = x5 (ix3 h (biasRow r n) (biasCol w n)) := by
  unfold val_main_v102
  obtain ⟨h0, h1⟩ := bias_words r w n
  exact gather_bias _ _ h r w n (by rw [h0, word_toNat ((biasRow_lt r n).trans (by decide))])
    (by rw [h1, word_toNat ((biasCol_lt w n).trans (by decide))]) _ _

end Cert.Na

end
-- ==== Proof.NaRef.lean ====
/-
  The reference's value at an index: the softmax of the window's and the context's scores over the gathered values, the
  output projection and the gated residual.
-/
module

public import proofs.«01_k».proof.Proof.Gen.ReferenceIdeal.Read
public import proofs.«01_k».proof.Proof.NaPure
public import proofs.«01_k».proof.Proof.NaIdx

@[expose] public section

noncomputable section

namespace Cert.Na

open Cert.ReferenceIdeal Cert.ReferenceIdeal.Facts₀ Cert.ReferenceIdeal.Read Idealize.ShloMosaic

/-- Query `(b, r, w)`'s row of the flat arrays. -/
abbrev qRow (b : Fin 2) (r w : Fin 64) : Fin 12288 := ⟨4096 + (b.val * 4096 + r.val * 64 + w.val), by omega⟩

/-- Query `(b, r, w)`'s score with window key `n` in head `h`. -/
def scoreWin (q k : FVec Ideal S12288x1024 .bf16) (rpb : FVec Ideal S16x15x31 .f32) (b : Fin 2) (r w : Fin 64) (h : Fin 16)
    (n : Fin 128) : EReal :=
  (∑ e : Fin 64, q (ix2 (qRow b r w) (lane h e)) * k (ix2 (qRow b (keyRow r n) (keyCol w n)) (lane h e)))
    + rpb (ix3 h (biasRow r n) (biasCol w n))

/-- Query `(b, r, w)`'s score with context key `c` in head `h`. -/
def scoreCtx (q : FVec Ideal S12288x1024 .bf16) (kc : FVec Ideal S2x256x16x64 .f32) (b : Fin 2) (r w : Fin 64) (h : Fin 16)
    (c : Fin 256) : EReal :=
  ∑ e : Fin 64, q (ix2 (qRow b r w) (lane h e)) * kc (ix4 b c h e)

theorem win_apply (q k : FVec Ideal S12288x1024 .bf16) (rpb : FVec Ideal S16x15x31 .f32) (b : Fin 2) (r w : Fin 64)
    (h : Fin 16) (n : Fin 128) :
    val_main_v106 (F := Ideal) q k rpb (ix5 b h r w n) = scoreWin q k rpb b r w h n := by
  unfold val_main_v106 val_main_v105 val_main_v104 val_main_v103 scoreWin
  pointwise
  simp only [key_apply, bias_apply]
  unfold val_main_v2 val_main_v1 val_main_v0 val_main_v5 val_main_v4 val_main_v3
  pointwise

theorem ctx_apply (q : FVec Ideal S12288x1024 .bf16) (kc : FVec Ideal S2x256x16x64 .f32) (b : Fin 2) (r w : Fin 64)
    (h : Fin 16) (c : Fin 256) :
    val_main_v107 (F := Ideal) q kc (ix5 b h r w c) = scoreCtx q kc b r w h c := by
  unfold val_main_v107 val_main_v2 val_main_v1 val_main_v0 scoreCtx
  pointwise

theorem neg_inf : Ideal.ofBits .f32 0xFF800000#32 = (⊥ : EReal) := by
  simp [Ideal.ofBits, Ideal.ieee]

/-- The greatest of 384 scores, the first 128 of one kind and the last 256 of another. -/
theorem sup_parts (f : Fin 128 → EReal) (g : Fin 256 → EReal) :
    (Finset.univ.sup fun k : Fin 384 => if h : k.val < 128 then f ⟨k.val, h⟩ else g ⟨k.val - 128, by omega⟩)
      = max (Finset.univ.sup f) (Finset.univ.sup g) := by
  apply le_antisymm
  · refine Finset.sup_le fun k _ => ?_
    split
    · exact le_max_of_le_left (Finset.le_sup (f := f) (Finset.mem_univ _))
    · exact le_max_of_le_right (Finset.le_sup (f := g) (Finset.mem_univ _))
  · refine max_le (Finset.sup_le fun a _ => ?_) (Finset.sup_le fun a _ => ?_)
    · refine le_trans ?_ (Finset.le_sup (Finset.mem_univ (⟨a.val, by omega⟩ : Fin 384)))
      rw [dif_pos a.isLt]
    · refine le_trans ?_ (Finset.le_sup (Finset.mem_univ (⟨128 + a.val, by omega⟩ : Fin 384)))
      rw [dif_neg (by simp)]
      exact le_of_eq (congrArg g (Fin.ext (by simp)))

section
variable (q k v : FVec Ideal S12288x1024 .bf16) (kc vc : FVec Ideal S2x256x16x64 .f32) (rpb : FVec Ideal S16x15x31 .f32)

theorem scores_apply (b : Fin 2) (r w : Fin 64) (h : Fin 16) (n : Fin 384) :
    val_main_v108 (F := Ideal) q k kc rpb (ix5 b h r w n)
      = if h' : n.val < 128 then scoreWin q k rpb b r w h ⟨n.val, h'⟩ else scoreCtx q kc b r w h ⟨n.val - 128, by omega⟩ := by
  unfold val_main_v108
  pointwise
  simp only [win_apply, ctx_apply]

theorem scoresMax_fold (b : Fin 2) (r w : Fin 64) (h : Fin 16) :
   val_main_v109 (F := Ideal) q k kc rpb (ix4 b h r w)
      = (Finset.univ : Finset (Fin (S2x16x64x64x384.size 4))).fold (FloatOps.maximumf (F := Ideal) (φ := .f32)) (val_main_cst (F := Ideal) (Shape.Idx.first h_S_))
         (val_main_v108 (F := Ideal) q k kc rpb ∘ (by decide : S2x16x64x64x384.Reduces [4] S2x16x64x64).lift (ix4 b h r w)) := by
    unfold val_main_v109
    exact Host.reduce_eq_fold_single (α := Ideal .f32) (FloatOps.maximumf (F := Ideal) (φ := .f32)) _ _ _ (by decide : S2x16x64x64x384.Reduces [4] S2x16x64x64) _ _

theorem fold_peak (f : Fin 384 → EReal) :
    (Finset.univ).fold (FloatOps.maximumf (F := Ideal) (φ := .f32)) (⊥ : EReal) f = Finset.univ.sup f := rfl

theorem lift384 (b : Fin 2) (r w : Fin 64) (h : Fin 16) (n : Fin 384) :
    (by decide : S2x16x64x64x384.Reduces [4] S2x16x64x64).lift (ix4 b h r w) n = ix5 b h r w n := by
  funext a
  apply Fin.ext
  fin_cases a <;> rfl
theorem initial_max : val_main_cst (F := Ideal) (Shape.Idx.first h_S_) = (⊥ : EReal) := neg_inf
theorem scoresMax_apply (b : Fin 2) (r w : Fin 64) (h : Fin 16) :
   (val_main_v109 (F := Ideal) q k kc rpb (ix4 b h r w) : EReal)
      = Finset.univ.sup fun n : Fin 384 => (val_main_v108 (F := Ideal) q k kc rpb (ix5 b h r w n) : EReal) := by
  refine (scoresMax_fold q k kc rpb b r w h).trans ?_
  rw [initial_max]
  refine (fold_peak _).trans ?_
  refine congrArg (Finset.univ.sup) ?_
  funext n
  exact congrArg (val_main_v108 (F := Ideal) q k kc rpb) (lift384 b r w h n)

theorem peak_apply (b : Fin 2) (r w : Fin 64) (h : Fin 16) :
    val_main_v111 (F := Ideal) q k kc rpb (ix4 b h r w) = peak (scoreWin q k rpb b r w h) (scoreCtx q kc b r w h) := by
  rw [val_main_v111_apply]
  have hb : val_main_v110 (F := Ideal) (ix4 b h r w) = (⊥ : EReal) := neg_inf
  rw [hb, scoresMax_apply]
  simp only [scores_apply]
  rw [sup_parts]
  exact max_eq_right bot_le

theorem weight_apply (b : Fin 2) (r w : Fin 64) (h : Fin 16) (n : Fin 384) :
    val_main_v115 (F := Ideal) q k kc rpb (ix5 b h r w n)
      = if h' : n.val < 128
        then Ideal.exp (scoreWin q k rpb b r w h ⟨n.val, h'⟩ - peak (scoreWin q k rpb b r w h) (scoreCtx q kc b r w h))
        else Ideal.exp (scoreCtx q kc b r w h ⟨n.val - 128, by omega⟩ - peak (scoreWin q k rpb b r w h) (scoreCtx q kc b r w h)) := by
  unfold val_main_v115 val_main_v114 val_main_v113 val_main_v112
  pointwise
  simp only [scores_apply, peak_apply]
  split <;> rfl

theorem den_apply (b : Fin 2) (r w : Fin 64) (h : Fin 16) :
    val_main_v116 (F := Ideal) q k kc rpb (ix4 b h r w) = den (scoreWin q k rpb b r w h) (scoreCtx q kc b r w h) := by
  unfold val_main_v116 val_main_cst_22
  pointwise
  simp only [weight_apply]
  pointwise
  rfl

theorem att_apply (b : Fin 2) (r w : Fin 64) (h : Fin 16) (e : Fin 64) :
    val_main_v125 (F := Ideal) q k v kc vc rpb (ix5 b r w h e)
      = att (scoreWin q k rpb b r w h) (scoreCtx q kc b r w h)
          (fun n => v (ix2 (qRow b (keyRow r n) (keyCol w n)) (lane h e))) (fun c => vc (ix4 b c h e)) := by
  unfold val_main_v125 val_main_v124 val_main_v123 val_main_v122 val_main_v121 val_main_v120 val_main_v119 val_main_v118
    val_main_v117
  pointwise
  simp only [weight_apply, den_apply, value_apply]
  unfold val_main_v8 val_main_v7 val_main_v6 att
  pointwise
  exact congrArg _ (Finset.sum_congr rfl fun c _ => mul_comm _ _)

/-- The attention's output at query `(b, r, w)`, head `h`, lane `e`. -/
def attRow (b : Fin 2) (r w : Fin 64) (h : Fin 16) (e : Fin 64) : EReal :=
  att (scoreWin q k rpb b r w h) (scoreCtx q kc b r w h)
    (fun n => v (ix2 (qRow b (keyRow r n) (keyCol w n)) (lane h e))) (fun c => vc (ix4 b c h e))

variable (x : FVec Ideal S12288x1024 .f32) (m : FVec Ideal S8x6x1024 .f32) (wo : FVec Ideal S1024x1024 .f32)

/-- The rows after the first 4096 are the second piece's. -/
theorem joined_hi (z : FVec Ideal S4096x1024 .f32) (y : FVec Ideal S8192x1024 .f32) (i : Fin 12288) (j : Fin 8192)
    (hi : i.val = 4096 + j.val) (n : Fin 1024) :
    concatenate S12288x1024 0 [⟨S4096x1024, z⟩, ⟨S8192x1024, y⟩] concatenates_S4096x1024_S8192x1024_S12288x1024_d0
      (ix2 i n) = y (ix2 j n) := by
  pointwise
  refine (dif_neg (by omega)).trans ?_
  exact congrArg (fun j' => y (ix2 j' n)) (Fin.ext (by simp [hi]))

/-- What the reference leaves at query `(b, r, w)`'s row. -/
theorem ref_row (b : Fin 2) (r w : Fin 64) (n : Fin 1024) :
    val_main_v138 (F := Ideal) q k v kc vc rpb x m wo (ix2 (qRow b r w) n)
      = x (ix2 (qRow b r w) n) + m (ix3 ⟨1 + b.val, by omega⟩ 2 n)
          * ∑ l : Fin 1024, attRow q k v kc vc rpb b r w ⟨l.val / 64, by omega⟩ ⟨l.val % 64, by omega⟩ * wo (ix2 l n) := by
  have hv : val_main_v137 (F := Ideal) q k v kc vc rpb x m wo (ix2 ⟨b.val * 4096 + r.val * 64 + w.val, by omega⟩ n)
      = x (ix2 (qRow b r w) n) + m (ix3 ⟨1 + b.val, by omega⟩ 2 n)
          * ∑ l : Fin 1024, attRow q k v kc vc rpb b r w ⟨l.val / 64, by omega⟩ ⟨l.val % 64, by omega⟩ * wo (ix2 l n) := by
    unfold val_main_v137 val_main_v135 val_main_v134 val_main_v133 val_main_v132 val_main_v131
      val_main_v130 val_main_v129 val_main_v128 val_main_v127 val_main_v126
    pointwise
    simp only [att_apply]
    have hm : b.val * 4096 + (b.val * 4096 + r.val * 64 + w.val) % 4096 = b.val * 4096 + r.val * 64 + w.val := by omega
    simp only [hm]
    rfl
  rw [← hv]
  unfold val_main_v138
  generalize val_main_v137 (F := Ideal) q k v kc vc rpb x m wo = y
  generalize val_main_v136 (F := Ideal) x = z
  exact joined_hi z y _ _ rfl n

/-- The rows before the latent ones are left as they were. -/
theorem ref_head (i : Fin 12288) (hi : i.val < 4096) (n : Fin 1024) :
    val_main_v138 (F := Ideal) q k v kc vc rpb x m wo (ix2 i n) = x (ix2 i n) := by
  unfold val_main_v138
  generalize val_main_v137 (F := Ideal) q k v kc vc rpb x m wo = y
  unfold val_main_v136
  pointwise
  exact dif_pos hi

end

end Cert.Na

end
-- ==== Proof.NaMain.lean ====
/-
  The neighbourhood attention's array after the run is the reference's: the dense softmax over eight whole rows of keys,
  with the columns outside the window at minus infinity, is the softmax over the window.
-/
module

public import proofs.«01_k».proof.Proof.NaGrid
public import proofs.«01_k».proof.Proof.NaRef

@[expose] public section

set_option maxRecDepth 16384

noncomputable section

namespace Cert.Na

open Cert.KernelIdeal Cert.KernelIdeal.Gen Idealize.ShloMosaic Idealize.ShloMosaic.TcCoe

/-- The position of window key `n` of query column `a` among the keys of its eight rows. -/
def place (a : Fin 64) (n : Fin 128) : Fin 512 :=
  ⟨(n.val / 16) * 64 + (colStart a.val + n.val % 16), by unfold colStart; omega⟩

theorem place_injective (a : Fin 64) : Function.Injective (place a) := fun n n' h => by
  have h' : (n.val / 16) * 64 + (colStart a.val + n.val % 16) = (n'.val / 16) * 64 + (colStart a.val + n'.val % 16) :=
    congrArg Fin.val h
  have : colStart a.val ≤ 48 := by unfold colStart; omega
  exact Fin.ext (by omega)

theorem place_col (a : Fin 64) (n : Fin 128) : (place a n).val % 64 = colStart a.val + n.val % 16 := by
  have : colStart a.val ≤ 48 := by unfold colStart; omega
  show ((n.val / 16) * 64 + (colStart a.val + n.val % 16)) % 64 = _
  omega

theorem place_row (a : Fin 64) (n : Fin 128) : (place a n).val / 64 = n.val / 16 := by
  have : colStart a.val ≤ 48 := by unfold colStart; omega
  show ((n.val / 16) * 64 + (colStart a.val + n.val % 16)) / 64 = _
  omega

theorem not_placed (a : Fin 64) (n : Fin 512) (h : n ∉ Set.range (place a)) :
    ¬(colStart a.val ≤ n.val % 64 ∧ n.val % 64 < colStart a.val + 16) := fun hn => by
  refine h ⟨⟨(n.val / 64) * 16 + (n.val % 64 - colStart a.val), by omega⟩, Fin.ext ?_⟩
  show (((n.val / 64) * 16 + (n.val % 64 - colStart a.val)) / 16) * 64
    + (colStart a.val + ((n.val / 64) * 16 + (n.val % 64 - colStart a.val)) % 16) = n.val
  omega

variable (m : (ℓ : Loc nD τ sig) → Buf (Elt Ideal) ℓ) (c : Dev nD)

abbrev argQ : FVec Ideal S12288x1024 .bf16 := m ((c : Thread nD τ).loc main_arg0)
abbrev argK : FVec Ideal S12288x1024 .bf16 := m ((c : Thread nD τ).loc main_arg1)
abbrev argV : FVec Ideal S12288x1024 .bf16 := m ((c : Thread nD τ).loc main_arg2)
abbrev argKc : FVec Ideal S2x256x16x64 .f32 := m ((c : Thread nD τ).loc main_arg3)
abbrev argVc : FVec Ideal S2x256x16x64 .f32 := m ((c : Thread nD τ).loc main_arg4)
abbrev argB : FVec Ideal S16x15x31 .f32 := m ((c : Thread nD τ).loc main_arg5)
abbrev argX : FVec Ideal S12288x1024 .f32 := m ((c : Thread nD τ).loc main_arg6)
abbrev argM : FVec Ideal S8x6x1024 .f32 := m ((c : Thread nD τ).loc main_arg7)
abbrev argW : FVec Ideal S1024x1024 .f32 := m ((c : Thread nD τ).loc main_arg8)

/-- Everything that a score is computed from is real. -/
structure RealScores : Prop where
  q : ∀ i, Real' ((argQ m c) i)
  k : ∀ i, Real' ((argK m c) i)
  kc : ∀ i, Real' ((argKc m c) i)
  b : ∀ i, Real' ((argB m c) i)

variable {m c}

theorem head_eq (H : RealScores m c) (t : Fin cfg0.N) (h : Fin 16) (a e : Fin 64) :
    kernelHead (grid0.coords t) (iblk m c 0 t) (iblk m c 1 t) (iblk m c 2 t) (iblk m c 3 t) (iblk m c 4 t) (iblk m c 5 t) h a e
      = attRow (argQ m c) (argK m c) (argV m c) (argKc m c) (argVc m c) (argB m c) (batchOf t) (rowOf t) a h e := by
  have hkey : ∀ n : Fin 128, tok (batchOf t) ⟨startWord (grid0.coords t) + (place a n).val, by
      have := startWord_le (grid0.coords t); omega⟩ = qRow (batchOf t) (keyRow (rowOf t) n) (keyCol a n) := fun n => by
    apply Fin.ext
    have := startWord_eq (grid0.coords t)
    show (1 + (batchOf t).val) * 4096 + (startWord (grid0.coords t) + ((n.val / 16) * 64 + (colStart a.val + n.val % 16)))
      = 4096 + ((batchOf t).val * 4096 + (rowStart (rowOf t).val + n.val / 16) * 64 + (colStart a.val + n.val % 16))
    rw [this]
    show (1 + (batchOf t).val) * 4096 + (64 * rowStart (rowOf t).val + ((n.val / 16) * 64 + (colStart a.val + n.val % 16))) = _
    omega
  unfold kernelHead attRow
  simp only [block0, block1, block2, block3, block4, block5]
  refine dense_eq_window (place a) (place_injective a) _ (fun n => ?_) (fun n hn => ?_) (fun n => ?_) (fun n => ?_) (fun n => ?_)
  · unfold scoreWin
    rw [hkey]
    congr 1
    have hc := place_col a n
    have hr := place_row a n
    have : colStart a.val ≤ 48 := by unfold colStart; omega
    refine table_in m c _ h a _ ⟨by omega, by omega⟩ _ _ ?_ ?_
    · rw [hr]
      show rowStart (rowOf t).val + n.val / 16 + 7 - (rowOf t).val = rowStart (rowOf t).val + 7 - (rowOf t).val + n.val / 16
      unfold rowStart; omega
    · rw [hc]
  · rw [table_out m c _ h a n (not_placed a n hn), EReal.add_bot]
  · rw [hkey]
  · exact (Real'.sum _ fun d => (H.q _).mul (H.k _)).add (H.b _)
  · exact Real'.sum _ fun d => (H.q _).mul (H.kc _)

/-- What a grid point leaves in its block, read at a column and a lane, is the reference's row there. -/
theorem block_eq (H : RealScores m c) (t : Fin cfg0.N) (a : Fin 64) (n : Fin 1024) :
    (outsAt0 m c t : Vec Ideal S64x1024 .f32) (ix2 a n)
      = Cert.ReferenceIdeal.Read.val_main_v138 (F := Ideal) (argQ m c) (argK m c) (argV m c) (argKc m c) (argVc m c) (argB m c) (argX m c) (argM m c) (argW m c) (ix2 (tokRow (batchOf t) (rowOf t) a) n) := by
  rw [outsAt_eq, blockOut_apply, ref_row]
  simp only [head_eq H, block6, block7, block8]

theorem point_exists (b : Fin 2) (r : Fin 64) : ∃ t : Fin cfg0.N, batchOf t = b ∧ rowOf t = r := by
  have h : ∀ (b : Fin 2) (r : Fin 64), ∃ t : Fin grid0.N, (grid0.coords t 0).val = b.val ∧ (grid0.coords t 1).val = r.val := by
    decide +kernel
  obtain ⟨t, h0, h1⟩ := h b r
  exact ⟨t, Fin.ext h0, Fin.ext h1⟩

theorem emb_row (t : Fin cfg0.N) (a : Fin 64) (n : Fin 1024) :
    ((cfg0.win 9).blk t).view.emb (ix2 a n : S64x1024.Idx) = (ix2 (tokRow (batchOf t) (rowOf t) a) n : S12288x1024.Idx) := by
  obtain ⟨-, -, h0, h1⟩ := index_row t
  funext x
  apply Fin.ext
  match x with
  | ⟨0, _⟩ => show win0_9.index t 0 * 64 + 1 * a.val = 4096 + _; rw [h0]; omega
  | ⟨1, _⟩ => show win0_9.index t 1 * 1024 + 1 * n.val = n.val; rw [h1]; omega

/-- The array that the attention leaves is the reference's result. -/
theorem final_eq (H : RealScores m c) :
    ((dats m 0 c).arrAt 9 cfg0.N : FVec Ideal S12288x1024 .f32)
      = Cert.ReferenceIdeal.Read.val_main_v138 (F := Ideal) (argQ m c) (argK m c) (argV m c) (argKc m c) (argVc m c) (argB m c) (argX m c) (argM m c) (argW m c) := by
  funext j
  obtain ⟨i, n, rfl⟩ : ∃ i n, j = (ix2 i n : S12288x1024.Idx) := ⟨j 0, j 1, by funext x; match x with | ⟨0, _⟩ => rfl | ⟨1, _⟩ => rfl⟩
  by_cases hi : i.val < 4096
  · rw [ref_head _ _ _ _ _ _ _ _ _ i hi n]
    refine (Cert.KernelIdeal.Value.entry9 m c (ix2 i n) fun t _ hmem => ?_).trans (rest_at m c _)
    obtain ⟨y, -, hy⟩ := Finset.mem_map.1 hmem
    obtain ⟨-, -, h0, -⟩ := index_row t
    have := congrArg Fin.val (congrFun hy 0)
    have h2 : win0_9.index t 0 * 64 + 1 * (y 0).val = i.val := this
    omega
  · obtain ⟨b, r, a, rfl⟩ : ∃ (b : Fin 2) (r a : Fin 64), i = tokRow b r a :=
      ⟨⟨(i.val - 4096) / 4096, by omega⟩, ⟨(i.val - 4096) % 4096 / 64, by omega⟩, ⟨(i.val - 4096) % 64, by omega⟩,
        Fin.ext (by show i.val = 4096 + ((i.val - 4096) / 4096 * 4096 + (i.val - 4096) % 4096 / 64 * 64 + (i.val - 4096) % 64); omega)⟩
    obtain ⟨t, rfl, rfl⟩ := point_exists b r
    rw [← block_eq H, ← emb_row t a n]
    exact (congrFun ((Cert.KernelIdeal.Value.blocks9 m c t (flush0_9 t)).trans (Cert.KernelIdeal.Value.flushed9 m c t)) (ix2 a n : S64x1024.Idx) :)

end Cert.Na

end
-- ==== Proof.NaClaim.lean ====
/-
  The claims about the neighbourhood attention: its frames, and that kernel and reference leave equal results.
-/
module

public import proofs.«01_k».proof.Defs
public import proofs.«01_k».proof.Proof.Gen.Kernel.Frame
public import proofs.«01_k».proof.Proof.Gen.KernelIdeal.Frame
public import proofs.«01_k».proof.Proof.NaRun
public import proofs.«01_k».proof.Proof.NaMain
public import Idealize.ShloMosaic.Adequacy
public import Idealize.ShloMosaic.Init

@[expose] public section

set_option maxRecDepth 16384

noncomputable section

namespace Cert.Na

open Idealize.ShloMosaic Idealize.ShloMosaic.TcCoe Idealize.SL.Sem

instance preFacts : Cert.Pre_finite_scores.Facts where
  bitsLt_bf16_f32 := by decide
  bcast_S_S12288x1024 := by decide
  bcast_S_S2x256x16x64 := by decide
  bcast_S_S16x15x31 := by decide

/-- An entry whose absolute value compares below infinity is real. -/
theorem real_of_word {x : EReal} (h : Ideal.cmp .olt (max x (-x)) (Ideal.ofBits .f32 0x7F800000#32) = 1#1) : Real' x := by
  have htop : Ideal.ofBits .f32 0x7F800000#32 = ⊤ := by simp [Ideal.ofBits, Ideal.ieee]
  rw [htop] at h
  refine Real'.of_max_lt (by_contra fun hn => ?_)
  simp [Ideal.cmp, hn] at h

theorem realScores (m : (ℓ : Loc Cert.KernelIdeal.nD Cert.KernelIdeal.τ Cert.KernelIdeal.sig) → Buf (Elt Ideal) ℓ)
    (h : Cert.Pre_KernelIdeal_finite_scores m) (c : Dev Cert.KernelIdeal.nD) : RealScores m c where
  q i := real_of_word (congrFun (h c).1 i)
  k i := real_of_word (congrFun (h c).2.1 i)
  kc i := real_of_word (congrFun (h c).2.2.1 i)
  b i := real_of_word (congrFun (h c).2.2.2 i)

theorem frame_reference : Cert.quiescent_ReferenceIdeal := fun m ρ _ =>
  (θ_run Cert.ReferenceIdeal.defs _ _).mono (fun r h => ⟨fun c => (h c).2, sem_eq_zero_of_no_sems (by decide) r.2⟩)
    (reference_run m ρ)

theorem algebraic : Cert.algebraic_KernelIdeal_ReferenceIdeal_pre_finite_scores := fun m g m' g' hpre hargs =>
  ⟨fun c => (Cert.KernelIdeal.Gen.dats m 0 c).arrAt 9 Cert.KernelIdeal.cfg0.N,
    Cert.KernelIdeal.Value.run_blocks m g,
    (θ_run Cert.ReferenceIdeal.defs _ _).mono (fun r h c => ⟨(h c).1.trans (by
        obtain ⟨h0, h1, h2, h3, h4, h5, h6, h7, h8⟩ := hargs c
        rw [h0, h1, h2, h3, h4, h5, h6, h7, h8]
        exact (final_eq (realScores m hpre c)).symm), (h c).2⟩)
      (reference_run m' g')⟩

end Cert.Na

end
-- ==== Proof.MixRun.lean ====
/-
  The mixing reference's run, its result named by the stages it is read through.
-/
module

public import proofs.«01_k».proof.Proof.Gen.ReferenceMixIdeal
public import proofs.«01_k».proof.Proof.Gen.ReferenceMixIdeal.Run
public import proofs.«01_k».proof.Proof.Gen.ReferenceMixIdeal.Read

@[expose] public section

set_option maxRecDepth 16384

noncomputable section

namespace Cert.Mix

open Cert.ReferenceMixIdeal Cert.ReferenceMixIdeal.Gen Idealize.ShloMosaic Idealize.ShloMosaic.TcCoe Idealize.SL.Sem Idealize.ShloMosaic.StableHlo

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71)
          = Read.val_main_v71 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans (Read.val_main_v71_eq (F := Ideal) m c), (h c).2⟩)
    (Cert.ReferenceMixIdeal.Value.run (F := Ideal) m ρ)

end Cert.Mix

end
-- ==== Proof.MixPure.lean ====
/-
  The mathematics of the gated mixing, free of any program: a modulated RMS norm, a projection through the tanh form of
  GELU, its second half normed and mixed over a chunk of 128 tokens in eight groups of lanes, the product of the two
  halves projected back, gated and added to the residual.
-/
module

public import Idealize.ShloMosaic.PureOps.Ideal

@[expose] public section

noncomputable section

namespace Cert.Mix

open Idealize.ShloMosaic
open scoped BigOperators

/-- The reciprocal root of a row's mean square. -/
def rms (f : Fin 1024 → EReal) : EReal :=
  Ideal.rsqrt (Ideal.div (∑ k, f k * f k) (Ideal.ofBits .f32 0x44800000#32) + Ideal.ofBits .f32 0x358637BD#32)

/-- A row normed and modulated. -/
def hid (x sh sc nw : Fin 1024 → EReal) (k : Fin 1024) : EReal :=
  x k * rms x * nw k * (1 + sc k) + sh k

/-- GELU in its tanh form. -/
def gelu (z : EReal) : EReal :=
  z * (Ideal.ofBits .f32 0x3F000000#32 * (1
    + Ideal.tanh (Ideal.ofBits .f32 0x3F4C422A#32 * (z + Ideal.ofBits .f32 0x3D372713#32 * (z * (z * z))))))

/-- A row's projection, activated. -/
def act (x sh sc nw : Fin 1024 → EReal) (wi : Fin 1024 → Fin 2048 → EReal) (n : Fin 2048) : EReal :=
  gelu (∑ k, hid x sh sc nw k * wi k n)

/-- The second half of an activated row, normed. -/
def normed (z : Fin 2048 → EReal) (vw : Fin 1024 → EReal) (l : Fin 1024) : EReal :=
  z ⟨1024 + l.val, by omega⟩ * rms (fun k => z ⟨1024 + k.val, by omega⟩) * vw l

/-- The group of a lane. -/
abbrev grp (l : Fin 1024) : Fin 8 := ⟨l.val / 128, by omega⟩

/-- The lanes mixed over a chunk's tokens. -/
def mixed (Z : Fin 128 → Fin 2048 → EReal) (vw : Fin 1024 → EReal) (ws : Fin 8 → Fin 128 → Fin 128 → EReal)
    (b : Fin 8 → Fin 128 → EReal) (p : Fin 128) (l : Fin 1024) : EReal :=
  (∑ q, ws (grp l) p q * normed (Z q) vw l) + b (grp l) p

/-- Token `p` of a chunk `X`, lane `n`. -/
def mixOut (X : Fin 128 → Fin 1024 → EReal) (sh sc gt nw : Fin 1024 → EReal) (wi : Fin 1024 → Fin 2048 → EReal)
    (ws : Fin 8 → Fin 128 → Fin 128 → EReal) (b : Fin 8 → Fin 128 → EReal) (vw : Fin 1024 → EReal)
    (wo : Fin 1024 → Fin 1024 → EReal) (p : Fin 128) (n : Fin 1024) : EReal :=
  X p n + gt n * ∑ l : Fin 1024, act (X p) sh sc nw wi ⟨l.val, by omega⟩
    * mixed (fun q => act (X q) sh sc nw wi) vw ws b p l * wo l n

end Cert.Mix

end
-- ==== Proof.Tiles.lean ====
/-
  Rows of 1024 lanes read out of an array of tiles, row `k` of a tile in every eighth row, by loads at strides.
-/
module

public import Idealize.ShloMosaic.Lib.Pointwise
public import Idealize.ShloMosaic.Lib.Pipeline.FrameBody

@[expose] public section

noncomputable section

namespace Cert.Tiles

open Idealize.ShloMosaic

abbrev Tiled : Shape := ⟨2, ![2048, 128]⟩
abbrev Part : Shape := ⟨2, ![256, 128]⟩

/-- The lanes of every eighth row from row `o`. -/
def tileRows (x : Vec Ideal Tiled .f32) (o : Nat) (ho : o < 8) : Vec Ideal Part .f32 :=
  fun y => x ((⟨![o, 0], Part.size, ![8, 1], by
    intro a; right; fin_cases a
    · show o + 8 * (256 - 1) < 2048; omega
    · show 0 + 1 * (128 - 1) < 128; omega⟩ : LoadRect Tiled).idx y)

/-- A load at strides reads the block there. -/
theorem strided {sig : RefSig} {sp : CoreSpace} {s : Shape} {e : EltTy} {r : Memref sig .tc sp s e} (h : r.IsWhole)
    (x : s.Idx → Elt Ideal e) (l : LoadRect s) : View.readAt (Elt Ideal) r.view l (h.unread x) = fun y => x (l.idx y) := by
  funext y
  rw [View.readAt_apply]
  exact congrFun (h.read_unread x) (l.idx y)

theorem tileRows_apply (x : Vec Ideal Tiled .f32) (o : Nat) (ho : o < 8) (a : Fin 256) (l : Fin 128) :
    tileRows x o ho (ix2 a l) = x (ix2 ⟨o + 8 * a.val, by omega⟩ l) := by
  unfold tileRows
  refine congrArg x ?_
  funext b
  apply Fin.ext
  match b with
  | ⟨0, _⟩ => rfl
  | ⟨1, _⟩ => show 0 + 1 * l.val = l.val; omega

/-- Lane `k` of a block's row `a`, among the tiles. -/
abbrev tileOf (a : Fin 256) (k : Fin 1024) : Tiled.Idx := ix2 ⟨k.val / 128 + 8 * a.val, by omega⟩ ⟨k.val % 128, by omega⟩

theorem tile_eq (x : Vec Ideal Tiled .f32) (a : Fin 256) (k : Fin 1024) {r : Fin 2048} {l : Fin 128}
    (hr : r.val = k.val / 128 + 8 * a.val) (hl : l.val = k.val % 128) : x (ix2 r l) = x (tileOf a k) := by
  rw [show r = ⟨k.val / 128 + 8 * a.val, by omega⟩ from Fin.ext hr, show l = ⟨k.val % 128, by omega⟩ from Fin.ext hl]

/-- A row of the modulation. -/
def modRow (x : Vec Ideal (⟨3, ![1, 6, 1024]⟩ : Shape) .f32) (g : Nat) (hg : g < 6) : Vec Ideal (⟨3, ![1, 1, 1024]⟩ : Shape) .f32 :=
  View.ld x (Rect.unit ![0, g, 0] ![1, 1, 1024] (by intro a; fin_cases a <;> first | exact hg | exact Nat.le_refl _))

end Cert.Tiles

end
-- ==== Proof.MixBlock.lean ====
/-
  What the mixing kernel's body leaves in its output block of two chunks.
-/
module

public import proofs.«01_k».proof.Proof.Gen.KernelMixIdeal.Value
public import proofs.«01_k».proof.Proof.MixPure
public import proofs.«01_k».proof.Proof.Tiles
public import Idealize.ShloMosaic.Lib.Pointwise

@[expose] public section

noncomputable section

namespace Cert.Mix

open Cert.KernelMixIdeal Cert.KernelMixIdeal.Gen Cert.Tiles Idealize.ShloMosaic Idealize.ShloMosaic.TcCoe
  Idealize.ShloMosaic.Tactic

/-- The block's rows of 1024 lanes. -/
def rowsOf (x : Vec Ideal S2048x128 .f32) : FVec Ideal S256x1024 .f32 :=
  k0_pay2 (tileRows x 0 (by decide)) (tileRows x 1 (by decide)) (tileRows x 2 (by decide)) (tileRows x 3 (by decide))
    (tileRows x 4 (by decide)) (tileRows x 5 (by decide)) (tileRows x 6 (by decide)) (tileRows x 7 (by decide))

/-- The reciprocal roots of the rows' mean squares, along the lanes. -/
def rmsOf (x : Vec Ideal S2048x128 .f32) : FVec Ideal S256x1024 .f32 :=
  k0_pay6 (tileRows x 0 (by decide)) (tileRows x 1 (by decide)) (tileRows x 2 (by decide)) (tileRows x 3 (by decide))
    (tileRows x 4 (by decide)) (tileRows x 5 (by decide)) (tileRows x 6 (by decide)) (tileRows x 7 (by decide))

/-- A group's mixing matrix. -/
def groupMat (x : Vec Ideal S8x128x128 .bf16) (g : Nat) (hg : g < 8) : Vec Ideal S1x128x128 .bf16 :=
  View.ld x (Rect.unit ![g, 0, 0] ![1, 128, 128] (by intro a; fin_cases a <;> first | exact hg | exact Nat.le_refl _))

theorem chunk_slices (r o : Nat) (hr : r + 128 ≤ 256) (ho : o + 128 ≤ 1024) : S256x1024.Slices ![r, o] S128x128 :=
  ⟨rfl, by intro a; fin_cases a <;> first | exact hr | exact ho⟩

/-- A group's lanes of a chunk, mixed over its tokens. -/
def groupOut (v : FVec Ideal S256x1024 .bf16) (r o : Nat) (hr : r + 128 ≤ 256) (ho : o + 128 ≤ 1024)
    (w : Vec Ideal S1x128x128 .bf16) : FVec Ideal S128x128 .f32 :=
  matmul dot_S128x128_S128x128_S128x128_1_0_0_1_n_n none (shapeCast S128x128 w shapeCasts_S1x128x128_S128x128 : FVec Ideal S128x128 .bf16)
    (extractStridedSlice S128x128 ![r, o] v (chunk_slices r o hr ho)) (constant S128x128 .f32 0x00000000#32)

/-- A chunk's lanes mixed, the biases added. -/
def chunkOut (v : FVec Ideal S256x1024 .bf16) (r : Nat) (hr : r + 128 ≤ 256) (x4 : Vec Ideal S8x128x128 .bf16)
    (b : Vec Ideal S128x1024 .f32) : FVec Ideal S128x1024 .f32 :=
  k0_pay19 (groupOut v r 0 hr (by decide) (groupMat x4 0 (by decide))) (groupOut v r 128 hr (by decide) (groupMat x4 1 (by decide)))
    (groupOut v r 256 hr (by decide) (groupMat x4 2 (by decide))) (groupOut v r 384 hr (by decide) (groupMat x4 3 (by decide)))
    (groupOut v r 512 hr (by decide) (groupMat x4 4 (by decide))) (groupOut v r 640 hr (by decide) (groupMat x4 5 (by decide)))
    (groupOut v r 768 hr (by decide) (groupMat x4 6 (by decide))) (groupOut v r 896 hr (by decide) (groupMat x4 7 (by decide))) b

/-- The halves multiplied, projected, gated and added to the residual. -/
def finish (x u : FVec Ideal S256x1024 .f32) (c0 c1 : FVec Ideal S128x1024 .f32) (wo : Vec Ideal S1024x1024 .bf16)
    (gt : Vec Ideal S1x1x1024 .f32) : FVec Ideal S256x1024 .f32 :=
  addf x (mulf (broadcastTo S256x1024 (shapeCast S1x1024 gt shapeCasts_S1x1x1024_S1x1024 : FVec Ideal S1x1024 .f32) broadcasts_S1x1024_S256x1024)
    (matmul dot_S256x1024_S1024x1024_S256x1024_1_0_0_1_n_n none
      (truncf .bf16 (mulf u (concatenate S256x1024 0 [⟨S128x1024, c0⟩, ⟨S128x1024, c1⟩]
        concatenates_S128x1024_S128x1024_S256x1024_d0)) bitsLt_bf16_f32)
      (shapeCast S1024x1024 wo shapeCasts_S1024x1024_S1024x1024 : FVec Ideal S1024x1024 .bf16) (constant S256x1024 .f32 0x00000000#32)))

section
variable (x0 : Vec Ideal S2048x128 .f32) (x1 : Vec Ideal S1x6x1024 .f32) (x2 : Vec Ideal S1x1024 .f32)
  (x3 : Vec Ideal S1024x2048 .bf16) (x4 : Vec Ideal S8x128x128 .bf16) (x5 : Vec Ideal S128x1024 .f32)
  (x6 : Vec Ideal S1x1024 .f32) (x7 : Vec Ideal S1024x1024 .bf16)

/-- The second half of the block's activated rows, normed. -/
def normedOf : FVec Ideal S256x1024 .bf16 :=
  k0_pay9 (rowsOf x0) (k0_pay3 (View.ld x2 (Rect.unit ![0, 0] ![1, 1024] (by decide)))) (k0_pay4 (modRow x1 1 (by decide)))
    (k0_pay5 (modRow x1 0 (by decide))) (rmsOf x0) (View.ld x3 (Rect.unit ![0, 0] ![1024, 2048] (by decide)))
    (View.ld x6 (Rect.unit ![0, 0] ![1, 1024] (by decide)))

/-- The first half of the block's activated rows. -/
def gateOf : FVec Ideal S256x1024 .f32 :=
  k0_pay8 (rowsOf x0) (k0_pay3 (View.ld x2 (Rect.unit ![0, 0] ![1, 1024] (by decide)))) (k0_pay4 (modRow x1 1 (by decide)))
    (k0_pay5 (modRow x1 0 (by decide))) (rmsOf x0) (View.ld x3 (Rect.unit ![0, 0] ![1024, 2048] (by decide)))

/-- The whole block. -/
def blockOut : FVec Ideal S256x1024 .f32 :=
  finish (rowsOf x0) (gateOf x0 x1 x2 x3)
    (chunkOut (normedOf x0 x1 x2 x3 x6) 0 (by decide) x4 (View.ld x5 (Rect.unit ![0, 0] ![128, 1024] (by decide))))
    (chunkOut (normedOf x0 x1 x2 x3 x6) 128 (by decide) x4 (View.ld x5 (Rect.unit ![0, 0] ![128, 1024] (by decide))))
    (View.ld x7 (Rect.unit ![0, 0] ![1024, 1024] (by decide))) (modRow x1 2 (by decide))

end

variable (m : (ℓ : Loc nD τ sig) → Buf (Elt Ideal) ℓ)

theorem outsAt_eq (c : Dev nD) (t : Fin cfg0.N) :
    outsAt0 m c t = blockOut (iblk m c 0 t) (iblk m c 1 t) (iblk m c 2 t) (iblk m c 3 t) (iblk m c 4 t)
      (iblk m c 5 t) (iblk m c 6 t) (iblk m c 7 t) := by
  unfold outsAt0 out0_A_8
  rw [View.read_writes_eq_canon _ _ _ (cover0_A_8 c _ _ _ _ _ _ _ _ _ _ _ _ _ _ _ _ _ _ _ _ _ _ _ _ _ _ _)]
  unfold kernelRun0_A
  dsimp only
  sl_unfold_words
  simp only [strided (hs0_0 t)]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  refine (View.canon_unit_zero (S := S256x1024) (by funext a; fin_cases a <;> rfl) _ _).trans ?_
  rfl

end Cert.Mix

end
-- ==== Proof.MixHead.lean ====
/-
  The mixing kernel's block, read at an index.
-/
module

public import proofs.«01_k».proof.Proof.MixBlock

@[expose] public section

noncomputable section

namespace Cert.Mix

open Cert.KernelMixIdeal Cert.KernelMixIdeal.Gen Cert.Tiles Idealize.ShloMosaic Idealize.ShloMosaic.TcCoe

theorem rowsOf_apply (x : Vec Ideal S2048x128 .f32) (a : Fin 256) (k : Fin 1024) : rowsOf x (ix2 a k) = x (tileOf a k) := by
  unfold rowsOf k0_pay2
  pointwise
  simp only [tileRows_apply]
  repeat' split
  all_goals exact tile_eq x a k (by simp only [] <;> omega) (by simp only [] <;> omega)

theorem rmsOf_apply (x : Vec Ideal S2048x128 .f32) (a : Fin 256) (k : Fin 1024) :
    rmsOf x (ix2 a k) = rms (fun k => x (tileOf a k)) := by
  have h : rmsOf x (ix2 a k) = rms (fun k => rowsOf x (ix2 a k)) := by
    unfold rmsOf k0_pay6 rms
    change _ = Ideal.rsqrt (Ideal.div (∑ k, rowsOf x (ix2 a k) * rowsOf x (ix2 a k)) _ + _)
    unfold rowsOf
    generalize k0_pay2 _ _ _ _ _ _ _ _ = y
    pointwise
  rw [h]
  simp only [rowsOf_apply]

section
variable (x0 : Vec Ideal S2048x128 .f32) (x1 : Vec Ideal S1x6x1024 .f32) (x2 : Vec Ideal S1x1024 .f32)
  (x3 : Vec Ideal S1024x2048 .bf16) (x4 : Vec Ideal S8x128x128 .bf16) (x5 : Vec Ideal S128x1024 .f32)
  (x6 : Vec Ideal S1x1024 .f32) (x7 : Vec Ideal S1024x1024 .bf16)

/-- Row `a` of the block, activated. -/
def blockAct (a : Fin 256) : Fin 2048 → EReal :=
  act (fun k => x0 (tileOf a k)) (fun k => x1 (ix3 0 0 k)) (fun k => x1 (ix3 0 1 k)) (fun k => x2 (ix2 0 k))
    (fun k n => x3 (ix2 k n))

theorem act_apply (a : Fin 256) (n : Fin 2048) :
    k0_pay7 (rowsOf x0) (k0_pay3 (View.ld x2 (Rect.unit ![0, 0] ![1, 1024] (by decide)))) (k0_pay4 (modRow x1 1 (by decide)))
      (k0_pay5 (modRow x1 0 (by decide))) (rmsOf x0) (View.ld x3 (Rect.unit ![0, 0] ![1024, 2048] (by decide))) (ix2 a n)
      = blockAct x0 x1 x2 x3 a n := by
  unfold k0_pay7 k0_pay3 k0_pay4 k0_pay5 modRow
  pointwise
  simp only [rowsOf_apply, rmsOf_apply]
  rfl

theorem gateOf_apply (a : Fin 256) (l : Fin 1024) :
    gateOf x0 x1 x2 x3 (ix2 a l) = blockAct x0 x1 x2 x3 a ⟨l.val, by omega⟩ := by
  unfold gateOf k0_pay8
  pointwise
  simp only [act_apply]

theorem normedOf_apply (a : Fin 256) (l : Fin 1024) :
    normedOf x0 x1 x2 x3 x6 (ix2 a l) = normed (blockAct x0 x1 x2 x3 a) (fun k => x6 (ix2 0 k)) l := by
  unfold normedOf k0_pay9
  pointwise
  simp only [act_apply]
  rfl

theorem groupOut_apply (v : FVec Ideal S256x1024 .bf16) (r o : Nat) (hr : r + 128 ≤ 256) (ho : o + 128 ≤ 1024)
    (w : Vec Ideal S1x128x128 .bf16) (p l : Fin 128) :
    groupOut v r o hr ho w (ix2 p l)
      = ∑ q : Fin 128, w (ix3 0 p q) * v (ix2 ⟨r + q.val, by omega⟩ ⟨o + l.val, by omega⟩) := by
  unfold groupOut
  pointwise

theorem groupMat_apply (g : Nat) (hg : g < 8) (p q : Fin 128) : groupMat x4 g hg (ix3 0 p q) = x4 (ix3 ⟨g, hg⟩ p q) := by
  unfold groupMat
  pointwise

theorem chunk_eq (v : FVec Ideal S256x1024 .bf16) (r : Nat) (hr : r + 128 ≤ 256) (p : Fin 128) (l : Fin 1024) {g g' : Fin 8}
    {e : Fin 1024} (hg : g = g') (he : e = l) :
    (∑ q : Fin 128, x4 (ix3 g p q) * v (ix2 ⟨r + q.val, by omega⟩ e) : EReal)
      = ∑ q : Fin 128, x4 (ix3 g' p q) * v (ix2 ⟨r + q.val, by omega⟩ l) := by
  subst hg he; rfl

theorem chunkOut_apply (v : FVec Ideal S256x1024 .bf16) (r : Nat) (hr : r + 128 ≤ 256) (b : Vec Ideal S128x1024 .f32)
    (p : Fin 128) (l : Fin 1024) :
    chunkOut v r hr x4 b (ix2 p l)
      = (∑ q : Fin 128, x4 (ix3 (grp l) p q) * v (ix2 ⟨r + q.val, by omega⟩ l) : EReal) + b (ix2 p l) := by
  unfold chunkOut k0_pay19
  pointwise
  simp only [groupOut_apply, groupMat_apply]
  refine congrArg (· + (b (ix2 p l) : EReal)) ?_
  repeat' split
  all_goals exact chunk_eq x4 v r hr p l (Fin.ext (by simp only [] <;> omega)) (Fin.ext (by simp only [] <;> omega))

/-- A row of a chunk of the block. -/
abbrev rowIn (r : Fin 2) (p : Fin 128) : Fin 256 := ⟨128 * r.val + p.val, by omega⟩

theorem chunkMixed_apply (b : Fin 8 → Fin 128 → EReal) (hb : ∀ p l, x5 (ix2 p l) = b (grp l) p) (r : Nat) (hr : r + 128 ≤ 256)
    (p : Fin 128) (l : Fin 1024) :
    chunkOut (normedOf x0 x1 x2 x3 x6) r hr x4 x5 (ix2 p l)
      = mixed (fun q => blockAct x0 x1 x2 x3 ⟨r + q.val, by omega⟩) (fun k => x6 (ix2 0 k)) (fun g p q => x4 (ix3 g p q)) b p l := by
  rw [chunkOut_apply, hb]
  simp only [normedOf_apply]
  rfl

/-- Two chunks, one below the other, at a row of chunk `r`. -/
theorem stacked (c0 c1 : FVec Ideal S128x1024 .f32) (r : Fin 2) (p : Fin 128) (l : Fin 1024) :
    concatenate S256x1024 0 [⟨S128x1024, c0⟩, ⟨S128x1024, c1⟩] concatenates_S128x1024_S128x1024_S256x1024_d0 (ix2 (rowIn r p) l)
      = if r.val = 0 then c0 (ix2 p l) else c1 (ix2 p l) := by
  pointwise
  by_cases h : r.val = 0
  · rw [if_pos h, dif_pos (by omega)]
    exact congrArg (fun q => c0 (ix2 q l)) (Fin.ext (by simp only []; omega))
  · rw [if_neg h, dif_neg (by omega)]
    exact congrArg (fun q => c1 (ix2 q l)) (Fin.ext (by simp only []; omega))

theorem finish_apply (x u : FVec Ideal S256x1024 .f32) (c0 c1 : FVec Ideal S128x1024 .f32) (wo : Vec Ideal S1024x1024 .bf16)
    (gt : Vec Ideal S1x1x1024 .f32) (r : Fin 2) (p : Fin 128) (n : Fin 1024) :
    finish x u c0 c1 wo gt (ix2 (rowIn r p) n)
      = (x (ix2 (rowIn r p) n) + gt (ix3 0 0 n)
        * ∑ l : Fin 1024, u (ix2 (rowIn r p) l) * (if r.val = 0 then c0 (ix2 p l) else c1 (ix2 p l)) * wo (ix2 l n) : EReal) := by
  simp only [← stacked]
  unfold finish
  generalize concatenate S256x1024 0 _ _ = y
  pointwise

theorem blockOut_apply (b : Fin 8 → Fin 128 → EReal) (hb : ∀ p l, x5 (ix2 p l) = b (grp l) p) (r : Fin 2) (p : Fin 128)
    (n : Fin 1024) :
    blockOut x0 x1 x2 x3 x4 x5 x6 x7 (ix2 (rowIn r p) n)
      = mixOut (fun q k => x0 (tileOf (rowIn r q) k)) (fun k => x1 (ix3 0 0 k)) (fun k => x1 (ix3 0 1 k)) (fun k => x1 (ix3 0 2 k))
          (fun k => x2 (ix2 0 k)) (fun k n => x3 (ix2 k n)) (fun g p q => x4 (ix3 g p q)) b
          (fun k => x6 (ix2 0 k)) (fun k n => x7 (ix2 k n)) p n := by
  have hx : View.ld x5 (Rect.unit (s := S128x1024) ![0, 0] ![128, 1024] (by decide)) = x5 :=
    View.ld_unit_zero (S := S128x1024) (by funext a; fin_cases a <;> rfl) _ x5
  have hm : ∀ l : Fin 1024, (if r.val = 0 then chunkOut (normedOf x0 x1 x2 x3 x6) 0 (by decide) x4 x5 (ix2 p l)
        else chunkOut (normedOf x0 x1 x2 x3 x6) 128 (by decide) x4 x5 (ix2 p l) : EReal)
      = mixed (fun q => blockAct x0 x1 x2 x3 (rowIn r q)) (fun k => x6 (ix2 0 k)) (fun g p q => x4 (ix3 g p q)) b p l := by
    intro l
    rw [chunkMixed_apply x0 x1 x2 x3 x4 x5 x6 b hb, chunkMixed_apply x0 x1 x2 x3 x4 x5 x6 b hb]
    by_cases h : r.val = 0
    · rw [if_pos h]
      refine congrArg (fun Z => mixed Z _ _ _ _ _) (funext fun q => congrArg (blockAct x0 x1 x2 x3) (Fin.ext ?_))
      show 0 + q.val = 128 * r.val + q.val
      omega
    · rw [if_neg h]
      refine congrArg (fun Z => mixed Z _ _ _ _ _) (funext fun q => congrArg (blockAct x0 x1 x2 x3) (Fin.ext ?_))
      show 128 + q.val = 128 * r.val + q.val
      omega
  unfold blockOut
  rw [hx, finish_apply]
  simp only [hm, gateOf_apply, rowsOf_apply]
  unfold modRow mixOut
  pointwise
  rfl

end

end Cert.Mix

end
-- ==== Proof.MixGrid.lean ====
/-
  Which part of each array a grid point of the mixing stages: 256 tokens' tiles, their segment's modulation, and the
  whole of the weights; and what the host makes of the arguments before.
-/
module

public import proofs.«01_k».proof.Proof.MixHead
public import Idealize.ShloMosaic.Lib.StableHlo.ReadAt

@[expose] public section

set_option maxRecDepth 16384

noncomputable section

namespace Cert.Mix

open Cert.KernelMixIdeal Cert.KernelMixIdeal.Gen Cert.Tiles Idealize.ShloMosaic Idealize.ShloMosaic.TcCoe

variable (m : (ℓ : Loc nD τ sig) → Buf (Elt Ideal) ℓ) (c : Dev nD)

abbrev argX : FVec Ideal S12288x1024 .f32 := m ((c : Thread nD τ).loc main_arg0)
abbrev argM : FVec Ideal S8x6x1024 .f32 := m ((c : Thread nD τ).loc main_arg1)
abbrev argN : FVec Ideal S1024 .f32 := m ((c : Thread nD τ).loc main_arg2)
abbrev argI : FVec Ideal S1024x2048 .f32 := m ((c : Thread nD τ).loc main_arg3)
abbrev argS : FVec Ideal S8x128x128 .f32 := m ((c : Thread nD τ).loc main_arg4)
abbrev argB : FVec Ideal S8x128 .f32 := m ((c : Thread nD τ).loc main_arg5)
abbrev argV : FVec Ideal S1024 .f32 := m ((c : Thread nD τ).loc main_arg6)
abbrev argO : FVec Ideal S1024x1024 .f32 := m ((c : Thread nD τ).loc main_arg7)

theorem bias_at (p : Fin 128) (l : Fin 1024) : (V m c main_v2 : FVec Ideal S128x1024 .f32) (ix2 p l) = argB m c (ix2 (grp l) p) := by
  unfold V
  after_reads_at

theorem tiles_at (r : Fin 98304) (l : Fin 128) : (V m c main_v3 : FVec Ideal S98304x128 .f32) (ix2 r l)
    = argX m c (ix2 ⟨r.val / 8, by omega⟩ ⟨r.val % 8 * 128 + l.val, by omega⟩) := by
  unfold V
  after_reads_at

theorem norm_at (k : Fin 1024) : (V m c main_v4 : FVec Ideal S1x1024 .f32) (ix2 0 k) = argN m c (ix1 k) := by
  unfold V
  after_reads_at

theorem win_at (j : S1024x2048.Idx) : (V m c main_v5 : FVec Ideal S1024x2048 .bf16) j = argI m c j := by
  unfold V
  after_reads_at

theorem ws_at (j : S8x128x128.Idx) : (V m c main_v6 : FVec Ideal S8x128x128 .bf16) j = argS m c j := by
  unfold V
  after_reads_at

theorem vnorm_at (k : Fin 1024) : (V m c main_v7 : FVec Ideal S1x1024 .f32) (ix2 0 k) = argV m c (ix1 k) := by
  unfold V
  after_reads_at

theorem wout_at (j : S1024x1024.Idx) : (V m c main_v8 : FVec Ideal S1024x1024 .bf16) j = argO m c j := by
  unfold V
  after_reads_at

theorem index_moving : ∀ t : Fin cfg0.N,
    (win0_0.index t 0 = t.val ∧ win0_0.index t 1 = 0)
    ∧ (win0_1.index t 0 = t.val / 16 ∧ win0_1.index t 1 = 0 ∧ win0_1.index t 2 = 0)
    ∧ (win0_8.index t 0 = t.val ∧ win0_8.index t 1 = 0) :=
  (by decide +kernel : ∀ t : Fin grid0.N, _)

theorem index_still : ∀ t : Fin cfg0.N,
    (win0_2.index t 0 = 0 ∧ win0_2.index t 1 = 0)
    ∧ (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0)
    ∧ (win0_6.index t 0 = 0 ∧ win0_6.index t 1 = 0)
    ∧ (win0_7.index t 0 = 0 ∧ win0_7.index t 1 = 0) :=
  (by decide +kernel : ∀ t : Fin grid0.N, _)

variable (t : Fin cfg0.N)

theorem points (t : Fin cfg0.N) : t.val < 48 := t.isLt

/-- The token of a grid point's row. -/
abbrev tokRow (a : Fin 256) : Fin 12288 := ⟨t.val * 256 + a.val, by have := points t; omega⟩

theorem block0 (a : Fin 256) (k : Fin 1024) : (iblk m c 0 t : Vec Ideal S2048x128 .f32) (tileOf a k) = argX m c (ix2 (tokRow t a) k) := by
  obtain ⟨⟨h0, h1⟩, -⟩ := index_moving t
  have ht := points t
  unfold iblk
  rw [View.read_apply]
  refine (congrArg (V m c main_v3) (?_ : _ = ix2 ⟨t.val * 2048 + (k.val / 128 + 8 * a.val), by omega⟩ ⟨k.val % 128, by omega⟩)).trans
    ((tiles_at m c _ _).trans ?_)
  · funext x
    apply Fin.ext
    match x with
    | ⟨0, _⟩ => show win0_0.index t 0 * 2048 + 1 * (k.val / 128 + 8 * a.val) = t.val * 2048 + (k.val / 128 + 8 * a.val); rw [h0]; omega
    | ⟨1, _⟩ => show win0_0.index t 1 * 128 + 1 * (k.val % 128) = k.val % 128; rw [h1]; omega
  · rw [show (⟨(t.val * 2048 + (k.val / 128 + 8 * a.val)) / 8, by omega⟩ : Fin 12288) = tokRow t a from
        Fin.ext (by show (t.val * 2048 + (k.val / 128 + 8 * a.val)) / 8 = t.val * 256 + a.val; omega),
      show (⟨(t.val * 2048 + (k.val / 128 + 8 * a.val)) % 8 * 128 + k.val % 128, by omega⟩ : Fin 1024) = k from
        Fin.ext (by show (t.val * 2048 + (k.val / 128 + 8 * a.val)) % 8 * 128 + k.val % 128 = k.val; omega)]

theorem block1 (g : Fin 6) (n : Fin 1024) : (iblk m c 1 t : Vec Ideal S1x6x1024 .f32) (ix3 0 g n)
    = argM m c (ix3 ⟨t.val / 16, by have := points t; omega⟩ g n) := by
  obtain ⟨-, ⟨h0, h1, h2⟩, -⟩ := index_moving t
  unfold iblk
  rw [View.read_apply]
  show V m c main_arg1 _ = _
  rw [V_main_arg1]
  congr 1
  funext x
  apply Fin.ext
  match x with
  | ⟨0, _⟩ => show win0_1.index t 0 * 1 + 1 * 0 = t.val / 16; rw [h0]; omega
  | ⟨1, _⟩ => show win0_1.index t 1 * 6 + 1 * g.val = g.val; rw [h1]; omega
  | ⟨2, _⟩ => show win0_1.index t 2 * 1024 + 1 * n.val = n.val; rw [h2]; omega

theorem block2 (n : Fin 1024) : (iblk m c 2 t : Vec Ideal S1x1024 .f32) (ix2 0 n) = argN m c (ix1 n) := by
  obtain ⟨⟨h0, h1⟩, -⟩ := index_still t
  unfold iblk
  rw [View.read_apply]
  refine (congrArg (V m c main_v4) (?_ : _ = ix2 0 n)).trans (norm_at m c n)
  funext x
  apply Fin.ext
  match x with
  | ⟨0, _⟩ => show win0_2.index t 0 * 1 + 1 * 0 = 0; rw [h0]
  | ⟨1, _⟩ => show win0_2.index t 1 * 1024 + 1 * n.val = n.val; rw [h1]; omega

theorem block3 (k : Fin 1024) (n : Fin 2048) : (iblk m c 3 t : Vec Ideal S1024x2048 .bf16) (ix2 k n) = argI m c (ix2 k n) := by
  obtain ⟨-, ⟨h0, h1⟩, -⟩ := index_still t
  unfold iblk
  rw [View.read_apply]
  refine (congrArg (V m c main_v5) (?_ : _ = ix2 k n)).trans (win_at m c _)
  funext x
  apply Fin.ext
  match x with
  | ⟨0, _⟩ => show win0_3.index t 0 * 1024 + 1 * k.val = k.val; rw [h0]; omega
  | ⟨1, _⟩ => show win0_3.index t 1 * 2048 + 1 * n.val = n.val; rw [h1]; omega

theorem block4 (g : Fin 8) (p q : Fin 128) : (iblk m c 4 t : Vec Ideal S8x128x128 .bf16) (ix3 g p q) = argS m c (ix3 g p q) := by
  obtain ⟨-, -, ⟨h0, h1, h2⟩, -⟩ := index_still t
  unfold iblk
  rw [View.read_apply]
  refine (congrArg (V m c main_v6) (?_ : _ = ix3 g p q)).trans (ws_at m c _)
  funext x
  apply Fin.ext
  match x with
  | ⟨0, _⟩ => show win0_4.index t 0 * 8 + 1 * g.val = g.val; rw [h0]; omega
  | ⟨1, _⟩ => show win0_4.index t 1 * 128 + 1 * p.val = p.val; rw [h1]; omega
  | ⟨2, _⟩ => show win0_4.index t 2 * 128 + 1 * q.val = q.val; rw [h2]; omega

theorem block5 (p : Fin 128) (l : Fin 1024) : (iblk m c 5 t : Vec Ideal S128x1024 .f32) (ix2 p l) = argB m c (ix2 (grp l) p) := by
  obtain ⟨-, -, -, ⟨h0, h1⟩, -⟩ := index_still t
  unfold iblk
  rw [View.read_apply]
  refine (congrArg (V m c main_v2) (?_ : _ = ix2 p l)).trans (bias_at m c p l)
  funext x
  apply Fin.ext
  match x with
  | ⟨0, _⟩ => show win0_5.index t 0 * 128 + 1 * p.val = p.val; rw [h0]; omega
  | ⟨1, _⟩ => show win0_5.index t 1 * 1024 + 1 * l.val = l.val; rw [h1]; omega

theorem block6 (n : Fin 1024) : (iblk m c 6 t : Vec Ideal S1x1024 .f32) (ix2 0 n) = argV m c (ix1 n) := by
  obtain ⟨-, -, -, -, ⟨h0, h1⟩, -⟩ := index_still t
  unfold iblk
  rw [View.read_apply]
  refine (congrArg (V m c main_v7) (?_ : _ = ix2 0 n)).trans (vnorm_at m c n)
  funext x
  apply Fin.ext
  match x with
  | ⟨0, _⟩ => show win0_6.index t 0 * 1 + 1 * 0 = 0; rw [h0]
  | ⟨1, _⟩ => show win0_6.index t 1 * 1024 + 1 * n.val = n.val; rw [h1]; omega

theorem block7 (k n : Fin 1024) : (iblk m c 7 t : Vec Ideal S1024x1024 .bf16) (ix2 k n) = argO m c (ix2 k n) := by
  obtain ⟨-, -, -, -, -, ⟨h0, h1⟩⟩ := index_still t
  unfold iblk
  rw [View.read_apply]
  refine (congrArg (V m c main_v8) (?_ : _ = ix2 k n)).trans (wout_at m c _)
  funext x
  apply Fin.ext
  match x with
  | ⟨0, _⟩ => show win0_7.index t 0 * 1024 + 1 * k.val = k.val; rw [h0]; omega
  | ⟨1, _⟩ => show win0_7.index t 1 * 1024 + 1 * n.val = n.val; rw [h1]; omega

end Cert.Mix

end
-- ==== Proof.MixRef.lean ====
/-
  The reference's mixing at an index.
-/
module

public import proofs.«01_k».proof.Proof.Gen.ReferenceMixIdeal.Read
public import proofs.«01_k».proof.Proof.MixPure
public import Idealize.ShloMosaic.Lib.Pointwise

@[expose] public section

noncomputable section

namespace Cert.Mix

open Cert.ReferenceMixIdeal Cert.ReferenceMixIdeal.Facts₀ Cert.ReferenceMixIdeal.Read Idealize.ShloMosaic

section
variable (x0 : FVec Ideal S12288x1024 .f32) (x1 : FVec Ideal S8x6x1024 .f32) (x2 : FVec Ideal S1024 .f32)
  (x3 : FVec Ideal S1024x2048 .f32) (x4 : FVec Ideal S8x128x128 .f32) (x5 : FVec Ideal S8x128 .f32)
  (x6 : FVec Ideal S1024 .f32) (x7 : FVec Ideal S1024x1024 .f32)

/-- Token `t` of segment `s`, activated. -/
def refAct (s : Fin 3) (t : Fin 4096) : Fin 2048 → EReal :=
  act (fun k => x0 (ix2 ⟨s.val * 4096 + t.val, by omega⟩ k)) (fun k => x1 (ix3 ⟨s.val, by omega⟩ 0 k))
    (fun k => x1 (ix3 ⟨s.val, by omega⟩ 1 k)) (fun k => x2 (ix1 k)) (fun k n => x3 (ix2 k n))

theorem refRms_apply (s : Fin 3) (t : Fin 4096) (k : Fin 1024) :
    val_main_v18 (F := Ideal) x0 (ix3 s t k) = rms (fun k => x0 (ix2 ⟨s.val * 4096 + t.val, by omega⟩ k)) := by
  unfold val_main_v18 val_main_v17 val_main_v16 val_main_v15 val_main_v14 val_main_v13 val_main_v12 val_main_v11 val_main_v10
    val_main_v0 val_main_cst val_main_cst_0 val_main_cst_1 rms
  pointwise

theorem refHid_apply (s : Fin 3) (t : Fin 4096) (k : Fin 1024) :
    val_main_v28 (F := Ideal) x0 x1 x2 (ix3 s t k)
      = hid (fun k => x0 (ix2 ⟨s.val * 4096 + t.val, by omega⟩ k)) (fun k => x1 (ix3 ⟨s.val, by omega⟩ 0 k))
          (fun k => x1 (ix3 ⟨s.val, by omega⟩ 1 k)) (fun k => x2 (ix1 k)) k := by
  unfold val_main_v28 val_main_v27 val_main_v26 val_main_v25 val_main_v24 val_main_v23 val_main_v22 val_main_v21 val_main_v20
    val_main_v19 val_main_v6 val_main_v5 val_main_v4 val_main_v3 val_main_v2 val_main_v1 val_main_cst_2
  pointwise
  rw [refRms_apply]
  unfold val_main_v0 hid
  pointwise

theorem refAct_apply (s : Fin 3) (t : Fin 4096) (n : Fin 2048) :
    val_main_v42 (F := Ideal) x0 x1 x2 x3 (ix3 s t n) = refAct x0 x1 x2 x3 s t n := by
  have hz : val_main_v29 (F := Ideal) x0 x1 x2 x3 (ix3 s t n) = (∑ k : Fin 1024, (hid (fun k => x0 (ix2 ⟨s.val * 4096 + t.val, by omega⟩ k))
      (fun k => x1 (ix3 ⟨s.val, by omega⟩ 0 k)) (fun k => x1 (ix3 ⟨s.val, by omega⟩ 1 k)) (fun k => x2 (ix1 k)) k
        * x3 (ix2 k n) : EReal) : EReal) := by
    unfold val_main_v29
    pointwise
    simp only [refHid_apply]
  unfold val_main_v42 val_main_v41 val_main_v40 val_main_v39 val_main_v38 val_main_v37 val_main_v36 val_main_v35 val_main_v34
    val_main_v33 val_main_v32 val_main_v31 val_main_v30 val_main_cst_3 val_main_cst_4 val_main_cst_5 val_main_cst_6
  pointwise
  rw [hz]
  unfold refAct act gelu
  generalize (∑ k : Fin 1024, _ : EReal) = z
  rw [mul_comm z (z * z)]

theorem refNormed_apply (s : Fin 3) (t : Fin 4096) (l : Fin 1024) :
    val_main_v57 (F := Ideal) x0 x1 x2 x3 x6 (ix3 s t l) = normed (refAct x0 x1 x2 x3 s t) (fun k => x6 (ix1 k)) l := by
  unfold val_main_v57 val_main_v56 val_main_v55 val_main_v54 val_main_v53 val_main_v52 val_main_v51 val_main_v50 val_main_v49
    val_main_v48 val_main_v47 val_main_v46 val_main_v45 val_main_v44 val_main_cst_7 val_main_cst_8 val_main_cst_9 normed rms
  pointwise
  simp only [refAct_apply]

/-- Token `p` of chunk `j`. -/
abbrev tokOf (j : Fin 32) (p : Fin 128) : Fin 4096 := ⟨j.val * 128 + p.val, by omega⟩

theorem refMixed_apply (s : Fin 3) (j : Fin 32) (p : Fin 128) (l : Fin 1024) :
    val_main_v65 (F := Ideal) x0 x1 x2 x3 x4 x5 x6 (ix3 s (tokOf j p) l)
      = mixed (fun q => refAct x0 x1 x2 x3 s (tokOf j q)) (fun k => x6 (ix1 k)) (fun g p q => x4 (ix3 g p q))
          (fun g p => x5 (ix2 g p)) p l := by
  have h : ∀ g : Fin 8, ∀ e : Fin 128, val_main_v64 (F := Ideal) x0 x1 x2 x3 x4 x5 x6 (ix5 s j p g e)
      = mixed (fun q => refAct x0 x1 x2 x3 s (tokOf j q)) (fun k => x6 (ix1 k)) (fun g p q => x4 (ix3 g p q))
          (fun g p => x5 (ix2 g p)) p ⟨g.val * 128 + e.val, by omega⟩ := by
    intro g e
    unfold val_main_v64 val_main_v63 val_main_v62 val_main_v61 val_main_v60 val_main_v59 val_main_v58
    pointwise
    simp only [refNormed_apply]
    have hg : grp ⟨g.val * 128 + e.val, by omega⟩ = g := Fin.ext (by show (g.val * 128 + e.val) / 128 = g.val; omega)
    unfold mixed
    rw [hg]
    exact congrArg (· + (x5 (ix2 g p) : EReal)) (Finset.sum_congr rfl fun q _ => mul_comm _ _)
  have hj : (⟨(tokOf j p).val / 128, by omega⟩ : Fin 32) = j := Fin.ext (by show (j.val * 128 + p.val) / 128 = j.val; omega)
  have hp : (⟨(tokOf j p).val % 128, by omega⟩ : Fin 128) = p := Fin.ext (by show (j.val * 128 + p.val) % 128 = p.val; omega)
  have hl : (⟨(grp l).val * 128 + l.val % 128, by omega⟩ : Fin 1024) = l :=
    Fin.ext (by show l.val / 128 * 128 + l.val % 128 = l.val; omega)
  have e : val_main_v65 (F := Ideal) x0 x1 x2 x3 x4 x5 x6 (ix3 s (tokOf j p) l)
      = val_main_v64 (F := Ideal) x0 x1 x2 x3 x4 x5 x6 (ix5 s ⟨(tokOf j p).val / 128, by omega⟩
        ⟨(tokOf j p).val % 128, by omega⟩ (grp l) ⟨l.val % 128, by omega⟩) := by
    unfold val_main_v65
    pointwise
  rw [e, hj, hp, h (grp l) ⟨l.val % 128, by omega⟩, hl]

/-- Segment `s`'s token `p` of chunk `j`, among all tokens. -/
abbrev rowAt (s : Fin 3) (j : Fin 32) (p : Fin 128) : Fin 12288 := ⟨s.val * 4096 + (j.val * 128 + p.val), by omega⟩

/-- What the reference leaves at a token. -/
theorem ref_row (s : Fin 3) (j : Fin 32) (p : Fin 128) (n : Fin 1024) :
    val_main_v71 (F := Ideal) x0 x1 x2 x3 x4 x5 x6 x7 (ix2 (rowAt s j p) n)
      = mixOut (fun q k => x0 (ix2 (rowAt s j q) k)) (fun k => x1 (ix3 ⟨s.val, by omega⟩ 0 k))
          (fun k => x1 (ix3 ⟨s.val, by omega⟩ 1 k)) (fun k => x1 (ix3 ⟨s.val, by omega⟩ 2 k)) (fun k => x2 (ix1 k))
          (fun k n => x3 (ix2 k n)) (fun g p q => x4 (ix3 g p q)) (fun g p => x5 (ix2 g p)) (fun k => x6 (ix1 k))
          (fun k n => x7 (ix2 k n)) p n := by
  have hs : (⟨(rowAt s j p).val / 4096, by omega⟩ : Fin 3) = s :=
    Fin.ext (by show (s.val * 4096 + (j.val * 128 + p.val)) / 4096 = s.val; omega)
  have ht : (⟨(rowAt s j p).val % 4096, by omega⟩ : Fin 4096) = tokOf j p :=
    Fin.ext (by show (s.val * 4096 + (j.val * 128 + p.val)) % 4096 = j.val * 128 + p.val; omega)
  have e : val_main_v71 (F := Ideal) x0 x1 x2 x3 x4 x5 x6 x7 (ix2 (rowAt s j p) n)
      = val_main_v70 (F := Ideal) x0 x1 x2 x3 x4 x5 x6 x7 (ix3 ⟨(rowAt s j p).val / 4096, by omega⟩
        ⟨(rowAt s j p).val % 4096, by omega⟩ n) := by
    unfold val_main_v71
    pointwise
  rw [e, hs, ht]
  unfold val_main_v70 val_main_v69 val_main_v68 val_main_v67 val_main_v66 val_main_v43 val_main_v9 val_main_v8 val_main_v7
    val_main_v0
  pointwise
  simp only [refMixed_apply, refAct_apply]
  rfl

end

end Cert.Mix

end
-- ==== Proof.MixMain.lean ====
/-
  The mixing's array after the run is the reference's.
-/
module

public import proofs.«01_k».proof.Proof.MixGrid
public import proofs.«01_k».proof.Proof.MixRef

@[expose] public section

set_option maxRecDepth 16384

noncomputable section

namespace Cert.Mix

open Cert.KernelMixIdeal Cert.KernelMixIdeal.Gen Cert.Tiles Idealize.ShloMosaic Idealize.ShloMosaic.TcCoe

variable (m : (ℓ : Loc nD τ sig) → Buf (Elt Ideal) ℓ) (c : Dev nD)

/-- The segment of a grid point. -/
abbrev segOf (t : Fin cfg0.N) : Fin 3 := ⟨t.val / 16, by have := points t; omega⟩

/-- Chunk `r` of a grid point, in its segment. -/
abbrev chunkOf (t : Fin cfg0.N) (r : Fin 2) : Fin 32 := ⟨t.val % 16 * 2 + r.val, by omega⟩

theorem tok_eq (t : Fin cfg0.N) (r : Fin 2) (p : Fin 128) : tokRow t (rowIn r p) = rowAt (segOf t) (chunkOf t r) p :=
  Fin.ext (by
    show t.val * 256 + (128 * r.val + p.val) = t.val / 16 * 4096 + ((t.val % 16 * 2 + r.val) * 128 + p.val)
    omega)

/-- What a grid point leaves in its block is the reference's rows there. -/
theorem block_eq (t : Fin cfg0.N) (r : Fin 2) (p : Fin 128) (n : Fin 1024) :
    (outsAt0 m c t : Vec Ideal S256x1024 .f32) (ix2 (rowIn r p) n)
      = Cert.ReferenceMixIdeal.Read.val_main_v71 (F := Ideal) (argX m c) (argM m c) (argN m c) (argI m c) (argS m c) (argB m c) (argV m c) (argO m c)
          (ix2 (tokRow t (rowIn r p)) n) := by
  rw [outsAt_eq, blockOut_apply _ _ _ _ _ _ _ _ (fun g p => argB m c (ix2 g p)) (block5 m c t), tok_eq, ref_row]
  simp only [block0, block1, block2, block3, block4, block6, block7, tok_eq]

theorem emb_row (t : Fin cfg0.N) (a : Fin 256) (n : Fin 1024) :
    ((cfg0.win 8).blk t).view.emb (ix2 a n : S256x1024.Idx) = (ix2 (tokRow t a) n : S12288x1024.Idx) := by
  obtain ⟨-, -, h0, h1⟩ := index_moving t
  funext x
  apply Fin.ext
  match x with
  | ⟨0, _⟩ => show win0_8.index t 0 * 256 + 1 * a.val = t.val * 256 + a.val; rw [h0]; omega
  | ⟨1, _⟩ => show win0_8.index t 1 * 1024 + 1 * n.val = n.val; rw [h1]; omega

/-- The array that the mixing leaves is the reference's result. -/
theorem final_eq :
    ((dats m 0 c).arrAt 8 cfg0.N : FVec Ideal S12288x1024 .f32)
      = Cert.ReferenceMixIdeal.Read.val_main_v71 (F := Ideal) (argX m c) (argM m c) (argN m c) (argI m c) (argS m c) (argB m c) (argV m c) (argO m c) := by
  funext j
  obtain ⟨i, n, rfl⟩ : ∃ i n, j = (ix2 i n : S12288x1024.Idx) := ⟨j 0, j 1, by funext x; match x with | ⟨0, _⟩ => rfl | ⟨1, _⟩ => rfl⟩
  obtain ⟨t, r, p, rfl⟩ : ∃ (t : Fin cfg0.N) (r : Fin 2) (p : Fin 128), i = tokRow t (rowIn r p) :=
    ⟨⟨i.val / 256, by show i.val / 256 < 48; omega⟩, ⟨i.val % 256 / 128, by omega⟩, ⟨i.val % 128, by omega⟩,
      Fin.ext (by show i.val = i.val / 256 * 256 + (128 * (i.val % 256 / 128) + i.val % 128); omega)⟩
  rw [← block_eq, ← emb_row t (rowIn r p) n]
  exact (congrFun ((Cert.KernelMixIdeal.Value.blocks8 m c t (flush0_8 t)).trans (Cert.KernelMixIdeal.Value.flushed8 m c t)) (ix2 (rowIn r p) n : S256x1024.Idx) :)

end Cert.Mix

end
-- ==== Proof.MixClaim.lean ====
/-
  The claims about the mixing: its reference's frame, and that kernel and reference leave equal results.
-/
module

public import proofs.«01_k».proof.Defs
public import proofs.«01_k».proof.Proof.Gen.KernelMix.Frame
public import proofs.«01_k».proof.Proof.Gen.KernelMixIdeal.Frame
public import proofs.«01_k».proof.Proof.MixRun
public import proofs.«01_k».proof.Proof.MixMain
public import Idealize.ShloMosaic.Adequacy
public import Idealize.ShloMosaic.Init

@[expose] public section

set_option maxRecDepth 16384

noncomputable section

namespace Cert.Mix

open Idealize.ShloMosaic Idealize.ShloMosaic.TcCoe Idealize.SL.Sem

theorem frame_reference : Cert.quiescent_ReferenceMixIdeal := fun m ρ _ =>
  (θ_run Cert.ReferenceMixIdeal.defs _ _).mono (fun r h => ⟨fun c => (h c).2, sem_eq_zero_of_no_sems (by decide) r.2⟩)
    (reference_run m ρ)

theorem algebraic : Cert.algebraic_KernelMixIdeal_ReferenceMixIdeal := fun m g m' g' _ hargs =>
  ⟨fun c => (Cert.KernelMixIdeal.Gen.dats m 0 c).arrAt 8 Cert.KernelMixIdeal.cfg0.N,
    Cert.KernelMixIdeal.Value.run_blocks m g,
    (θ_run Cert.ReferenceMixIdeal.defs _ _).mono (fun r h c => ⟨(h c).1.trans (by
        obtain ⟨h0, h1, h2, h3, h4, h5, h6, h7⟩ := hargs c
        rw [h0, h1, h2, h3, h4, h5, h6, h7]
        exact (final_eq m c).symm), (h c).2⟩)
      (reference_run m' g')⟩

end Cert.Mix

end
-- ==== Proof.QkvRun.lean ====
/-
  The projecting reference's run, its results named by the stages they are read through.
-/
module

public import proofs.«01_k».proof.Proof.Gen.ReferenceQkvIdeal
public import proofs.«01_k».proof.Proof.Gen.ReferenceQkvIdeal.Run
public import proofs.«01_k».proof.Proof.Gen.ReferenceQkvIdeal.Read

@[expose] public section

set_option maxRecDepth 16384

noncomputable section

namespace Cert.Qkv

open Cert.ReferenceQkvIdeal Cert.ReferenceQkvIdeal.Gen Idealize.ShloMosaic Idealize.ShloMosaic.TcCoe Idealize.SL.Sem Idealize.ShloMosaic.StableHlo

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65)
          = Read.val_main_v65 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_v66)
          = Read.val_main_v66 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg5))
      ∧ r.2.mem ((c.tc : Thread nD τ).loc main_v67)
          = Read.val_main_v67 (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v59)
          = Read.val_main_v59 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg5))
      ∧ r.2.mem ((c.tc : Thread nD τ).loc main_v62)
          = Read.val_main_v62 (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans (Read.val_main_v65_eq (F := Ideal) m c), (h c).2.1.trans (Read.val_main_v66_eq (F := Ideal) m c),
      (h c).2.2.1.trans (Read.val_main_v67_eq (F := Ideal) _ _ _ _), (h c).2.2.2.1.trans (Read.val_main_v59_eq (F := Ideal) m c),
      (h c).2.2.2.2.1.trans (Read.val_main_v62_eq (F := Ideal) _ _ _ _), (h c).2.2.2.2.2⟩)
    (Cert.ReferenceQkvIdeal.Value.run (F := Ideal) m ρ)

end Cert.Qkv

end
-- ==== Proof.QkvPure.lean ====
/-
  The mathematics of the projections to queries, keys and values, free of any program: a modulated RMS norm, one
  projection, and an RMS norm of the queries and of the keys over the 64 lanes of each head. The kernel takes a head's
  sum of squares, and hands the reciprocal root back to its lanes, by products with the indicator of the heads, each in
  a high and a low part; the low part of a real number is zero.
-/
module

public import proofs.«01_k».proof.Proof.MixPure
public import proofs.«01_k».proof.Proof.NaPure

@[expose] public section

noncomputable section

namespace Cert.Qkv

open Idealize.ShloMosaic Cert.Mix Cert.Na
open scoped BigOperators

/-- A row's projection. -/
def proj (x sh sc nw : Fin 1024 → EReal) (w : Fin 1024 → Fin 3072 → EReal) (n : Fin 3072) : EReal :=
  ∑ k, hid x sh sc nw k * w k n

/-- A third of a projection: the queries, the keys or the values. -/
abbrev third (t : Fin 3072 → EReal) (g : Fin 3) (l : Fin 1024) : EReal := t ⟨1024 * g.val + l.val, by omega⟩

/-- The head of a lane, and the lane within it. -/
abbrev headOf (l : Fin 1024) : Fin 16 := ⟨l.val / 64, by omega⟩
abbrev laneOf (l : Fin 1024) : Fin 64 := ⟨l.val % 64, by omega⟩
abbrev laneAt (h : Fin 16) (e : Fin 64) : Fin 1024 := ⟨h.val * 64 + e.val, by omega⟩

/-- The reciprocal root of a head's mean square. -/
def headRms (t : Fin 1024 → EReal) (h : Fin 16) : EReal :=
  Ideal.rsqrt (Ideal.div (∑ e, t (laneAt h e) * t (laneAt h e)) (Ideal.ofBits .f32 0x42800000#32) + Ideal.ofBits .f32 0x358637BD#32)

/-- A row normed head by head. -/
def headNorm (t : Fin 1024 → EReal) (w : Fin 64 → EReal) (l : Fin 1024) : EReal :=
  t l * headRms t (headOf l) * w (laneOf l)

/-- Whether a lane belongs to a head. -/
def ind (k : Fin 1024) (h : Fin 128) : EReal := if k.val / 64 = h.val then 1 else 0

/-- The reciprocal root, its sum of squares in two parts against the indicator. -/
def splitRms (t : Fin 1024 → EReal) (h : Fin 128) : EReal :=
  Ideal.rsqrt (((∑ k, t k * t k * ind k h) + ∑ k, (t k * t k - t k * t k) * ind k h) * Ideal.ofBits .f32 0x3C800000#32
    + Ideal.ofBits .f32 0x358637BD#32)

/-- A row normed head by head by products with the indicator. -/
def splitNorm (t : Fin 1024 → EReal) (w : Fin 1024 → EReal) (l : Fin 1024) : EReal :=
  t l * ((∑ h, splitRms t h * ind l h) + ∑ h, (splitRms t h - splitRms t h) * ind l h) * w l

theorem eps_pos : (0 : EReal) < Ideal.ofBits .f32 0x358637BD#32 := by
  simp [Ideal.ofBits, Ideal.ieee, -EReal.coe_mul]

theorem width : Ideal.ofBits .f32 0x42800000#32 = ((64 : ℝ) : EReal) := by
  simp [Ideal.ofBits, Ideal.ieee, -EReal.coe_mul]; norm_num

theorem width_inv : Ideal.ofBits .f32 0x3C800000#32 = ((1 / 64 : ℝ) : EReal) := by
  simp [Ideal.ofBits, Ideal.ieee, -EReal.coe_mul]; norm_num

theorem lanes : Ideal.ofBits .f32 0x44800000#32 = ((1024 : ℝ) : EReal) := by
  simp [Ideal.ofBits, Ideal.ieee, -EReal.coe_mul]; norm_num

theorem real_sub_self {x : EReal} (h : Real' x) : x - x = 0 := by
  obtain ⟨r, rfl⟩ := h
  rw [← EReal.coe_sub, sub_self, EReal.coe_zero]

theorem sq_nonneg' (x : EReal) : 0 ≤ x * x := by
  rcases le_total 0 x with h | h
  · exact mul_nonneg h h
  · have := EReal.neg_nonneg.mpr h
    rw [← neg_mul_neg]
    exact mul_nonneg this this

/-- The reciprocal root of a positive number is real, that of infinity zero. -/
theorem real_rsqrt {y : EReal} (h : 0 < y) : Real' (Ideal.rsqrt y) := by
  induction y using EReal.rec with
  | bot => simp at h
  | top => exact ⟨0, rfl⟩
  | coe r =>
    have hr : 0 < r := by exact_mod_cast h
    rw [Ideal.rsqrt_coe, if_neg (not_lt.mpr hr.le), if_neg hr.ne']
    exact ⟨_, rfl⟩

theorem pos_of_nonneg {s e : EReal} (hs : 0 ≤ s) (he : 0 < e) : 0 < s + e :=
  lt_of_lt_of_le he (le_add_of_nonneg_left hs)

theorem sum_sq_nonneg {ι : Type} (S : Finset ι) (f : ι → EReal) : 0 ≤ ∑ i ∈ S, f i * f i :=
  Finset.sum_nonneg fun i _ => sq_nonneg' (f i)

theorem div_nonneg' {s : EReal} (hs : 0 ≤ s) {c : ℝ} (hc : 0 < c) : 0 ≤ Ideal.div s (c : EReal) := by
  rw [Ideal.div_coe hc.ne']
  exact mul_nonneg hs (by exact_mod_cast (one_div_pos.mpr hc).le)

theorem real_rms (f : Fin 1024 → EReal) : Real' (rms f) := by
  unfold rms
  rw [lanes]
  exact real_rsqrt (pos_of_nonneg (div_nonneg' (sum_sq_nonneg _ f) (by norm_num)) eps_pos)

theorem real_headRms (t : Fin 1024 → EReal) (h : Fin 16) : Real' (headRms t h) := by
  unfold headRms
  rw [width]
  exact real_rsqrt (pos_of_nonneg (div_nonneg' (sum_sq_nonneg _ fun e => t (laneAt h e)) (by norm_num)) eps_pos)

/-- An infinite entry's row has the root zero, so that the entry normed is real whatever it is. -/
theorem real_normed (f : Fin 1024 → EReal) (k : Fin 1024) : Real' (f k * rms f) := by
  by_cases hk : Real' (f k)
  · exact hk.mul (real_rms f)
  · have hsq : f k * f k = ⊤ := by
      generalize f k = y at hk
      induction y using EReal.rec with
      | bot => exact EReal.bot_mul_bot
      | top => exact EReal.top_mul_top
      | coe r => exact absurd ⟨r, rfl⟩ hk
    have hsum : (∑ i, f i * f i) = ⊤ := by
      refine top_le_iff.mp ?_
      rw [← hsq]
      exact Finset.single_le_sum (f := fun i => f i * f i) (fun i _ => sq_nonneg' (f i)) (Finset.mem_univ k)
    have h0 : rms f = 0 := by
      unfold rms
      rw [hsum, lanes, Ideal.div_coe (by norm_num), EReal.top_mul_of_pos (by exact_mod_cast (by norm_num : (0 : ℝ) < 1 / 1024)),
        EReal.top_add_of_ne_bot (ne_of_gt (lt_trans EReal.bot_lt_zero eps_pos)), Ideal.rsqrt_top]
    rw [h0, mul_zero]
    exact Real'.zero

theorem real_one : Real' 1 := ⟨1, rfl⟩

theorem real_hid (x : Fin 1024 → EReal) {sh sc nw : Fin 1024 → EReal} (hsh : ∀ k, Real' (sh k)) (hsc : ∀ k, Real' (sc k))
    (hnw : ∀ k, Real' (nw k)) (k : Fin 1024) : Real' (hid x sh sc nw k) :=
  (((real_normed x k).mul (hnw k)).mul (real_one.add (hsc k))).add (hsh k)

theorem real_proj (x : Fin 1024 → EReal) {sh sc nw : Fin 1024 → EReal} {w : Fin 1024 → Fin 3072 → EReal} (hsh : ∀ k, Real' (sh k))
    (hsc : ∀ k, Real' (sc k)) (hnw : ∀ k, Real' (nw k)) (n : Fin 3072) (hw : ∀ k, Real' (w k n)) :
    Real' (proj x sh sc nw w n) :=
  Real'.sum _ fun k => (real_hid x hsh hsc hnw k).mul (hw k)

/-- A sum against a lane's indicator is the term of its head. -/
theorem sum_ind_head (f : Fin 128 → EReal) (l : Fin 1024) : (∑ h, f h * ind l h) = f ⟨l.val / 64, by omega⟩ := by
  rw [Finset.sum_eq_single (⟨l.val / 64, by omega⟩ : Fin 128)]
  · rw [ind, if_pos rfl, mul_one]
  · intro h _ hh
    rw [ind, if_neg (fun e => hh (Fin.ext e.symm)), mul_zero]
  · intro h; exact absurd (Finset.mem_univ _) h

/-- A sum against a head's indicator is the sum over its lanes. -/
theorem sum_ind_lane (f : Fin 1024 → EReal) (h : Fin 16) :
    (∑ k, f k * ind k ⟨h.val, by omega⟩) = ∑ e, f (laneAt h e) := by
  have inj : Function.Injective (laneAt h) := fun a b hab => Fin.ext (by
    have := congrArg Fin.val hab
    simp only [] at this
    omega)
  rw [← Finset.sum_subset (Finset.subset_univ (Finset.univ.map ⟨laneAt h, inj⟩))]
  · rw [Finset.sum_map]
    refine Finset.sum_congr rfl fun e _ => ?_
    show f (laneAt h e) * ind (laneAt h e) ⟨h.val, _⟩ = _
    rw [ind, if_pos (by simp only []; omega), mul_one]
  · intro k _ hk
    rw [ind, if_neg, mul_zero]
    intro e
    refine hk (Finset.mem_map.mpr ⟨laneOf k, Finset.mem_univ _, Fin.ext ?_⟩)
    simp only [] at e
    show h.val * 64 + k.val % 64 = k.val
    omega

theorem splitRms_eq (t : Fin 1024 → EReal) (ht : ∀ k, Real' (t k)) (h : Fin 16) : splitRms t ⟨h.val, by omega⟩ = headRms t h := by
  have h0 : (∑ k, (t k * t k - t k * t k) * ind k ⟨h.val, by omega⟩) = 0 :=
    Finset.sum_eq_zero fun k _ => by rw [real_sub_self ((ht k).mul (ht k)), zero_mul]
  unfold splitRms headRms
  rw [h0, add_zero, sum_ind_lane (fun k => t k * t k) h, width, width_inv, Ideal.div_coe (by norm_num)]

/-- The two norms agree on a row of real numbers. -/
theorem splitNorm_eq (t : Fin 1024 → EReal) (ht : ∀ k, Real' (t k)) (w : Fin 1024 → EReal) (w' : Fin 64 → EReal)
    (hw : ∀ l, w l = w' (laneOf l)) (l : Fin 1024) : splitNorm t w l = headNorm t w' l := by
  have e : splitRms t ⟨l.val / 64, by omega⟩ = headRms t (headOf l) := splitRms_eq t ht (headOf l)
  unfold splitNorm headNorm
  rw [sum_ind_head, sum_ind_head (fun h => splitRms t h - splitRms t h), e, real_sub_self (real_headRms t _), add_zero, hw]

end Cert.Qkv

end
-- ==== Proof.QkvBlock.lean ====
/-
  What the projecting kernel's body leaves in its five output blocks.
-/
module

public import proofs.«01_k».proof.Proof.Gen.KernelQkvIdeal.Value
public import proofs.«01_k».proof.Proof.QkvPure
public import proofs.«01_k».proof.Proof.Tiles

@[expose] public section

noncomputable section

namespace Cert.Qkv

open Cert.KernelQkvIdeal Cert.KernelQkvIdeal.Gen Cert.Tiles Idealize.ShloMosaic Idealize.ShloMosaic.TcCoe
  Idealize.ShloMosaic.Tactic

/-- The block's rows of 1024 lanes. -/
def rowsOf (x : Vec Ideal S2048x128 .f32) : FVec Ideal S256x1024 .f32 :=
  k0_pay1 (tileRows x 0 (by decide)) (tileRows x 1 (by decide)) (tileRows x 2 (by decide)) (tileRows x 3 (by decide))
    (tileRows x 4 (by decide)) (tileRows x 5 (by decide)) (tileRows x 6 (by decide)) (tileRows x 7 (by decide))

/-- The reciprocal roots of the rows' mean squares, along the lanes. -/
def rmsOf (x : Vec Ideal S2048x128 .f32) : FVec Ideal S256x1024 .f32 :=
  k0_pay5 (tileRows x 0 (by decide)) (tileRows x 1 (by decide)) (tileRows x 2 (by decide)) (tileRows x 3 (by decide))
    (tileRows x 4 (by decide)) (tileRows x 5 (by decide)) (tileRows x 6 (by decide)) (tileRows x 7 (by decide))

section
variable (x0 : Vec Ideal S2048x128 .f32) (x1 : Vec Ideal S1x6x1024 .f32) (x2 : Vec Ideal S1x1024 .f32)
  (x3 : Vec Ideal S1024x3072 .bf16) (x4 x5 : Vec Ideal S1x1024 .f32) (x6 : Vec Ideal S1024x128 .bf16)
  (x7 : Vec Ideal S128x1024 .bf16)

/-- The rows projected. -/
def projOf : FVec Ideal S256x3072 .f32 :=
  k0_pay6 (rowsOf x0) (k0_pay2 (View.ld x2 (Rect.unit ![0, 0] ![1, 1024] (by decide)))) (k0_pay3 (modRow x1 1 (by decide)))
    (k0_pay4 (modRow x1 0 (by decide))) (rmsOf x0) (View.ld x3 (Rect.unit ![0, 0] ![1024, 3072] (by decide)))

/-- The queries, normed. -/
def qOf : FVec Ideal S256x1024 .f32 :=
  k0_pay7 (rowsOf x0) (k0_pay2 (View.ld x2 (Rect.unit ![0, 0] ![1, 1024] (by decide)))) (k0_pay3 (modRow x1 1 (by decide)))
    (k0_pay4 (modRow x1 0 (by decide))) (rmsOf x0) (View.ld x3 (Rect.unit ![0, 0] ![1024, 3072] (by decide)))
    (View.ld x4 (Rect.unit ![0, 0] ![1, 1024] (by decide))) (View.ld x6 (Rect.unit ![0, 0] ![1024, 128] (by decide)))
    (View.ld x7 (Rect.unit ![0, 0] ![128, 1024] (by decide)))

/-- The keys before their norm. -/
def keyOf : FVec Ideal S256x1024 .f32 :=
  k0_pay8 (rowsOf x0) (k0_pay2 (View.ld x2 (Rect.unit ![0, 0] ![1, 1024] (by decide)))) (k0_pay3 (modRow x1 1 (by decide)))
    (k0_pay4 (modRow x1 0 (by decide))) (rmsOf x0) (View.ld x3 (Rect.unit ![0, 0] ![1024, 3072] (by decide)))

/-- The keys, normed. -/
def kOf : FVec Ideal S256x1024 .f32 :=
  k0_pay9 (keyOf x0 x1 x2 x3) (View.ld x5 (Rect.unit ![0, 0] ![1, 1024] (by decide)))
    (View.ld x6 (Rect.unit ![0, 0] ![1024, 128] (by decide))) (View.ld x7 (Rect.unit ![0, 0] ![128, 1024] (by decide)))

/-- The keys in the attention's format. -/
def kbOf : FVec Ideal S256x1024 .bf16 :=
  k0_pay12 (keyOf x0 x1 x2 x3) (View.ld x5 (Rect.unit ![0, 0] ![1, 1024] (by decide)))
    (View.ld x6 (Rect.unit ![0, 0] ![1024, 128] (by decide))) (View.ld x7 (Rect.unit ![0, 0] ![128, 1024] (by decide)))

end

variable (m : (ℓ : Loc nD τ sig) → Buf (Elt Ideal) ℓ) (c : Dev nD) (t : Fin cfg0.N)

theorem out8_eq : (outsAt0 m c t).1 = k0_pay11 (qOf (iblk m c 0 t) (iblk m c 1 t) (iblk m c 2 t) (iblk m c 3 t) (iblk m c 4 t)
    (iblk m c 6 t) (iblk m c 7 t)) := by
  unfold outsAt0 out0_A_8
  rw [View.read_writes_eq_canon _ _ _ (cover0_A_8 c _ _ _ _ _ _ _ _ _ _ _ _ _ _ _ _ _ _ _ _ _ _ _ _ _ _ _ _ _ _ _ _ _ _ _)]
  unfold kernelRun0_A
  dsimp only
  sl_unfold_words
  simp only [strided (hs0_0 t)]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  refine (View.canon_unit_zero (S := S256x1024) (by funext a; fin_cases a <;> rfl) _ _).trans ?_
  rfl

theorem out9_eq : (outsAt0 m c t).2.1 = kbOf (iblk m c 0 t) (iblk m c 1 t) (iblk m c 2 t) (iblk m c 3 t) (iblk m c 5 t)
    (iblk m c 6 t) (iblk m c 7 t) := by
  unfold outsAt0 out0_A_9
  rw [View.read_writes_eq_canon _ _ _ (cover0_A_9 c _ _ _ _ _ _ _ _ _ _ _ _ _ _ _ _ _ _ _ _ _ _ _ _ _ _ _ _ _ _ _ _ _ _ _)]
  unfold kernelRun0_A
  dsimp only
  sl_unfold_words
  simp only [strided (hs0_0 t)]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  refine (View.canon_unit_zero (S := S256x1024) (by funext a; fin_cases a <;> rfl) _ _).trans ?_
  rfl

theorem out10_eq : (outsAt0 m c t).2.2.1 = k0_pay13 (projOf (iblk m c 0 t) (iblk m c 1 t) (iblk m c 2 t) (iblk m c 3 t)) := by
  unfold outsAt0 out0_A_10
  rw [View.read_writes_eq_canon _ _ _ (cover0_A_10 c _ _ _ _ _ _ _ _ _ _ _ _ _ _ _ _ _ _ _ _ _ _ _ _ _ _ _ _ _ _ _ _ _ _ _)]
  unfold kernelRun0_A
  dsimp only
  sl_unfold_words
  simp only [strided (hs0_0 t)]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  refine (View.canon_unit_zero (S := S256x1024) (by funext a; fin_cases a <;> rfl) _ _).trans ?_
  rfl

theorem out11_eq : (outsAt0 m c t).2.2.2.1 = kOf (iblk m c 0 t) (iblk m c 1 t) (iblk m c 2 t) (iblk m c 3 t) (iblk m c 5 t)
    (iblk m c 6 t) (iblk m c 7 t) := by
  unfold outsAt0 out0_A_11
  rw [View.read_writes_eq_canon _ _ _ (cover0_A_11 c _ _ _ _ _ _ _ _ _ _ _ _ _ _ _ _ _ _ _ _ _ _ _ _ _ _ _ _ _ _ _ _ _ _ _)]
  unfold kernelRun0_A
  dsimp only
  sl_unfold_words
  simp only [strided (hs0_0 t)]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  refine (View.canon_unit_zero (S := S256x1024) (by funext a; fin_cases a <;> rfl) _ _).trans ?_
  rfl

theorem out12_eq : (outsAt0 m c t).2.2.2.2 = k0_pay10 (projOf (iblk m c 0 t) (iblk m c 1 t) (iblk m c 2 t) (iblk m c 3 t)) := by
  unfold outsAt0 out0_A_12
  rw [View.read_writes_eq_canon _ _ _ (cover0_A_12 c _ _ _ _ _ _ _ _ _ _ _ _ _ _ _ _ _ _ _ _ _ _ _ _ _ _ _ _ _ _ _ _ _ _ _)]
  unfold kernelRun0_A
  dsimp only
  sl_unfold_words
  simp only [strided (hs0_0 t)]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  refine (View.canon_unit_zero (S := S256x1024) (by funext a; fin_cases a <;> rfl) _ _).trans ?_
  rfl

end Cert.Qkv

end
-- ==== Proof.QkvHead.lean ====
/-
  The projecting kernel's blocks, read at an index.
-/
module

public import proofs.«01_k».proof.Proof.QkvBlock

@[expose] public section

noncomputable section

namespace Cert.Qkv

open Cert.KernelQkvIdeal Cert.KernelQkvIdeal.Gen Cert.Tiles Cert.Mix Idealize.ShloMosaic Idealize.ShloMosaic.TcCoe

theorem rowsOf_apply (x : Vec Ideal S2048x128 .f32) (a : Fin 256) (k : Fin 1024) : rowsOf x (ix2 a k) = x (tileOf a k) := by
  unfold rowsOf k0_pay1
  pointwise
  simp only [tileRows_apply]
  repeat' split
  all_goals exact tile_eq x a k (by simp only [] <;> omega) (by simp only [] <;> omega)

theorem rmsOf_apply (x : Vec Ideal S2048x128 .f32) (a : Fin 256) (k : Fin 1024) :
    rmsOf x (ix2 a k) = rms (fun k => x (tileOf a k)) := by
  have h : rmsOf x (ix2 a k) = rms (fun k => rowsOf x (ix2 a k)) := by
    unfold rmsOf k0_pay5 rms
    change _ = Ideal.rsqrt (Ideal.div (∑ k, rowsOf x (ix2 a k) * rowsOf x (ix2 a k)) _ + _)
    unfold rowsOf
    generalize k0_pay1 _ _ _ _ _ _ _ _ = y
    pointwise
  rw [h]
  simp only [rowsOf_apply]

/-- A head norm by products with the indicator. -/
theorem splitNorm_apply (y : FVec Ideal S256x1024 .f32) (w : Vec Ideal S1x1024 .f32) (i : Vec Ideal S1024x128 .bf16)
    (it : Vec Ideal S128x1024 .bf16) (hi : ∀ k h, i (ix2 k h) = ind k h) (hit : ∀ h k, it (ix2 h k) = ind k h) (a : Fin 256)
    (l : Fin 1024) : k0_pay9 y w i it (ix2 a l) = splitNorm (fun k => y (ix2 a k)) (fun k => w (ix2 0 k)) l := by
  unfold k0_pay9
  pointwise
  simp only [hi, hit]
  rfl

section
variable (x0 : Vec Ideal S2048x128 .f32) (x1 : Vec Ideal S1x6x1024 .f32) (x2 : Vec Ideal S1x1024 .f32)
  (x3 : Vec Ideal S1024x3072 .bf16) (x4 x5 : Vec Ideal S1x1024 .f32) (x6 : Vec Ideal S1024x128 .bf16)
  (x7 : Vec Ideal S128x1024 .bf16)

/-- Row `a` of the block, projected. -/
def blockProj (a : Fin 256) : Fin 3072 → EReal :=
  proj (fun k => x0 (tileOf a k)) (fun k => x1 (ix3 0 0 k)) (fun k => x1 (ix3 0 1 k)) (fun k => x2 (ix2 0 k))
    (fun k n => x3 (ix2 k n))

theorem projOf_apply (a : Fin 256) (n : Fin 3072) : projOf x0 x1 x2 x3 (ix2 a n) = blockProj x0 x1 x2 x3 a n := by
  unfold projOf k0_pay6 k0_pay2 k0_pay3 k0_pay4 modRow
  pointwise
  simp only [rowsOf_apply, rmsOf_apply]
  rfl

/-- The queries before their norm. -/
def queryOf : FVec Ideal S256x1024 .f32 :=
  extractStridedSlice S256x1024 ![0, 0] (projOf x0 x1 x2 x3) slices_S256x3072_o0_0_S256x1024

theorem queryOf_apply (a : Fin 256) (l : Fin 1024) :
    queryOf x0 x1 x2 x3 (ix2 a l) = third (blockProj x0 x1 x2 x3 a) 0 l := by
  have h : queryOf x0 x1 x2 x3 (ix2 a l) = projOf x0 x1 x2 x3 (ix2 a ⟨l.val, by omega⟩) := by
    unfold queryOf
    generalize projOf x0 x1 x2 x3 = y
    pointwise
  rw [h, projOf_apply]
  exact congrArg (blockProj x0 x1 x2 x3 a) (Fin.ext (by show l.val = 1024 * 0 + l.val; omega))

theorem keyOf_apply (a : Fin 256) (l : Fin 1024) :
    keyOf x0 x1 x2 x3 (ix2 a l) = third (blockProj x0 x1 x2 x3 a) 1 l := by
  have h : keyOf x0 x1 x2 x3 (ix2 a l) = projOf x0 x1 x2 x3 (ix2 a ⟨1024 + l.val, by omega⟩) := by
    unfold keyOf k0_pay8 projOf
    generalize k0_pay6 (F := Ideal) _ _ _ _ _ _ = y
    pointwise
  rw [h, projOf_apply]
  exact congrArg (blockProj x0 x1 x2 x3 a) (Fin.ext (by show 1024 + l.val = 1024 * 1 + l.val; omega))

theorem valueOf_apply (a : Fin 256) (l : Fin 1024) :
    k0_pay10 (projOf x0 x1 x2 x3) (ix2 a l) = third (blockProj x0 x1 x2 x3 a) 2 l := by
  have h : k0_pay10 (projOf x0 x1 x2 x3) (ix2 a l) = projOf x0 x1 x2 x3 (ix2 a ⟨2048 + l.val, by omega⟩) := by
    unfold k0_pay10
    generalize projOf x0 x1 x2 x3 = y
    pointwise
  rw [h, projOf_apply]
  exact congrArg (blockProj x0 x1 x2 x3 a) (Fin.ext (by show 2048 + l.val = 1024 * 2 + l.val; omega))

theorem ld_row (x : Vec Ideal S1x1024 .f32) : View.ld x (Rect.unit (s := S1x1024) ![0, 0] ![1, 1024] (by decide)) = x :=
  View.ld_unit_zero (S := S1x1024) (by funext a; fin_cases a <;> rfl) _ x

theorem ld_ind (x : Vec Ideal S1024x128 .bf16) : View.ld x (Rect.unit (s := S1024x128) ![0, 0] ![1024, 128] (by decide)) = x :=
  View.ld_unit_zero (S := S1024x128) (by funext a; fin_cases a <;> rfl) _ x

theorem ld_indt (x : Vec Ideal S128x1024 .bf16) : View.ld x (Rect.unit (s := S128x1024) ![0, 0] ![128, 1024] (by decide)) = x :=
  View.ld_unit_zero (S := S128x1024) (by funext a; fin_cases a <;> rfl) _ x

theorem qOf_apply (hi : ∀ k h, x6 (ix2 k h) = ind k h) (hit : ∀ h k, x7 (ix2 h k) = ind k h) (a : Fin 256) (l : Fin 1024) :
    qOf x0 x1 x2 x3 x4 x6 x7 (ix2 a l)
      = splitNorm (third (blockProj x0 x1 x2 x3 a) 0) (fun k => x4 (ix2 0 k)) l := by
  have h : qOf x0 x1 x2 x3 x4 x6 x7 = k0_pay9 (queryOf x0 x1 x2 x3) x4 x6 x7 := by
    unfold qOf
    rw [ld_row x4, ld_ind, ld_indt]
    rfl
  rw [h, splitNorm_apply _ _ _ _ hi hit]
  simp only [queryOf_apply]

theorem kOf_apply (hi : ∀ k h, x6 (ix2 k h) = ind k h) (hit : ∀ h k, x7 (ix2 h k) = ind k h) (a : Fin 256) (l : Fin 1024) :
    kOf x0 x1 x2 x3 x5 x6 x7 (ix2 a l)
      = splitNorm (third (blockProj x0 x1 x2 x3 a) 1) (fun k => x5 (ix2 0 k)) l := by
  unfold kOf
  rw [ld_row x5, ld_ind, ld_indt, splitNorm_apply _ _ _ _ hi hit]
  simp only [keyOf_apply]

theorem kbOf_eq : kbOf x0 x1 x2 x3 x5 x6 x7 = kOf x0 x1 x2 x3 x5 x6 x7 := rfl

theorem vb_eq (y : FVec Ideal S256x3072 .f32) : k0_pay13 y = k0_pay10 y := rfl

theorem scaled_apply (y : FVec Ideal S256x1024 .f32) (i : S256x1024.Idx) :
    k0_pay11 y i = (y i * Ideal.ofBits .f32 0x3E000000#32 : EReal) := rfl

end

end Cert.Qkv

end
-- ==== Proof.QkvGrid.lean ====
/-
  Which part of each array a grid point of the projections stages: 256 tokens' tiles, their segment's modulation, and the
  whole of the weights and of the heads' indicators; and what the host makes of the arguments before.
-/
module

public import proofs.«01_k».proof.Proof.QkvHead
public import Idealize.ShloMosaic.Lib.StableHlo.ReadAt

@[expose] public section

set_option maxRecDepth 16384

noncomputable section

namespace Cert.Qkv

open Cert.KernelQkvIdeal Cert.KernelQkvIdeal.Gen Cert.Tiles Idealize.ShloMosaic Idealize.ShloMosaic.TcCoe

variable (m : (ℓ : Loc nD τ sig) → Buf (Elt Ideal) ℓ) (c : Dev nD)

abbrev argX : FVec Ideal S12288x1024 .f32 := m ((c : Thread nD τ).loc main_arg0)
abbrev argM : FVec Ideal S8x6x1024 .f32 := m ((c : Thread nD τ).loc main_arg1)
abbrev argN : FVec Ideal S1024 .f32 := m ((c : Thread nD τ).loc main_arg2)
abbrev argW : FVec Ideal S1024x3072 .f32 := m ((c : Thread nD τ).loc main_arg3)
abbrev argQ : FVec Ideal S64 .f32 := m ((c : Thread nD τ).loc main_arg4)
abbrev argK : FVec Ideal S64 .f32 := m ((c : Thread nD τ).loc main_arg5)

theorem tiles_at (r : Fin 98304) (l : Fin 128) : (V m c main_v18 : FVec Ideal S98304x128 .f32) (ix2 r l)
    = argX m c (ix2 ⟨r.val / 8, by omega⟩ ⟨r.val % 8 * 128 + l.val, by omega⟩) := by
  unfold V
  after_reads_at

theorem norm_at (k : Fin 1024) : (V m c main_v19 : FVec Ideal S1x1024 .f32) (ix2 0 k) = argN m c (ix1 k) := by
  unfold V
  after_reads_at

theorem w_at (j : S1024x3072.Idx) : (V m c main_v20 : FVec Ideal S1024x3072 .bf16) j = argW m c j := by
  unfold V
  after_reads_at

theorem qnorm_at (k : Fin 1024) : (V m c main_v13 : FVec Ideal S1x1024 .f32) (ix2 0 k) = argQ m c (ix1 (laneOf k)) := by
  unfold V
  after_reads_at

theorem knorm_at (k : Fin 1024) : (V m c main_v17 : FVec Ideal S1x1024 .f32) (ix2 0 k) = argK m c (ix1 (laneOf k)) := by
  unfold V
  after_reads_at

/-- The host's floor division of a lane by 64, in words. -/
def floorWord (k : Fin 1024) : BitVec 32 :=
  Scalar.select
    (IntOp.andi
      (IntOp.cmpi CmpIPredicate.ne
        (if BitVec.ofNat 32 k.val = 0 then 0 else if (BitVec.ofNat 32 k.val).msb = true then -1 else 1 : BitVec 32)
        (if 64#32 = 0 then 0 else if BitVec.msb 64#32 = true then -1 else 1 : BitVec 32))
      (IntOp.cmpi CmpIPredicate.ne (IntOp.remsi ArithUnit.host (BitVec.ofNat 32 k.val) 64#32) 0#32))
    (IntOp.subi (IntOp.divsi ArithUnit.host (BitVec.ofNat 32 k.val) 64#32) 1#32)
    (IntOp.divsi ArithUnit.host (BitVec.ofNat 32 k.val) 64#32)

theorem floorWord_eq : ∀ k : Fin 1024, floorWord k = BitVec.ofNat 32 (k.val / 64) := by decide +kernel

theorem word_eq (k : Fin 1024) (h : Fin 128) : (BitVec.ofNat 32 (k.val / 64) = BitVec.ofNat 32 h.val) ↔ k.val / 64 = h.val := by
  rw [← BitVec.toNat_inj, BitVec.toNat_ofNat, BitVec.toNat_ofNat, Nat.mod_eq_of_lt (by omega), Nat.mod_eq_of_lt (by omega)]

theorem ind_word (k : Fin 1024) (h : Fin 128) :
    (FloatOps.uitofp (F := Ideal) FTy.bf16 (IntOp.cmpi CmpIPredicate.eq (floorWord k) (BitVec.ofNat 32 h.val)) : EReal) = ind k h := by
  rw [floorWord_eq]
  unfold ind
  by_cases e : k.val / 64 = h.val
  · rw [if_pos e, e]
    simp [FloatOps.uitofp, IntOp.cmpi]
  · rw [if_neg e]
    simp [FloatOps.uitofp, IntOp.cmpi, word_eq, e]

theorem ind_at (k : Fin 1024) (h : Fin 128) : (V m c main_v8 : FVec Ideal S1024x128 .bf16) (ix2 k h) = ind k h := by
  rw [← ind_word]
  unfold V floorWord
  after_reads_at
  rfl

theorem indt_at (h : Fin 128) (k : Fin 1024) : (V m c main_v9 : FVec Ideal S128x1024 .bf16) (ix2 h k)
    = (V m c main_v8 : FVec Ideal S1024x128 .bf16) (ix2 k h) := by
  unfold V
  after_reads_at

theorem index_moving : ∀ t : Fin cfg0.N,
    (win0_0.index t 0 = t.val ∧ win0_0.index t 1 = 0)
    ∧ (win0_1.index t 0 = t.val / 16 ∧ win0_1.index t 1 = 0 ∧ win0_1.index t 2 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0) :=
  (by decide +kernel : ∀ t : Fin grid0.N, _)

theorem index_still : ∀ t : Fin cfg0.N,
    (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0) :=
  (by decide +kernel : ∀ t : Fin grid0.N, _)

variable (t : Fin cfg0.N)

theorem points (t : Fin cfg0.N) : t.val < 48 := t.isLt

/-- The token of a grid point's row. -/
abbrev tokRow (a : Fin 256) : Fin 12288 := ⟨t.val * 256 + a.val, by have := points t; omega⟩

theorem block0 (a : Fin 256) (k : Fin 1024) : (iblk m c 0 t : Vec Ideal S2048x128 .f32) (tileOf a k) = argX m c (ix2 (tokRow t a) k) := by
  obtain ⟨⟨h0, h1⟩, -⟩ := index_moving t
  have ht := points t
  unfold iblk
  rw [View.read_apply]
  refine (congrArg (V m c main_v18) (?_ : _ = ix2 ⟨t.val * 2048 + (k.val / 128 + 8 * a.val), by omega⟩ ⟨k.val % 128, by omega⟩)).trans
    ((tiles_at m c _ _).trans ?_)
  · funext x
    apply Fin.ext
    match x with
    | ⟨0, _⟩ => show win0_0.index t 0 * 2048 + 1 * (k.val / 128 + 8 * a.val) = t.val * 2048 + (k.val / 128 + 8 * a.val); rw [h0]; omega
    | ⟨1, _⟩ => show win0_0.index t 1 * 128 + 1 * (k.val % 128) = k.val % 128; rw [h1]; omega
  · rw [show (⟨(t.val * 2048 + (k.val / 128 + 8 * a.val)) / 8, by omega⟩ : Fin 12288) = tokRow t a from
        Fin.ext (by show (t.val * 2048 + (k.val / 128 + 8 * a.val)) / 8 = t.val * 256 + a.val; omega),
      show (⟨(t.val * 2048 + (k.val / 128 + 8 * a.val)) % 8 * 128 + k.val % 128, by omega⟩ : Fin 1024) = k from
        Fin.ext (by show (t.val * 2048 + (k.val / 128 + 8 * a.val)) % 8 * 128 + k.val % 128 = k.val; omega)]

theorem block1 (g : Fin 6) (n : Fin 1024) : (iblk m c 1 t : Vec Ideal S1x6x1024 .f32) (ix3 0 g n)
    = argM m c (ix3 ⟨t.val / 16, by have := points t; omega⟩ g n) := by
  obtain ⟨-, ⟨h0, h1, h2⟩, -⟩ := index_moving t
  unfold iblk
  rw [View.read_apply]
  show V m c main_arg1 _ = _
  rw [V_main_arg1]
  congr 1
  funext x
  apply Fin.ext
  match x with
  | ⟨0, _⟩ => show win0_1.index t 0 * 1 + 1 * 0 = t.val / 16; rw [h0]; omega
  | ⟨1, _⟩ => show win0_1.index t 1 * 6 + 1 * g.val = g.val; rw [h1]; omega
  | ⟨2, _⟩ => show win0_1.index t 2 * 1024 + 1 * n.val = n.val; rw [h2]; omega

theorem block2 (n : Fin 1024) : (iblk m c 2 t : Vec Ideal S1x1024 .f32) (ix2 0 n) = argN m c (ix1 n) := by
  obtain ⟨⟨h0, h1⟩, -⟩ := index_still t
  unfold iblk
  rw [View.read_apply]
  refine (congrArg (V m c main_v19) (?_ : _ = ix2 0 n)).trans (norm_at m c n)
  funext x
  apply Fin.ext
  match x with
  | ⟨0, _⟩ => show win0_2.index t 0 * 1 + 1 * 0 = 0; rw [h0]
  | ⟨1, _⟩ => show win0_2.index t 1 * 1024 + 1 * n.val = n.val; rw [h1]; omega

theorem block3 (k : Fin 1024) (n : Fin 3072) : (iblk m c 3 t : Vec Ideal S1024x3072 .bf16) (ix2 k n) = argW m c (ix2 k n) := by
  obtain ⟨-, ⟨h0, h1⟩, -⟩ := index_still t
  unfold iblk
  rw [View.read_apply]
  refine (congrArg (V m c main_v20) (?_ : _ = ix2 k n)).trans (w_at m c _)
  funext x
  apply Fin.ext
  match x with
  | ⟨0, _⟩ => show win0_3.index t 0 * 1024 + 1 * k.val = k.val; rw [h0]; omega
  | ⟨1, _⟩ => show win0_3.index t 1 * 3072 + 1 * n.val = n.val; rw [h1]; omega

theorem block4 (n : Fin 1024) : (iblk m c 4 t : Vec Ideal S1x1024 .f32) (ix2 0 n) = argQ m c (ix1 (laneOf n)) := by
  obtain ⟨-, -, ⟨h0, h1⟩, -⟩ := index_still t
  unfold iblk
  rw [View.read_apply]
  refine (congrArg (V m c main_v13) (?_ : _ = ix2 0 n)).trans (qnorm_at m c n)
  funext x
  apply Fin.ext
  match x with
  | ⟨0, _⟩ => show win0_4.index t 0 * 1 + 1 * 0 = 0; rw [h0]
  | ⟨1, _⟩ => show win0_4.index t 1 * 1024 + 1 * n.val = n.val; rw [h1]; omega

theorem block5 (n : Fin 1024) : (iblk m c 5 t : Vec Ideal S1x1024 .f32) (ix2 0 n) = argK m c (ix1 (laneOf n)) := by
  obtain ⟨-, -, -, ⟨h0, h1⟩, -⟩ := index_still t
  unfold iblk
  rw [View.read_apply]
  refine (congrArg (V m c main_v17) (?_ : _ = ix2 0 n)).trans (knorm_at m c n)
  funext x
  apply Fin.ext
  match x with
  | ⟨0, _⟩ => show win0_5.index t 0 * 1 + 1 * 0 = 0; rw [h0]
  | ⟨1, _⟩ => show win0_5.index t 1 * 1024 + 1 * n.val = n.val; rw [h1]; omega

theorem block6 (k : Fin 1024) (h : Fin 128) : (iblk m c 6 t : Vec Ideal S1024x128 .bf16) (ix2 k h) = ind k h := by
  obtain ⟨-, -, -, -, ⟨h0, h1⟩, -⟩ := index_still t
  unfold iblk
  rw [View.read_apply]
  refine (congrArg (V m c main_v8) (?_ : _ = ix2 k h)).trans (ind_at m c k h)
  funext x
  apply Fin.ext
  match x with
  | ⟨0, _⟩ => show win0_6.index t 0 * 1024 + 1 * k.val = k.val; rw [h0]; omega
  | ⟨1, _⟩ => show win0_6.index t 1 * 128 + 1 * h.val = h.val; rw [h1]; omega

theorem block7 (h : Fin 128) (k : Fin 1024) : (iblk m c 7 t : Vec Ideal S128x1024 .bf16) (ix2 h k) = ind k h := by
  obtain ⟨-, -, -, -, -, ⟨h0, h1⟩⟩ := index_still t
  unfold iblk
  rw [View.read_apply]
  refine (congrArg (V m c main_v9) (?_ : _ = ix2 h k)).trans ((indt_at m c h k).trans (ind_at m c k h))
  funext x
  apply Fin.ext
  match x with
  | ⟨0, _⟩ => show win0_7.index t 0 * 128 + 1 * h.val = h.val; rw [h0]; omega
  | ⟨1, _⟩ => show win0_7.index t 1 * 1024 + 1 * k.val = k.val; rw [h1]; omega

end Cert.Qkv

end
-- ==== Proof.QkvRef.lean ====
/-
  The reference's queries, keys and values at an index.
-/
module

public import proofs.«01_k».proof.Proof.Gen.ReferenceQkvIdeal.Read
public import proofs.«01_k».proof.Proof.QkvPure
public import Idealize.ShloMosaic.Lib.Pointwise

@[expose] public section

noncomputable section

namespace Cert.Qkv

open Cert.ReferenceQkvIdeal Cert.ReferenceQkvIdeal.Facts₀ Cert.ReferenceQkvIdeal.Read Cert.Mix Idealize.ShloMosaic

section
variable (x0 : FVec Ideal S12288x1024 .f32) (x1 : FVec Ideal S8x6x1024 .f32) (x2 : FVec Ideal S1024 .f32)
  (x3 : FVec Ideal S1024x3072 .f32) (x4 x5 : FVec Ideal S64 .f32)

/-- Token `t` of segment `s`, projected. -/
def refProj (s : Fin 3) (t : Fin 4096) : Fin 3072 → EReal :=
  proj (fun k => x0 (ix2 ⟨s.val * 4096 + t.val, by omega⟩ k)) (fun k => x1 (ix3 ⟨s.val, by omega⟩ 0 k))
    (fun k => x1 (ix3 ⟨s.val, by omega⟩ 1 k)) (fun k => x2 (ix1 k)) (fun k n => x3 (ix2 k n))

theorem refRms_apply (s : Fin 3) (t : Fin 4096) (k : Fin 1024) :
    val_main_v15 (F := Ideal) x0 (ix3 s t k) = rms (fun k => x0 (ix2 ⟨s.val * 4096 + t.val, by omega⟩ k)) := by
  unfold val_main_v15 val_main_v14 val_main_v13 val_main_v12 val_main_v11 val_main_v10 val_main_v9 val_main_v8 val_main_v7
    val_main_v0 val_main_cst val_main_cst_0 val_main_cst_1 rms
  pointwise

theorem refHid_apply (s : Fin 3) (t : Fin 4096) (k : Fin 1024) :
    val_main_v25 (F := Ideal) x0 x1 x2 (ix3 s t k)
      = hid (fun k => x0 (ix2 ⟨s.val * 4096 + t.val, by omega⟩ k)) (fun k => x1 (ix3 ⟨s.val, by omega⟩ 0 k))
          (fun k => x1 (ix3 ⟨s.val, by omega⟩ 1 k)) (fun k => x2 (ix1 k)) k := by
  unfold val_main_v25 val_main_v24 val_main_v23 val_main_v22 val_main_v21 val_main_v20 val_main_v19 val_main_v18 val_main_v17
    val_main_v16 val_main_v6 val_main_v5 val_main_v4 val_main_v3 val_main_v2 val_main_v1 val_main_cst_2
  pointwise
  rw [refRms_apply]
  unfold val_main_v0 hid
  pointwise

theorem refProj_apply (s : Fin 3) (t : Fin 4096) (n : Fin 3072) :
    val_main_v26 (F := Ideal) x0 x1 x2 x3 (ix3 s t n) = refProj x0 x1 x2 x3 s t n := by
  unfold val_main_v26
  pointwise
  simp only [refHid_apply]
  rfl

theorem proj_at (s : Fin 3) (t : Fin 4096) (g : Fin 3) (h : Fin 16) (e : Fin 64) :
    val_main_v27 (F := Ideal) x0 x1 x2 x3 (ix5 s t g h e) = third (refProj x0 x1 x2 x3 s t) g (laneAt h e) := by
  have : val_main_v27 (F := Ideal) x0 x1 x2 x3 (ix5 s t g h e)
      = val_main_v26 (F := Ideal) x0 x1 x2 x3 (ix3 s t ⟨1024 * g.val + (h.val * 64 + e.val), by omega⟩) := by
    unfold val_main_v27
    pointwise
    refine congrArg (fun n => val_main_v26 (F := Ideal) x0 x1 x2 x3 (ix3 s t n)) (Fin.ext ?_)
    simp only []
    omega
  rw [this, refProj_apply]

theorem refQuery_apply (s : Fin 3) (t : Fin 4096) (h : Fin 16) (e : Fin 64) :
    val_main_v29 (F := Ideal) x0 x1 x2 x3 (ix4 s t h e) = third (refProj x0 x1 x2 x3 s t) 0 (laneAt h e) := by
  rw [← proj_at]
  unfold val_main_v29 val_main_v28
  pointwise

theorem refKey_apply (s : Fin 3) (t : Fin 4096) (h : Fin 16) (e : Fin 64) :
    val_main_v45 (F := Ideal) x0 x1 x2 x3 (ix4 s t h e) = third (refProj x0 x1 x2 x3 s t) 1 (laneAt h e) := by
  rw [← proj_at]
  unfold val_main_v45 val_main_v44
  pointwise

theorem refValue_apply (s : Fin 3) (t : Fin 4096) (h : Fin 16) (e : Fin 64) :
    val_main_v61 (F := Ideal) x0 x1 x2 x3 (ix4 s t h e) = third (refProj x0 x1 x2 x3 s t) 2 (laneAt h e) := by
  rw [← proj_at]
  unfold val_main_v61 val_main_v60
  pointwise

theorem split_lane (l : Fin 1024) : laneAt (headOf l) (laneOf l) = l :=
  Fin.ext (by show l.val / 64 * 64 + l.val % 64 = l.val; omega)

theorem queryNorm_apply (s : Fin 3) (t : Fin 4096) (l : Fin 1024) :
    val_main_v42 (F := Ideal) x0 x1 x2 x3 x4 (ix4 s t (headOf l) (laneOf l))
      = headNorm (third (refProj x0 x1 x2 x3 s t) 0) (fun e => x4 (ix1 e)) l := by
  unfold val_main_v42 val_main_v41 val_main_v40 val_main_v39 val_main_v38 val_main_v37 val_main_v36 val_main_v35 val_main_v34
    val_main_v33 val_main_v32 val_main_v31 val_main_v30 val_main_cst_3 val_main_cst_4 val_main_cst_5 headNorm headRms
  pointwise
  simp only [refQuery_apply, split_lane]

theorem keyNorm_apply (s : Fin 3) (t : Fin 4096) (l : Fin 1024) :
    val_main_v58 (F := Ideal) x0 x1 x2 x3 x5 (ix4 s t (headOf l) (laneOf l))
      = headNorm (third (refProj x0 x1 x2 x3 s t) 1) (fun e => x5 (ix1 e)) l := by
  unfold val_main_v58 val_main_v57 val_main_v56 val_main_v55 val_main_v54 val_main_v53 val_main_v52 val_main_v51 val_main_v50
    val_main_v49 val_main_v48 val_main_v47 val_main_v46 val_main_cst_6 val_main_cst_7 val_main_cst_8 headNorm headRms
  pointwise
  simp only [refKey_apply, split_lane]

/-- Segment `s`'s token `t`, among all tokens. -/
abbrev rowAt (s : Fin 3) (t : Fin 4096) : Fin 12288 := ⟨s.val * 4096 + t.val, by omega⟩

theorem seg_of (s : Fin 3) (t : Fin 4096) : (⟨(rowAt s t).val / 4096, by omega⟩ : Fin 3) = s :=
  Fin.ext (by show (s.val * 4096 + t.val) / 4096 = s.val; omega)

theorem tok_of (s : Fin 3) (t : Fin 4096) : (⟨(rowAt s t).val % 4096, by omega⟩ : Fin 4096) = t :=
  Fin.ext (by show (s.val * 4096 + t.val) % 4096 = t.val; omega)

/-- What the reference leaves at a token: the queries, -/
theorem ref_query (s : Fin 3) (t : Fin 4096) (l : Fin 1024) :
    val_main_v65 (F := Ideal) x0 x1 x2 x3 x4 (ix2 (rowAt s t) l)
      = (headNorm (third (refProj x0 x1 x2 x3 s t) 0) (fun e => x4 (ix1 e)) l * Ideal.ofBits .f32 0x3E000000#32 : EReal) := by
  have e : val_main_v65 (F := Ideal) x0 x1 x2 x3 x4 (ix2 (rowAt s t) l)
      = (val_main_v42 (F := Ideal) x0 x1 x2 x3 x4 (ix4 ⟨(rowAt s t).val / 4096, by omega⟩
        ⟨(rowAt s t).val % 4096, by omega⟩ (headOf l) (laneOf l)) * Ideal.ofBits .f32 0x3E000000#32 : EReal) := by
    unfold val_main_v65 val_main_v64 val_main_v63 val_main_cst_9 val_main_v43
    pointwise
  rw [e, seg_of, tok_of, queryNorm_apply]

/-- the keys, -/
theorem ref_key (s : Fin 3) (t : Fin 4096) (l : Fin 1024) :
    val_main_v59 (F := Ideal) x0 x1 x2 x3 x5 (ix2 (rowAt s t) l)
      = headNorm (third (refProj x0 x1 x2 x3 s t) 1) (fun e => x5 (ix1 e)) l := by
  have e : val_main_v59 (F := Ideal) x0 x1 x2 x3 x5 (ix2 (rowAt s t) l)
      = val_main_v58 (F := Ideal) x0 x1 x2 x3 x5 (ix4 ⟨(rowAt s t).val / 4096, by omega⟩
        ⟨(rowAt s t).val % 4096, by omega⟩ (headOf l) (laneOf l)) := by
    unfold val_main_v59
    pointwise
  rw [e, seg_of, tok_of, keyNorm_apply]

/-- and the values. -/
theorem ref_value (s : Fin 3) (t : Fin 4096) (l : Fin 1024) :
    val_main_v62 (F := Ideal) x0 x1 x2 x3 (ix2 (rowAt s t) l) = third (refProj x0 x1 x2 x3 s t) 2 l := by
  have e : val_main_v62 (F := Ideal) x0 x1 x2 x3 (ix2 (rowAt s t) l)
      = val_main_v61 (F := Ideal) x0 x1 x2 x3 (ix4 ⟨(rowAt s t).val / 4096, by omega⟩
        ⟨(rowAt s t).val % 4096, by omega⟩ (headOf l) (laneOf l)) := by
    unfold val_main_v62
    pointwise
  rw [e, seg_of, tok_of, refValue_apply, split_lane]

theorem key_cast : val_main_v66 (F := Ideal) x0 x1 x2 x3 x5 = val_main_v59 (F := Ideal) x0 x1 x2 x3 x5 := rfl

theorem value_cast : val_main_v67 (F := Ideal) x0 x1 x2 x3 = val_main_v62 (F := Ideal) x0 x1 x2 x3 := rfl

end

end Cert.Qkv

end
-- ==== Proof.QkvMain.lean ====
/-
  The projections' arrays after the run are the reference's.
-/
module

public import proofs.«01_k».proof.Proof.QkvGrid
public import proofs.«01_k».proof.Proof.QkvRef

@[expose] public section

set_option maxRecDepth 16384

noncomputable section

namespace Cert.Qkv

open Cert.KernelQkvIdeal Cert.KernelQkvIdeal.Gen Cert.Tiles Cert.Na Idealize.ShloMosaic Idealize.ShloMosaic.TcCoe

variable (m : (ℓ : Loc nD τ sig) → Buf (Elt Ideal) ℓ) (c : Dev nD)

/-- The segment of a grid point. -/
abbrev segOf (t : Fin cfg0.N) : Fin 3 := ⟨t.val / 16, by have := points t; omega⟩

/-- A row of a grid point, in its segment. -/
abbrev posOf (t : Fin cfg0.N) (a : Fin 256) : Fin 4096 := ⟨t.val % 16 * 256 + a.val, by omega⟩

theorem tok_eq (t : Fin cfg0.N) (a : Fin 256) : tokRow t a = rowAt (segOf t) (posOf t a) :=
  Fin.ext (by
    show t.val * 256 + a.val = t.val / 16 * 4096 + (t.val % 16 * 256 + a.val)
    omega)

/-- A grid point's row projected. -/
theorem proj_row (t : Fin cfg0.N) (a : Fin 256) :
    blockProj (iblk m c 0 t) (iblk m c 1 t) (iblk m c 2 t) (iblk m c 3 t) a
      = refProj (argX m c) (argM m c) (argN m c) (argW m c) (segOf t) (posOf t a) := by
  unfold blockProj refProj
  simp only [block0, block1, block2, block3, tok_eq]

/-- What the queries and the keys are projected from is real, but for the activations. -/
def RealArgs : Prop :=
  (∀ (s : Fin 3) (g : Fin 2) (k : Fin 1024), Real' (argM m c (ix3 ⟨s.val, by omega⟩ ⟨g.val, by omega⟩ k)))
    ∧ (∀ k : Fin 1024, Real' (argN m c (ix1 k)))
    ∧ ∀ (k : Fin 1024) (n : Fin 2048), Real' (argW m c (ix2 k ⟨n.val, by omega⟩))

variable {m c}

theorem real_row (hr : RealArgs m c) (s : Fin 3) (p : Fin 4096) (g : Fin 3) (hg : g.val < 2) (l : Fin 1024) :
    Real' (third (refProj (argX m c) (argM m c) (argN m c) (argW m c) s p) g l) :=
  real_proj _ (fun k => hr.1 s 0 k) (fun k => hr.1 s 1 k) hr.2.1 _ fun k => hr.2.2 k ⟨1024 * g.val + l.val, by omega⟩

theorem query_eq (hr : RealArgs m c) (t : Fin cfg0.N) (a : Fin 256) (l : Fin 1024) :
    ((outsAt0 m c t).1 : Vec Ideal S256x1024 .bf16) (ix2 a l)
      = Cert.ReferenceQkvIdeal.Read.val_main_v65 (F := Ideal) (argX m c) (argM m c) (argN m c) (argW m c) (argQ m c)
          (ix2 (tokRow t a) l) := by
  rw [out8_eq, scaled_apply, qOf_apply _ _ _ _ _ _ _ (block6 m c t) (block7 m c t), proj_row, tok_eq, ref_query,
    splitNorm_eq _ (real_row hr _ _ 0 (by decide)) _ (fun e => argQ m c (ix1 e)) (block4 m c t)]

theorem key_eq (hr : RealArgs m c) (t : Fin cfg0.N) (a : Fin 256) (l : Fin 1024) :
    ((outsAt0 m c t).2.2.2.1 : Vec Ideal S256x1024 .f32) (ix2 a l)
      = Cert.ReferenceQkvIdeal.Read.val_main_v59 (F := Ideal) (argX m c) (argM m c) (argN m c) (argW m c) (argK m c)
          (ix2 (tokRow t a) l) := by
  rw [out11_eq, kOf_apply _ _ _ _ _ _ _ (block6 m c t) (block7 m c t), proj_row, tok_eq, ref_key,
    splitNorm_eq _ (real_row hr _ _ 1 (by decide)) _ (fun e => argK m c (ix1 e)) (block5 m c t)]

theorem key_cast_eq (hr : RealArgs m c) (t : Fin cfg0.N) (a : Fin 256) (l : Fin 1024) :
    ((outsAt0 m c t).2.1 : Vec Ideal S256x1024 .bf16) (ix2 a l)
      = Cert.ReferenceQkvIdeal.Read.val_main_v66 (F := Ideal) (argX m c) (argM m c) (argN m c) (argW m c) (argK m c)
          (ix2 (tokRow t a) l) := by
  rw [key_cast, ← key_eq hr, out9_eq, out11_eq, kbOf_eq]

variable (m c)

theorem value_eq (t : Fin cfg0.N) (a : Fin 256) (l : Fin 1024) :
    ((outsAt0 m c t).2.2.2.2 : Vec Ideal S256x1024 .f32) (ix2 a l)
      = Cert.ReferenceQkvIdeal.Read.val_main_v62 (F := Ideal) (argX m c) (argM m c) (argN m c) (argW m c)
          (ix2 (tokRow t a) l) := by
  rw [out12_eq, valueOf_apply, proj_row, tok_eq, ref_value]

theorem value_cast_eq (t : Fin cfg0.N) (a : Fin 256) (l : Fin 1024) :
    ((outsAt0 m c t).2.2.1 : Vec Ideal S256x1024 .bf16) (ix2 a l)
      = Cert.ReferenceQkvIdeal.Read.val_main_v67 (F := Ideal) (argX m c) (argM m c) (argN m c) (argW m c)
          (ix2 (tokRow t a) l) := by
  rw [value_cast, ← value_eq, out10_eq, out12_eq, vb_eq]

/-- An index of an array is a grid point's row and a lane. -/
theorem row_eq {t : Fin cfg0.N} {a : Fin 256} {n : Fin 1024} {j : S12288x1024.Idx} (h0 : (j 0).val = t.val * 256 + a.val)
    (h1 : (j 1).val = n.val) : j = ix2 (tokRow t a) n := by
  funext x
  apply Fin.ext
  match x with
  | ⟨0, _⟩ => exact h0
  | ⟨1, _⟩ => exact h1

/-- Two arrays agree that agree on every grid point's rows. -/
theorem rows_ext {f g : S12288x1024.Idx → EReal}
    (h : ∀ (t : Fin cfg0.N) (a : Fin 256) (n : Fin 1024), f (ix2 (tokRow t a) n) = g (ix2 (tokRow t a) n)) : f = g := by
  funext j
  have hj : j = ix2 (tokRow ⟨(j 0).val / 256, by have h : (j 0).val < 12288 := (j 0).isLt; show (j 0).val / 256 < 48; omega⟩ ⟨(j 0).val % 256, by omega⟩) (j 1) :=
    row_eq (by show (j 0).val = (j 0).val / 256 * 256 + (j 0).val % 256; omega) rfl
  rw [hj]
  exact h _ _ _

theorem emb8 (t : Fin cfg0.N) (a : Fin 256) (n : Fin 1024) :
    ((cfg0.win 8).blk t).view.emb (ix2 a n : S256x1024.Idx) = (ix2 (tokRow t a) n : S12288x1024.Idx) := by
  obtain ⟨-, -, ⟨h0, h1⟩, -⟩ := index_moving t
  refine row_eq ?_ ?_
  · show win0_8.index t 0 * 256 + 1 * a.val = t.val * 256 + a.val; rw [h0]; omega
  · show win0_8.index t 1 * 1024 + 1 * n.val = n.val; rw [h1]; omega

theorem emb9 (t : Fin cfg0.N) (a : Fin 256) (n : Fin 1024) :
    ((cfg0.win 9).blk t).view.emb (ix2 a n : S256x1024.Idx) = (ix2 (tokRow t a) n : S12288x1024.Idx) := by
  obtain ⟨-, -, -, ⟨h0, h1⟩, -⟩ := index_moving t
  refine row_eq ?_ ?_
  · show win0_9.index t 0 * 256 + 1 * a.val = t.val * 256 + a.val; rw [h0]; omega
  · show win0_9.index t 1 * 1024 + 1 * n.val = n.val; rw [h1]; omega

theorem emb10 (t : Fin cfg0.N) (a : Fin 256) (n : Fin 1024) :
    ((cfg0.win 10).blk t).view.emb (ix2 a n : S256x1024.Idx) = (ix2 (tokRow t a) n : S12288x1024.Idx) := by
  obtain ⟨-, -, -, -, ⟨h0, h1⟩, -⟩ := index_moving t
  refine row_eq ?_ ?_
  · show win0_10.index t 0 * 256 + 1 * a.val = t.val * 256 + a.val; rw [h0]; omega
  · show win0_10.index t 1 * 1024 + 1 * n.val = n.val; rw [h1]; omega

theorem emb11 (t : Fin cfg0.N) (a : Fin 256) (n : Fin 1024) :
    ((cfg0.win 11).blk t).view.emb (ix2 a n : S256x1024.Idx) = (ix2 (tokRow t a) n : S12288x1024.Idx) := by
  obtain ⟨-, -, -, -, -, ⟨h0, h1⟩, -⟩ := index_moving t
  refine row_eq ?_ ?_
  · show win0_11.index t 0 * 256 + 1 * a.val = t.val * 256 + a.val; rw [h0]; omega
  · show win0_11.index t 1 * 1024 + 1 * n.val = n.val; rw [h1]; omega

theorem emb12 (t : Fin cfg0.N) (a : Fin 256) (n : Fin 1024) :
    ((cfg0.win 12).blk t).view.emb (ix2 a n : S256x1024.Idx) = (ix2 (tokRow t a) n : S12288x1024.Idx) := by
  obtain ⟨-, -, -, -, -, -, h0, h1⟩ := index_moving t
  refine row_eq ?_ ?_
  · show win0_12.index t 0 * 256 + 1 * a.val = t.val * 256 + a.val; rw [h0]; omega
  · show win0_12.index t 1 * 1024 + 1 * n.val = n.val; rw [h1]; omega

/-- The arrays that the projections leave are the reference's results: the queries, -/
theorem final8 (hr : RealArgs m c) : ((dats m 0 c).arrAt 8 cfg0.N : FVec Ideal S12288x1024 .bf16)
    = Cert.ReferenceQkvIdeal.Read.val_main_v65 (F := Ideal) (argX m c) (argM m c) (argN m c) (argW m c) (argQ m c) :=
  rows_ext fun t a n => by
    rw [← query_eq hr, ← emb8 t a n]
    exact (congrFun ((Cert.KernelQkvIdeal.Value.blocks8 m c t (flush0_8 t)).trans (Cert.KernelQkvIdeal.Value.flushed8 m c t)) (ix2 a n : S256x1024.Idx) :)

/-- the keys, -/
theorem final9 (hr : RealArgs m c) : ((dats m 0 c).arrAt 9 cfg0.N : FVec Ideal S12288x1024 .bf16)
    = Cert.ReferenceQkvIdeal.Read.val_main_v66 (F := Ideal) (argX m c) (argM m c) (argN m c) (argW m c) (argK m c) :=
  rows_ext fun t a n => by
    rw [← key_cast_eq hr, ← emb9 t a n]
    exact (congrFun ((Cert.KernelQkvIdeal.Value.blocks9 m c t (flush0_9 t)).trans (Cert.KernelQkvIdeal.Value.flushed9 m c t)) (ix2 a n : S256x1024.Idx) :)

/-- the values, -/
theorem final10 : ((dats m 0 c).arrAt 10 cfg0.N : FVec Ideal S12288x1024 .bf16)
    = Cert.ReferenceQkvIdeal.Read.val_main_v67 (F := Ideal) (argX m c) (argM m c) (argN m c) (argW m c) :=
  rows_ext fun t a n => by
    rw [← value_cast_eq, ← emb10 t a n]
    exact (congrFun ((Cert.KernelQkvIdeal.Value.blocks10 m c t (flush0_10 t)).trans (Cert.KernelQkvIdeal.Value.flushed10 m c t)) (ix2 a n : S256x1024.Idx) :)

/-- and once more the keys -/
theorem final11 (hr : RealArgs m c) : ((dats m 0 c).arrAt 11 cfg0.N : FVec Ideal S12288x1024 .f32)
    = Cert.ReferenceQkvIdeal.Read.val_main_v59 (F := Ideal) (argX m c) (argM m c) (argN m c) (argW m c) (argK m c) :=
  rows_ext fun t a n => by
    rw [← key_eq hr, ← emb11 t a n]
    exact (congrFun ((Cert.KernelQkvIdeal.Value.blocks11 m c t (flush0_11 t)).trans (Cert.KernelQkvIdeal.Value.flushed11 m c t)) (ix2 a n : S256x1024.Idx) :)

/-- and the values. -/
theorem final12 : ((dats m 0 c).arrAt 12 cfg0.N : FVec Ideal S12288x1024 .f32)
    = Cert.ReferenceQkvIdeal.Read.val_main_v62 (F := Ideal) (argX m c) (argM m c) (argN m c) (argW m c) :=
  rows_ext fun t a n => by
    rw [← value_eq, ← emb12 t a n]
    exact (congrFun ((Cert.KernelQkvIdeal.Value.blocks12 m c t (flush0_12 t)).trans (Cert.KernelQkvIdeal.Value.flushed12 m c t)) (ix2 a n : S256x1024.Idx) :)

end Cert.Qkv

end
-- ==== Proof.QkvClaim.lean ====
/-
  The claims about the projections: their reference's frame, and that kernel and reference leave equal results.
-/
module

public import proofs.«01_k».proof.Defs
public import proofs.«01_k».proof.Proof.Gen.KernelQkv.Frame
public import proofs.«01_k».proof.Proof.Gen.KernelQkvIdeal.Frame
public import proofs.«01_k».proof.Proof.NaClaim
public import proofs.«01_k».proof.Proof.QkvRun
public import proofs.«01_k».proof.Proof.QkvMain
public import Idealize.ShloMosaic.Adequacy
public import Idealize.ShloMosaic.Init

@[expose] public section

set_option maxRecDepth 16384

noncomputable section

namespace Cert.Qkv

open Cert.Na Idealize.ShloMosaic Idealize.ShloMosaic.TcCoe Idealize.SL.Sem

instance preFacts : Cert.Pre_finite_projection.Facts where
  slices_S8x6x1024_S3x2x1024_0_0_0 := by decide
  bcast_S_S3x2x1024 := by decide
  bcast_S_S1024 := by decide
  slices_S1024x3072_S1024x2048_0_0 := by decide
  bcast_S_S1024x2048 := by decide

section
open Cert.Pre_finite_projection

theorem modulation_at (x : FVec Ideal S8x6x1024 .f32) (h : S8x6x1024.Slices ![0, 0, 0] S3x2x1024) (s : Fin 3) (g : Fin 2) (k : Fin 1024) :
    extractStridedSlice S3x2x1024 ![0, 0, 0] x h (ix3 s g k) = x (ix3 ⟨s.val, by omega⟩ ⟨g.val, by omega⟩ k) := by
  pointwise

theorem weights_at (x : FVec Ideal S1024x3072 .f32) (h : S1024x3072.Slices ![0, 0] S1024x2048) (k : Fin 1024) (n : Fin 2048) :
    extractStridedSlice S1024x2048 ![0, 0] x h (ix2 k n) = x (ix2 k ⟨n.val, by omega⟩) := by
  pointwise

end

theorem realArgs (m : (ℓ : Loc Cert.KernelQkvIdeal.nD Cert.KernelQkvIdeal.τ Cert.KernelQkvIdeal.sig) → Buf (Elt Ideal) ℓ)
    (h : Cert.Pre_KernelQkvIdeal_finite_projection m) (c : Dev Cert.KernelQkvIdeal.nD) : RealArgs m c :=
  ⟨fun s g k => (modulation_at (argM m c) preFacts.slices_S8x6x1024_S3x2x1024_0_0_0 s g k).symm ▸ real_of_word (congrFun (h c).1 (ix3 s g k)),
    fun k => real_of_word (congrFun (h c).2.1 (ix1 k)),
    fun k n => (weights_at (argW m c) preFacts.slices_S1024x3072_S1024x2048_0_0 k n).symm ▸ real_of_word (congrFun (h c).2.2 (ix2 k n))⟩

theorem frame_reference : Cert.quiescent_ReferenceQkvIdeal := fun m ρ _ =>
  (θ_run Cert.ReferenceQkvIdeal.defs _ _).mono
    (fun r h => ⟨fun c => (h c).2.2.2.2.2, sem_eq_zero_of_no_sems (by decide) r.2⟩) (reference_run m ρ)

theorem algebraic : Cert.algebraic_KernelQkvIdeal_ReferenceQkvIdeal_pre_finite_projection := fun m g m' g' hpre hargs =>
  ⟨fun c => (Cert.KernelQkvIdeal.Gen.dats m 0 c).arrAt 8 Cert.KernelQkvIdeal.cfg0.N,
    fun c => (Cert.KernelQkvIdeal.Gen.dats m 0 c).arrAt 9 Cert.KernelQkvIdeal.cfg0.N,
    fun c => (Cert.KernelQkvIdeal.Gen.dats m 0 c).arrAt 10 Cert.KernelQkvIdeal.cfg0.N,
    fun c => (Cert.KernelQkvIdeal.Gen.dats m 0 c).arrAt 11 Cert.KernelQkvIdeal.cfg0.N,
    fun c => (Cert.KernelQkvIdeal.Gen.dats m 0 c).arrAt 12 Cert.KernelQkvIdeal.cfg0.N,
    Cert.KernelQkvIdeal.Value.run_blocks m g,
    (θ_run Cert.ReferenceQkvIdeal.defs _ _).mono (fun r h c => by
        obtain ⟨h0, h1, h2, h3, h4, h5⟩ := hargs c
        have hr := realArgs m hpre c
        refine ⟨(h c).1.trans ?_, (h c).2.1.trans ?_, (h c).2.2.1.trans ?_, (h c).2.2.2.1.trans ?_, (h c).2.2.2.2.1.trans ?_,
          (h c).2.2.2.2.2⟩
        · rw [h0, h1, h2, h3, h4]; exact (final8 m c hr).symm
        · rw [h0, h1, h2, h3, h5]; exact (final9 m c hr).symm
        · rw [h0, h1, h2, h3]; exact (final10 m c).symm
        · rw [h0, h1, h2, h3, h5]; exact (final11 m c hr).symm
        · rw [h0, h1, h2, h3]; exact (final12 m c).symm)
      (reference_run m' g')⟩

end Cert.Qkv

end
-- ==== Proof.CtxRun.lean ====
/-
  The run of the context attention's reference, its result named by the stages it is read through.
-/
module

public import proofs.«01_k».proof.Proof.Gen.ReferenceCtxIdeal
public import proofs.«01_k».proof.Proof.Gen.ReferenceCtxIdeal.Run
public import proofs.«01_k».proof.Proof.Gen.ReferenceCtxIdeal.Read

@[expose] public section

set_option maxRecDepth 16384

noncomputable section

namespace Cert.Ctx

open Cert.ReferenceCtxIdeal Cert.ReferenceCtxIdeal.Gen Idealize.ShloMosaic Idealize.ShloMosaic.TcCoe Idealize.SL.Sem Idealize.ShloMosaic.StableHlo

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33)
          = Read.val_main_v33 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans (Read.val_main_v33_eq (F := Ideal) m c), (h c).2⟩)
    (Cert.ReferenceCtxIdeal.Value.run (F := Ideal) m ρ)

end Cert.Ctx

end
-- ==== Proof.CtxHead.lean ====
/-
  What the context attention's body leaves in its output block: eight pairs of heads, each two softmaxes over one prompt's
  keys, joined, projected, gated and added to the residual.
-/
module

public import proofs.«01_k».proof.Proof.Gen.KernelCtxIdeal.Value
public import proofs.«01_k».proof.Proof.NaHead
public import Idealize.ShloMosaic.Lib.Pointwise

@[expose] public section

noncomputable section

namespace Cert.Ctx

open Cert.Na (Real' lane peak den att attOnce attOnce_eq_att low_lanes high_lanes lane_test neg_inf' fold_max_eq_sup)
open Cert.KernelCtxIdeal Cert.KernelCtxIdeal.Gen Idealize.ShloMosaic Idealize.ShloMosaic.TcCoe

section
variable {C : Type} [Fintype C]

/-- Softmax attention over one kind of keys: every weight divided by the normalizer, then the weighted values summed. -/
def soft (t : C → EReal) (w : C → EReal) : EReal :=
  ∑ c, Ideal.div (Ideal.exp (t c - Finset.univ.sup t)) (∑ d, Ideal.exp (t d - Finset.univ.sup t)) * w c

/-- The same, the weighted values summed first and divided once. -/
def softOnce (t : C → EReal) (w : C → EReal) : EReal :=
  Ideal.div (∑ c, Ideal.exp (t c - Finset.univ.sup t) * w c) (∑ d, Ideal.exp (t d - Finset.univ.sup t))

/-- Dividing once is dividing every weight: two kinds of keys, none of the first. -/
theorem softOnce_eq_soft [Nonempty C] {t : C → EReal} (ht : ∀ c, Real' (t c)) (w : C → EReal) : softOnce t w = soft t w := by
  have h := attOnce_eq_att (B := Empty) (s := fun b => b.elim) (t := t) (fun b => b.elim) ht (fun b => b.elim) w
  simpa [attOnce, att, den, peak, softOnce, soft] using h

end

/-- Whether a lane of a pair is the first head's. -/
def firstHead : IVec S1x128 1 := cmpi .slt (iota .tc S1x128 32 [1] iota_S1x128_d1_w32) (broadcast S1x128 64#32)

/-- One head's attention: its queries with the other head's lanes zeroed. -/
def headOut (q k v : FVec Ideal S256x128 .bf16) : FVec Ideal S256x128 .f32 :=
  have s : FVec Ideal S256x256 .f32 :=
    matmul dot_S256x128_S256x128_S256x256_1_1_0_0_n_n none q k (constant S256x256 .f32 0x00000000#32)
  have top : FVec Ideal S256x1 .f32 :=
    shapeCast S256x1 (multiReduction .maximumf [1] S256 s 0xFF800000#32 reduces_S256x256_S256 (.inl rfl) rfl) shapeCasts_S256_S256x1
  have p : FVec Ideal S256x256 .f32 := exp (subf s (broadcastTo S256x256 top broadcasts_S256x1_S256x256))
  have norm : FVec Ideal S256x1 .f32 :=
    shapeCast S256x1 (multiReduction .add [1] S256 p 0x00000000#32 reduces_S256x256_S256 (.inl rfl) rfl) shapeCasts_S256_S256x1
  divf
    (matmul dot_S256x256_S256x128_S256x128_1_0_0_1_n_n none (truncf .bf16 p bitsLt_bf16_f32) v (constant S256x128 .f32 0x00000000#32))
    (broadcastTo S256x128 norm broadcasts_S256x1_S256x128)

/-- The lanes of `q` under a mask, the others zero. -/
def onlyLanes (mask : IVec S1x128 1) (q : FVec Ideal S256x128 .bf16) : FVec Ideal S256x128 .bf16 :=
  select (broadcastTo S256x128 (shapeCast S1x128 mask shapeCasts_S1x128_S1x128) broadcasts_S1x128_S256x128) q
    (broadcast S256x128 (Scalar.ofBits .bf16 0x0000#16))

/-- Two heads' attention, each on its half of the lanes. -/
def headPair (q k v : FVec Ideal S256x128 .bf16) : FVec Ideal S256x128 .f32 :=
  select (broadcastTo S256x128 (shapeCast S1x128 firstHead shapeCasts_S1x128_S1x128) broadcasts_S1x128_S256x128)
    (headOut (onlyLanes firstHead q) k v)
    (headOut (onlyLanes (xori firstHead (constantI S1x128 1 1#1)) q) k v)

/-- A pair's 128 lanes of a block. -/
def lanes (x : Vec Ideal S256x1024 .bf16) (o : Nat) (ho : o + 128 ≤ 1024) : Vec Ideal S256x128 .bf16 :=
  View.ld x (Rect.unit ![0, o] ![256, 128] (by intro a; fin_cases a <;> first | exact ho | exact Nat.le_refl _))

section
variable (x0 x1 x2 : Vec Ideal S256x1024 .bf16) (x3 : Vec Ideal S256x1024 .f32) (x4 : Vec Ideal S1x6x1024 .f32)
  (x5 : Vec Ideal S1024x1024 .bf16)

/-- The pair of heads at lane offset `o`. -/
def pairOut (o : Nat) (ho : o + 128 ≤ 1024) : FVec Ideal S256x128 .f32 :=
  headPair (lanes x0 o ho) (lanes x1 o ho) (lanes x2 o ho)

/-- The sixteen heads' outputs side by side. -/
def allHeads : FVec Ideal S256x1024 .f32 :=
  concatenate S256x1024 1
    [⟨S256x128, pairOut x0 x1 x2 0 (by decide)⟩, ⟨S256x128, pairOut x0 x1 x2 128 (by decide)⟩,
     ⟨S256x128, pairOut x0 x1 x2 256 (by decide)⟩, ⟨S256x128, pairOut x0 x1 x2 384 (by decide)⟩,
     ⟨S256x128, pairOut x0 x1 x2 512 (by decide)⟩, ⟨S256x128, pairOut x0 x1 x2 640 (by decide)⟩,
     ⟨S256x128, pairOut x0 x1 x2 768 (by decide)⟩, ⟨S256x128, pairOut x0 x1 x2 896 (by decide)⟩]
    concatenates_S256x128_S256x128_S256x128_S256x128_S256x128_S256x128_S256x128_S256x128_S256x1024_d1

/-- The whole block. -/
def blockOut : FVec Ideal S256x1024 .f32 :=
  addf (View.ld x3 (Rect.unit ![0, 0] ![256, 1024] (by decide)) : Vec Ideal S256x1024 .f32)
    (mulf (broadcastTo S256x1024 (shapeCast S1x1024
        (View.ld x4 (Rect.unit ![0, 2, 0] ![1, 1, 1024] (by decide)) : Vec Ideal S1x1x1024 .f32) shapeCasts_S1x1x1024_S1x1024)
        broadcasts_S1x1024_S256x1024)
      (matmul dot_S256x1024_S1024x1024_S256x1024_1_0_0_1_n_n none (truncf .bf16 (allHeads x0 x1 x2) bitsLt_bf16_f32)
        (shapeCast S1024x1024 (View.ld x5 (Rect.unit ![0, 0] ![1024, 1024] (by decide)) : Vec Ideal S1024x1024 .bf16)
          shapeCasts_S1024x1024_S1024x1024 : FVec Ideal S1024x1024 .bf16)
        (constant S256x1024 .f32 0x00000000#32)))

theorem out_eq : out0_6 x0 x1 x2 x3 x4 x5 = blockOut x0 x1 x2 x3 x4 x5 := by
  unfold out0_6
  refine (View.canon_unit_zero (S := S256x1024) (by funext a; fin_cases a <;> rfl) _ _).trans ?_
  rfl

theorem headOut_apply (q k v : FVec Ideal S256x128 .bf16) (a : Fin 256) (l : Fin 128) :
    headOut q k v (ix2 a l)
      = softOnce (fun n : Fin 256 => ∑ e : Fin 128, q (ix2 a e) * k (ix2 n e)) (fun n => v (ix2 n l)) := by
  unfold headOut
  dsimp only
  pointwise
  simp only [neg_inf', fold_max_eq_sup]
  rfl

theorem firstHead_apply (e : Fin 128) : firstHead (ix2 0 e) = if e.val < 64 then 1#1 else 0#1 := by
  unfold firstHead
  pointwise
  exact lane_test e

theorem onlyFirst_apply (q : FVec Ideal S256x128 .bf16) (a : Fin 256) (e : Fin 128) :
    onlyLanes firstHead q (ix2 a e) = if e.val < 64 then (q (ix2 a e) : EReal) else 0 := by
  unfold onlyLanes
  pointwise
  rw [firstHead_apply]
  split <;> rfl

theorem onlySecond_apply (q : FVec Ideal S256x128 .bf16) (a : Fin 256) (e : Fin 128) :
    onlyLanes (xori firstHead (constantI S1x128 1 1#1)) q (ix2 a e) = if e.val < 64 then (0 : EReal) else q (ix2 a e) := by
  unfold onlyLanes
  pointwise
  rw [firstHead_apply]
  split <;> rfl

/-- Head `h`'s output at query `a`, lane `e`, of a block. -/
def kernelHead (h : Fin 16) (a : Fin 256) (e : Fin 64) : EReal :=
  softOnce (fun n : Fin 256 => ∑ d : Fin 64, x0 (ix2 a (lane h d)) * x1 (ix2 n (lane h d))) (fun n => x2 (ix2 n (lane h e)))

theorem headPair_apply (q k v : FVec Ideal S256x128 .bf16) (a : Fin 256) (l : Fin 128) :
    headPair q k v (ix2 a l)
      = if l.val < 64
        then softOnce (fun n : Fin 256 => ∑ d : Fin 64, q (ix2 a ⟨d.val, by omega⟩) * k (ix2 n ⟨d.val, by omega⟩)) (fun n => v (ix2 n l))
        else softOnce (fun n : Fin 256 => ∑ d : Fin 64, q (ix2 a ⟨64 + d.val, by omega⟩) * k (ix2 n ⟨64 + d.val, by omega⟩))
          (fun n => v (ix2 n l)) := by
  unfold headPair
  pointwise
  simp only [firstHead_apply, headOut_apply, onlyFirst_apply, onlySecond_apply,
    low_lanes (fun x => q (ix2 a x)), high_lanes (fun x => q (ix2 a x))]
  split <;> rfl

theorem pairOut_apply (o h : Nat) (ho : o + 128 ≤ 1024) (hh : h + 2 ≤ 16) (hoh : o = 64 * h) (a : Fin 256) (l : Fin 128) :
    pairOut x0 x1 x2 o ho (ix2 a l) = kernelHead x0 x1 x2 ⟨h + l.val / 64, by omega⟩ a ⟨l.val % 64, by omega⟩ := by
  unfold pairOut
  rw [headPair_apply]
  unfold lanes
  pointwise
  subst hoh
  unfold kernelHead
  have e0 : ∀ x : Nat, 64 * h + x = h * 64 + x := fun x => by omega
  have e1 : ∀ x : Nat, h * 64 + (64 + x) = (h + 1) * 64 + x := fun x => by omega
  by_cases hl : l.val < 64
  · have e3 : l.val / 64 = 0 := by omega
    have e4 : l.val % 64 = l.val := by omega
    simp only [if_pos hl, e0, e3, e4, Nat.add_zero]
  · have e3 : l.val / 64 = 1 := by omega
    have e4 : h * 64 + l.val = (h + 1) * 64 + l.val % 64 := by omega
    simp only [if_neg hl, e0, e1, e3, e4]

theorem kernelHead_eq (a : Fin 256) {h h' : Fin 16} {e e' : Fin 64} (hh : h.val = h'.val) (he : e.val = e'.val) :
    kernelHead x0 x1 x2 h a e = kernelHead x0 x1 x2 h' a e' := by
  rw [Fin.ext hh, Fin.ext he]

theorem allHeads_apply (a : Fin 256) (l : Fin 1024) :
    allHeads x0 x1 x2 (ix2 a l) = kernelHead x0 x1 x2 ⟨l.val / 64, by omega⟩ a ⟨l.val % 64, by omega⟩ := by
  unfold allHeads
  pointwise
  simp only [pairOut_apply x0 x1 x2 0 0 (by decide) (by decide) rfl, pairOut_apply x0 x1 x2 128 2 (by decide) (by decide) rfl,
    pairOut_apply x0 x1 x2 256 4 (by decide) (by decide) rfl, pairOut_apply x0 x1 x2 384 6 (by decide) (by decide) rfl,
    pairOut_apply x0 x1 x2 512 8 (by decide) (by decide) rfl, pairOut_apply x0 x1 x2 640 10 (by decide) (by decide) rfl,
    pairOut_apply x0 x1 x2 768 12 (by decide) (by decide) rfl, pairOut_apply x0 x1 x2 896 14 (by decide) (by decide) rfl]
  repeat' split
  all_goals exact kernelHead_eq x0 x1 x2 a (by simp only [] <;> omega) (by simp only [] <;> omega)

theorem blockOut_apply (a : Fin 256) (n : Fin 1024) :
    blockOut x0 x1 x2 x3 x4 x5 (ix2 a n)
      = x3 (ix2 a n) + x4 (ix3 0 2 n)
        * ∑ l : Fin 1024, kernelHead x0 x1 x2 ⟨l.val / 64, by omega⟩ a ⟨l.val % 64, by omega⟩ * x5 (ix2 l n) := by
  unfold blockOut
  pointwise
  simp only [allHeads_apply]

end

end Cert.Ctx

end
-- ==== Proof.CtxRef.lean ====
/-
  The reference's value at an index: the softmax of a prompt's scores over its values, the output projection and the gated
  residual.
-/
module

public import proofs.«01_k».proof.Proof.Gen.ReferenceCtxIdeal.Read
public import proofs.«01_k».proof.Proof.CtxHead

@[expose] public section

noncomputable section

namespace Cert.Ctx

open Cert.Na (lane)
open Cert.ReferenceCtxIdeal Cert.ReferenceCtxIdeal.Facts₀ Cert.ReferenceCtxIdeal.Read Idealize.ShloMosaic

/-- Prompt `b`'s token `r`, among all tokens. -/
abbrev tok (b : Fin 16) (r : Fin 256) : Fin 12288 := ⟨b.val * 256 + r.val, by omega⟩

/-- Query `(b, r)`'s score with the prompt's key `n` in head `h`. -/
def score (q k : FVec Ideal S12288x1024 .bf16) (b : Fin 16) (r : Fin 256) (h : Fin 16) (n : Fin 256) : EReal :=
  ∑ e : Fin 64, q (ix2 (tok b r) (lane h e)) * k (ix2 (tok b n) (lane h e))

section
variable (q k v : FVec Ideal S12288x1024 .bf16)

theorem score_apply (b : Fin 16) (r : Fin 256) (h : Fin 16) (n : Fin 256) :
    val_main_v9 (F := Ideal) q k (ix4 b h r n) = score q k b r h n := by
  unfold val_main_v9 val_main_v2 val_main_v1 val_main_v0 val_main_v5 val_main_v4 val_main_v3 score
  pointwise

theorem neg_inf : Ideal.ofBits .f32 0xFF800000#32 = (⊥ : EReal) := by
  simp [Ideal.ofBits, Ideal.ieee]

theorem scoresMax_fold (b : Fin 16) (r : Fin 256) (h : Fin 16) :
    val_main_v10 (F := Ideal) q k (ix3 b h r)
      = (Finset.univ : Finset (Fin (S16x16x256x256.size 3))).fold (FloatOps.maximumf (F := Ideal) (φ := .f32))
          (val_main_cst (F := Ideal) (Shape.Idx.first h_S_))
          (val_main_v9 (F := Ideal) q k ∘ (by decide : S16x16x256x256.Reduces [3] S16x16x256).lift (ix3 b h r)) := by
  unfold val_main_v10
  exact Host.reduce_eq_fold_single (α := Ideal .f32) (FloatOps.maximumf (F := Ideal) (φ := .f32)) _ _ _
    (by decide : S16x16x256x256.Reduces [3] S16x16x256) _ _

theorem fold_sup (f : Fin 256 → EReal) :
    (Finset.univ).fold (FloatOps.maximumf (F := Ideal) (φ := .f32)) (⊥ : EReal) f = Finset.univ.sup f := rfl

theorem lift256 (b : Fin 16) (r : Fin 256) (h : Fin 16) (n : Fin 256) :
    (by decide : S16x16x256x256.Reduces [3] S16x16x256).lift (ix3 b h r) n = ix4 b h r n := by
  funext a
  apply Fin.ext
  fin_cases a <;> rfl

theorem initial_max : val_main_cst (F := Ideal) (Shape.Idx.first h_S_) = (⊥ : EReal) := neg_inf

theorem scoresMax_apply (b : Fin 16) (r : Fin 256) (h : Fin 16) :
    (val_main_v10 (F := Ideal) q k (ix3 b h r) : EReal) = Finset.univ.sup (score q k b r h) := by
  refine (scoresMax_fold q k b r h).trans ?_
  rw [initial_max]
  refine (fold_sup _).trans ?_
  refine congrArg (Finset.univ.sup) ?_
  funext n
  exact (congrArg (val_main_v9 (F := Ideal) q k) (lift256 b r h n)).trans (score_apply q k b r h n)

theorem peak_apply (b : Fin 16) (r : Fin 256) (h : Fin 16) :
    val_main_v12 (F := Ideal) q k (ix3 b h r) = Finset.univ.sup (score q k b r h) := by
  rw [val_main_v12_apply]
  have hb : val_main_v11 (F := Ideal) (ix3 b h r) = (⊥ : EReal) := neg_inf
  rw [hb, scoresMax_apply]
  exact max_eq_right bot_le

theorem weight_apply (b : Fin 16) (r : Fin 256) (h : Fin 16) (n : Fin 256) :
    val_main_v16 (F := Ideal) q k (ix4 b h r n)
      = Ideal.exp (score q k b r h n - Finset.univ.sup (score q k b r h)) := by
  unfold val_main_v16 val_main_v15 val_main_v14 val_main_v13
  pointwise
  simp only [score_apply, peak_apply]

theorem den_apply (b : Fin 16) (r : Fin 256) (h : Fin 16) :
    val_main_v17 (F := Ideal) q k (ix3 b h r)
      = ∑ n, Ideal.exp (score q k b r h n - Finset.univ.sup (score q k b r h)) := by
  unfold val_main_v17 val_main_cst_1
  pointwise
  simp only [weight_apply]

/-- The attention's output at query `(b, r)`, head `h`, lane `e`. -/
def attRow (b : Fin 16) (r : Fin 256) (h : Fin 16) (e : Fin 64) : EReal :=
  soft (score q k b r h) (fun n => v (ix2 (tok b n) (lane h e)))

theorem att_apply (b : Fin 16) (r : Fin 256) (h : Fin 16) (e : Fin 64) :
    val_main_v22 (F := Ideal) q k v (ix4 b r h e) = attRow q k v b r h e := by
  unfold val_main_v22 val_main_v21 val_main_v20 val_main_v19 val_main_v18
  pointwise
  simp only [weight_apply, den_apply]
  unfold val_main_v8 val_main_v7 val_main_v6 attRow soft
  pointwise
  exact Finset.sum_congr rfl fun c _ => mul_comm _ _

variable (x : FVec Ideal S12288x1024 .f32) (m : FVec Ideal S8x6x1024 .f32) (wo : FVec Ideal S1024x1024 .f32)

/-- What the reference leaves at query `(b, r)`'s row. -/
theorem ref_row (b : Fin 16) (r : Fin 256) (n : Fin 1024) :
    val_main_v33 (F := Ideal) q k v x m wo (ix2 (tok b r) n)
      = x (ix2 (tok b r) n) + m (ix3 0 2 n)
          * ∑ l : Fin 1024, attRow q k v b r ⟨l.val / 64, by omega⟩ ⟨l.val % 64, by omega⟩ * wo (ix2 l n) := by
  have hv : val_main_v31 (F := Ideal) q k v x m wo (ix2 ⟨b.val * 256 + r.val, by omega⟩ n)
      = x (ix2 (tok b r) n) + m (ix3 0 2 n)
          * ∑ l : Fin 1024, attRow q k v b r ⟨l.val / 64, by omega⟩ ⟨l.val % 64, by omega⟩ * wo (ix2 l n) := by
    unfold val_main_v31 val_main_v30 val_main_v29 val_main_v28 val_main_v27 val_main_v26 val_main_v25 val_main_v24 val_main_v23
    pointwise
    simp only [att_apply]
  rw [← hv]
  unfold val_main_v33
  generalize val_main_v31 (F := Ideal) q k v x m wo = y
  generalize val_main_v32 (F := Ideal) x = z
  pointwise
  exact dif_pos (by omega)

/-- The rows after the prompts' are left as they were. -/
theorem ref_rest (i : Fin 12288) (hi : 4096 ≤ i.val) (n : Fin 1024) :
    val_main_v33 (F := Ideal) q k v x m wo (ix2 i n) = x (ix2 i n) := by
  unfold val_main_v33
  generalize val_main_v31 (F := Ideal) q k v x m wo = y
  unfold val_main_v32
  pointwise
  refine (dif_neg (by omega)).trans ?_
  exact congrArg (fun j => x (ix2 j n)) (Fin.ext (by simp only []; omega))

end

end Cert.Ctx

end
-- ==== Proof.CtxMain.lean ====
/-
  The context attention's array after the run is the reference's: block `b` is prompt `b`, its rows the prompt's tokens, and
  the rows after the prompts stay as they were.
-/
module

public import proofs.«01_k».proof.Proof.CtxRef
public import Idealize.ShloMosaic.Lib.StableHlo.ReadAt

@[expose] public section

set_option maxRecDepth 16384

noncomputable section

namespace Cert.Ctx

open Cert.Na (Real' lane)
open Cert.KernelCtxIdeal Cert.KernelCtxIdeal.Gen Idealize.ShloMosaic Idealize.ShloMosaic.TcCoe

/-- The prompt of a grid point. -/
abbrev promptOf (t : Fin cfg0.N) : Fin 16 := grid0.coords t 0

theorem index_facts : ∀ t : Fin cfg0.N,
    (win0_0.index t 0 = (promptOf t).val ∧ win0_0.index t 1 = 0)
    ∧ (win0_1.index t 0 = (promptOf t).val ∧ win0_1.index t 1 = 0)
    ∧ (win0_2.index t 0 = (promptOf t).val ∧ win0_2.index t 1 = 0)
    ∧ (win0_3.index t 0 = (promptOf t).val ∧ win0_3.index t 1 = 0)
    ∧ (win0_4.index t 0 = 0 ∧ win0_4.index t 1 = 0 ∧ win0_4.index t 2 = 0)
    ∧ (win0_5.index t 0 = 0 ∧ win0_5.index t 1 = 0)
    ∧ (win0_6.index t 0 = (promptOf t).val ∧ win0_6.index t 1 = 0) :=
  (by decide +kernel : ∀ t : Fin grid0.N, _)

variable (m : (ℓ : Loc nD τ sig) → Buf (Elt Ideal) ℓ) (c : Dev nD)

abbrev argQ : FVec Ideal S12288x1024 .bf16 := m ((c : Thread nD τ).loc main_arg0)
abbrev argK : FVec Ideal S12288x1024 .bf16 := m ((c : Thread nD τ).loc main_arg1)
abbrev argV : FVec Ideal S12288x1024 .bf16 := m ((c : Thread nD τ).loc main_arg2)
abbrev argX : FVec Ideal S12288x1024 .f32 := m ((c : Thread nD τ).loc main_arg3)
abbrev argM : FVec Ideal S8x6x1024 .f32 := m ((c : Thread nD τ).loc main_arg4)
abbrev argW : FVec Ideal S1024x1024 .f32 := m ((c : Thread nD τ).loc main_arg5)

theorem weights_at (j : S1024x1024.Idx) : (V m c main_v0 : FVec Ideal S1024x1024 .bf16) j = argW m c j := by
  unfold V
  after_reads_at

theorem rest_at (j : S12288x1024.Idx) : (V m c main_v1 : FVec Ideal S12288x1024 .f32) j = argX m c j := by
  unfold V
  after_reads_at
  rfl

section
variable (t : Fin cfg0.N)

theorem block0 (a : Fin 256) (l : Fin 1024) :
    (iblk m c 0 t : Vec Ideal S256x1024 .bf16) (ix2 a l) = argQ m c (ix2 (tok (promptOf t) a) l) := by
  obtain ⟨⟨h0, h1⟩, -⟩ := index_facts t
  unfold iblk
  rw [View.read_apply]
  show V m c main_arg0 _ = _
  rw [V_main_arg0]
  congr 1
  funext x
  apply Fin.ext
  match x with
  | ⟨0, _⟩ => show win0_0.index t 0 * 256 + 1 * a.val = _ * 256 + a.val; rw [h0]; omega
  | ⟨1, _⟩ => show win0_0.index t 1 * 1024 + 1 * l.val = l.val; rw [h1]; omega

theorem block1 (a : Fin 256) (l : Fin 1024) :
    (iblk m c 1 t : Vec Ideal S256x1024 .bf16) (ix2 a l) = argK m c (ix2 (tok (promptOf t) a) l) := by
  obtain ⟨-, ⟨h0, h1⟩, -⟩ := index_facts t
  unfold iblk
  rw [View.read_apply]
  show V m c main_arg1 _ = _
  rw [V_main_arg1]
  congr 1
  funext x
  apply Fin.ext
  match x with
  | ⟨0, _⟩ => show win0_1.index t 0 * 256 + 1 * a.val = _ * 256 + a.val; rw [h0]; omega
  | ⟨1, _⟩ => show win0_1.index t 1 * 1024 + 1 * l.val = l.val; rw [h1]; omega

theorem block2 (a : Fin 256) (l : Fin 1024) :
    (iblk m c 2 t : Vec Ideal S256x1024 .bf16) (ix2 a l) = argV m c (ix2 (tok (promptOf t) a) l) := by
  obtain ⟨-, -, ⟨h0, h1⟩, -⟩ := index_facts t
  unfold iblk
  rw [View.read_apply]
  show V m c main_arg2 _ = _
  rw [V_main_arg2]
  congr 1
  funext x
  apply Fin.ext
  match x with
  | ⟨0, _⟩ => show win0_2.index t 0 * 256 + 1 * a.val = _ * 256 + a.val; rw [h0]; omega
  | ⟨1, _⟩ => show win0_2.index t 1 * 1024 + 1 * l.val = l.val; rw [h1]; omega

theorem block3 (a : Fin 256) (l : Fin 1024) :
    (iblk m c 3 t : Vec Ideal S256x1024 .f32) (ix2 a l) = argX m c (ix2 (tok (promptOf t) a) l) := by
  obtain ⟨-, -, -, ⟨h0, h1⟩, -⟩ := index_facts t
  unfold iblk
  rw [View.read_apply]
  show V m c main_arg3 _ = _
  rw [V_main_arg3]
  congr 1
  funext x
  apply Fin.ext
  match x with
  | ⟨0, _⟩ => show win0_3.index t 0 * 256 + 1 * a.val = _ * 256 + a.val; rw [h0]; omega
  | ⟨1, _⟩ => show win0_3.index t 1 * 1024 + 1 * l.val = l.val; rw [h1]; omega

theorem block4 (g : Fin 6) (n : Fin 1024) :
    (iblk m c 4 t : Vec Ideal S1x6x1024 .f32) (ix3 0 g n) = argM m c (ix3 0 g n) := by
  obtain ⟨-, -, -, -, ⟨h0, h1, h2⟩, -⟩ := index_facts t
  unfold iblk
  rw [View.read_apply]
  show V m c main_arg4 _ = _
  rw [V_main_arg4]
  congr 1
  funext x
  apply Fin.ext
  match x with
  | ⟨0, _⟩ => show win0_4.index t 0 * 1 + 1 * 0 = 0; rw [h0]
  | ⟨1, _⟩ => show win0_4.index t 1 * 6 + 1 * g.val = g.val; rw [h1]; omega
  | ⟨2, _⟩ => show win0_4.index t 2 * 1024 + 1 * n.val = n.val; rw [h2]; omega

theorem block5 (l n : Fin 1024) : (iblk m c 5 t : Vec Ideal S1024x1024 .bf16) (ix2 l n) = argW m c (ix2 l n) := by
  obtain ⟨-, -, -, -, -, ⟨h0, h1⟩, -⟩ := index_facts t
  unfold iblk
  rw [View.read_apply]
  refine (congrArg (V m c main_v0) (?_ : _ = ix2 l n)).trans (weights_at m c _)
  funext x
  apply Fin.ext
  match x with
  | ⟨0, _⟩ => show win0_5.index t 0 * 1024 + 1 * l.val = l.val; rw [h0]; omega
  | ⟨1, _⟩ => show win0_5.index t 1 * 1024 + 1 * n.val = n.val; rw [h1]; omega

end

/-- Everything that a prompt's score is computed from is real. -/
structure RealScores : Prop where
  q : ∀ (b : Fin 16) (r : Fin 256) (l : Fin 1024), Real' (argQ m c (ix2 (tok b r) l))
  k : ∀ (b : Fin 16) (r : Fin 256) (l : Fin 1024), Real' (argK m c (ix2 (tok b r) l))

variable {m c}

theorem head_eq (H : RealScores m c) (t : Fin cfg0.N) (h : Fin 16) (a : Fin 256) (e : Fin 64) :
    kernelHead (iblk m c 0 t) (iblk m c 1 t) (iblk m c 2 t) h a e
      = attRow (argQ m c) (argK m c) (argV m c) (promptOf t) a h e := by
  unfold kernelHead attRow
  simp only [block0, block1, block2]
  exact softOnce_eq_soft (fun n => Real'.sum _ fun d => (H.q _ _ _).mul (H.k _ _ _)) _

/-- What a grid point writes back, read at a row and a lane, is the reference's row there. -/
theorem block_eq (H : RealScores m c) (t : Fin cfg0.N) (a : Fin 256) (n : Fin 1024) :
    (out0_6 (iblk m c 0 t) (iblk m c 1 t) (iblk m c 2 t) (iblk m c 3 t) (iblk m c 4 t) (iblk m c 5 t) : Vec Ideal S256x1024 .f32) (ix2 a n)
      = Cert.ReferenceCtxIdeal.Read.val_main_v33 (F := Ideal) (argQ m c) (argK m c) (argV m c) (argX m c) (argM m c) (argW m c)
          (ix2 (tok (promptOf t) a) n) := by
  rw [out_eq, blockOut_apply, ref_row]
  simp only [head_eq H, block3, block4, block5]

theorem point_exists (b : Fin 16) : ∃ t : Fin cfg0.N, promptOf t = b := by
  have h : ∀ b : Fin 16, ∃ t : Fin grid0.N, (grid0.coords t 0).val = b.val := by decide +kernel
  obtain ⟨t, h0⟩ := h b
  exact ⟨t, Fin.ext h0⟩

theorem emb_row (t : Fin cfg0.N) (a : Fin 256) (n : Fin 1024) :
    ((cfg0.win 6).blk t).view.emb (ix2 a n : S256x1024.Idx) = (ix2 (tok (promptOf t) a) n : S12288x1024.Idx) := by
  obtain ⟨-, -, -, -, -, -, h0, h1⟩ := index_facts t
  funext x
  apply Fin.ext
  match x with
  | ⟨0, _⟩ => show win0_6.index t 0 * 256 + 1 * a.val = _ * 256 + a.val; rw [h0]; omega
  | ⟨1, _⟩ => show win0_6.index t 1 * 1024 + 1 * n.val = n.val; rw [h1]; omega

/-- The array that the attention leaves is the reference's result. -/
theorem final_eq (H : RealScores m c) :
    ((dats m 0 c).arrAt 6 cfg0.N : FVec Ideal S12288x1024 .f32)
      = Cert.ReferenceCtxIdeal.Read.val_main_v33 (F := Ideal) (argQ m c) (argK m c) (argV m c) (argX m c) (argM m c) (argW m c) := by
  funext j
  obtain ⟨i, n, rfl⟩ : ∃ i n, j = (ix2 i n : S12288x1024.Idx) := ⟨j 0, j 1, by funext x; match x with | ⟨0, _⟩ => rfl | ⟨1, _⟩ => rfl⟩
  by_cases hi : 4096 ≤ i.val
  · rw [ref_rest _ _ _ _ _ _ i hi n]
    refine (Cert.KernelCtxIdeal.Value.entry6 m c (ix2 i n) fun t _ hmem => ?_).trans (rest_at m c _)
    obtain ⟨y, -, hy⟩ := Finset.mem_map.1 hmem
    obtain ⟨-, -, -, -, -, -, h0, -⟩ := index_facts t
    have := congrArg Fin.val (congrFun hy 0)
    have h2 : win0_6.index t 0 * 256 + 1 * (y 0).val = i.val := this
    have h3 : (y 0).val < 256 := (y 0).isLt
    have h4 := (promptOf t).isLt
    omega
  · obtain ⟨b, a, rfl⟩ : ∃ (b : Fin 16) (a : Fin 256), i = tok b a :=
      ⟨⟨i.val / 256, by omega⟩, ⟨i.val % 256, by omega⟩, Fin.ext (by show i.val = i.val / 256 * 256 + i.val % 256; omega)⟩
    obtain ⟨t, rfl⟩ := point_exists b
    rw [← block_eq H, ← emb_row t a n]
    exact (congrFun ((Cert.KernelCtxIdeal.Value.blocks6 m c t (flush0_6 t)).trans (Cert.KernelCtxIdeal.Value.flushed6 m c t)) (ix2 a n : S256x1024.Idx) :)

end Cert.Ctx

end
-- ==== Proof.CtxClaim.lean ====
/-
  The claims about the context attention: its reference's frame, and that kernel and reference leave equal results.
-/
module

public import proofs.«01_k».proof.Defs
public import proofs.«01_k».proof.Proof.Gen.KernelCtx.Frame
public import proofs.«01_k».proof.Proof.Gen.KernelCtxIdeal.Frame
public import proofs.«01_k».proof.Proof.NaClaim
public import proofs.«01_k».proof.Proof.CtxRun
public import proofs.«01_k».proof.Proof.CtxMain
public import Idealize.ShloMosaic.Adequacy
public import Idealize.ShloMosaic.Init

@[expose] public section

set_option maxRecDepth 16384

noncomputable section

namespace Cert.Ctx

open Cert.Na (Real' real_of_word)
open Idealize.ShloMosaic Idealize.ShloMosaic.TcCoe Idealize.SL.Sem

instance preFacts : Cert.Pre_finite_prompt_scores.Facts where
  slices_S12288x1024_S4096x1024_0_0 := by decide
  bitsLt_bf16_f32 := by decide
  bcast_S_S4096x1024 := by decide

section
open Cert.Pre_finite_prompt_scores

theorem prompts_at (x : FVec Ideal S12288x1024 .bf16) (h : S12288x1024.Slices ![0, 0] S4096x1024) (b : Fin 16) (r : Fin 256)
    (l : Fin 1024) :
    extractStridedSlice S4096x1024 ![0, 0] x h (ix2 ⟨b.val * 256 + r.val, by omega⟩ l) = x (ix2 (tok b r) l) := by
  pointwise

end

theorem realScores (m : (ℓ : Loc Cert.KernelCtxIdeal.nD Cert.KernelCtxIdeal.τ Cert.KernelCtxIdeal.sig) → Buf (Elt Ideal) ℓ)
    (h : Cert.Pre_KernelCtxIdeal_finite_prompt_scores m) (c : Dev Cert.KernelCtxIdeal.nD) : RealScores m c where
  q b r l := (prompts_at (argQ m c) preFacts.slices_S12288x1024_S4096x1024_0_0 b r l) ▸
    real_of_word (congrFun (h c).1 (ix2 ⟨b.val * 256 + r.val, by omega⟩ l))
  k b r l := (prompts_at (argK m c) preFacts.slices_S12288x1024_S4096x1024_0_0 b r l) ▸
    real_of_word (congrFun (h c).2 (ix2 ⟨b.val * 256 + r.val, by omega⟩ l))

theorem frame_reference : Cert.quiescent_ReferenceCtxIdeal := fun m ρ _ =>
  (θ_run Cert.ReferenceCtxIdeal.defs _ _).mono (fun r h => ⟨fun c => (h c).2, sem_eq_zero_of_no_sems (by decide) r.2⟩)
    (reference_run m ρ)

theorem algebraic : Cert.algebraic_KernelCtxIdeal_ReferenceCtxIdeal_pre_finite_prompt_scores := fun m g m' g' hpre hargs =>
  ⟨fun c => (Cert.KernelCtxIdeal.Gen.dats m 0 c).arrAt 6 Cert.KernelCtxIdeal.cfg0.N,
    Cert.KernelCtxIdeal.Value.run_blocks m g,
    (θ_run Cert.ReferenceCtxIdeal.defs _ _).mono (fun r h c => ⟨(h c).1.trans (by
        obtain ⟨h0, h1, h2, h3, h4, h5⟩ := hargs c
        rw [h0, h1, h2, h3, h4, h5]
        exact (final_eq (realScores m hpre c)).symm), (h c).2⟩)
      (reference_run m' g')⟩

end Cert.Ctx

end
-- ==== Proof.SelFrameK.lean ====
module

public import proofs.«01_k».proof.Proof.SelRunK
public import Idealize.ShloMosaic.Lib.Pipeline.Value

@[expose] public section

/-! The retrieval's frame: every block is covered by the body's stores, and the run ends with every argument as it was. -/

set_option maxRecDepth 16384

noncomputable section

namespace Cert.KernelSelect.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The eight stores of a tile array, the last first: every eighth row, from row seven down to row nought. -/
def eighths : List (Rect S2048x128) :=
  [⟨(⟨![7, 0], S256x128.size, ![8, 1], inb_S2048x128_S256x128_7_0_s_8_1⟩ : LoadRect S2048x128), spos_8_1⟩,
   ⟨(⟨![6, 0], S256x128.size, ![8, 1], inb_S2048x128_S256x128_6_0_s_8_1⟩ : LoadRect S2048x128), spos_8_1⟩,
   ⟨(⟨![5, 0], S256x128.size, ![8, 1], inb_S2048x128_S256x128_5_0_s_8_1⟩ : LoadRect S2048x128), spos_8_1⟩,
   ⟨(⟨![4, 0], S256x128.size, ![8, 1], inb_S2048x128_S256x128_4_0_s_8_1⟩ : LoadRect S2048x128), spos_8_1⟩,
   ⟨(⟨![3, 0], S256x128.size, ![8, 1], inb_S2048x128_S256x128_3_0_s_8_1⟩ : LoadRect S2048x128), spos_8_1⟩,
   ⟨(⟨![2, 0], S256x128.size, ![8, 1], inb_S2048x128_S256x128_2_0_s_8_1⟩ : LoadRect S2048x128), spos_8_1⟩,
   ⟨(⟨![1, 0], S256x128.size, ![8, 1], inb_S2048x128_S256x128_1_0_s_8_1⟩ : LoadRect S2048x128), spos_8_1⟩,
   ⟨(⟨![0, 0], S256x128.size, ![8, 1], inb_S2048x128_S256x128_0_0_s_8_1⟩ : LoadRect S2048x128), spos_8_1⟩]

/-- Every index of a tile array lies in one of the eight stores. -/
theorem cover_rows (L : List (View.Piece (Elt F) S2048x128 .f32)) (h : L.map (fun p => p.1) = eighths) (y : S2048x128.Idx) :
    ∃ pc ∈ L, y ∈ pc.1.set := by
  have h0 : (y 0 : Nat) < 2048 := (y 0).isLt
  have h1 : (y 1 : Nat) < 128 := (y 1).isLt
  have key : ∀ (r : Nat) (inb), (y 0 : Nat) % 8 = r →
      y ∈ (⟨![r, 0], S256x128.size, ![8, 1], inb⟩ : LoadRect S2048x128).set := by
    intro r inb hr
    rw [LoadRect.mem_set]
    intro a
    match a with
    | 0 => exact ⟨(y 0 : Nat) / 8, show (y 0 : Nat) / 8 < 256 by omega, show (y 0 : Nat) = r + 8 * ((y 0 : Nat) / 8) by omega⟩
    | 1 => exact ⟨(y 1 : Nat), h1, show (y 1 : Nat) = 0 + 1 * (y 1 : Nat) by omega⟩
  have hy : ∃ r ∈ eighths, y ∈ r.set := by
    unfold eighths
    rcases (by omega : (y 0 : Nat) % 8 = 0 ∨ (y 0 : Nat) % 8 = 1 ∨ (y 0 : Nat) % 8 = 2 ∨ (y 0 : Nat) % 8 = 3 ∨
      (y 0 : Nat) % 8 = 4 ∨ (y 0 : Nat) % 8 = 5 ∨ (y 0 : Nat) % 8 = 6 ∨ (y 0 : Nat) % 8 = 7) with e | e | e | e | e | e | e | e <;>
    first
      | exact ⟨_, .head _, key _ _ e⟩
      | exact ⟨_, .tail _ (.head _), key _ _ e⟩
      | exact ⟨_, .tail _ (.tail _ (.head _)), key _ _ e⟩
      | exact ⟨_, .tail _ (.tail _ (.tail _ (.head _))), key _ _ e⟩
      | exact ⟨_, .tail _ (.tail _ (.tail _ (.tail _ (.head _)))), key _ _ e⟩
      | exact ⟨_, .tail _ (.tail _ (.tail _ (.tail _ (.tail _ (.head _))))), key _ _ e⟩
      | exact ⟨_, .tail _ (.tail _ (.tail _ (.tail _ (.tail _ (.tail _ (.head _)))))), key _ _ e⟩
      | exact ⟨_, .tail _ (.tail _ (.tail _ (.tail _ (.tail _ (.tail _ (.tail _ (.head _))))))), key _ _ e⟩
  obtain ⟨r, hr, hy⟩ := hy
  rw [← h] at hr
  obtain ⟨p, hp, rfl⟩ := List.mem_map.mp hr
  exact ⟨p, hp, hy⟩

theorem cover0_A_5 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).1, y ∈ pc.1.set :=
  cover_rows (kernelRun0_A c i arg1 harg1 arg2 harg2 arg3 harg3 arg4 harg4 arg5 harg5 arg6 harg6 arg7 harg7 arg8 harg8 arg9 harg9 arg10 harg10 arg11 harg11 arg12 harg12 x0 x1 x2 x3 x4).1 (by rfl) y

def out0_A_5 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) : Vec F S2048x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).1)

theorem cover0_A_6 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).2.1, y ∈ pc.1.set :=
  cover_rows (kernelRun0_A c i arg1 harg1 arg2 harg2 arg3 harg3 arg4 harg4 arg5 harg5 arg6 harg6 arg7 harg7 arg8 harg8 arg9 harg9 arg10 harg10 arg11 harg11 arg12 harg12 x0 x1 x2 x3 x4).2.1 (by rfl) y

def out0_A_6 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) : Vec F S2048x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).2.1)

theorem cover0_A_7 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.1 S256x128.size (by sl_kernel_rfl) y

def out0_A_7 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) : Vec F S256x128 .i32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.1)

theorem cover0_A_8 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.1 S256x128.size (by sl_kernel_rfl) y

def out0_A_8 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) : Vec F S256x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.1)

def outsAt0 (c : Dev nD) (t : Fin cfg0.N) : Vec F S2048x128 .f32 × Vec F S2048x128 .f32 × Vec F S256x128 .i32 × Vec F S256x128 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2.1
    | ⟨8, _⟩ => (outsAt0 m c t).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2.1 := by dsimp only [dats]
theorem after0_7 (c : Dev nD) (t : Fin cfg0.N) : (dats m 0 c).after 7 t = (outsAt0 m c t).2.2.1 := by dsimp only [dats]
theorem after0_8 (c : Dev nD) (t : Fin cfg0.N) : (dats m 0 c).after 8 t = (outsAt0 m c t).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_5 out0_A_6 out0_A_7 out0_A_8; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, ⟨%e5, H5⟩, ⟨%e6, H6⟩, ⟨%e7, H7⟩, ⟨%e8, H8⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelSelect.Gen

end
-- ==== Proof.SelRun.lean ====
/-
  The retrieving reference's run, its results named by the stages they are read through.
-/
module

public import proofs.«01_k».proof.Proof.Gen.ReferenceSelectIdeal
public import proofs.«01_k».proof.Proof.Gen.ReferenceSelectIdeal.Run
public import proofs.«01_k».proof.Proof.Gen.ReferenceSelectIdeal.Read

@[expose] public section

set_option maxRecDepth 16384

noncomputable section

namespace Cert.Select

open Cert.ReferenceSelectIdeal Cert.ReferenceSelectIdeal.Gen Idealize.ShloMosaic Idealize.ShloMosaic.TcCoe Idealize.SL.Sem Idealize.ShloMosaic.StableHlo

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59) = Read.val_main_v59 (F := Ideal) (m ((c.tc : Thread nD τ).loc main_arg0)) (m ((c.tc : Thread nD τ).loc main_arg1)) (m ((c.tc : Thread nD τ).loc main_arg2))
      ∧ r.2.mem ((c.tc : Thread nD τ).loc main_v60) = Read.val_main_v60 (F := Ideal) (m ((c.tc : Thread nD τ).loc main_arg0))
      ∧ r.2.mem ((c.tc : Thread nD τ).loc main_v61) = Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v62) = Read.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans (Read.val_main_v59_eq (F := Ideal) (launchContents m c)), (h c).2.1.trans (Read.val_main_v60_eq (F := Ideal) (launchContents m c)),
      (h c).2.2.1.trans (Read.val_main_v61_eq (F := Ideal) (launchContents m c)),
      (h c).2.2.2.1.trans (Read.val_main_v62_eq (F := Ideal) (launchContents m c)), (h c).2.2.2.2⟩)
    (Cert.ReferenceSelectIdeal.Value.run (F := Ideal) m ρ)

end Cert.Select

end
-- ==== Proof.SelRunI.lean ====
module

public import proofs.«01_k».proof.Proof.Gen.KernelSelectIdeal.Launch
public import proofs.«01_k».proof.Proof.Gen.KernelSelectIdeal.Skeleton
public import proofs.«01_k».proof.Proof.Gen.KernelSelectIdeal.Loops
public import proofs.«01_k».proof.Proof.Gen.KernelSelectIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

/-! The retrieval's kernel body, run from any staging buffers: what its stores leave in each of them. -/

set_option maxRecDepth 16384

noncomputable section

namespace Cert.KernelSelectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev VO0_5 : View sig .tc .vmem S2048x128 .f32 := (Memref.whole cc0_stg5_0 : Memref sig .tc .vmem S2048x128 .f32).view
abbrev VO0_6 : View sig .tc .vmem S2048x128 .f32 := (Memref.whole cc0_stg6_0 : Memref sig .tc .vmem S2048x128 .f32).view
abbrev VO0_7 : View sig .tc .vmem S256x128 .i32 := (Memref.whole cc0_stg7_0 : Memref sig .tc .vmem S256x128 .i32).view
abbrev VO0_8 : View sig .tc .vmem S256x128 .f32 := (Memref.whole cc0_stg8_0 : Memref sig .tc .vmem S256x128 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x128 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x128 .f32 := win0_8.stage (cfg0.slots t 8)
abbrev hs0_8 (t : Fin cfg0.N) : (ms0_8 t).IsWhole := hstage0_8 ((cfg0.slots t 8).cast nbuf0_8)
abbrev scM0_0 : Memref sig .tc .vmem S2048x256 .f32 := Memref.whole cc0_scratch0
abbrev scM0_1 : Memref sig .tc .vmem S128x256 .f32 := Memref.whole cc0_scratch1
abbrev scM0_2 : Memref sig .tc .vmem S128x256 .f32 := Memref.whole cc0_scratch2

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option backward.proofsInPublic true in
set_option maxHeartbeats 1000000 in
noncomputable def kernelRun0_A (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) :
    Σ' (L5 : List (View.Piece (Elt F) S2048x128 .f32)), Σ' (L6 : List (View.Piece (Elt F) S2048x128 .f32)), Σ' (L7 : List (View.Piece (Elt F) S256x128 .i32)), { L8 : List (View.Piece (Elt F) S256x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_peer_select i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_peer_select_eq_skeleton]; unfold cc0_peer_select_skel
    simp only [k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole) (v24 : FVec F S256x1024 .f32) (v66 : IVec S16x256 32) (v67 : IVec S8x256 32) (cst_43 : F .f32) (X_arg5 : BufTy.Contents (Elt F) arg5.view.ty) (X_arg10 : BufTy.Contents (Elt F) arg10.view.ty) (hrdF : BufTy.Contents (Elt F) arg11.view.ty) (hrdB : LoadRect S128x256), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 v24 v66 v67 cst_43 X_arg5 X_arg10 (Scf.trips k0_t1_loop.lb k0_t1_loop.ub k0_t1_loop.st)).1) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 v24 v66 v67 cst_43 X_arg5 X_arg10 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 v24 v66 v67 cst_43 X_arg5 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 v24 v66 v67 cst_43 X_arg5 X_arg10 (Scf.trips k0_t1_loop.lb k0_t1_loop.ub k0_t1_loop.st)).1 S16x256.size (by sl_kernel_rfl) (hrdB.idx hrdJ))
    have hrd1 : ∀ (𝒱 : Variants) (c : Dev nD) (bd : Option 𝒱.V) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole) (v24 : FVec F S256x1024 .f32) (v66 : IVec S16x256 32) (v67 : IVec S8x256 32) (cst_43 : F .f32) (X_arg5 : BufTy.Contents (Elt F) arg5.view.ty) (X_arg10 : BufTy.Contents (Elt F) arg10.view.ty) (hrdF : BufTy.Contents (Elt F) arg12.view.ty) (hrdB : LoadRect S128x256), arg12.view.readAt (Elt F) hrdB (arg12.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 v24 v66 v67 cst_43 X_arg5 X_arg10 (Scf.trips k0_t1_loop.lb k0_t1_loop.ub k0_t1_loop.st)).2) = arg12.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 v24 v66 v67 cst_43 X_arg5 X_arg10 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 v24 v66 v67 cst_43 X_arg5 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 v24 v66 v67 cst_43 X_arg5 X_arg10 (Scf.trips k0_t1_loop.lb k0_t1_loop.ub k0_t1_loop.st)).2 S16x256.size (by sl_kernel_rfl) (hrdB.idx hrdJ))
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelSelectIdeal.Gen

end
-- ==== Proof.SelFrameI.lean ====
module

public import proofs.«01_k».proof.Proof.SelRunI
public import Idealize.ShloMosaic.Lib.Pipeline.Value

@[expose] public section

/-! The retrieval's frame: every block is covered by the body's stores, and the run ends with every argument as it was. -/

set_option maxRecDepth 16384

noncomputable section

namespace Cert.KernelSelectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The eight stores of a tile array, the last first: every eighth row, from row seven down to row nought. -/
def eighths : List (Rect S2048x128) :=
  [⟨(⟨![7, 0], S256x128.size, ![8, 1], inb_S2048x128_S256x128_7_0_s_8_1⟩ : LoadRect S2048x128), spos_8_1⟩,
   ⟨(⟨![6, 0], S256x128.size, ![8, 1], inb_S2048x128_S256x128_6_0_s_8_1⟩ : LoadRect S2048x128), spos_8_1⟩,
   ⟨(⟨![5, 0], S256x128.size, ![8, 1], inb_S2048x128_S256x128_5_0_s_8_1⟩ : LoadRect S2048x128), spos_8_1⟩,
   ⟨(⟨![4, 0], S256x128.size, ![8, 1], inb_S2048x128_S256x128_4_0_s_8_1⟩ : LoadRect S2048x128), spos_8_1⟩,
   ⟨(⟨![3, 0], S256x128.size, ![8, 1], inb_S2048x128_S256x128_3_0_s_8_1⟩ : LoadRect S2048x128), spos_8_1⟩,
   ⟨(⟨![2, 0], S256x128.size, ![8, 1], inb_S2048x128_S256x128_2_0_s_8_1⟩ : LoadRect S2048x128), spos_8_1⟩,
   ⟨(⟨![1, 0], S256x128.size, ![8, 1], inb_S2048x128_S256x128_1_0_s_8_1⟩ : LoadRect S2048x128), spos_8_1⟩,
   ⟨(⟨![0, 0], S256x128.size, ![8, 1], inb_S2048x128_S256x128_0_0_s_8_1⟩ : LoadRect S2048x128), spos_8_1⟩]

/-- Every index of a tile array lies in one of the eight stores. -/
theorem cover_rows (L : List (View.Piece (Elt F) S2048x128 .f32)) (h : L.map (fun p => p.1) = eighths) (y : S2048x128.Idx) :
    ∃ pc ∈ L, y ∈ pc.1.set := by
  have h0 : (y 0 : Nat) < 2048 := (y 0).isLt
  have h1 : (y 1 : Nat) < 128 := (y 1).isLt
  have key : ∀ (r : Nat) (inb), (y 0 : Nat) % 8 = r →
      y ∈ (⟨![r, 0], S256x128.size, ![8, 1], inb⟩ : LoadRect S2048x128).set := by
    intro r inb hr
    rw [LoadRect.mem_set]
    intro a
    match a with
    | 0 => exact ⟨(y 0 : Nat) / 8, show (y 0 : Nat) / 8 < 256 by omega, show (y 0 : Nat) = r + 8 * ((y 0 : Nat) / 8) by omega⟩
    | 1 => exact ⟨(y 1 : Nat), h1, show (y 1 : Nat) = 0 + 1 * (y 1 : Nat) by omega⟩
  have hy : ∃ r ∈ eighths, y ∈ r.set := by
    unfold eighths
    rcases (by omega : (y 0 : Nat) % 8 = 0 ∨ (y 0 : Nat) % 8 = 1 ∨ (y 0 : Nat) % 8 = 2 ∨ (y 0 : Nat) % 8 = 3 ∨
      (y 0 : Nat) % 8 = 4 ∨ (y 0 : Nat) % 8 = 5 ∨ (y 0 : Nat) % 8 = 6 ∨ (y 0 : Nat) % 8 = 7) with e | e | e | e | e | e | e | e <;>
    first
      | exact ⟨_, .head _, key _ _ e⟩
      | exact ⟨_, .tail _ (.head _), key _ _ e⟩
      | exact ⟨_, .tail _ (.tail _ (.head _)), key _ _ e⟩
      | exact ⟨_, .tail _ (.tail _ (.tail _ (.head _))), key _ _ e⟩
      | exact ⟨_, .tail _ (.tail _ (.tail _ (.tail _ (.head _)))), key _ _ e⟩
      | exact ⟨_, .tail _ (.tail _ (.tail _ (.tail _ (.tail _ (.head _))))), key _ _ e⟩
      | exact ⟨_, .tail _ (.tail _ (.tail _ (.tail _ (.tail _ (.tail _ (.head _)))))), key _ _ e⟩
      | exact ⟨_, .tail _ (.tail _ (.tail _ (.tail _ (.tail _ (.tail _ (.tail _ (.head _))))))), key _ _ e⟩
  obtain ⟨r, hr, hy⟩ := hy
  rw [← h] at hr
  obtain ⟨p, hp, rfl⟩ := List.mem_map.mp hr
  exact ⟨p, hp, hy⟩

theorem cover0_A_5 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).1, y ∈ pc.1.set :=
  cover_rows (kernelRun0_A c i arg1 harg1 arg2 harg2 arg3 harg3 arg4 harg4 arg5 harg5 arg6 harg6 arg7 harg7 arg8 harg8 arg9 harg9 arg10 harg10 arg11 harg11 arg12 harg12 x0 x1 x2 x3 x4).1 (by rfl) y

def out0_A_5 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) : Vec F S2048x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).1)

theorem cover0_A_6 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).2.1, y ∈ pc.1.set :=
  cover_rows (kernelRun0_A c i arg1 harg1 arg2 harg2 arg3 harg3 arg4 harg4 arg5 harg5 arg6 harg6 arg7 harg7 arg8 harg8 arg9 harg9 arg10 harg10 arg11 harg11 arg12 harg12 x0 x1 x2 x3 x4).2.1 (by rfl) y

def out0_A_6 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) : Vec F S2048x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).2.1)

theorem cover0_A_7 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.1 S256x128.size (by sl_kernel_rfl) y

def out0_A_7 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) : Vec F S256x128 .i32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.1)

theorem cover0_A_8 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.1 S256x128.size (by sl_kernel_rfl) y

def out0_A_8 (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec F S256x1024 .f32) (x1 : Vec F S1x6x1024 .f32) (x2 : Vec F S1x1024 .f32) (x3 : Vec F S2048x1024 .bf16) (x4 : Vec F S2x128x128 .bf16) : Vec F S256x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.1)

def outsAt0 (c : Dev nD) (t : Fin cfg0.N) : Vec F S2048x128 .f32 × Vec F S2048x128 .f32 × Vec F S256x128 .i32 × Vec F S256x128 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2.1
    | ⟨8, _⟩ => (outsAt0 m c t).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2.1 := by dsimp only [dats]
theorem after0_7 (c : Dev nD) (t : Fin cfg0.N) : (dats m 0 c).after 7 t = (outsAt0 m c t).2.2.1 := by dsimp only [dats]
theorem after0_8 (c : Dev nD) (t : Fin cfg0.N) : (dats m 0 c).after 8 t = (outsAt0 m c t).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_5 out0_A_6 out0_A_7 out0_A_8; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, ⟨%e5, H5⟩, ⟨%e6, H6⟩, ⟨%e7, H7⟩, ⟨%e8, H8⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

theorem flushed5 (c : Dev nD) (t : Fin cfg0.N) :
    (dats m 0 c).flushed 5 t = (cfg0.win 5).cut (grid0.coords t) ((outsAt0 m c t).1) := by
  show (cfg0.win 5).cut (grid0.coords t) ((dats m 0 c).after 5 t) = _
  rw [after0_5]

theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t)) := by
  simp only [flushed5, outsAt0]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

theorem entry5 (c : Dev nD) (i : S98304x128.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

theorem flushed6 (c : Dev nD) (t : Fin cfg0.N) :
    (dats m 0 c).flushed 6 t = (cfg0.win 6).cut (grid0.coords t) ((outsAt0 m c t).2.1) := by
  show (cfg0.win 6).cut (grid0.coords t) ((dats m 0 c).after 6 t) = _
  rw [after0_6]

theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t)) := by
  simp only [flushed6, outsAt0]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

theorem entry6 (c : Dev nD) (i : S98304x128.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

theorem flushed7 (c : Dev nD) (t : Fin cfg0.N) :
    (dats m 0 c).flushed 7 t = (cfg0.win 7).cut (grid0.coords t) ((outsAt0 m c t).2.2.1) := by
  show (cfg0.win 7).cut (grid0.coords t) ((dats m 0 c).after 7 t) = _
  rw [after0_7]

theorem flushed7_A (c : Dev nD) (t : Fin cfg0.N) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t)) := by
  simp only [flushed7, outsAt0]

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

theorem entry7 (c : Dev nD) (i : S12288x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

theorem flushed8 (c : Dev nD) (t : Fin cfg0.N) :
    (dats m 0 c).flushed 8 t = (cfg0.win 8).cut (grid0.coords t) ((outsAt0 m c t).2.2.2) := by
  show (cfg0.win 8).cut (grid0.coords t) ((dats m 0 c).after 8 t) = _
  rw [after0_8]

theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t)) := by
  simp only [flushed8, outsAt0]

theorem idx_inj8 : ∀ t t' : Fin cfg0.N, win0_8.index t = win0_8.index t' → t = t' :=
  (by decide +kernel : ∀ t t' : Fin grid0.N, win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

theorem entry8 (c : Dev nD) (i : S12288x128.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

theorem post5 (r : PUnit × MemSt nD τ sig (Elt F)) (h : Pipeline.FramePost cfgs (dats m) 0 (V m) r) (c : Dev nD) :
    r.2.mem ((c : Thread nD τ).loc main_v4_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v4_1) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v4_2) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v4_3) = (dats m 0 c).arrAt 8 cfg0.N :=
  (h c).1 8

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_v4_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c⟩)
    (run_main m ρ)

end Cert.KernelSelectIdeal.Gen

end
-- ==== Proof.SelVec.lean ====
module

public import proofs.«01_k».proof.Proof.SelRunI

@[expose] public section

/-! The retrieval of one head on a block of tokens, as arrays: the rounds of each sub-key's selection, the candidates, and
    the rounds of the selection among them. -/

set_option maxRecDepth 16384

noncomputable section

namespace Cert.Select

open Idealize.ShloMosaic Idealize.ShloMosaic.TcCoe
open Cert.KernelSelectIdeal Cert.KernelSelectIdeal.Gen

variable {F : FTy → Type} [FloatOps F]

/-- The greatest score of each column. -/
def topV (s : FVec F S128x256 .f32) : FVec F S1x256 .f32 :=
  shapeCast S1x256 (multiReduction .maximumf [0] S256 s 0xFF800000#32 reduces_S128x256_S256 (.inl rfl) rfl) shapeCasts_S256_S1x256

/-- The first position of each column's greatest score. -/
def posV (kp s : FVec F S128x256 .f32) : FVec F S1x256 .f32 :=
  shapeCast S1x256 (multiReduction .minimumf [0] S256
    (select (cmpf .oeq s (broadcastTo S128x256 (topV s) broadcasts_S1x256_S128x256)) kp
      (broadcast S128x256 (Scalar.ofBits .f32 0x43000000#32 : F .f32)))
    0x7F800000#32 reduces_S128x256_S256 (.inl rfl) rfl) shapeCasts_S256_S1x256

/-- The scores with that position struck out. -/
def nextV (kp : FVec F S128x256 .f32) (ninf : F .f32) (s : FVec F S128x256 .f32) : FVec F S128x256 .f32 :=
  select (cmpf .oeq kp (broadcastTo S128x256 (posV kp s) broadcasts_S1x256_S128x256)) (broadcast S128x256 ninf) s

/-- The scores after so many rounds. -/
def roundV (kp : FVec F S128x256 .f32) (ninf : F .f32) (s : FVec F S128x256 .f32) : Nat → FVec F S128x256 .f32
  | 0 => s
  | n + 1 => nextV kp ninf (roundV kp ninf s n)

/-- The greatest candidate of each column. -/
def topC (s : FVec F S80x256 .f32) : FVec F S1x256 .f32 :=
  shapeCast S1x256 (multiReduction .maximumf [0] S256 s 0xFF800000#32 reduces_S80x256_S256 (.inl rfl) rfl) shapeCasts_S256_S1x256

/-- Where the first greatest candidate lies. -/
def hitC (cp s : FVec F S80x256 .f32) : IVec S80x256 1 :=
  cmpf .oeq cp (broadcastTo S80x256 (shapeCast S1x256 (multiReduction .minimumf [0] S256
    (select (cmpf .oeq s (broadcastTo S80x256 (topC s) broadcasts_S1x256_S80x256)) cp
      (broadcast S80x256 (Scalar.ofBits .f32 0x43800000#32 : F .f32)))
    0x7F800000#32 reduces_S80x256_S256 (.inl rfl) rfl) shapeCasts_S256_S1x256) broadcasts_S1x256_S80x256)

/-- The candidates with that one struck out. -/
def nextC (cp : FVec F S80x256 .f32) (ninf : F .f32) (s : FVec F S80x256 .f32) : FVec F S80x256 .f32 :=
  select (hitC cp s) (broadcast S80x256 ninf) s

/-- The candidates after so many rounds. -/
def roundC (cp : FVec F S80x256 .f32) (ninf : F .f32) (s : FVec F S80x256 .f32) : Nat → FVec F S80x256 .f32
  | 0 => s
  | n + 1 => nextC cp ninf (roundC cp ninf s n)

/-- The expert of the first greatest candidate. -/
def idC (cp ce s : FVec F S80x256 .f32) : FVec F S1x256 .f32 :=
  shapeCast S1x256 (multiReduction .maximumf [0] S256
    (select (hitC cp s) ce (broadcast S80x256 (Scalar.ofBits .f32 0xBF800000#32 : F .f32)))
    0xFF800000#32 reduces_S80x256_S256 (.inl rfl) rfl) shapeCasts_S256_S1x256

/-- Rows put one below the other, as sixteen. -/
def stack16 (r : IVec S16x256 32) (f : Nat → FVec F S1x256 .f32) : Nat → FVec F S16x256 .f32
  | 0 => broadcast S16x256 (Scalar.ofBits .f32 0x00000000#32 : F .f32)
  | n + 1 => select (cmpi .eq r (broadcast S16x256 (BitVec.ofNat 32 n)))
      (broadcastTo S16x256 (shapeCast S1x256 (f n) shapeCasts_S1x256_S1x256) broadcasts_S1x256_S16x256) (stack16 r f n)

/-- Rows put one below the other, as eight. -/
def stack8 (r : IVec S8x256 32) (f : Nat → FVec F S1x256 .f32) : Nat → FVec F S8x256 .f32
  | 0 => broadcast S8x256 (Scalar.ofBits .f32 0x00000000#32 : F .f32)
  | n + 1 => select (cmpi .eq r (broadcast S8x256 (BitVec.ofNat 32 n)))
      (broadcastTo S8x256 (shapeCast S1x256 (f n) shapeCasts_S1x256_S1x256) broadcasts_S1x256_S8x256) (stack8 r f n)

/-- Eight rows of candidates of one first sub-key: those past the bound struck out. -/
def candRow (r8 : IVec S8x256 32) (ninf : F .f32) (a : FVec F S1x256 .f32) (s2 : FVec F S16x256 .f32) (w : BitVec 32) :
    FVec F S8x256 .f32 :=
  select (cmpi .slt r8 (broadcast S8x256 w))
    (addf (broadcastTo S8x256 a broadcasts_S1x256_S8x256) (extractStridedSlice S8x256 ![0, 0] s2 slices_S16x256_o0_0_S8x256))
    (broadcast S8x256 ninf)

/-- Their experts. -/
def expertRow (a : FVec F S1x256 .f32) (i2 : FVec F S16x256 .f32) : FVec F S8x256 .f32 :=
  addf (broadcastTo S8x256 (mulf a (broadcast S1x256 (Scalar.ofBits .f32 0x43000000#32 : F .f32))) broadcasts_S1x256_S8x256)
    (extractStridedSlice S8x256 ![0, 0] i2 slices_S16x256_o0_0_S8x256)

/-- All candidates' scores. -/
def candC (r8 : IVec S8x256 32) (ninf : F .f32) (t1 : Nat → FVec F S1x256 .f32) (t2 : FVec F S1x256 .f32)
    (s2 : FVec F S16x256 .f32) : FVec F S80x256 .f32 :=
  concatenate S80x256 0 [⟨S16x256, addf (broadcastTo S16x256 (t1 0) broadcasts_S1x256_S16x256) s2⟩,
    ⟨S8x256, candRow r8 ninf (t1 1) s2 8#32⟩, ⟨S8x256, candRow r8 ninf (t1 2) s2 5#32⟩, ⟨S8x256, candRow r8 ninf (t1 3) s2 4#32⟩,
    ⟨S8x256, candRow r8 ninf (t1 4) s2 3#32⟩, ⟨S8x256, candRow r8 ninf (t1 5) s2 2#32⟩, ⟨S8x256, candRow r8 ninf (t1 6) s2 2#32⟩,
    ⟨S8x256, candRow r8 ninf (t1 7) s2 2#32⟩,
    ⟨S8x256, addf (stack8 r8 (fun n => t1 (8 + n)) 8) (broadcastTo S8x256 t2 broadcasts_S1x256_S8x256)⟩]
    concatenates_S16x256_S8x256_S8x256_S8x256_S8x256_S8x256_S8x256_S8x256_S8x256_S80x256_d0

/-- All candidates' experts. -/
def expertC (r8 : IVec S8x256 32) (p1 : Nat → FVec F S1x256 .f32) (p2 : FVec F S1x256 .f32) (i2 : FVec F S16x256 .f32) :
    FVec F S80x256 .f32 :=
  concatenate S80x256 0 [⟨S16x256, addf (broadcastTo S16x256 (mulf (p1 0) (broadcast S1x256 (Scalar.ofBits .f32 0x43000000#32 : F .f32)))
      broadcasts_S1x256_S16x256) i2⟩,
    ⟨S8x256, expertRow (p1 1) i2⟩, ⟨S8x256, expertRow (p1 2) i2⟩, ⟨S8x256, expertRow (p1 3) i2⟩,
    ⟨S8x256, expertRow (p1 4) i2⟩, ⟨S8x256, expertRow (p1 5) i2⟩, ⟨S8x256, expertRow (p1 6) i2⟩, ⟨S8x256, expertRow (p1 7) i2⟩,
    ⟨S8x256, addf (mulf (stack8 r8 (fun n => p1 (8 + n)) 8) (broadcast S8x256 (Scalar.ofBits .f32 0x43000000#32 : F .f32)))
      (broadcastTo S8x256 p2 broadcasts_S1x256_S8x256)⟩]
    concatenates_S16x256_S8x256_S8x256_S8x256_S8x256_S8x256_S8x256_S8x256_S8x256_S80x256_d0

section Head

variable (kp : FVec F S128x256 .f32) (cp : FVec F S80x256 .f32) (r : IVec S16x256 32) (r8 : IVec S8x256 32) (ninf : F .f32)
  (x1 x2 : FVec F S128x256 .f32)

/-- The candidates' scores, from the two sub-keys' scores. -/
def headC : FVec F S80x256 .f32 :=
  candC r8 ninf (fun n => topV (roundV kp ninf x1 n)) (topV x2) (stack16 r (fun n => topV (roundV kp ninf x2 n)) 16)

/-- The candidates' experts. -/
def headE : FVec F S80x256 .f32 :=
  expertC r8 (fun n => posV kp (roundV kp ninf x1 n)) (posV kp x2) (stack16 r (fun n => posV kp (roundV kp ninf x2 n)) 16)

/-- The head's experts. -/
def headId : FVec F S16x256 .f32 :=
  stack16 r (fun n => idC cp (headE kp r r8 ninf x1 x2) (roundC cp ninf (headC kp r r8 ninf x1 x2) n)) 16

/-- The head's scores. -/
def headSc : FVec F S16x256 .f32 :=
  stack16 r (fun n => topC (roundC cp ninf (headC kp r r8 ninf x1 x2) n)) 16

/-- The head's weights. -/
def headW : FVec F S16x256 .f32 :=
  have e : FVec F S16x256 .f32 := exp (subf (headSc kp cp r r8 ninf x1 x2)
    (broadcastTo S16x256 (topC (headC kp r r8 ninf x1 x2)) broadcasts_S1x256_S16x256))
  divf e (broadcastTo S16x256 (shapeCast S1x256 (multiReduction .add [0] S256 e 0x00000000#32 reduces_S16x256_S256 (.inl rfl) rfl)
    shapeCasts_S256_S1x256) broadcasts_S1x256_S16x256)

end Head

end Cert.Select

end
-- ==== Proof.SelTrip.lean ====
module

public import proofs.«01_k».proof.Proof.SelVec

@[expose] public section

/-! What one trip of the loop over the heads stores: the head's experts and its weights. -/

set_option maxRecDepth 65536

noncomputable section

namespace Cert.Select

open Idealize.ShloMosaic Idealize.ShloMosaic.TcCoe Idealize.ShloMosaic.Tactic
open Cert.KernelSelectIdeal Cert.KernelSelectIdeal.Gen

variable {F : FTy → Type} [FloatOps F]

/-- The row numbers of sixteen rows. -/
abbrev rank16 : IVec S16x256 32 := iota .tc S16x256 32 [0] iota_S16x256_d0_w32

/-- The row numbers of eight rows. -/
abbrev rank8 : IVec S8x256 32 := iota .tc S8x256 32 [0] iota_S8x256_d0_w32

/-- One sub-key's scores in a trip. -/
def score1 {arg5 : Memref sig .tc .vmem S2x128x128 .bf16} {arg10 : Memref sig .tc .vmem S2048x256 .f32}
    (X_arg5 : BufTy.Contents (Elt F) arg5.view.ty) (X_arg10 : BufTy.Contents (Elt F) arg10.view.ty) (k : Fin k0_t1_loop.trips) :
    FVec F S128x256 .f32 :=
  k0_pay2 (View.readAt (Elt F) arg5.view (Rect.unit (s := S2x128x128) ![0, 0, 0] S1x128x128.size inb_S2x128x128_S1x128x128_0_0_0).toLoadRect X_arg5)
    (View.readAt (Elt F) arg10.view (Rect.unit (s := S2048x256) (k0_off1 k 0#32) S128x256.size (k0_off1_inb k 0)).toLoadRect X_arg10)

/-- The other sub-key's scores. -/
def score2 {arg5 : Memref sig .tc .vmem S2x128x128 .bf16} {arg10 : Memref sig .tc .vmem S2048x256 .f32}
    (X_arg5 : BufTy.Contents (Elt F) arg5.view.ty) (X_arg10 : BufTy.Contents (Elt F) arg10.view.ty) (k : Fin k0_t1_loop.trips) :
    FVec F S128x256 .f32 :=
  k0_pay2 (View.readAt (Elt F) arg5.view (Rect.unit (s := S2x128x128) ![1, 0, 0] S1x128x128.size inb_S2x128x128_S1x128x128_1_0_0).toLoadRect X_arg5)
    (View.readAt (Elt F) arg10.view (Rect.unit (s := S2048x256) (k0_off1 k 128#32) S128x256.size (k0_off1_inb k 1)).toLoadRect X_arg10)

set_option maxHeartbeats 4000000 in
theorem trip_ids (𝒱 : Variants) (c : Dev nD) (bd : Option 𝒱.V) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole) (v24 : FVec F S256x1024 .f32) (cst_43 : F .f32) (X_arg5 : BufTy.Contents (Elt F) arg5.view.ty) (X_arg10 : BufTy.Contents (Elt F) arg10.view.ty) (k : Fin k0_t1_loop.trips) :
   (trip_k0_t1 (F := F) 𝒱 c bd i arg1 harg1 arg2 harg2 arg3 harg3 arg4 harg4 arg5 harg5 arg6 harg6 arg7 harg7 arg8 harg8 arg9 harg9 arg10 harg10 arg11 harg11 arg12 harg12 v24 rank16 rank8 cst_43 X_arg5 X_arg10 k).1 =
     [⟨Rect.unit (s := S128x256) (k0_off2 k) S16x256.size (k0_off2_inb k),
       shapeCast S16x256 (headId (k0_pay235 (F := F)) (k0_pay236 (F := F)) rank16 rank8 cst_43 (score1 X_arg5 X_arg10 k) (score2 X_arg5 X_arg10 k)) shapeCasts_S16x256_S16x256⟩] := by
  unfold trip_k0_t1
  sl_kernel_rfl

set_option maxHeartbeats 4000000 in
theorem trip_weights (𝒱 : Variants) (c : Dev nD) (bd : Option 𝒱.V) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole) (v24 : FVec F S256x1024 .f32) (cst_43 : F .f32) (X_arg5 : BufTy.Contents (Elt F) arg5.view.ty) (X_arg10 : BufTy.Contents (Elt F) arg10.view.ty) (k : Fin k0_t1_loop.trips) :
   (trip_k0_t1 (F := F) 𝒱 c bd i arg1 harg1 arg2 harg2 arg3 harg3 arg4 harg4 arg5 harg5 arg6 harg6 arg7 harg7 arg8 harg8 arg9 harg9 arg10 harg10 arg11 harg11 arg12 harg12 v24 rank16 rank8 cst_43 X_arg5 X_arg10 k).2.1 =
     [⟨Rect.unit (s := S128x256) (k0_off2 k) S16x256.size (k0_off2_inb k),
       shapeCast S16x256 (headW (k0_pay235 (F := F)) (k0_pay236 (F := F)) rank16 rank8 cst_43 (score1 X_arg5 X_arg10 k) (score2 X_arg5 X_arg10 k)) shapeCasts_S16x256_S16x256⟩] := by
  unfold trip_k0_t1
  sl_kernel_rfl

end Cert.Select

end
-- ==== Proof.SelPick.lean ====
module

public import Mathlib.Data.EReal.Operations
public import Mathlib.Data.Finset.Lattice.Fold
public import Idealize.ShloMosaic.Lib.SortPrefix

@[expose] public section

/-! Choosing greatest scores one after the other, the first of equals each time, is sorting the scores downwards stably. -/

noncomputable section

namespace Cert.Select

open Idealize.ShloMosaic

section Rounds

variable {n : Nat}

/-- The greatest score. -/
def best (v : Fin n → EReal) : EReal := Finset.univ.sup v

/-- The least position of a greatest score. -/
def bestPos (pos : Fin n → EReal) (cap : EReal) (v : Fin n → EReal) : EReal :=
  Finset.univ.inf fun r => if v r = best v then pos r else cap

/-- The scores with that position struck out. -/
def strike (pos : Fin n → EReal) (cap : EReal) (v : Fin n → EReal) : Fin n → EReal :=
  fun r => if pos r = bestPos pos cap v then ⊥ else v r

/-- The scores after so many rounds. -/
def rounds (pos : Fin n → EReal) (cap : EReal) (v : Fin n → EReal) : Nat → Fin n → EReal
  | 0 => v
  | i + 1 => strike pos cap (rounds pos cap v i)

/-- Greater, or as great and at an earlier position. -/
def Ahead {m : Nat} (w : Fin m → EReal) (P : Fin m → Nat) (a b : Fin m) : Prop := w b < w a ∨ (w b = w a ∧ P a < P b)

theorem Ahead.trans {m : Nat} {w : Fin m → EReal} {P : Fin m → Nat} {a b c : Fin m} (h : Ahead w P a b) (h' : Ahead w P b c) :
    Ahead w P a c := by
  rcases h with h | ⟨h, hp⟩ <;> rcases h' with h' | ⟨h', hp'⟩
  · exact .inl (h'.trans h)
  · exact .inl (h' ▸ h)
  · exact .inl (h ▸ h')
  · exact .inr ⟨h'.trans h, hp.trans hp'⟩

variable (P : Fin n → Nat) (cap : Nat) (hP : Function.Injective P) (hcap : ∀ r, P r < cap)

/-- The positions as extended reals. -/
abbrev posOf (r : Fin n) : EReal := ((P r : ℝ) : EReal)

include hP hcap in
theorem first_exists (hn : 0 < n) (v : Fin n → EReal) :
    ∃ r, v r = best v ∧ bestPos (posOf P) ((cap : ℝ) : EReal) v = posOf P r ∧ ∀ r', r' ≠ r → Ahead v P r r' := by
  obtain ⟨r0, -, h0⟩ := Finset.exists_mem_eq_sup (Finset.univ : Finset (Fin n)) ⟨⟨0, hn⟩, Finset.mem_univ _⟩ v
  obtain ⟨r, hr, hmin⟩ := Finset.exists_min_image (Finset.univ.filter fun r => v r = best v) P
    ⟨r0, Finset.mem_filter.mpr ⟨Finset.mem_univ _, h0.symm⟩⟩
  have hr' : v r = best v := (Finset.mem_filter.mp hr).2
  refine ⟨r, hr', ?_, ?_⟩
  · apply le_antisymm
    · have := Finset.inf_le (f := fun r => if v r = best v then posOf P r else ((cap : ℝ) : EReal)) (Finset.mem_univ r)
      simpa only [bestPos, hr', if_true] using this
    · refine Finset.le_inf fun q _ => ?_
      by_cases hq : v q = best v
      · rw [if_pos hq]
        exact EReal.coe_le_coe_iff.mpr (Nat.cast_le.mpr (hmin q (Finset.mem_filter.mpr ⟨Finset.mem_univ _, hq⟩)))
      · rw [if_neg hq]
        exact EReal.coe_le_coe_iff.mpr (Nat.cast_le.mpr (hcap r).le)
  · intro q hq
    have hle : v q ≤ best v := Finset.le_sup (Finset.mem_univ q)
    rcases hle.lt_or_eq with h | h
    · exact .inl (hr' ▸ h)
    · exact .inr ⟨h.trans hr'.symm, lt_of_le_of_ne (hmin q (Finset.mem_filter.mpr ⟨Finset.mem_univ _, h⟩))
        fun e => hq (hP e).symm⟩

variable (hn : 0 < n) (v : Fin n → EReal)

/-- The position chosen in a round. -/
def chosen (i : Nat) : Fin n := Classical.choose (first_exists P cap hP hcap hn (rounds (posOf P) ((cap : ℝ) : EReal) v i))

theorem chosen_spec (i : Nat) :
    rounds (posOf P) ((cap : ℝ) : EReal) v i (chosen P cap hP hcap hn v i) = best (rounds (posOf P) ((cap : ℝ) : EReal) v i) ∧
    bestPos (posOf P) ((cap : ℝ) : EReal) (rounds (posOf P) ((cap : ℝ) : EReal) v i) = posOf P (chosen P cap hP hcap hn v i) ∧
    ∀ r', r' ≠ chosen P cap hP hcap hn v i → Ahead (rounds (posOf P) ((cap : ℝ) : EReal) v i) P (chosen P cap hP hcap hn v i) r' :=
  Classical.choose_spec (first_exists P cap hP hcap hn (rounds (posOf P) ((cap : ℝ) : EReal) v i))

theorem posOf_inj {r r' : Fin n} : posOf P r = posOf P r' ↔ P r = P r' := by
  unfold posOf
  rw [EReal.coe_eq_coe_iff, Nat.cast_inj]

theorem rounds_eq (i : Nat) (r : Fin n) :
    rounds (posOf P) ((cap : ℝ) : EReal) v i r = if r ∈ (Finset.range i).image (chosen P cap hP hcap hn v) then ⊥ else v r := by
  induction i with
  | zero => simp [rounds]
  | succ i ih =>
    have h := (chosen_spec P cap hP hcap hn v i).2.1
    show (if posOf P r = bestPos (posOf P) ((cap : ℝ) : EReal) (rounds (posOf P) ((cap : ℝ) : EReal) v i) then ⊥
      else rounds (posOf P) ((cap : ℝ) : EReal) v i r) = _
    rw [Finset.range_add_one, Finset.image_insert]
    by_cases e : r = chosen P cap hP hcap hn v i
    · rw [if_pos ((congrArg (posOf P) e).trans h.symm), if_pos (by rw [e]; exact Finset.mem_insert_self _ _)]
    · rw [if_neg (fun h' => e (hP ((posOf_inj P).mp (h'.trans h)))), ih]
      simp only [Finset.mem_insert, e, false_or]

variable (N : Nat) (hlive : N ≤ (Finset.univ.filter fun r => v r ≠ ⊥).card)

include hlive in
theorem chosen_live (i : Nat) (hi : i < N) :
    chosen P cap hP hcap hn v i ∉ (Finset.range i).image (chosen P cap hP hcap hn v) ∧ v (chosen P cap hP hcap hn v i) ≠ ⊥ ∧
    best (rounds (posOf P) ((cap : ℝ) : EReal) v i) = v (chosen P cap hP hcap hn v i) := by
  have hc : ((Finset.range i).image (chosen P cap hP hcap hn v)).card < (Finset.univ.filter fun r => v r ≠ ⊥).card :=
    (Finset.card_image_le.trans (Finset.card_range i).le).trans_lt (hi.trans_le hlive)
  obtain ⟨q, hq, hq'⟩ := Finset.exists_mem_notMem_of_card_lt_card hc
  have h := (chosen_spec P cap hP hcap hn v i).1
  have hne : best (rounds (posOf P) ((cap : ℝ) : EReal) v i) ≠ ⊥ := by
    intro e
    have := Finset.le_sup (f := rounds (posOf P) ((cap : ℝ) : EReal) v i) (Finset.mem_univ q)
    rw [rounds_eq P cap hP hcap hn v i q, if_neg hq'] at this
    exact (Finset.mem_filter.mp hq).2 (le_bot_iff.mp (this.trans e.le))
  have hni : chosen P cap hP hcap hn v i ∉ (Finset.range i).image (chosen P cap hP hcap hn v) := by
    intro hm
    rw [rounds_eq P cap hP hcap hn v i (chosen P cap hP hcap hn v i), if_pos hm] at h
    exact hne h.symm
  rw [rounds_eq P cap hP hcap hn v i (chosen P cap hP hcap hn v i), if_neg hni] at h
  exact ⟨hni, fun e => hne (h.symm.trans e), h.symm⟩

include hlive in
theorem chosen_ahead (i : Nat) (hi : i < N) (r : Fin n) (hr : ∀ j ≤ i, chosen P cap hP hcap hn v j ≠ r) :
    Ahead v P (chosen P cap hP hcap hn v i) r := by
  have h := (chosen_spec P cap hP hcap hn v i).2.2 r (fun e => hr i le_rfl e.symm)
  unfold Ahead at h
  rw [rounds_eq P cap hP hcap hn v i r, rounds_eq P cap hP hcap hn v i (chosen P cap hP hcap hn v i),
    if_neg (chosen_live P cap hP hcap hn v N hlive i hi).1, if_neg (by
      rw [Finset.mem_image]
      rintro ⟨j, hj, e⟩
      exact hr j (Finset.mem_range.mp hj).le e)] at h
  exact h

include hlive in
theorem chosen_ne (i j : Nat) (hij : i < j) (hj : j < N) : chosen P cap hP hcap hn v i ≠ chosen P cap hP hcap hn v j := by
  intro e
  exact (chosen_live P cap hP hcap hn v N hlive j hj).1 (Finset.mem_image.mpr ⟨i, Finset.mem_range.mpr hij, e⟩)

end Rounds

/-! ## The stable sort -/

theorem stableSort_sorted {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Chosen positions, each ahead of all that are not chosen up to it, are the first of the stable sort downwards. -/
theorem sortedFrom_of_ahead {n k : Nat} (hk : k ≤ n) (w : Fin n → EReal) (R : Fin n → Fin n → Bool)
    (hR : ∀ a b, R a b = true ↔ w b < w a) (σ : Fin k → Fin n) (hinj : Function.Injective σ)
    (h : ∀ i p, (∀ j ≤ i, σ j ≠ p) → Ahead w (fun r => r.val) (σ i) p) (i : Fin k) : sortedFrom R (i.castLE hk) = σ i := by
  classical
  let B : Fin n → Fin n → Bool := fun a b => R a b || (decide (w a = w b) && decide (a < b))
  have hB : StrictTotalBefore B := by
    have := StrictTotalBefore.of_key_then_position (κ := EReal) (fun x y => decide (y < x)) w (fun a => by simp)
      (fun a b c hab hbc => by simp only [decide_eq_true_eq] at *; exact hbc.trans hab)
      (fun a b => by simp only [decide_eq_true_eq]; rcases lt_trichotomy a b with h | h | h <;> simp [h])
    have e : B = fun k k' : Fin n => decide (w k' < w k) || (decide (w k = w k') && decide (k < k')) := by
      funext a b
      have : R a b = decide (w b < w a) := by rw [Bool.eq_iff_iff, hR, decide_eq_true_eq]
      simp only [B, this]
    rw [e]
    exact this
  have hs : sortedFrom R = sortedFrom B := by
    funext j
    unfold sortedFrom
    have e : sortPositions n R = sortPositions n B :=
      stableSort_sorted R B (List.finRange n) ((List.pairwise_lt_finRange n).imp fun {a b} hab => by
        simp only [B, not_lt.mpr hab.le, decide_false, Bool.and_false, Bool.or_false])
    rw [List.get_of_eq e]
    rfl
  have hA : ∀ a b, Ahead w (fun r => r.val) a b → B b a = false := by
    intro a b hab
    apply hB.asymm
    simp only [B, Bool.or_eq_true, Bool.and_eq_true, decide_eq_true_eq, hR]
    rcases hab with h | ⟨h, h'⟩
    · exact .inl h
    · exact .inr ⟨h.symm, h'⟩
  rw [hs]
  refine hB.sortedFrom_eq_of_prefix hk σ hinj (fun a b hab => hA _ _ (h a _ fun j hj e => ?_)) (fun a p hp => hA _ _ (h a p fun j _ => hp j)) i
  exact absurd (hinj e) (lt_of_le_of_lt hj hab).ne

end Cert.Select

end
-- ==== Proof.SelCand.lean ====
module

public import proofs.«01_k».proof.Proof.SelPick

@[expose] public section

/-! The candidates: of the sums of two sorted rows of sixteen, the sixteen greatest lie among the fifty whose two ranks
    multiply to at most sixteen. -/

noncomputable section

namespace Cert.Select

open Idealize.ShloMosaic

/-- The first rank of a candidate row. -/
def rowA (r : Nat) : Nat := if r < 16 then 0 else if r < 72 then (r - 16) / 8 + 1 else r - 64

/-- The second rank of a candidate row. -/
def rowB (r : Nat) : Nat := if r < 16 then r else if r < 72 then (r - 16) % 8 else 0

/-- Whether a candidate row is kept. -/
def kept (r : Nat) : Bool := (rowA r + 1) * (rowB r + 1) ≤ 16

/-- A candidate row's position among all pairs of ranks. -/
def rowPos (r : Fin 80) : Nat := rowA r.val * 16 + rowB r.val

theorem rowA_lt (r : Fin 80) : rowA r.val < 16 := by revert r; decide +kernel
theorem rowB_lt (r : Fin 80) : rowB r.val < 16 := by revert r; decide +kernel
theorem rowPos_inj : Function.Injective rowPos := by
  have h : ∀ a b : Fin 80, rowPos a = rowPos b → a = b := by decide +kernel
  exact fun a b => h a b
theorem rowPos_lt (r : Fin 80) : rowPos r < 256 := by revert r; decide +kernel

/-- The kept rows at or under a pair of ranks. -/
def under (p : Fin 256) : List (Fin 80) :=
  (List.finRange 80).filter fun r => kept r.val && decide (rowA r.val ≤ p.val / 16) && decide (rowB r.val ≤ p.val % 16)

theorem kept_or_many (p : Fin 256) : (∃ r : Fin 80, kept r.val = true ∧ rowPos r = p.val) ∨ (16 ≤ (under p).length ∧ ∀ r ∈ under p, rowPos r < p.val) := by
  revert p; decide +kernel

theorem many_kept : 16 ≤ (Finset.univ.filter fun r : Fin 80 => kept r.val = true).card := by decide +kernel

section

variable (S1 S2 : Fin 16 → EReal) (h1 : Antitone S1) (h2 : Antitone S2) (b1 : ∀ i, S1 i ≠ ⊥) (b2 : ∀ i, S2 i ≠ ⊥)

/-- All pairs' sums. -/
def pairSum (p : Fin 256) : EReal := S1 ⟨p.val / 16, by omega⟩ + S2 ⟨p.val % 16, by omega⟩

/-- The candidate rows' sums. -/
def rowSum (r : Fin 80) : EReal := if kept r.val then S1 ⟨rowA r.val, rowA_lt r⟩ + S2 ⟨rowB r.val, rowB_lt r⟩ else ⊥

/-- The row chosen in a round. -/
abbrev rowChosen (i : Nat) : Fin 80 := chosen rowPos 256 rowPos_inj rowPos_lt (by decide) (rowSum S1 S2) i

include b1 b2 in
theorem rowSum_ne_bot (r : Fin 80) : rowSum S1 S2 r ≠ ⊥ ↔ kept r.val = true := by
  unfold rowSum
  by_cases h : kept r.val = true
  · rw [if_pos h]
    simp only [h, iff_true, ne_eq, EReal.add_eq_bot_iff, not_or]
    exact ⟨b1 _, b2 _⟩
  · rw [if_neg h]; simp [h]

include b1 b2 in
theorem rows_live : 16 ≤ (Finset.univ.filter fun r => rowSum S1 S2 r ≠ ⊥).card := by
  simp only [rowSum_ne_bot S1 S2 b1 b2]
  exact many_kept

theorem pairSum_row (r : Fin 80) (h : kept r.val = true) : pairSum S1 S2 ⟨rowPos r, rowPos_lt r⟩ = rowSum S1 S2 r := by
  unfold pairSum rowSum
  rw [if_pos h]
  have hb := rowB_lt r
  have e1 : (rowA r.val * 16 + rowB r.val) / 16 = rowA r.val := by omega
  have e2 : (rowA r.val * 16 + rowB r.val) % 16 = rowB r.val := by omega
  simp only [rowPos, e1, e2]

include b1 b2 in
theorem rowChosen_kept (i : Nat) (hi : i < 16) : kept (rowChosen S1 S2 i).val = true :=
  (rowSum_ne_bot S1 S2 b1 b2 _).mp (chosen_live rowPos 256 rowPos_inj rowPos_lt (by decide) _ 16 (rows_live S1 S2 b1 b2) i hi).2.1

include h1 h2 b1 b2 in
theorem pair_ahead (i : Nat) (hi : i < 16) (p : Fin 256) (hp : ∀ j ≤ i, rowPos (rowChosen S1 S2 j) ≠ p.val) :
    Ahead (pairSum S1 S2) (fun r => r.val) ⟨rowPos (rowChosen S1 S2 i), rowPos_lt _⟩ p := by
  have row : ∀ r, kept r.val = true → (∀ j ≤ i, rowChosen S1 S2 j ≠ r) →
      Ahead (pairSum S1 S2) (fun r => r.val) ⟨rowPos (rowChosen S1 S2 i), rowPos_lt _⟩ ⟨rowPos r, rowPos_lt r⟩ := by
    intro r hr hj
    have h := chosen_ahead rowPos 256 rowPos_inj rowPos_lt (by decide) _ 16 (rows_live S1 S2 b1 b2) i hi r hj
    unfold Ahead at h ⊢
    rw [pairSum_row S1 S2 r hr, pairSum_row S1 S2 _ (rowChosen_kept S1 S2 b1 b2 i hi)]
    exact h
  rcases kept_or_many p with ⟨r, hr, e⟩ | ⟨hlen, hlt⟩
  · have : p = ⟨rowPos r, rowPos_lt r⟩ := Fin.ext e.symm
    rw [this]
    exact row r hr fun j hj e' => hp j hj (e' ▸ e)
  · have hcard : ((Finset.range i).image (rowChosen S1 S2)).card < (under p).toFinset.card := by
      have hn : (under p).Nodup := (List.nodup_finRange 80).filter _
      rw [List.toFinset_card_of_nodup hn]
      exact (Finset.card_image_le.trans (Finset.card_range i).le).trans_lt (by omega)
    obtain ⟨q, hq, hq'⟩ := Finset.exists_mem_notMem_of_card_lt_card hcard
    have hq := List.mem_toFinset.mp hq
    have hu := hq
    unfold under at hu
    simp only [List.mem_filter, Bool.and_eq_true, decide_eq_true_eq] at hu
    have hqp : Ahead (pairSum S1 S2) (fun r => r.val) ⟨rowPos q, rowPos_lt q⟩ p := by
      have hle : pairSum S1 S2 p ≤ pairSum S1 S2 ⟨rowPos q, rowPos_lt q⟩ := by
        rw [pairSum_row S1 S2 q hu.2.1.1]
        unfold pairSum rowSum
        rw [if_pos hu.2.1.1]
        exact add_le_add (h1 hu.2.1.2) (h2 hu.2.2)
      rcases hle.lt_or_eq with h | h
      · exact .inl h
      · exact .inr ⟨h, hlt q hq⟩
    by_cases e : q = rowChosen S1 S2 i
    · rw [← e]; exact hqp
    · refine (row q hu.2.1.1 fun j hj e' => ?_).trans hqp
      rcases hj.lt_or_eq with h | h
      · exact hq' (Finset.mem_image.mpr ⟨j, Finset.mem_range.mpr h, e'⟩)
      · exact e (h ▸ e').symm

include h1 h2 b1 b2 in
/-- The chosen rows are the first sixteen of the stable sort of all pairs' sums downwards. -/
theorem sorted_pairs (R : Fin 256 → Fin 256 → Bool) (hR : ∀ a b, R a b = true ↔ pairSum S1 S2 b < pairSum S1 S2 a) (i : Fin 16) :
    sortedFrom R (i.castLE (by decide : 16 ≤ 256)) = ⟨rowPos (rowChosen S1 S2 i.val), rowPos_lt _⟩ := by
  refine sortedFrom_of_ahead (by decide) (pairSum S1 S2) R hR (fun i : Fin 16 => ⟨rowPos (rowChosen S1 S2 i.val), rowPos_lt _⟩) ?_ ?_ i
  · intro a b e
    have e := rowPos_inj (Fin.mk.inj e)
    rcases lt_trichotomy a.val b.val with h | h | h
    · exact absurd e (chosen_ne rowPos 256 rowPos_inj rowPos_lt (by decide) _ 16 (rows_live S1 S2 b1 b2) _ _ h b.isLt)
    · exact Fin.ext h
    · exact absurd e.symm (chosen_ne rowPos 256 rowPos_inj rowPos_lt (by decide) _ 16 (rows_live S1 S2 b1 b2) _ _ h a.isLt)
  · intro a p hp
    exact pair_ahead S1 S2 h1 h2 b1 b2 a.val a.isLt p fun j hj e => hp ⟨j, by omega⟩ hj (Fin.ext e)

end

/-! ## One sub-key -/

section

variable (x : Fin 128 → EReal) (hx : ∀ r, x r ≠ ⊥)

/-- The key chosen in a round. -/
abbrev keyChosen (i : Nat) : Fin 128 :=
  chosen (fun r : Fin 128 => r.val) 128 (fun _ _ => Fin.ext) (fun r => r.isLt) (by decide) x i

include hx in
theorem keys_live : 16 ≤ (Finset.univ.filter fun r => x r ≠ ⊥).card := by
  simp only [ne_eq, hx, not_false_eq_true, Finset.filter_true, Finset.card_univ, Fintype.card_fin]
  decide

include hx in
theorem sorted_keys (R : Fin 128 → Fin 128 → Bool) (hR : ∀ a b, R a b = true ↔ x b < x a) (i : Fin 16) :
    sortedFrom R (i.castLE (by decide : 16 ≤ 128)) = keyChosen x i.val := by
  refine sortedFrom_of_ahead (by decide) x R hR (fun i : Fin 16 => keyChosen x i.val) ?_ ?_ i
  · intro a b e
    rcases lt_trichotomy a.val b.val with h | h | h
    · exact absurd e (chosen_ne _ 128 _ _ (by decide) _ 16 (keys_live x hx) _ _ h b.isLt)
    · exact Fin.ext h
    · exact absurd e.symm (chosen_ne _ 128 _ _ (by decide) _ 16 (keys_live x hx) _ _ h a.isLt)
  · intro a p hp
    exact chosen_ahead _ 128 _ _ (by decide) _ 16 (keys_live x hx) a.val a.isLt p fun j hj e => hp ⟨j, by omega⟩ hj e

include hx in
theorem keys_down : Antitone fun i : Fin 16 => x (keyChosen x i.val) := by
  intro a b hab
  rcases hab.lt_or_eq with h | h
  · have := chosen_ahead (fun r : Fin 128 => r.val) 128 (fun _ _ => Fin.ext) (fun r => r.isLt) (by decide) x 16 (keys_live x hx) a.val a.isLt
      (keyChosen x b.val) fun j hj => chosen_ne _ 128 _ _ (by decide) _ 16 (keys_live x hx) _ _ (lt_of_le_of_lt hj h) b.isLt
    rcases this with h | ⟨h, _⟩
    · exact h.le
    · exact h.le
  · rw [h]

end

end Cert.Select

end
-- ==== Proof.SelCol.lean ====
module

public import proofs.«01_k».proof.Proof.SelVec
public import proofs.«01_k».proof.Proof.SelCand
public import proofs.«01_k».proof.Proof.NaHead

@[expose] public section

/-! The retrieval of one head, read in a column. -/

set_option maxRecDepth 16384

noncomputable section

namespace Cert.Select

open Idealize.ShloMosaic Idealize.ShloMosaic.TcCoe
open Cert.KernelSelectIdeal Cert.KernelSelectIdeal.Gen
open Cert.Na (neg_inf' fold_max_eq_sup)

theorem pos_inf' : Ideal.ofBits .f32 0x7F800000#32 = (⊤ : EReal) := by
  simp [Ideal.ofBits, Ideal.ieee]

theorem cap_keys : Ideal.ofBits .f32 0x43000000#32 = (((128 : ℕ) : ℝ) : EReal) := by
  simp [Ideal.ofBits, Ideal.ieee]; rw [← EReal.coe_mul]; norm_num

theorem cap_rows : Ideal.ofBits .f32 0x43800000#32 = (((256 : ℕ) : ℝ) : EReal) := by
  simp [Ideal.ofBits, Ideal.ieee]; rw [← EReal.coe_mul]; norm_num

theorem minus_one : Ideal.ofBits .f32 0xBF800000#32 = ((-1 : ℝ) : EReal) := by
  simp [Ideal.ofBits, Ideal.ieee]; rw [← EReal.coe_mul]; norm_num

theorem fold_min_eq_inf {n : Nat} (f : Fin n → EReal) : Finset.univ.fold min ⊤ f = Finset.univ.inf f := rfl

/-- A column. -/
def col {n : Nat} (s : FVec Ideal (⟨2, ![n, 256]⟩ : Shape) .f32) (t : Fin 256) : Fin n → EReal := fun r => s (ix2 r t)

theorem topV_apply (s : FVec Ideal S128x256 .f32) (t : Fin 256) : topV s (ix2 0 t) = best (col s t) := by
  unfold topV
  pointwise
  simp only [neg_inf', fold_max_eq_sup]
  rfl

theorem topC_apply (s : FVec Ideal S80x256 .f32) (t : Fin 256) : topC s (ix2 0 t) = best (col s t) := by
  unfold topC
  pointwise
  simp only [neg_inf', fold_max_eq_sup]
  rfl

theorem posV_apply (kp s : FVec Ideal S128x256 .f32) (t : Fin 256) :
    posV kp s (ix2 0 t) = bestPos (col kp t) (((128 : ℕ) : ℝ) : EReal) (col s t) := by
  unfold posV
  have h := topV_apply s t
  generalize topV s = y at h ⊢
  pointwise
  simp only [pos_inf', fold_min_eq_inf, h, cap_keys]
  rfl

theorem nextV_apply (kp s : FVec Ideal S128x256 .f32) (t : Fin 256) :
    col (nextV kp (⊥ : EReal) s) t = strike (col kp t) (((128 : ℕ) : ℝ) : EReal) (col s t) := by
  funext r
  unfold nextV
  show select _ _ _ (ix2 r t) = _
  have h := posV_apply kp s t
  generalize posV kp s = y at h ⊢
  pointwise
  rw [h]
  rfl

theorem roundV_apply (kp s : FVec Ideal S128x256 .f32) (t : Fin 256) (n : Nat) :
    col (roundV kp (⊥ : EReal) s n) t = rounds (col kp t) (((128 : ℕ) : ℝ) : EReal) (col s t) n := by
  induction n with
  | zero => rfl
  | succ n ih => exact (nextV_apply kp _ t).trans (by rw [ih]; rfl)

theorem hitC_apply (cp s : FVec Ideal S80x256 .f32) (r : Fin 80) (t : Fin 256) :
    hitC cp s (ix2 r t) = BitVec.ofBool (decide (col cp t r = bestPos (col cp t) (((256 : ℕ) : ℝ) : EReal) (col s t))) := by
  unfold hitC
  have h := topC_apply s t
  generalize topC s = y at h ⊢
  pointwise
  simp only [pos_inf', fold_min_eq_inf, h, cap_rows]
  rfl

theorem select_ofBool {α : Type} (p : Prop) [Decidable p] (x y : α) : Scalar.select (BitVec.ofBool (decide p)) x y = if p then x else y := by
  by_cases h : p <;> simp [h, Scalar.select]

theorem cmpi_eq (a b : BitVec 32) : IntOp.cmpi .eq a b = BitVec.ofBool (decide (a = b)) := rfl

theorem nextC_apply (cp s : FVec Ideal S80x256 .f32) (t : Fin 256) :
    col (nextC cp (⊥ : EReal) s) t = strike (col cp t) (((256 : ℕ) : ℝ) : EReal) (col s t) := by
  funext r
  unfold nextC
  show select _ _ _ (ix2 r t) = _
  have h := hitC_apply cp s r t
  generalize hitC cp s = y at h ⊢
  pointwise
  rw [h, select_ofBool]
  rfl

theorem roundC_apply (cp s : FVec Ideal S80x256 .f32) (t : Fin 256) (n : Nat) :
    col (roundC cp (⊥ : EReal) s n) t = rounds (col cp t) (((256 : ℕ) : ℝ) : EReal) (col s t) n := by
  induction n with
  | zero => rfl
  | succ n ih => exact (nextC_apply cp _ t).trans (by rw [ih]; rfl)

theorem idC_apply (cp ce s : FVec Ideal S80x256 .f32) (t : Fin 256) :
    idC cp ce s (ix2 0 t) = Finset.univ.sup fun r : Fin 80 =>
      if col cp t r = bestPos (col cp t) (((256 : ℕ) : ℝ) : EReal) (col s t) then col ce t r else ((-1 : ℝ) : EReal) := by
  unfold idC
  have h := fun r => hitC_apply cp s r t
  generalize hitC cp s = y at h ⊢
  pointwise
  simp only [neg_inf', fold_max_eq_sup, minus_one, h, select_ofBool]
  rfl

theorem stack16_apply (r : IVec S16x256 32) (f : Nat → FVec Ideal S1x256 .f32) (t : Fin 256) (i : Fin 16)
    (hr : r (ix2 i t) = BitVec.ofNat 32 i.val) (n : Nat) (hi : i.val < n) (hn : n ≤ 16) :
    stack16 r f n (ix2 i t) = f i.val (ix2 0 t) := by
  induction n with
  | zero => omega
  | succ n ih =>
    unfold stack16
    have ih' := fun h => ih h (by omega)
    generalize stack16 r f n = y at ih' ⊢
    pointwise
    rw [hr, cmpi_eq, select_ofBool]
    by_cases h : i.val = n
    · rw [h, if_pos rfl]
    · have : BitVec.ofNat 32 i.val ≠ BitVec.ofNat 32 n := by
        intro e; have := congrArg BitVec.toNat e; simp only [BitVec.toNat_ofNat] at this; omega
      rw [if_neg this, ih' (by omega)]

theorem stack8_apply (r : IVec S8x256 32) (f : Nat → FVec Ideal S1x256 .f32) (t : Fin 256) (i : Fin 8)
    (hr : r (ix2 i t) = BitVec.ofNat 32 i.val) (n : Nat) (hi : i.val < n) (hn : n ≤ 8) :
    stack8 r f n (ix2 i t) = f i.val (ix2 0 t) := by
  induction n with
  | zero => omega
  | succ n ih =>
    unfold stack8
    have ih' := fun h => ih h (by omega)
    generalize stack8 r f n = y at ih' ⊢
    pointwise
    rw [hr, cmpi_eq, select_ofBool]
    by_cases h : i.val = n
    · rw [h, if_pos rfl]
    · have : BitVec.ofNat 32 i.val ≠ BitVec.ofNat 32 n := by
        intro e; have := congrArg BitVec.toNat e; simp only [BitVec.toNat_ofNat] at this; omega
      rw [if_neg this, ih' (by omega)]

theorem row_test (b : Fin 8) (n : Fin 9) : IntOp.cmpi .slt (BitVec.ofNat 32 b.val) (BitVec.ofNat 32 n.val) = BitVec.ofBool (decide (b.val < n.val)) := by
  revert b n; decide

theorem candRow_apply (r8 : IVec S8x256 32) (a : FVec Ideal S1x256 .f32) (s2 : FVec Ideal S16x256 .f32) (n : Fin 9)
    (b : Fin 8) (t : Fin 256) (hr : r8 (ix2 b t) = BitVec.ofNat 32 b.val) :
    candRow (F := Ideal) r8 (⊥ : EReal) a s2 (BitVec.ofNat 32 n.val) (ix2 b t)
      = if b.val < n.val then a (ix2 0 t) + s2 (ix2 ⟨b.val, by omega⟩ t) else (⊥ : EReal) := by
  unfold candRow
  pointwise
  rw [hr, row_test, select_ofBool]

theorem expertRow_apply (a : FVec Ideal S1x256 .f32) (i2 : FVec Ideal S16x256 .f32) (b : Fin 8) (t : Fin 256) :
    expertRow (F := Ideal) a i2 (ix2 b t) = a (ix2 0 t) * (((128 : ℕ) : ℝ) : EReal) + i2 (ix2 ⟨b.val, by omega⟩ t) := by
  unfold expertRow
  pointwise
  rw [cap_keys]

end Cert.Select

end
-- ==== Proof.SelRows.lean ====
module

public import proofs.«01_k».proof.Proof.SelCol

@[expose] public section

/-! The candidates of one head, read in a column. -/

noncomputable section

namespace Cert.Select

open Idealize.ShloMosaic Idealize.ShloMosaic.TcCoe
open Cert.KernelSelectIdeal Cert.KernelSelectIdeal.Gen

theorem nine_apply (y0 : FVec Ideal S16x256 .f32) (y1 y2 y3 y4 y5 y6 y7 y8 : FVec Ideal S8x256 .f32) (r : Fin 80) (t : Fin 256) (v : EReal)
    (h0 : ∀ b : Fin 16, r.val = b.val → y0 (ix2 b t) = v)
    (h1 : ∀ b : Fin 8, r.val = 16 + b.val → y1 (ix2 b t) = v)
    (h2 : ∀ b : Fin 8, r.val = 24 + b.val → y2 (ix2 b t) = v)
    (h3 : ∀ b : Fin 8, r.val = 32 + b.val → y3 (ix2 b t) = v)
    (h4 : ∀ b : Fin 8, r.val = 40 + b.val → y4 (ix2 b t) = v)
    (h5 : ∀ b : Fin 8, r.val = 48 + b.val → y5 (ix2 b t) = v)
    (h6 : ∀ b : Fin 8, r.val = 56 + b.val → y6 (ix2 b t) = v)
    (h7 : ∀ b : Fin 8, r.val = 64 + b.val → y7 (ix2 b t) = v)
    (h8 : ∀ b : Fin 8, r.val = 72 + b.val → y8 (ix2 b t) = v) :
    concatenate S80x256 0 [⟨S16x256, y0⟩, ⟨S8x256, y1⟩, ⟨S8x256, y2⟩, ⟨S8x256, y3⟩, ⟨S8x256, y4⟩, ⟨S8x256, y5⟩, ⟨S8x256, y6⟩, ⟨S8x256, y7⟩, ⟨S8x256, y8⟩]
      concatenates_S16x256_S8x256_S8x256_S8x256_S8x256_S8x256_S8x256_S8x256_S8x256_S80x256_d0 (ix2 r t) = v := by
  pointwise
  split
  · exact h0 _ rfl
  split
  · exact h1 _ (by dsimp only; omega)
  split
  · exact h2 _ (by dsimp only; omega)
  split
  · exact h3 _ (by dsimp only; omega)
  split
  · exact h4 _ (by dsimp only; omega)
  split
  · exact h5 _ (by dsimp only; omega)
  split
  · exact h6 _ (by dsimp only; omega)
  split
  · exact h7 _ (by dsimp only; omega)
  exact h8 _ (by dsimp only; omega)

theorem row_ranks (r : Fin 80) (a b : Nat) (e : r.val = 16 + 8 * a + b) (ha : a < 7) (hb : b < 8) : rowA r.val = a + 1 ∧ rowB r.val = b := by
  unfold rowA rowB; split_ifs <;> omega

theorem first_ranks (r : Fin 80) (b : Fin 16) (e : r.val = b.val) : rowA r.val = 0 ∧ rowB r.val = b.val := by
  unfold rowA rowB; split_ifs <;> omega

theorem last_ranks (r : Fin 80) (b : Fin 8) (e : r.val = 72 + b.val) : rowA r.val = 8 + b.val ∧ rowB r.val = 0 := by
  unfold rowA rowB; split_ifs <;> omega

theorem rowSum_at (S1 S2 : Fin 16 → EReal) (r : Fin 80) (a b : Nat) (ha : a < 16) (hb : b < 16) (h : rowA r.val = a ∧ rowB r.val = b) :
    rowSum S1 S2 r = if (a + 1) * (b + 1) ≤ 16 then S1 ⟨a, ha⟩ + S2 ⟨b, hb⟩ else ⊥ := by
  obtain ⟨ea, eb⟩ := h
  subst ea eb
  unfold rowSum kept
  simp only [decide_eq_true_eq]

section
variable (r8 : IVec S8x256 32) (t : Fin 256) (hr : ∀ b : Fin 8, r8 (ix2 b t) = BitVec.ofNat 32 b.val)

include hr in
theorem cand_at (S1 S2 : Fin 16 → EReal) (r : Fin 80) (a : FVec Ideal S1x256 .f32) (s2 : FVec Ideal S16x256 .f32) (h2 : ∀ n : Fin 16, s2 (ix2 n t) = S2 n)
    (n : Nat) (hn : n < 7) (m : Fin 9) (hm : ∀ b : Fin 8, b.val < m.val ↔ (n + 2) * (b.val + 1) ≤ 16) (ha : a (ix2 0 t) = S1 ⟨n + 1, by omega⟩)
    (b : Fin 8) (e : r.val = 16 + 8 * n + b.val) :
    candRow (F := Ideal) r8 (⊥ : EReal) a s2 (BitVec.ofNat 32 m.val) (ix2 b t) = rowSum S1 S2 r := by
  rw [candRow_apply r8 a s2 m b t (hr b), rowSum_at S1 S2 r (n + 1) b.val (by omega) (by omega) (row_ranks r n b.val e hn b.isLt), ha, h2]
  exact if_congr (hm b) rfl rfl

include hr in
theorem candC_apply (t1 : Nat → FVec Ideal S1x256 .f32) (t2 : FVec Ideal S1x256 .f32) (s2 : FVec Ideal S16x256 .f32)
    (S1 S2 : Fin 16 → EReal) (h1 : ∀ n : Fin 16, t1 n.val (ix2 0 t) = S1 n) (h2 : ∀ n : Fin 16, s2 (ix2 n t) = S2 n)
    (h0 : t2 (ix2 0 t) = S2 0) : col (candC (F := Ideal) r8 (⊥ : EReal) t1 t2 s2) t = rowSum S1 S2 := by
  funext r
  refine nine_apply _ _ _ _ _ _ _ _ _ r t _ ?_
    (cand_at r8 t hr S1 S2 r (t1 1) s2 h2 0 (by decide) 8 (by decide) (h1 1))
    (cand_at r8 t hr S1 S2 r (t1 2) s2 h2 1 (by decide) 5 (by decide) (h1 2))
    (cand_at r8 t hr S1 S2 r (t1 3) s2 h2 2 (by decide) 4 (by decide) (h1 3))
    (cand_at r8 t hr S1 S2 r (t1 4) s2 h2 3 (by decide) 3 (by decide) (h1 4))
    (cand_at r8 t hr S1 S2 r (t1 5) s2 h2 4 (by decide) 2 (by decide) (h1 5))
    (cand_at r8 t hr S1 S2 r (t1 6) s2 h2 5 (by decide) 2 (by decide) (h1 6))
    (cand_at r8 t hr S1 S2 r (t1 7) s2 h2 6 (by decide) 2 (by decide) (h1 7)) ?_
  · intro b e
    rw [rowSum_at S1 S2 r 0 b.val (by omega) b.isLt (first_ranks r b e), if_pos (by omega)]
    pointwise
    rw [h2]
    exact congrArg (· + _) (h1 0)
  · intro b e
    rw [rowSum_at S1 S2 r (8 + b.val) 0 (by omega) (by omega) (last_ranks r b e), if_pos (by omega)]
    have g := stack8_apply r8 (fun n => t1 (8 + n)) t b (hr b) 8 b.isLt le_rfl
    generalize stack8 (F := Ideal) r8 (fun n => t1 (8 + n)) 8 = y at g ⊢
    pointwise
    rw [g, h0]
    exact congrArg (· + _) (h1 ⟨8 + b.val, by omega⟩)

/-- The expert of a candidate row, from the two sub-keys' positions. -/
def rowExpert (K1 K2 : Fin 16 → EReal) (r : Fin 80) : EReal :=
  K1 ⟨rowA r.val, rowA_lt r⟩ * (((128 : ℕ) : ℝ) : EReal) + K2 ⟨rowB r.val, rowB_lt r⟩

theorem rowExpert_at (K1 K2 : Fin 16 → EReal) (r : Fin 80) (a b : Nat) (ha : a < 16) (hb : b < 16) (h : rowA r.val = a ∧ rowB r.val = b) :
    rowExpert K1 K2 r = K1 ⟨a, ha⟩ * (((128 : ℕ) : ℝ) : EReal) + K2 ⟨b, hb⟩ := by
  obtain ⟨ea, eb⟩ := h
  subst ea eb
  rfl

theorem expert_at (K1 K2 : Fin 16 → EReal) (r : Fin 80) (a : FVec Ideal S1x256 .f32) (i2 : FVec Ideal S16x256 .f32) (h2 : ∀ n : Fin 16, i2 (ix2 n t) = K2 n)
    (n : Nat) (hn : n < 7) (ha : a (ix2 0 t) = K1 ⟨n + 1, by omega⟩) (b : Fin 8) (e : r.val = 16 + 8 * n + b.val) :
    expertRow (F := Ideal) a i2 (ix2 b t) = rowExpert K1 K2 r := by
  rw [expertRow_apply, rowExpert_at K1 K2 r (n + 1) b.val (by omega) (by omega) (row_ranks r n b.val e hn b.isLt), ha, h2]

include hr in
theorem expertC_apply (p1 : Nat → FVec Ideal S1x256 .f32) (p2 : FVec Ideal S1x256 .f32) (i2 : FVec Ideal S16x256 .f32)
    (K1 K2 : Fin 16 → EReal) (h1 : ∀ n : Fin 16, p1 n.val (ix2 0 t) = K1 n) (h2 : ∀ n : Fin 16, i2 (ix2 n t) = K2 n)
    (h0 : p2 (ix2 0 t) = K2 0) : col (expertC (F := Ideal) r8 p1 p2 i2) t = rowExpert K1 K2 := by
  funext r
  refine nine_apply _ _ _ _ _ _ _ _ _ r t _ ?_
    (expert_at t K1 K2 r (p1 1) i2 h2 0 (by decide) (h1 1)) (expert_at t K1 K2 r (p1 2) i2 h2 1 (by decide) (h1 2))
    (expert_at t K1 K2 r (p1 3) i2 h2 2 (by decide) (h1 3)) (expert_at t K1 K2 r (p1 4) i2 h2 3 (by decide) (h1 4))
    (expert_at t K1 K2 r (p1 5) i2 h2 4 (by decide) (h1 5)) (expert_at t K1 K2 r (p1 6) i2 h2 5 (by decide) (h1 6))
    (expert_at t K1 K2 r (p1 7) i2 h2 6 (by decide) (h1 7)) ?_
  · intro b e
    rw [rowExpert_at K1 K2 r 0 b.val (by omega) b.isLt (first_ranks r b e)]
    pointwise
    rw [h2, cap_keys]
    exact congrArg (· * _ + _) (h1 0)
  · intro b e
    rw [rowExpert_at K1 K2 r (8 + b.val) 0 (by omega) (by omega) (last_ranks r b e)]
    have g := stack8_apply r8 (fun n => p1 (8 + n)) t b (hr b) 8 b.isLt le_rfl
    generalize stack8 (F := Ideal) r8 (fun n => p1 (8 + n)) 8 = y at g ⊢
    pointwise
    rw [g, h0, cap_keys]
    exact congrArg (· * _ + _) (h1 ⟨8 + b.val, by omega⟩)

end

end Cert.Select

end
-- ==== Proof.SelHead.lean ====
module

public import proofs.«01_k».proof.Proof.SelRows

@[expose] public section

/-! The experts and weights of one head, read in a column. -/

noncomputable section

namespace Cert.Select

open Idealize.ShloMosaic Idealize.ShloMosaic.TcCoe
open Cert.KernelSelectIdeal Cert.KernelSelectIdeal.Gen

/-! ## The head -/

/-- The scores of a head's first or second sub-key, sorted downwards. -/
def keyScore (x : Fin 128 → EReal) (i : Fin 16) : EReal := x (keyChosen x i.val)

/-- The position of the key chosen in a round. -/
def keyPos (x : Fin 128 → EReal) (i : Nat) : EReal := (((keyChosen x i).val : ℝ) : EReal)

/-- The row of candidates a head chooses in a round. -/
def pickRow (x1 x2 : Fin 128 → EReal) (i : Nat) : Fin 80 := rowChosen (keyScore x1) (keyScore x2) i

/-- The expert chosen in a round. -/
def pickId (x1 x2 : Fin 128 → EReal) (i : Nat) : Nat :=
  (keyChosen x1 (rowA (pickRow x1 x2 i).val)).val * 128 + (keyChosen x2 (rowB (pickRow x1 x2 i).val)).val

/-- Its score. -/
def pickScore (x1 x2 : Fin 128 → EReal) (i : Nat) : EReal := rowSum (keyScore x1) (keyScore x2) (pickRow x1 x2 i)

section
variable (kp : FVec Ideal S128x256 .f32) (cp : FVec Ideal S80x256 .f32) (r : IVec S16x256 32) (r8 : IVec S8x256 32)
  (x1 x2 : FVec Ideal S128x256 .f32) (t : Fin 256)
  (hk : ∀ k : Fin 128, kp (ix2 k t) = ((k.val : ℝ) : EReal)) (hc : ∀ k : Fin 80, cp (ix2 k t) = ((rowPos k : ℝ) : EReal))
  (hr : ∀ i : Fin 16, r (ix2 i t) = BitVec.ofNat 32 i.val) (hr8 : ∀ b : Fin 8, r8 (ix2 b t) = BitVec.ofNat 32 b.val)
  (hx1 : ∀ k, col x1 t k ≠ ⊥) (hx2 : ∀ k, col x2 t k ≠ ⊥)

include hk in
theorem col_kp : col kp t = posOf (fun r : Fin 128 => r.val) := funext hk
include hc in
theorem col_cp : col cp t = posOf rowPos := funext hc

include hk in
theorem round_top (x : FVec Ideal S128x256 .f32) (hx : ∀ k, col x t k ≠ ⊥) (n : Fin 16) :
    topV (roundV kp (⊥ : EReal) x n.val) (ix2 0 t) = keyScore (col x t) n := by
  rw [topV_apply, roundV_apply, col_kp kp t hk]
  exact (chosen_live _ 128 _ _ (by decide) _ 16 (keys_live _ hx) n.val n.isLt).2.2

include hk in
theorem round_pos (x : FVec Ideal S128x256 .f32) (n : Nat) :
    posV kp (roundV kp (⊥ : EReal) x n) (ix2 0 t) = keyPos (col x t) n := by
  rw [posV_apply, roundV_apply, col_kp kp t hk]
  exact (chosen_spec _ 128 _ _ (by decide) _ n).2.1

include hk hr hr8 hx1 hx2 in
theorem headC_col : col (headC (F := Ideal) kp r r8 (⊥ : EReal) x1 x2) t = rowSum (keyScore (col x1 t)) (keyScore (col x2 t)) :=
  candC_apply r8 t hr8 _ _ _ _ _ (round_top kp t hk x1 hx1)
    (fun n => (stack16_apply r _ t n (hr n) 16 n.isLt le_rfl).trans (round_top kp t hk x2 hx2 n)) (round_top kp t hk x2 hx2 0)

include hk hr hr8 in
theorem headE_col (k : Fin 80) : col (headE (F := Ideal) kp r r8 (⊥ : EReal) x1 x2) t k
    = keyPos (col x1 t) (rowA k.val) * (((128 : ℕ) : ℝ) : EReal) + keyPos (col x2 t) (rowB k.val) := by
  have h := expertC_apply r8 t hr8 (fun n => posV kp (roundV kp (⊥ : EReal) x1 n)) (posV kp x2)
    (stack16 r (fun n => posV kp (roundV kp (⊥ : EReal) x2 n)) 16) (fun n => keyPos (col x1 t) n.val) (fun n => keyPos (col x2 t) n.val)
    (fun n => round_pos kp t hk x1 n.val)
    (fun n => (stack16_apply r _ t n (hr n) 16 n.isLt le_rfl).trans (round_pos kp t hk x2 n.val)) (round_pos kp t hk x2 0)
  exact congrFun h k

theorem keyScore_down (x : Fin 128 → EReal) (hx : ∀ r, x r ≠ ⊥) : Antitone (keyScore x) := keys_down x hx
theorem keyScore_bot (x : Fin 128 → EReal) (hx : ∀ r, x r ≠ ⊥) (i : Fin 16) : keyScore x i ≠ ⊥ := hx _

include hk hc hr hr8 hx1 hx2 in
theorem headId_apply (i : Fin 16) : headId (F := Ideal) kp cp r r8 (⊥ : EReal) x1 x2 (ix2 i t)
    = ((pickId (col x1 t) (col x2 t) i.val : ℝ) : EReal) := by
  unfold headId
  rw [stack16_apply r _ t i (hr i) 16 i.isLt le_rfl, idC_apply, roundC_apply, headC_col kp r r8 x1 x2 t hk hr hr8 hx1 hx2, col_cp cp t hc]
  have h := (chosen_spec rowPos 256 rowPos_inj rowPos_lt (by decide) (rowSum (keyScore (col x1 t)) (keyScore (col x2 t))) i.val).2.1
  rw [h]
  have e : ∀ k : Fin 80, col (headE (F := Ideal) kp r r8 (⊥ : EReal) x1 x2) t k
      = ((((keyChosen (col x1 t) (rowA k.val)).val * 128 + (keyChosen (col x2 t) (rowB k.val)).val : ℕ) : ℝ) : EReal) := by
    intro k
    rw [headE_col kp r r8 x1 x2 t hk hr hr8 k]
    unfold keyPos
    push_cast
    rfl
  apply le_antisymm
  · refine Finset.sup_le fun k _ => ?_
    split
    · rename_i h'
      have := rowPos_inj ((posOf_inj rowPos).mp h')
      rw [e, this]
      exact le_rfl
    · refine EReal.coe_le_coe_iff.mpr ?_
      have : (0 : ℝ) ≤ (pickId (col x1 t) (col x2 t) i.val : ℝ) := Nat.cast_nonneg _
      linarith
  · refine le_trans (le_of_eq ?_) (Finset.le_sup (Finset.mem_univ (pickRow (col x1 t) (col x2 t) i.val)))
    rw [e]
    exact (if_pos rfl).symm

include hk hc hr hr8 hx1 hx2 in
theorem headTop_apply (i : Nat) (hi : i < 16) :
    topC (roundC cp (⊥ : EReal) (headC (F := Ideal) kp r r8 (⊥ : EReal) x1 x2) i) (ix2 0 t) = pickScore (col x1 t) (col x2 t) i := by
  rw [topC_apply, roundC_apply, headC_col kp r r8 x1 x2 t hk hr hr8 hx1 hx2, col_cp cp t hc]
  exact (chosen_live rowPos 256 rowPos_inj rowPos_lt (by decide) _ 16
    (rows_live _ _ (keyScore_bot _ hx1) (keyScore_bot _ hx2)) i hi).2.2

include hk hc hr hr8 hx1 hx2 in
theorem headSc_apply (i : Fin 16) : headSc (F := Ideal) kp cp r r8 (⊥ : EReal) x1 x2 (ix2 i t) = pickScore (col x1 t) (col x2 t) i.val := by
  unfold headSc
  rw [stack16_apply r _ t i (hr i) 16 i.isLt le_rfl]
  exact headTop_apply kp cp r r8 x1 x2 t hk hc hr hr8 hx1 hx2 i.val i.isLt

include hk hc hr hr8 hx1 hx2 in
theorem headW_apply (i : Fin 16) : headW (F := Ideal) kp cp r r8 (⊥ : EReal) x1 x2 (ix2 i t)
    = Ideal.div (Ideal.exp (pickScore (col x1 t) (col x2 t) i.val - pickScore (col x1 t) (col x2 t) 0))
        (∑ j : Fin 16, Ideal.exp (pickScore (col x1 t) (col x2 t) j.val - pickScore (col x1 t) (col x2 t) 0)) := by
  unfold headW
  have h := headSc_apply kp cp r r8 x1 x2 t hk hc hr hr8 hx1 hx2
  have h0 : topC (headC (F := Ideal) kp r r8 (⊥ : EReal) x1 x2) (ix2 0 t) = _ := headTop_apply kp cp r r8 x1 x2 t hk hc hr hr8 hx1 hx2 0 (by decide)
  generalize headSc (F := Ideal) kp cp r r8 (⊥ : EReal) x1 x2 = y at h ⊢
  generalize topC (headC (F := Ideal) kp r r8 (⊥ : EReal) x1 x2) = z at h0 ⊢
  dsimp only
  pointwise
  simp only [h, h0]

end

end Cert.Select

end
-- ==== Proof.SelPure.lean ====
/-
  A token's scores against the sub-keys, and that the chosen pair with the greatest sum is the first.
-/
module

public import proofs.«01_k».proof.Proof.SelHead
public import proofs.«01_k».proof.Proof.QkvPure

@[expose] public section

noncomputable section

namespace Cert.Select

open Idealize.ShloMosaic Cert.Na
open scoped BigOperators

/-- A token's score against a sub-key of a head. -/
def scoreOf (h : Fin 1024 → EReal) (wq : Fin 1024 → Fin 2048 → EReal) (sk : Fin 2 → Fin 128 → Fin 128 → EReal)
    (hd : Fin 8) (p : Fin 2) (n : Fin 128) : EReal :=
  ∑ d : Fin 128, sk p n d * ∑ k, h k * wq k ⟨hd.val * 256 + (p.val * 128 + d.val), by omega⟩

theorem real_score {h : Fin 1024 → EReal} {wq : Fin 1024 → Fin 2048 → EReal} {sk : Fin 2 → Fin 128 → Fin 128 → EReal}
    (hh : ∀ k, Real' (h k)) (hw : ∀ k n, Real' (wq k n)) (hs : ∀ p n d, Real' (sk p n d)) (hd : Fin 8) (p : Fin 2) (n : Fin 128) :
    Real' (scoreOf h wq sk hd p n) :=
  Real'.sum _ fun d => (hs p n d).mul (Real'.sum _ fun k => (hh k).mul (hw k _))

theorem score_live {h : Fin 1024 → EReal} {wq : Fin 1024 → Fin 2048 → EReal} {sk : Fin 2 → Fin 128 → Fin 128 → EReal}
    (hh : ∀ k, Real' (h k)) (hw : ∀ k n, Real' (wq k n)) (hs : ∀ p n d, Real' (sk p n d)) (hd : Fin 8) (p : Fin 2) (n : Fin 128) :
    scoreOf h wq sk hd p n ≠ ⊥ := by
  obtain ⟨r, hr⟩ := real_score hh hw hs hd p n
  rw [hr]
  exact EReal.coe_ne_bot r

theorem pickId_lt (x1 x2 : Fin 128 → EReal) (i : Nat) : pickId x1 x2 i < 16384 := by
  have h1 := (keyChosen x1 (rowA (pickRow x1 x2 i).val)).isLt
  have h2 := (keyChosen x2 (rowB (pickRow x1 x2 i).val)).isLt
  unfold pickId
  omega

/-- No round's score is above the first's. -/
theorem pickScore_le (x1 x2 : Fin 128 → EReal) (hx1 : ∀ k, x1 k ≠ ⊥) (hx2 : ∀ k, x2 k ≠ ⊥) (i : Nat) :
    pickScore x1 x2 i ≤ pickScore x1 x2 0 := by
  have hl := rows_live (keyScore x1) (keyScore x2) (keyScore_bot x1 hx1) (keyScore_bot x2 hx2)
  by_cases h : pickRow x1 x2 i = pickRow x1 x2 0
  · unfold pickScore
    rw [h]
  · rcases chosen_ahead rowPos 256 rowPos_inj rowPos_lt (by decide) (rowSum (keyScore x1) (keyScore x2)) 16 hl 0 (by decide)
      (pickRow x1 x2 i) (fun j hj => by
        obtain rfl : j = 0 := by omega
        exact fun e => h e.symm) with h | ⟨h, -⟩
    · exact h.le
    · exact h.le

/-- The greatest of the chosen scores, over minus infinity, is the first. -/
theorem pick_max (x1 x2 : Fin 128 → EReal) (hx1 : ∀ k, x1 k ≠ ⊥) (hx2 : ∀ k, x2 k ≠ ⊥) :
    max ⊥ (Finset.univ.fold max ⊥ fun i : Fin 16 => pickScore x1 x2 i.val) = pickScore x1 x2 0 := by
  rw [max_eq_right bot_le]
  refine le_antisymm ?_ ?_
  · exact Finset.fold_max_le _ |>.mpr ⟨bot_le, fun i _ => pickScore_le x1 x2 hx1 hx2 i.val⟩
  · exact Finset.le_fold_max _ |>.mpr (Or.inr ⟨0, Finset.mem_univ _, le_rfl⟩)

end Cert.Select

end
-- ==== Proof.SelKern.lean ====
/-
  What the kernel computes for a block of tokens, at an index.
-/
module

public import proofs.«01_k».proof.Proof.SelPure
public import proofs.«01_k».proof.Proof.SelTrip

@[expose] public section

set_option maxRecDepth 16384

noncomputable section

namespace Cert.Select

open Idealize.ShloMosaic Idealize.ShloMosaic.TcCoe Idealize.ShloMosaic.Tactic Cert.Mix
open Cert.KernelSelectIdeal Cert.KernelSelectIdeal.Gen Cert.KernelSelectIdeal.Facts₀

theorem row_apply (v0 : FVec Ideal S256x1024 .f32) (v1 : FVec Ideal S1x1024 .f32) (v3 v5 : FVec Ideal S1x1x1024 .f32) (a : Fin 256) (l : Fin 1024) :
    k0_pay217 (F := Ideal) v0 v1 v3 v5 (ix2 a l)
      = hid (fun k => v0 (ix2 a k)) (fun k => v5 (ix3 0 0 k)) (fun k => v3 (ix3 0 0 k)) (fun k => v1 (ix2 0 k)) l := by
  unfold k0_pay217 hid rms
  pointwise

theorem query_apply (h : FVec Ideal S256x1024 .f32) (w : FVec Ideal S2048x1024 .bf16) (r : Fin 2048) (t : Fin 256) :
    k0_pay234 (F := Ideal) h w (ix2 r t) = ∑ k, h (ix2 t k) * w (ix2 r k) := by
  unfold k0_pay234
  pointwise
  exact Finset.sum_congr rfl fun k _ => mul_comm _ _

theorem keys_apply (s : FVec Ideal S1x128x128 .bf16) (q : FVec Ideal S128x256 .f32) (n : Fin 128) (t : Fin 256) :
    k0_pay2 (F := Ideal) s q (ix2 n t) = ∑ d, s (ix3 0 n d) * q (ix2 d t) := by
  unfold k0_pay2
  pointwise

theorem rank16_apply (i : Fin 16) (t : Fin 256) : rank16 (ix2 i t) = BitVec.ofNat 32 i.val := by
  pointwise
theorem rank8_apply (i : Fin 8) (t : Fin 256) : rank8 (ix2 i t) = BitVec.ofNat 32 i.val := by
  pointwise

theorem word_real : ∀ n : Fin 16384, (BitVec.ofNat 32 n.val).toInt = (n.val : ℤ) := fun n => by
  have := n.isLt
  rw [BitVec.toInt_eq_toNat_of_lt (by rw [BitVec.toNat_ofNat]; omega), BitVec.toNat_ofNat]
  omega

theorem keyPos_apply (k : Fin 128) (t : Fin 256) : k0_pay235 (F := Ideal) (ix2 k t) = ((k.val : ℝ) : EReal) := by
  have e : k0_pay235 (F := Ideal) (ix2 k t) = (((BitVec.ofNat 32 k.val).toInt : ℝ) : EReal) := by
    unfold k0_pay235
    pointwise
    rfl
  rw [e]
  rw [word_real ⟨k.val, by omega⟩]
  simp

theorem word_at (w : IVec S80x256 32) (k : Fin 80) (t : Fin 256) (h : w (ix2 k t) = BitVec.ofNat 32 (rowPos k)) :
    (sitofp (F := Ideal) .f32 w : FVec Ideal S80x256 .f32) (ix2 k t) = ((rowPos k : ℝ) : EReal) := by
  show (((w (ix2 k t)).toInt : ℝ) : EReal) = _
  rw [h, word_real ⟨rowPos k, by have := rowPos_lt k; omega⟩]
  simp

theorem pairPos_apply (k : Fin 80) (t : Fin 256) : k0_pay236 (F := Ideal) (ix2 k t) = ((rowPos k : ℝ) : EReal) := by
  unfold k0_pay236
  refine word_at _ k t ?_
  fin_cases k <;> sl_kernel_rfl

/-- A natural number's word, read back from the real number. -/
theorem word_of_nat (n : Nat) (h : n < 16384) : (FloatOps.fptosi (F := Ideal) (φ := .f32) 32 ((n : ℝ) : EReal)) = BitVec.ofNat 32 n := by
  show Ideal.fptosi 32 (((n : ℝ) : EReal)) = _
  unfold Ideal.fptosi
  rw [Ideal.toIntClamped_coe, if_pos (Nat.cast_nonneg n), Int.floor_natCast, min_eq_right (by norm_num; omega), max_eq_right (by norm_num)]
  exact BitVec.ofInt_natCast 32 n

theorem ninf : kernelRun0_A.sl.cst_43 (F := Ideal) = (⊥ : EReal) := by
  unfold kernelRun0_A.sl.cst_43
  show Ideal.ofBits .f32 0xFF800000#32 = ⊥
  simp [Ideal.ofBits, Ideal.ieee]

end Cert.Select

end
-- ==== Proof.SelLoop.lean ====
/-
  The loop over the heads: what its scratch holds when it ends.
-/
module

public import proofs.«01_k».proof.Proof.SelFrameI
public import proofs.«01_k».proof.Proof.SelTrip
public import proofs.«01_k».proof.Proof.SelKern
public import proofs.«01_k».proof.Proof.SelPure

@[expose] public section

set_option maxRecDepth 65536

noncomputable section

namespace Cert.Select

open Idealize.ShloMosaic Idealize.ShloMosaic.TcCoe Idealize.ShloMosaic.Tactic Cert.Na Cert.Mix
open Cert.KernelSelectIdeal Cert.KernelSelectIdeal.Gen
open scoped BigOperators

theorem trips_eq : k0_t1_loop.trips = 8 := by decide

/-- The head of a trip. -/
abbrev headOf (k : Fin k0_t1_loop.trips) : Fin 8 := ⟨k.val, k.isLt.trans_eq trips_eq⟩

theorem off2_at : ∀ k : Fin k0_t1_loop.trips, k0_off2 k 0 = 16 * k.val ∧ k0_off2 k 1 = 0 := by decide +kernel
theorem off1_first : ∀ k : Fin k0_t1_loop.trips, k0_off1 k 0#32 0 = 256 * k.val ∧ k0_off1 k 0#32 1 = 0 := by decide +kernel
theorem off1_second : ∀ k : Fin k0_t1_loop.trips, k0_off1 k 128#32 0 = 256 * k.val + 128 ∧ k0_off1 k 128#32 1 = 0 := by decide +kernel

theorem zero2 : (![0, 0] : Fin 2 → Nat) = fun _ => 0 := by
  funext a
  fin_cases a <;> rfl

/-- A list made one element a step holds each step's element and no other. -/
theorem loop_pieces {α : Type} {n : Nat} (f : Nat → List α) (P : Fin n → α) (h0 : f 0 = []) (hs : ∀ k : Fin n, f (k.val + 1) = [P k] ++ f k.val) :
    ∀ k, k ≤ n → (∀ p ∈ f k, ∃ j, p = P j) ∧ ∀ j : Fin n, j.val < k → P j ∈ f k
  | 0, _ => ⟨fun p hp => by rw [h0] at hp; exact absurd hp (List.not_mem_nil), fun j hj => absurd hj (Nat.not_lt_zero _)⟩
  | k + 1, hk => by
    have ih := loop_pieces f P h0 hs k (by omega)
    have e := hs ⟨k, hk⟩
    simp only at e
    rw [e]
    refine ⟨fun p hp => ?_, fun j hj => ?_⟩
    · rcases List.mem_append.mp hp with h | h
      · exact ⟨_, List.mem_singleton.mp h⟩
      · exact ih.1 p h
    · rcases Nat.lt_succ_iff_lt_or_eq.mp hj with h | h
      · exact List.mem_append_right _ (ih.2 j h)
      · have : j = ⟨k, hk⟩ := Fin.ext h
        rw [this]
        exact List.mem_append_left _ (List.mem_singleton.mpr rfl)

/-- Rows stored sixteen a trip are read by trip and row. -/
theorem rows_canon (w : Fin k0_t1_loop.trips → S16x256.Idx → EReal) (L : List (View.Piece (Elt Ideal) S128x256 .f32))
    (hall : ∀ p ∈ L, ∃ j, p = ⟨Rect.unit (s := S128x256) (k0_off2 j) S16x256.size (k0_off2_inb j), w j⟩)
    (hmem : ∀ j, (⟨Rect.unit (s := S128x256) (k0_off2 j) S16x256.size (k0_off2_inb j), w j⟩ : View.Piece (Elt Ideal) S128x256 .f32) ∈ L)
    (k : Fin k0_t1_loop.trips) (i : Fin 16) (t : Fin 256) (r : Fin 128) (hr : r.val = 16 * k.val + i.val) :
    View.canon L (ix2 r t) = w k (ix2 i t) := by
  have hG : ∀ y : S128x256.Idx, (y 0).val / 16 < k0_t1_loop.trips := fun y => by
    have : (y 0).val < 128 := (y 0).isLt
    rw [trips_eq]; omega
  have e := View.canon_apply_of_pieces (Val := Elt Ideal) (e := .f32) (fun y : S128x256.Idx => (w ⟨(y 0).val / 16, hG y⟩ (ix2 (n0 := 16) (n1 := 256) ⟨(y 0).val % 16, Nat.mod_lt _ (by decide)⟩ (y 1)) : EReal)) L ?_ (ix2 r t) ?_
  · refine e.trans (congrArg₂ w (Fin.ext ?_) (congrArg (fun a => ix2 a t) (Fin.ext ?_)))
    · show r.val / 16 = k.val
      omega
    · show r.val % 16 = i.val
      omega
  · intro p hp x
    obtain ⟨j, rfl⟩ := hall p hp
    obtain ⟨h0, h1⟩ := off2_at j
    have hx : (x 0).val < 16 := (x 0).isLt
    refine congrArg₂ w (Fin.ext ?_) (funext fun a => Fin.ext ?_)
    · show j.val = (k0_off2 j 0 + 1 * (x 0).val) / 16
      rw [h0]; omega
    · match a with
      | ⟨0, _⟩ =>
        show (x 0).val = (k0_off2 j 0 + 1 * (x 0).val) % 16
        rw [h0]; omega
      | ⟨1, _⟩ =>
        show (x 1).val = k0_off2 j 1 + 1 * (x 1).val
        rw [h1]; omega
  · refine ⟨_, hmem k, ?_⟩
    obtain ⟨h0, h1⟩ := off2_at k
    have hi : (Rect.unit (s := S128x256) (k0_off2 k) S16x256.size (k0_off2_inb k)).toLoadRect.idx (ix2 i t : S16x256.Idx) = ix2 r t := by
      funext a
      apply Fin.ext
      match a with
      | ⟨0, _⟩ =>
        show k0_off2 k 0 + 1 * i.val = r.val
        rw [h0]; omega
      | ⟨1, _⟩ =>
        show k0_off2 k 1 + 1 * t.val = t.val
        rw [h1]; omega
    rw [← hi]
    exact LoadRect.idx_mem _ _

section
variable (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec Ideal S256x1024 .f32) (x1 : Vec Ideal S1x6x1024 .f32) (x2 : Vec Ideal S1x1024 .f32) (x3 : Vec Ideal S2048x1024 .bf16) (x4 : Vec Ideal S2x128x128 .bf16)

/-- A block's row, modulated. -/
abbrev blkHid (t : Fin 256) : Fin 1024 → EReal :=
  hid (fun k => x0 (ix2 t k)) (fun k => x1 (ix3 0 3 k)) (fun k => x1 (ix3 0 4 k)) (fun k => x2 (ix2 0 k))

/-- A block's score. -/
abbrev blkScore (t : Fin 256) (hd : Fin 8) (p : Fin 2) (n : Fin 128) : EReal :=
  scoreOf (blkHid x0 x1 x2 t) (fun k r => x3 (ix2 r k)) (fun p n d => x4 (ix3 p n d)) hd p n

theorem hid_at (a : Fin 256) (l : Fin 1024) :
    kernelRun0_A.sl.r_1 (F := Ideal) c arg1 harg1 arg2 harg2 arg3 harg3 x0 x1 x2 (ix2 a l) = blkHid x0 x1 x2 a l := by
  unfold kernelRun0_A.sl.r_1
  refine (row_apply _ _ _ _ a l).trans ?_
  simp only [View.readAt_eq_ld, Memref.IsWhole.read_unread]
  pointwise

/-- The queries as the scratch holds them. -/
abbrev held : BufTy.Contents (Elt Ideal) arg10.view.ty :=
  arg10.view.writes (Elt Ideal) arg10.view.junk (kernelRun0_A.sl.HS0_1 c arg1 harg1 arg2 harg2 arg3 harg3 arg4 harg4 x0 x1 x2 x3)

theorem held_at (R : LoadRect S2048x256) (j : R.shape.Idx) (r : Fin 2048) (t : Fin 256) (hj : R.idx j = ix2 r t) :
    View.readAt (Elt Ideal) arg10.view R (held c arg1 harg1 arg2 harg2 arg3 harg3 arg4 harg4 arg10 x0 x1 x2 x3) j = ∑ k, blkHid x0 x1 x2 t k * x3 (ix2 r k) := by
  unfold held kernelRun0_A.sl.HS0_1
  rw [View.readAt_writes_junk_eq_canon]
  dsimp only
  rw [hj]
  refine (congrFun (View.canon_unit_zero (Val := Elt Ideal) (S := S2048x256) zero2 _ _) _).trans ?_
  refine (query_apply _ _ r t).trans (Finset.sum_congr rfl fun k _ => ?_)
  rw [hid_at]
  refine congrArg (fun y : EReal => blkHid x0 x1 x2 t k * y) ?_
  simp only [View.readAt_eq_ld, Memref.IsWhole.read_unread]
  pointwise

theorem score1_at (k : Fin k0_t1_loop.trips) (n : Fin 128) (t : Fin 256) :
    score1 (F := Ideal) (harg5.unread x4) (held c arg1 harg1 arg2 harg2 arg3 harg3 arg4 harg4 arg10 x0 x1 x2 x3) k (ix2 n t) = blkScore x0 x1 x2 x3 x4 t (headOf k) 0 n := by
  unfold score1 blkScore scoreOf
  refine (keys_apply _ _ n t).trans (Finset.sum_congr rfl fun d _ => congrArg₂ (· * ·) ?_ ?_)
  · simp only [View.readAt_eq_ld, Memref.IsWhole.read_unread]
    pointwise
  · refine held_at c arg1 harg1 arg2 harg2 arg3 harg3 arg4 harg4 arg10 x0 x1 x2 x3 _ _ _ t ?_
    obtain ⟨h0, h1⟩ := off1_first k
    funext a
    apply Fin.ext
    match a with
    | ⟨0, _⟩ =>
      show k0_off1 k 0#32 0 + 1 * d.val = k.val * 256 + (0 * 128 + d.val)
      rw [h0]; omega
    | ⟨1, _⟩ =>
      show k0_off1 k 0#32 1 + 1 * t.val = t.val
      rw [h1]; omega

theorem score2_at (k : Fin k0_t1_loop.trips) (n : Fin 128) (t : Fin 256) :
    score2 (F := Ideal) (harg5.unread x4) (held c arg1 harg1 arg2 harg2 arg3 harg3 arg4 harg4 arg10 x0 x1 x2 x3) k (ix2 n t) = blkScore x0 x1 x2 x3 x4 t (headOf k) 1 n := by
  unfold score2 blkScore scoreOf
  refine (keys_apply _ _ n t).trans (Finset.sum_congr rfl fun d _ => congrArg₂ (· * ·) ?_ ?_)
  · simp only [View.readAt_eq_ld, Memref.IsWhole.read_unread]
    pointwise
  · refine held_at c arg1 harg1 arg2 harg2 arg3 harg3 arg4 harg4 arg10 x0 x1 x2 x3 _ _ _ t ?_
    obtain ⟨h0, h1⟩ := off1_second k
    funext a
    apply Fin.ext
    match a with
    | ⟨0, _⟩ =>
      show k0_off1 k 128#32 0 + 1 * d.val = k.val * 256 + (1 * 128 + d.val)
      rw [h0]; omega
    | ⟨1, _⟩ =>
      show k0_off1 k 128#32 1 + 1 * t.val = t.val
      rw [h1]; omega

/-- What the loop stored when it ends. -/
abbrev stored : List (View.Piece (Elt Ideal) S128x256 .f32) × List (View.Piece (Elt Ideal) S128x256 .f32) :=
  pb_k0_t1 (F := Ideal) Variants.none c none i arg1 harg1 arg2 harg2 arg3 harg3 arg4 harg4 arg5 harg5 arg6 harg6 arg7 harg7 arg8 harg8 arg9 harg9 arg10 harg10 arg11 harg11 arg12 harg12 (kernelRun0_A.sl.r_1 c arg1 harg1 arg2 harg2 arg3 harg3 x0 x1 x2) rank16 rank8 kernelRun0_A.sl.cst_43
    (harg5.unread x4) (held c arg1 harg1 arg2 harg2 arg3 harg3 arg4 harg4 arg10 x0 x1 x2 x3) k0_t1_loop.trips

variable (k : Fin k0_t1_loop.trips) (i' : Fin 16) (t : Fin 256) (r : Fin 128) (hr : r.val = 16 * k.val + i'.val)
  (h1 : ∀ n, blkScore x0 x1 x2 x3 x4 t (headOf k) 0 n ≠ ⊥) (h2 : ∀ n, blkScore x0 x1 x2 x3 x4 t (headOf k) 1 n ≠ ⊥)

theorem col1 : col (score1 (F := Ideal) (harg5.unread x4) (held c arg1 harg1 arg2 harg2 arg3 harg3 arg4 harg4 arg10 x0 x1 x2 x3) k) t = blkScore x0 x1 x2 x3 x4 t (headOf k) 0 :=
  funext fun n => score1_at c arg1 harg1 arg2 harg2 arg3 harg3 arg4 harg4 arg5 harg5 arg10 x0 x1 x2 x3 x4 k n t
theorem col2 : col (score2 (F := Ideal) (harg5.unread x4) (held c arg1 harg1 arg2 harg2 arg3 harg3 arg4 harg4 arg10 x0 x1 x2 x3) k) t = blkScore x0 x1 x2 x3 x4 t (headOf k) 1 :=
  funext fun n => score2_at c arg1 harg1 arg2 harg2 arg3 harg3 arg4 harg4 arg5 harg5 arg10 x0 x1 x2 x3 x4 k n t

include hr h1 h2 in
theorem ids_at : View.canon (stored c i arg1 harg1 arg2 harg2 arg3 harg3 arg4 harg4 arg5 harg5 arg6 harg6 arg7 harg7 arg8 harg8 arg9 harg9 arg10 harg10 arg11 harg11 arg12 harg12 x0 x1 x2 x3 x4).1 (ix2 r t)
    = ((pickId (blkScore x0 x1 x2 x3 x4 t (headOf k) 0) (blkScore x0 x1 x2 x3 x4 t (headOf k) 1) i'.val : ℝ) : EReal) := by
  have hp := loop_pieces (fun n => (pb_k0_t1 (F := Ideal) Variants.none c none i arg1 harg1 arg2 harg2 arg3 harg3 arg4 harg4 arg5 harg5 arg6 harg6 arg7 harg7 arg8 harg8 arg9 harg9 arg10 harg10 arg11 harg11 arg12 harg12 (kernelRun0_A.sl.r_1 c arg1 harg1 arg2 harg2 arg3 harg3 x0 x1 x2) rank16 rank8 kernelRun0_A.sl.cst_43
    (harg5.unread x4) (held c arg1 harg1 arg2 harg2 arg3 harg3 arg4 harg4 arg10 x0 x1 x2 x3) n).1) _ rfl
    (fun j => (congrArg Prod.fst (pb_k0_t1_succ (F := Ideal) Variants.none c none i arg1 harg1 arg2 harg2 arg3 harg3 arg4 harg4 arg5 harg5 arg6 harg6 arg7 harg7 arg8 harg8 arg9 harg9 arg10 harg10 arg11 harg11 arg12 harg12 _ _ _ _ _ _ j)).trans
      (congrArg (· ++ _) (trip_ids Variants.none c none i arg1 harg1 arg2 harg2 arg3 harg3 arg4 harg4 arg5 harg5 arg6 harg6 arg7 harg7 arg8 harg8 arg9 harg9 arg10 harg10 arg11 harg11 arg12 harg12 _ _ _ _ j))) _ le_rfl
  refine (rows_canon _ _ hp.1 (fun j => hp.2 j j.isLt) k i' t r hr).trans ?_
  rw [shapeCast_self, ninf]
  refine (headId_apply _ _ _ _ _ _ t (fun n => keyPos_apply n t) (fun n => pairPos_apply n t) (fun n => rank16_apply n t) (fun n => rank8_apply n t) ?_ ?_ i').trans ?_
  · rw [col1]; exact h1
  · rw [col2]; exact h2
  · rw [col1, col2]

include hr h1 h2 in
theorem weights_at : View.canon (stored c i arg1 harg1 arg2 harg2 arg3 harg3 arg4 harg4 arg5 harg5 arg6 harg6 arg7 harg7 arg8 harg8 arg9 harg9 arg10 harg10 arg11 harg11 arg12 harg12 x0 x1 x2 x3 x4).2 (ix2 r t)
    = Ideal.div (Ideal.exp (pickScore (blkScore x0 x1 x2 x3 x4 t (headOf k) 0) (blkScore x0 x1 x2 x3 x4 t (headOf k) 1) i'.val
          - pickScore (blkScore x0 x1 x2 x3 x4 t (headOf k) 0) (blkScore x0 x1 x2 x3 x4 t (headOf k) 1) 0))
        (∑ j : Fin 16, Ideal.exp (pickScore (blkScore x0 x1 x2 x3 x4 t (headOf k) 0) (blkScore x0 x1 x2 x3 x4 t (headOf k) 1) j.val
          - pickScore (blkScore x0 x1 x2 x3 x4 t (headOf k) 0) (blkScore x0 x1 x2 x3 x4 t (headOf k) 1) 0)) := by
  have hp := loop_pieces (fun n => (pb_k0_t1 (F := Ideal) Variants.none c none i arg1 harg1 arg2 harg2 arg3 harg3 arg4 harg4 arg5 harg5 arg6 harg6 arg7 harg7 arg8 harg8 arg9 harg9 arg10 harg10 arg11 harg11 arg12 harg12 (kernelRun0_A.sl.r_1 c arg1 harg1 arg2 harg2 arg3 harg3 x0 x1 x2) rank16 rank8 kernelRun0_A.sl.cst_43
    (harg5.unread x4) (held c arg1 harg1 arg2 harg2 arg3 harg3 arg4 harg4 arg10 x0 x1 x2 x3) n).2) _ rfl
    (fun j => (congrArg Prod.snd (pb_k0_t1_succ (F := Ideal) Variants.none c none i arg1 harg1 arg2 harg2 arg3 harg3 arg4 harg4 arg5 harg5 arg6 harg6 arg7 harg7 arg8 harg8 arg9 harg9 arg10 harg10 arg11 harg11 arg12 harg12 _ _ _ _ _ _ j)).trans
      (congrArg (· ++ _) (trip_weights Variants.none c none i arg1 harg1 arg2 harg2 arg3 harg3 arg4 harg4 arg5 harg5 arg6 harg6 arg7 harg7 arg8 harg8 arg9 harg9 arg10 harg10 arg11 harg11 arg12 harg12 _ _ _ _ j))) _ le_rfl
  refine (rows_canon _ _ hp.1 (fun j => hp.2 j j.isLt) k i' t r hr).trans ?_
  rw [shapeCast_self, ninf]
  refine (headW_apply _ _ _ _ _ _ t (fun n => keyPos_apply n t) (fun n => pairPos_apply n t) (fun n => rank16_apply n t) (fun n => rank8_apply n t) ?_ ?_ i').trans ?_
  · rw [col1]; exact h1
  · rw [col2]; exact h2
  · rw [col1, col2]

end

end Cert.Select

end
-- ==== Proof.SelBlock.lean ====
/-
  What a block of the retrieval stores: its rows, its modulated rows, its tokens' experts and their weights.
-/
module

public import proofs.«01_k».proof.Proof.SelLoop

@[expose] public section

set_option maxRecDepth 65536

noncomputable section

namespace Cert.Select

open Idealize.ShloMosaic Idealize.ShloMosaic.TcCoe Idealize.ShloMosaic.Tactic Cert.Na Cert.Mix
open Cert.KernelSelectIdeal Cert.KernelSelectIdeal.Gen
open scoped BigOperators

theorem ids_cast (v : FVec Ideal S128x256 .f32) (t : Fin 256) (r : Fin 128) :
    k0_pay239 (F := Ideal) v (ix2 t r) = FloatOps.fptosi (F := Ideal) (φ := .f32) 32 (v (ix2 r t)) := by
  unfold k0_pay239
  pointwise

theorem weights_turned (v : FVec Ideal S128x256 .f32) (t : Fin 256) (r : Fin 128) :
    k0_pay1 (F := Ideal) v (ix2 t r) = v (ix2 r t) := by
  unfold k0_pay1
  pointwise

/-- A whole array's window onto itself keeps its indices. -/
theorem idx_whole (r : Fin 128) (t : Fin 256) :
    (Rect.unit (s := S128x256) ![0, 0] ![128, 256] inb_S128x256_S128x256_0_0).toLoadRect.idx (ix2 r t : S128x256.Idx) = ix2 r t := by
  funext a
  apply Fin.ext
  match a with
  | ⟨0, _⟩ => show 0 + 1 * r.val = r.val; omega
  | ⟨1, _⟩ => show 0 + 1 * t.val = t.val; omega

/-- A piece of 128 lanes, stored on every eighth row. -/
theorem eighth_piece (h : FVec Ideal S256x1024 .f32) (r o : Nat) (ho : o = r * 128) (hr : r < 8)
    (hs : S256x1024.Slices ![0, o] S256x128)
    (x : S256x128.Idx) (a : Fin 256) (l : Fin 1024) (ha : a.val = (r + 8 * (x 0).val) / 8)
    (hl : l.val = (r + 8 * (x 0).val) % 8 * 128 + (0 + 1 * (x 1).val)) :
    extractStridedSlice S256x128 ![0, o] h hs x = h (ix2 a l) := by
  refine congrArg h (funext fun d => Fin.ext ?_)
  match d with
  | ⟨0, _⟩ =>
    show 0 + (x 0).val = a.val
    omega
  | ⟨1, _⟩ =>
    show o + (x 1).val = l.val
    omega

/-- Eight pieces of 128 lanes, each stored on every eighth row, are read by row and lane. -/
theorem eighths_canon (h : S256x1024.Idx → EReal) (L : List (View.Piece (Elt Ideal) S2048x128 .f32))
    (hG : ∀ p ∈ L, ∀ x, (p.2 x : EReal) = h (ix2 (n0 := 256) (n1 := 1024)
      ⟨(p.1.emb x 0).val / 8, by have : (p.1.emb x 0).val < 2048 := (p.1.emb x 0).isLt; omega⟩
      ⟨(p.1.emb x 0).val % 8 * 128 + (p.1.emb x 1).val, by have : (p.1.emb x 1).val < 128 := (p.1.emb x 1).isLt; omega⟩))
    (hc : ∀ y, ∃ p ∈ L, y ∈ p.1.set) (a : Fin 256) (k : Fin 1024) (r : Fin 2048) (l : Fin 128)
    (hr : r.val = a.val * 8 + k.val / 128) (hl : l.val = k.val % 128) :
    View.canon L (ix2 r l) = h (ix2 a k) := by
  refine (View.canon_apply_of_pieces (Val := Elt Ideal) (e := .f32) (fun y : S2048x128.Idx => (h (ix2 (n0 := 256) (n1 := 1024)
    ⟨(y 0).val / 8, by have : (y 0).val < 2048 := (y 0).isLt; omega⟩
    ⟨(y 0).val % 8 * 128 + (y 1).val, by have : (y 1).val < 128 := (y 1).isLt; omega⟩) : EReal)) L hG (ix2 r l) (hc _)).trans ?_
  refine congrArg h (congrArg₂ ix2 (Fin.ext ?_) (Fin.ext ?_))
  · show r.val / 8 = a.val
    omega
  · show r.val % 8 * 128 + l.val = k.val
    omega

section
variable (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2x128x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S256x128 .i32) (harg8 : arg8.IsWhole) (arg9 : Memref sig .tc .vmem S256x128 .f32) (harg9 : arg9.IsWhole) (arg10 : Memref sig .tc .vmem S2048x256 .f32) (harg10 : arg10.IsWhole) (arg11 : Memref sig .tc .vmem S128x256 .f32) (harg11 : arg11.IsWhole) (arg12 : Memref sig .tc .vmem S128x256 .f32) (harg12 : arg12.IsWhole)
    (x0 : Vec Ideal S256x1024 .f32) (x1 : Vec Ideal S1x6x1024 .f32) (x2 : Vec Ideal S1x1024 .f32) (x3 : Vec Ideal S2048x1024 .bf16) (x4 : Vec Ideal S2x128x128 .bf16)

variable (t : Fin 256) (hd : Fin 8) (n : Fin 16)
  (h1 : ∀ n, blkScore x0 x1 x2 x3 x4 t hd 0 n ≠ ⊥) (h2 : ∀ n, blkScore x0 x1 x2 x3 x4 t hd 1 n ≠ ⊥)

include h1 h2 in
theorem block_ids : out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 (ix2 t ⟨hd.val * 16 + n.val, by omega⟩)
    = BitVec.ofNat 32 (pickId (blkScore x0 x1 x2 x3 x4 t hd 0) (blkScore x0 x1 x2 x3 x4 t hd 1) n.val) := by
  unfold out0_A_7
  rw [View.read_writes_junk_apply_eq_canon]
  unfold kernelRun0_A
  dsimp only
  refine (congrFun (View.canon_unit_zero (Val := Elt Ideal) (S := S256x128) zero2 _ _) _).trans ?_
  unfold kernelRun0_A.sl.r_2
  refine (ids_cast _ t _).trans ?_
  rw [View.readCov_eq_canon']
  dsimp only
  rw [idx_whole]
  refine (congrArg (FloatOps.fptosi (F := Ideal) (φ := .f32) 32) (ids_at c i arg1 harg1 arg2 harg2 arg3 harg3 arg4 harg4 arg5 harg5 arg6 harg6 arg7 harg7 arg8 harg8 arg9 harg9 arg10 harg10 arg11 harg11 arg12 harg12 x0 x1 x2 x3 x4 ⟨hd.val, by rw [trips_eq]; exact hd.isLt⟩ n t _ (by
    show hd.val * 16 + n.val = 16 * hd.val + n.val; omega) h1 h2)).trans ?_
  exact word_of_nat _ (pickId_lt _ _ _)

include h1 h2 in
theorem block_weights : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 (ix2 t ⟨hd.val * 16 + n.val, by omega⟩)
    = Ideal.div (Ideal.exp (pickScore (blkScore x0 x1 x2 x3 x4 t hd 0) (blkScore x0 x1 x2 x3 x4 t hd 1) n.val
          - pickScore (blkScore x0 x1 x2 x3 x4 t hd 0) (blkScore x0 x1 x2 x3 x4 t hd 1) 0))
        (∑ j : Fin 16, Ideal.exp (pickScore (blkScore x0 x1 x2 x3 x4 t hd 0) (blkScore x0 x1 x2 x3 x4 t hd 1) j.val
          - pickScore (blkScore x0 x1 x2 x3 x4 t hd 0) (blkScore x0 x1 x2 x3 x4 t hd 1) 0)) := by
  unfold out0_A_8
  rw [View.read_writes_junk_apply_eq_canon]
  unfold kernelRun0_A
  dsimp only
  refine (congrFun (View.canon_unit_zero (Val := Elt Ideal) (S := S256x128) zero2 _ _) _).trans ?_
  refine (weights_turned _ t _).trans ?_
  rw [View.readCov_eq_canon']
  dsimp only
  rw [idx_whole]
  exact weights_at c i arg1 harg1 arg2 harg2 arg3 harg3 arg4 harg4 arg5 harg5 arg6 harg6 arg7 harg7 arg8 harg8 arg9 harg9 arg10 harg10 arg11 harg11 arg12 harg12 x0 x1 x2 x3 x4 ⟨hd.val, by rw [trips_eq]; exact hd.isLt⟩ n t _ (by
    show hd.val * 16 + n.val = 16 * hd.val + n.val; omega) h1 h2

variable (a : Fin 256) (k : Fin 1024) (r : Fin 2048) (l : Fin 128) (hr : r.val = a.val * 8 + k.val / 128) (hl : l.val = k.val % 128)

include hr hl in
theorem block_rows : out0_A_5 (F := Ideal) c i arg1 harg1 arg2 harg2 arg3 harg3 arg4 harg4 arg5 harg5 arg6 harg6 arg7 harg7 arg8 harg8 arg9 harg9 arg10 harg10 arg11 harg11 arg12 harg12 x0 x1 x2 x3 x4 (ix2 r l) = blkHid x0 x1 x2 a k := by
  rw [← hid_at c arg1 harg1 arg2 harg2 arg3 harg3 x0 x1 x2 a k]
  unfold out0_A_5
  rw [View.read_writes_junk_apply_eq_canon]
  refine eighths_canon _ _ ?_ (cover0_A_5 c i arg1 harg1 arg2 harg2 arg3 harg3 arg4 harg4 arg5 harg5 arg6 harg6 arg7 harg7 arg8 harg8 arg9 harg9 arg10 harg10 arg11 harg11 arg12 harg12 x0 x1 x2 x3 x4) a k r l hr hl
  unfold kernelRun0_A
  dsimp only
  intro p hp x
  simp only [List.mem_cons, List.not_mem_nil, or_false] at hp
  rcases hp with rfl | rfl | rfl | rfl | rfl | rfl | rfl | rfl
  · exact eighth_piece (kernelRun0_A.sl.r_1 (F := Ideal) c arg1 harg1 arg2 harg2 arg3 harg3 x0 x1 x2) 7 896 rfl (by decide) (by decide) x _ _ rfl rfl
  · exact eighth_piece (kernelRun0_A.sl.r_1 (F := Ideal) c arg1 harg1 arg2 harg2 arg3 harg3 x0 x1 x2) 6 768 rfl (by decide) (by decide) x _ _ rfl rfl
  · exact eighth_piece (kernelRun0_A.sl.r_1 (F := Ideal) c arg1 harg1 arg2 harg2 arg3 harg3 x0 x1 x2) 5 640 rfl (by decide) (by decide) x _ _ rfl rfl
  · exact eighth_piece (kernelRun0_A.sl.r_1 (F := Ideal) c arg1 harg1 arg2 harg2 arg3 harg3 x0 x1 x2) 4 512 rfl (by decide) (by decide) x _ _ rfl rfl
  · exact eighth_piece (kernelRun0_A.sl.r_1 (F := Ideal) c arg1 harg1 arg2 harg2 arg3 harg3 x0 x1 x2) 3 384 rfl (by decide) (by decide) x _ _ rfl rfl
  · exact eighth_piece (kernelRun0_A.sl.r_1 (F := Ideal) c arg1 harg1 arg2 harg2 arg3 harg3 x0 x1 x2) 2 256 rfl (by decide) (by decide) x _ _ rfl rfl
  · exact eighth_piece (kernelRun0_A.sl.r_1 (F := Ideal) c arg1 harg1 arg2 harg2 arg3 harg3 x0 x1 x2) 1 128 rfl (by decide) (by decide) x _ _ rfl rfl
  · exact eighth_piece (kernelRun0_A.sl.r_1 (F := Ideal) c arg1 harg1 arg2 harg2 arg3 harg3 x0 x1 x2) 0 0 rfl (by decide) (by decide) x _ _ rfl rfl

include hr hl in
theorem block_x : out0_A_6 (F := Ideal) c i arg1 harg1 arg2 harg2 arg3 harg3 arg4 harg4 arg5 harg5 arg6 harg6 arg7 harg7 arg8 harg8 arg9 harg9 arg10 harg10 arg11 harg11 arg12 harg12 x0 x1 x2 x3 x4 (ix2 r l) = x0 (ix2 a k) := by
  unfold out0_A_6
  rw [View.read_writes_junk_apply_eq_canon]
  refine eighths_canon x0 _ ?_ (cover0_A_6 c i arg1 harg1 arg2 harg2 arg3 harg3 arg4 harg4 arg5 harg5 arg6 harg6 arg7 harg7 arg8 harg8 arg9 harg9 arg10 harg10 arg11 harg11 arg12 harg12 x0 x1 x2 x3 x4) a k r l hr hl
  unfold kernelRun0_A
  dsimp only
  intro p hp x
  simp only [List.mem_cons, List.not_mem_nil, or_false] at hp
  have e : kernelRun0_A.sl.r (F := Ideal) c arg1 harg1 x0 = x0 := by
    unfold kernelRun0_A.sl.r
    rw [View.readAt_eq_ld, Memref.IsWhole.read_unread]
    funext y
    have hy : y = ix2 (y 0) (y 1) := by
      funext d
      match d with
      | ⟨0, _⟩ => rfl
      | ⟨1, _⟩ => rfl
    rw [hy]
    pointwise
  unfold kernelRun0_A.sl.r at e
  unfold kernelRun0_A.sl.r at hp
  rw [e] at hp
  rcases hp with rfl | rfl | rfl | rfl | rfl | rfl | rfl | rfl
  · exact eighth_piece x0 7 896 rfl (by decide) (by decide) x _ _ rfl rfl
  · exact eighth_piece x0 6 768 rfl (by decide) (by decide) x _ _ rfl rfl
  · exact eighth_piece x0 5 640 rfl (by decide) (by decide) x _ _ rfl rfl
  · exact eighth_piece x0 4 512 rfl (by decide) (by decide) x _ _ rfl rfl
  · exact eighth_piece x0 3 384 rfl (by decide) (by decide) x _ _ rfl rfl
  · exact eighth_piece x0 2 256 rfl (by decide) (by decide) x _ _ rfl rfl
  · exact eighth_piece x0 1 128 rfl (by decide) (by decide) x _ _ rfl rfl
  · exact eighth_piece x0 0 0 rfl (by decide) (by decide) x _ _ rfl rfl

end

end Cert.Select

end
-- ==== Proof.SelSort.lean ====
/-
  What the reference's greatest-first selection and its lookups along an axis give at an index.
-/
module

public import proofs.«01_k».proof.Proof.Gen.ReferenceSelectIdeal.Read
public import proofs.«01_k».proof.Proof.SelPure
public import Idealize.ShloMosaic.Lib.Pointwise

@[expose] public section

noncomputable section

namespace Cert.Select

open Cert.ReferenceSelectIdeal Cert.ReferenceSelectIdeal.Facts₀ Cert.ReferenceSelectIdeal.Read Idealize.ShloMosaic Idealize.ShloMosaic.Tactic

theorem greater_iff (a b : EReal) : ((FloatOps.cmpfTotal (F := Ideal) (φ := .f32) .gt a b == 1#1) = true) ↔ b < a := by
  show ((BitVec.ofBool (decide (b < a)) == 1#1) = true) ↔ b < a
  by_cases h : b < a <;> simp [h]

theorem topK_apply (N : Nat) (hN : 16 ≤ N) (x : FVec Ideal ⟨3, ![12288, 8, N]⟩ .f32)
    (h : (⟨3, ![12288, 8, N]⟩ : Shape).Slices (fun _ => 0) S12288x8x16) (t : Fin 12288) (hd : Fin 8) (i : Fin 16) (p : Fin N)
    (hp : sortedFrom (fun a b : Fin N => FloatOps.cmpfTotal (F := Ideal) (φ := .f32) .gt (x (ix3 t hd a)) (x (ix3 t hd b)) == 1#1)
      (i.castLE hN) = p) :
    (Host.topK S12288x8x16 2 (FloatOps.cmpfTotal (F := Ideal) (φ := .f32) .gt) x h).1 (ix3 t hd i) = x (ix3 t hd p)
    ∧ (Host.topK S12288x8x16 2 (FloatOps.cmpfTotal (F := Ideal) (φ := .f32) .gt) x h).2 (ix3 t hd i) = BitVec.ofNat 32 p.val := by
  have e : ∀ (q k : Fin N), Shape.Idx.along (s := ⟨3, ![12288, 8, N]⟩) (ix3 t hd q) 2 k = ix3 t hd k := fun q k => by
    funext a
    match a with
    | ⟨0, _⟩ => rfl
    | ⟨1, _⟩ => rfl
    | ⟨2, _⟩ => rfl
  have at0 : ∀ (j : Shape.Idx ⟨3, ![12288, 8, N]⟩), j = ix3 t hd (i.castLE hN) →
      Shape.Idx.along j 2 (sortedFrom (fun a b : Fin N => FloatOps.cmpfTotal (F := Ideal) (φ := .f32) .gt
        (x (Shape.Idx.along j 2 a)) (x (Shape.Idx.along j 2 b)) == 1#1) (j 2)) = ix3 t hd p := by
    intro j hj
    subst hj
    simp only [e]
    rw [← hp]
    exact e _ _
  have cut : ∀ j : Shape.Idx ⟨3, ![12288, 8, N]⟩, (j 0).val = t.val → (j 1).val = hd.val → (j 2).val = i.val → j = ix3 t hd (i.castLE hN) := by
    intro j h0 h1 h2
    funext a
    apply Fin.ext
    match a with
    | ⟨0, _⟩ => exact h0
    | ⟨1, _⟩ => exact h1
    | ⟨2, _⟩ => exact h2
  unfold Host.topK Host.sort2
  dsimp only
  constructor
  · pointwise
    exact congrArg x (at0 _ (cut _ rfl rfl rfl))
  · pointwise
    exact congrArg (fun j : Shape.Idx ⟨3, ![12288, 8, N]⟩ => BitVec.ofNat 32 (j 2).val) (at0 _ (cut _ rfl rfl rfl))

/-- The reference's lookup along the last axis. -/
abbrev lookup := gather_S12288x8x16_S12288x8x16x1_S12288x8x16_n_2_01_01_2_3_111

theorem lookup_apply (x : IVec S12288x8x16 32) (w : IVec S12288x8x16x1 32) (t : Fin 12288) (hd : Fin 8) (i q : Fin 16)
    (hq : (w (ix4 t hd i 0)).toInt.toNat = q.val) : Host.gather lookup x w (ix3 t hd i) = x (ix3 t hd q) := by
  unfold Host.gather
  refine congrArg x ?_
  funext a
  apply Fin.ext
  match a with
  | ⟨0, _⟩ => exact (by sl_kernel_rfl : _ = 0 + t.val + 0).trans (by simp)
  | ⟨1, _⟩ => exact (by sl_kernel_rfl : _ = 0 + hd.val + 0).trans (by simp)
  | ⟨2, _⟩ =>
    have hi : ∀ k, lookup.siIdx (ix3 t hd i) k = ix4 t hd i 0 := fun k => by
      funext b
      apply Fin.ext
      match b with
      | ⟨0, _⟩ => sl_kernel_rfl
      | ⟨1, _⟩ => sl_kernel_rfl
      | ⟨2, _⟩ => sl_kernel_rfl
      | ⟨3, _⟩ => exact congrArg Fin.val (Subsingleton.elim (α := Fin 1) (lookup.siIdx (ix3 t hd i) k 3) 0)
    show lookup.start (ix3 t hd i) w 2 + lookup.batchCoord (ix3 t hd i) 2 + lookup.offCoord (ix3 t hd i) 2 = q.val
    rw [lookup.batchCoord_eq_zero _ _ (by decide), lookup.offCoord_eq_zero _ _ (by decide)]
    unfold GatherDims.start
    rw [dif_pos (by decide), hi, hq]
    have := q.isLt
    show min q.val 15 + 0 + 0 = q.val
    omega

/-- A word's floor quotient by sixteen, as the reference computes it. -/
def quot16 (w : BitVec 32) : BitVec 32 :=
  let a : IVec S_ 32 := fun _ => w
  let s : IVec S_ 32 := constantI S_ 32 16#32
  select (andi (cmpi .ne (signi a) (signi s)) (cmpi .ne (Host.remsi a s) (constantI S_ 32 0#32)))
    (subi (Host.divsi a s) (constantI S_ 32 1#32)) (Host.divsi a s) (fun a => a.elim0)

/-- A word's remainder by sixteen, as the reference computes it. -/
def rem16 (w : BitVec 32) : BitVec 32 :=
  let a : IVec S_ 32 := fun _ => w
  let z : IVec S_ 32 := constantI S_ 32 0#32
  let s : IVec S_ 32 := select (cmpi .eq (constantI S_ 32 16#32) z) (constantI S_ 32 1#32) (constantI S_ 32 16#32)
  select (andi (cmpi .ne (cmpi .slt (Host.remsi a s) z) (cmpi .slt s z)) (cmpi .ne (Host.remsi a s) z))
    (addi (Host.remsi a s) s) (Host.remsi a s) (fun a => a.elim0)

theorem quot16_eq : ∀ p : Fin 256, quot16 (BitVec.ofNat 32 p.val) = BitVec.ofNat 32 (p.val / 16) := by decide +kernel
theorem rem16_eq : ∀ p : Fin 256, rem16 (BitVec.ofNat 32 p.val) = BitVec.ofNat 32 (p.val % 16) := by decide +kernel

section
variable (x0 : FVec Ideal S12288x1024 .f32) (x1 : FVec Ideal S8x6x1024 .f32) (x2 : FVec Ideal S1024 .f32)
  (x3 : FVec Ideal S1024x2048 .f32) (x4 : FVec Ideal S2x128x128 .f32) (t : Fin 12288) (hd : Fin 8) (i : Fin 16)

theorem quot_at : val_main_v41 (F := Ideal) x0 x1 x2 x3 x4 (ix3 t hd i) = quot16 (val_main_indices_6 (F := Ideal) x0 x1 x2 x3 x4 (ix3 t hd i)) := rfl
theorem rem_at : val_main_v43 (F := Ideal) x0 x1 x2 x3 x4 (ix3 t hd i) = rem16 (val_main_indices_6 (F := Ideal) x0 x1 x2 x3 x4 (ix3 t hd i)) := rfl

theorem wrap_word : ∀ q : Fin 16, Scalar.select (IntOp.cmpi .slt (BitVec.ofNat 32 q.val) 0#32) (IntOp.addi (BitVec.ofNat 32 q.val) 16#32)
    (BitVec.ofNat 32 q.val) = BitVec.ofNat 32 q.val := by decide +kernel
theorem small_word : ∀ q : Fin 16, (BitVec.ofNat 32 q.val).toInt.toNat = q.val := by decide +kernel
theorem inside_word : ∀ q : Fin 16, IntOp.andi (IntOp.andi (IntOp.cmpi .sge (BitVec.ofNat 32 q.val) 0#32)
    (IntOp.cmpi .sle (BitVec.ofNat 32 q.val) 15#32)) 1#1 = 1#1 := by decide +kernel

/-- A lookup in bounds is the element it names. -/
theorem look_word (q : Fin 16) (f : Fin 1 → BitVec 32) (hf : f 0 = BitVec.ofNat 32 q.val) (a b c : BitVec 32) (ha : a = c) :
    Scalar.select (Finset.fold IntOp.andi (1#1) (fun x => IntOp.andi (IntOp.cmpi .sge (f x) 0#32) (IntOp.cmpi .sle (f x) 15#32)) Finset.univ)
      a b = c := by
  rw [Finset.univ_unique, Finset.fold_singleton, show f default = BitVec.ofNat 32 q.val from hf, inside_word, ha]
  rfl

theorem wrap1 (q : Fin 16) (h : val_main_v41 (F := Ideal) x0 x1 x2 x3 x4 (ix3 t hd i) = BitVec.ofNat 32 q.val) :
    val_main_call1_v5 (F := Ideal) x0 x1 x2 x3 x4 (ix4 t hd i 0) = BitVec.ofNat 32 q.val := by
  unfold val_main_call1_v5 val_main_call1_v4 val_main_call1_v3 val_main_call1_v2 val_main_call1_v1 val_main_call1_v0 val_main_call1_c
    val_main_call1_c_0
  generalize val_main_v41 (F := Ideal) x0 x1 x2 x3 x4 = w at h ⊢
  pointwise
  rw [h]
  exact wrap_word q

theorem look1 (q : Fin 16) (h : val_main_v41 (F := Ideal) x0 x1 x2 x3 x4 (ix3 t hd i) = BitVec.ofNat 32 q.val) :
    val_main_v42 (F := Ideal) x0 x1 x2 x3 x4 (ix3 t hd i) = val_main_indices (F := Ideal) x0 x1 x2 x3 x4 (ix3 t hd q) := by
  have h5 := wrap1 x0 x1 x2 x3 x4 t hd i q h
  unfold val_main_v42 val_main_call1_v14 val_main_call1_v13 val_main_call1_v12 val_main_call1_v11 val_main_call1_v10
    val_main_call1_v9 val_main_call1_v8 val_main_call1_v7 val_main_call1_v6 val_main_call1_c_1 val_main_call1_c_2 val_main_call1_c_3
  generalize val_main_call1_v5 (F := Ideal) x0 x1 x2 x3 x4 = w at h5 ⊢
  pointwise
  exact look_word q (fun x => w (ix4 t hd i x)) h5 _ _ _ (lookup_apply _ w t hd i q (by rw [h5]; exact small_word q))

theorem wrap3 (q : Fin 16) (h : val_main_v43 (F := Ideal) x0 x1 x2 x3 x4 (ix3 t hd i) = BitVec.ofNat 32 q.val) :
    val_main_call3_v5 (F := Ideal) x0 x1 x2 x3 x4 (ix4 t hd i 0) = BitVec.ofNat 32 q.val := by
  unfold val_main_call3_v5 val_main_call3_v4 val_main_call3_v3 val_main_call3_v2 val_main_call3_v1 val_main_call3_v0 val_main_call3_c
    val_main_call3_c_0
  generalize val_main_v43 (F := Ideal) x0 x1 x2 x3 x4 = w at h ⊢
  pointwise
  rw [h]
  exact wrap_word q

theorem look3 (q : Fin 16) (h : val_main_v43 (F := Ideal) x0 x1 x2 x3 x4 (ix3 t hd i) = BitVec.ofNat 32 q.val) :
    val_main_v44 (F := Ideal) x0 x1 x2 x3 x4 (ix3 t hd i) = val_main_indices_4 (F := Ideal) x0 x1 x2 x3 x4 (ix3 t hd q) := by
  have h5 := wrap3 x0 x1 x2 x3 x4 t hd i q h
  unfold val_main_v44 val_main_call3_v14 val_main_call3_v13 val_main_call3_v12 val_main_call3_v11 val_main_call3_v10
    val_main_call3_v9 val_main_call3_v8 val_main_call3_v7 val_main_call3_v6 val_main_call3_c_1 val_main_call3_c_2 val_main_call3_c_3
  generalize val_main_call3_v5 (F := Ideal) x0 x1 x2 x3 x4 = w at h5 ⊢
  pointwise
  exact look_word q (fun x => w (ix4 t hd i x)) h5 _ _ _ (lookup_apply _ w t hd i q (by rw [h5]; exact small_word q))

end

end Cert.Select

end
-- ==== Proof.SelScore.lean ====
/-
  The reference's normed row and its scores at an index.
-/
module

public import proofs.«01_k».proof.Proof.Gen.ReferenceSelectIdeal.Read
public import proofs.«01_k».proof.Proof.SelPure
public import Idealize.ShloMosaic.Lib.Pointwise

@[expose] public section

noncomputable section

namespace Cert.Select

open Cert.ReferenceSelectIdeal Cert.ReferenceSelectIdeal.Facts₀ Cert.ReferenceSelectIdeal.Read Cert.Mix Idealize.ShloMosaic

variable (x0 : FVec Ideal S12288x1024 .f32) (x1 : FVec Ideal S8x6x1024 .f32) (x2 : FVec Ideal S1024 .f32)
  (x3 : FVec Ideal S1024x2048 .f32) (x4 : FVec Ideal S2x128x128 .f32)

/-- The segment of a token. -/
abbrev segOf (t : Fin 12288) : Fin 8 := ⟨t.val / 4096, by omega⟩

/-- A token's normed and modulated row. -/
def refHid (t : Fin 12288) : Fin 1024 → EReal :=
  hid (fun k => x0 (ix2 t k)) (fun k => x1 (ix3 (segOf t) 3 k)) (fun k => x1 (ix3 (segOf t) 4 k)) (fun k => x2 (ix1 k))

/-- A token's scores. -/
def refScore (t : Fin 12288) : Fin 8 → Fin 2 → Fin 128 → EReal :=
  scoreOf (refHid x0 x1 x2 t) (fun k n => x3 (ix2 k n)) (fun p n d => x4 (ix3 p n d))

theorem proj_at (t : Fin 12288) (hd : Fin 8) (p : Fin 2) (d : Fin 128) :
    val_main_v28 (F := Ideal) x0 x1 x2 x3 (ix4 t hd p d)
      = ∑ k, val_main_v26 (F := Ideal) x0 x1 x2 (ix2 t k) * x3 (ix2 k ⟨hd.val * 256 + (p.val * 128 + d.val), by omega⟩) := by
  unfold val_main_v28 val_main_v27
  generalize val_main_v26 (F := Ideal) x0 x1 x2 = h
  pointwise
  refine Finset.sum_congr rfl fun k _ => congrArg (fun n => h (ix2 t k) * x3 (ix2 k n)) (Fin.ext ?_)
  exact Nat.add_assoc _ _ _

theorem first_at (hh : ∀ t k, val_main_v26 (F := Ideal) x0 x1 x2 (ix2 t k) = refHid x0 x1 x2 t k) (t : Fin 12288) (hd : Fin 8) (n : Fin 128) :
    val_main_v32 (F := Ideal) x0 x1 x2 x3 x4 (ix3 t hd n) = refScore x0 x1 x2 x3 x4 t hd 0 n := by
  have h := fun p d => proj_at x0 x1 x2 x3 t hd p d
  unfold val_main_v32 val_main_v31 val_main_v30 val_main_v29
  generalize val_main_v28 (F := Ideal) x0 x1 x2 x3 = q at h ⊢
  pointwise
  simp only [h, hh]
  rfl

theorem second_at (hh : ∀ t k, val_main_v26 (F := Ideal) x0 x1 x2 (ix2 t k) = refHid x0 x1 x2 t k) (t : Fin 12288) (hd : Fin 8) (n : Fin 128) :
    val_main_v34 (F := Ideal) x0 x1 x2 x3 x4 (ix3 t hd n) = refScore x0 x1 x2 x3 x4 t hd 1 n := by
  have h := fun p d => proj_at x0 x1 x2 x3 t hd p d
  unfold val_main_v34 val_main_v33 val_main_v30 val_main_v29
  generalize val_main_v28 (F := Ideal) x0 x1 x2 x3 = q at h ⊢
  pointwise
  simp only [h, hh]
  rfl

theorem seg_rms (s : Fin 3) (t : Fin 4096) (k : Fin 1024) :
    val_main_v15 (F := Ideal) x0 (ix3 s t k) = rms (fun k => x0 (ix2 ⟨s.val * 4096 + t.val, by omega⟩ k)) := by
  unfold val_main_v15 val_main_v14 val_main_v13 val_main_v12 val_main_v11 val_main_v10 val_main_v9 val_main_v8 val_main_v7
    val_main_v0 val_main_cst val_main_cst_0 val_main_cst_1 rms
  pointwise

theorem seg_row (s : Fin 3) (t : Fin 4096) (k : Fin 1024) :
    val_main_v25 (F := Ideal) x0 x1 x2 (ix3 s t k)
      = hid (fun k => x0 (ix2 ⟨s.val * 4096 + t.val, by omega⟩ k)) (fun k => x1 (ix3 ⟨s.val, by omega⟩ 3 k))
          (fun k => x1 (ix3 ⟨s.val, by omega⟩ 4 k)) (fun k => x2 (ix1 k)) k := by
  unfold val_main_v25 val_main_v24 val_main_v23 val_main_v22 val_main_v21 val_main_v20 val_main_v19 val_main_v18 val_main_v17
    val_main_v16 val_main_v6 val_main_v5 val_main_v4 val_main_v3 val_main_v2 val_main_v1 val_main_cst_2
  pointwise
  rw [seg_rms]
  unfold val_main_v0 hid
  pointwise

theorem row_at (t : Fin 12288) (k : Fin 1024) : val_main_v26 (F := Ideal) x0 x1 x2 (ix2 t k) = refHid x0 x1 x2 t k := by
  have h : val_main_v26 (F := Ideal) x0 x1 x2 (ix2 t k)
      = val_main_v25 (F := Ideal) x0 x1 x2 (ix3 ⟨t.val / 4096, by omega⟩ ⟨t.val % 4096, by omega⟩ k) := by
    unfold val_main_v26
    pointwise
  have e : (⟨t.val / 4096 * 4096 + t.val % 4096, by omega⟩ : Fin 12288) = t := Fin.ext (by show t.val / 4096 * 4096 + t.val % 4096 = t.val; omega)
  rw [h, seg_row]
  simp only [e]
  rfl

end Cert.Select

end
-- ==== Proof.SelRef.lean ====
/-
  The reference's experts and their weights at an index.
-/
module

public import proofs.«01_k».proof.Proof.SelSort
public import proofs.«01_k».proof.Proof.SelScore
public import proofs.«01_k».proof.Proof.CtxRef

@[expose] public section

noncomputable section

namespace Cert.Select

open Cert.ReferenceSelectIdeal Cert.ReferenceSelectIdeal.Facts₀ Cert.ReferenceSelectIdeal.Read Idealize.ShloMosaic

variable (x0 : FVec Ideal S12288x1024 .f32) (x1 : FVec Ideal S8x6x1024 .f32) (x2 : FVec Ideal S1024 .f32)
  (x3 : FVec Ideal S1024x2048 .f32) (x4 : FVec Ideal S2x128x128 .f32) (t : Fin 12288) (hd : Fin 8)

theorem rowPos_div (r : Fin 80) : rowPos r / 16 = rowA r.val := by
  have hb := rowB_lt r
  unfold rowPos
  omega
theorem rowPos_mod (r : Fin 80) : rowPos r % 16 = rowB r.val := by
  have hb := rowB_lt r
  unfold rowPos
  omega

section
variable (h1 : ∀ n, (refScore x0 x1 x2 x3 x4 t hd 0) n ≠ ⊥) (h2 : ∀ n, (refScore x0 x1 x2 x3 x4 t hd 1) n ≠ ⊥)

include h1 in
theorem values_at (i : Fin 16) : val_main_values (F := Ideal) x0 x1 x2 x3 x4 (ix3 t hd i) = keyScore (refScore x0 x1 x2 x3 x4 t hd 0) i
    ∧ val_main_indices (F := Ideal) x0 x1 x2 x3 x4 (ix3 t hd i) = BitVec.ofNat 32 (keyChosen (refScore x0 x1 x2 x3 x4 t hd 0) i.val).val := by
  have e := fun n => first_at x0 x1 x2 x3 x4 (row_at x0 x1 x2) t hd n
  have h := topK_apply 128 (by decide) (val_main_v32 (F := Ideal) x0 x1 x2 x3 x4) sliceFits_S12288x8x128_S12288x8x16 t hd i
    (keyChosen (refScore x0 x1 x2 x3 x4 t hd 0) i.val) (sorted_keys (refScore x0 x1 x2 x3 x4 t hd 0) h1 _ (fun a b => by rw [e, e]; exact greater_iff _ _) i)
  exact ⟨h.1.trans (e _), h.2⟩

include h2 in
theorem values3_at (i : Fin 16) : val_main_values_3 (F := Ideal) x0 x1 x2 x3 x4 (ix3 t hd i) = keyScore (refScore x0 x1 x2 x3 x4 t hd 1) i
    ∧ val_main_indices_4 (F := Ideal) x0 x1 x2 x3 x4 (ix3 t hd i) = BitVec.ofNat 32 (keyChosen (refScore x0 x1 x2 x3 x4 t hd 1) i.val).val := by
  have e := fun n => second_at x0 x1 x2 x3 x4 (row_at x0 x1 x2) t hd n
  have h := topK_apply 128 (by decide) (val_main_v34 (F := Ideal) x0 x1 x2 x3 x4) sliceFits_S12288x8x128_S12288x8x16 t hd i
    (keyChosen (refScore x0 x1 x2 x3 x4 t hd 1) i.val) (sorted_keys (refScore x0 x1 x2 x3 x4 t hd 1) h2 _ (fun a b => by rw [e, e]; exact greater_iff _ _) i)
  exact ⟨h.1.trans (e _), h.2⟩

include h1 h2 in
theorem pairs_at (p : Fin 256) : val_main_v40 (F := Ideal) x0 x1 x2 x3 x4 (ix3 t hd p) = pairSum (keyScore (refScore x0 x1 x2 x3 x4 t hd 0)) (keyScore (refScore x0 x1 x2 x3 x4 t hd 1)) p := by
  have a := fun i => (values_at x0 x1 x2 x3 x4 t hd h1 i).1
  have b := fun i => (values3_at x0 x1 x2 x3 x4 t hd h2 i).1
  unfold val_main_v40 val_main_v39 val_main_v38 val_main_v37 val_main_v36 val_main_v35
  pointwise
  rw [a, b]
  rfl

include h1 h2 in
theorem values5_at (i : Fin 16) : val_main_values_5 (F := Ideal) x0 x1 x2 x3 x4 (ix3 t hd i) = pickScore (refScore x0 x1 x2 x3 x4 t hd 0) (refScore x0 x1 x2 x3 x4 t hd 1) i.val
    ∧ val_main_indices_6 (F := Ideal) x0 x1 x2 x3 x4 (ix3 t hd i) = BitVec.ofNat 32 (rowPos (pickRow (refScore x0 x1 x2 x3 x4 t hd 0) (refScore x0 x1 x2 x3 x4 t hd 1) i.val)) := by
  have e := pairs_at x0 x1 x2 x3 x4 t hd h1 h2
  have h := topK_apply 256 (by decide) (val_main_v40 (F := Ideal) x0 x1 x2 x3 x4) sliceFits_S12288x8x256_S12288x8x16 t hd i
    ⟨rowPos (pickRow (refScore x0 x1 x2 x3 x4 t hd 0) (refScore x0 x1 x2 x3 x4 t hd 1) i.val), rowPos_lt _⟩
    (sorted_pairs (keyScore (refScore x0 x1 x2 x3 x4 t hd 0)) (keyScore (refScore x0 x1 x2 x3 x4 t hd 1)) (keyScore_down _ h1) (keyScore_down _ h2) (keyScore_bot _ h1) (keyScore_bot _ h2) _
      (fun a b => by rw [e, e]; exact greater_iff _ _) i)
  exact ⟨h.1.trans ((e _).trans (pairSum_row _ _ _ (rowChosen_kept _ _ (keyScore_bot _ h1) (keyScore_bot _ h2) i.val i.isLt))), h.2⟩

include h1 h2 in
theorem expert_id (i : Fin 16) : val_main_v47 (F := Ideal) x0 x1 x2 x3 x4 (ix3 t hd i) = BitVec.ofNat 32 (pickId (refScore x0 x1 x2 x3 x4 t hd 0) (refScore x0 x1 x2 x3 x4 t hd 1) i.val) := by
  have h6 := (values5_at x0 x1 x2 x3 x4 t hd h1 h2 i).2
  have ha := rowA_lt (pickRow (refScore x0 x1 x2 x3 x4 t hd 0) (refScore x0 x1 x2 x3 x4 t hd 1) i.val)
  have hb := rowB_lt (pickRow (refScore x0 x1 x2 x3 x4 t hd 0) (refScore x0 x1 x2 x3 x4 t hd 1) i.val)
  have h41 : val_main_v41 (F := Ideal) x0 x1 x2 x3 x4 (ix3 t hd i) = BitVec.ofNat 32 (rowA (pickRow (refScore x0 x1 x2 x3 x4 t hd 0) (refScore x0 x1 x2 x3 x4 t hd 1) i.val).val) := by
    rw [quot_at, h6, quot16_eq ⟨_, rowPos_lt _⟩]
    exact congrArg (BitVec.ofNat 32) (rowPos_div _)
  have h43 : val_main_v43 (F := Ideal) x0 x1 x2 x3 x4 (ix3 t hd i) = BitVec.ofNat 32 (rowB (pickRow (refScore x0 x1 x2 x3 x4 t hd 0) (refScore x0 x1 x2 x3 x4 t hd 1) i.val).val) := by
    rw [rem_at, h6, rem16_eq ⟨_, rowPos_lt _⟩]
    exact congrArg (BitVec.ofNat 32) (rowPos_mod _)
  have a := (look1 x0 x1 x2 x3 x4 t hd i ⟨_, ha⟩ h41).trans (values_at x0 x1 x2 x3 x4 t hd h1 ⟨_, ha⟩).2
  have b := (look3 x0 x1 x2 x3 x4 t hd i ⟨_, hb⟩ h43).trans (values3_at x0 x1 x2 x3 x4 t hd h2 ⟨_, hb⟩).2
  unfold val_main_v47 val_main_v46 val_main_v45 val_main_c_8
  pointwise
  rw [a, b]
  show BitVec.ofNat 32 _ * BitVec.ofNat 32 128 + BitVec.ofNat 32 _ = _
  rw [← BitVec.ofNat_mul, ← BitVec.ofNat_add]
  rfl

/-- The greatest of a head's chosen scores. -/
theorem max_fold (v : FVec Ideal S12288x8x16 .f32) (s : Nat → EReal) (h : ∀ i, v (ix3 t hd i) = s i.val) :
    Host.reduce (FloatOps.maximumf (F := Ideal) (φ := .f32)) v (val_main_cst_9 (F := Ideal)) reducesTo_S12288x8x16_S12288x8_d2 h_S_ (ix2 t hd)
      = Finset.univ.fold max (⊥ : EReal) fun i : Fin 16 => s i.val := by
  refine (Host.reduce_eq_fold_single (α := Ideal .f32) (FloatOps.maximumf (F := Ideal) (φ := .f32)) _ _ _
    (by decide : S12288x8x16.Reduces [2] S12288x8) _ _).trans ?_
  have hb : val_main_cst_9 (F := Ideal) (Shape.Idx.first h_S_) = (⊥ : EReal) := Cert.Ctx.neg_inf
  rw [hb]
  refine congrArg (Finset.fold max (⊥ : EReal) · (Finset.univ : Finset (Fin 16))) ?_
  funext n
  refine (congrArg v ?_).trans (h n)
  funext a
  apply Fin.ext
  fin_cases a <;> rfl

include h1 h2 in
theorem top_at : val_main_v50 (F := Ideal) x0 x1 x2 x3 x4 (ix2 t hd)
    = pickScore (refScore x0 x1 x2 x3 x4 t hd 0) (refScore x0 x1 x2 x3 x4 t hd 1) 0 := by
  have hb : val_main_v49 (F := Ideal) (ix2 t hd) = (⊥ : EReal) := Cert.Ctx.neg_inf
  rw [val_main_v50_apply, hb, ← pick_max _ _ h1 h2]
  exact congrArg (max (⊥ : EReal)) (max_fold t hd _ _ fun i => (values5_at x0 x1 x2 x3 x4 t hd h1 h2 i).1)

section
variable (s : Nat → EReal) (h : ∀ i, val_main_values_5 (F := Ideal) x0 x1 x2 x3 x4 (ix3 t hd i) = s i.val)
  (hm : val_main_v50 (F := Ideal) x0 x1 x2 x3 x4 (ix2 t hd) = s 0)

include h hm in
theorem exp_at (i : Fin 16) : val_main_v54 (F := Ideal) x0 x1 x2 x3 x4 (ix3 t hd i) = Ideal.exp (s i.val - s 0) := by
  unfold val_main_v54 val_main_v53 val_main_v52 val_main_v51
  generalize val_main_values_5 (F := Ideal) x0 x1 x2 x3 x4 = v at h ⊢
  generalize val_main_v50 (F := Ideal) x0 x1 x2 x3 x4 = m at hm ⊢
  pointwise
  rw [h, hm]

include h hm in
theorem sum_at : val_main_v55 (F := Ideal) x0 x1 x2 x3 x4 (ix2 t hd) = ∑ j : Fin 16, Ideal.exp (s j.val - s 0) := by
  have e := exp_at x0 x1 x2 x3 x4 t hd s h hm
  unfold val_main_v55 val_main_cst_11
  generalize val_main_v54 (F := Ideal) x0 x1 x2 x3 x4 = v at e ⊢
  pointwise
  exact Finset.sum_congr rfl fun j _ => e j

include h hm in
theorem soft_at (i : Fin 16) : val_main_v58 (F := Ideal) x0 x1 x2 x3 x4 (ix3 t hd i)
    = Ideal.div (Ideal.exp (s i.val - s 0)) (∑ j : Fin 16, Ideal.exp (s j.val - s 0)) := by
  rw [← sum_at x0 x1 x2 x3 x4 t hd s h hm, ← exp_at x0 x1 x2 x3 x4 t hd s h hm i]
  unfold val_main_v58 val_main_v57 val_main_v56
  generalize val_main_v54 (F := Ideal) x0 x1 x2 x3 x4 = v
  generalize val_main_v55 (F := Ideal) x0 x1 x2 x3 x4 = m
  pointwise

end

include h1 h2 in
theorem weight_at (i : Fin 16) : val_main_v58 (F := Ideal) x0 x1 x2 x3 x4 (ix3 t hd i)
    = Ideal.div (Ideal.exp (pickScore (refScore x0 x1 x2 x3 x4 t hd 0) (refScore x0 x1 x2 x3 x4 t hd 1) i.val
          - pickScore (refScore x0 x1 x2 x3 x4 t hd 0) (refScore x0 x1 x2 x3 x4 t hd 1) 0))
        (∑ j : Fin 16, Ideal.exp (pickScore (refScore x0 x1 x2 x3 x4 t hd 0) (refScore x0 x1 x2 x3 x4 t hd 1) j.val
          - pickScore (refScore x0 x1 x2 x3 x4 t hd 0) (refScore x0 x1 x2 x3 x4 t hd 1) 0)) :=
  soft_at x0 x1 x2 x3 x4 t hd _ (fun i => (values5_at x0 x1 x2 x3 x4 t hd h1 h2 i).1) (top_at x0 x1 x2 x3 x4 t hd h1 h2) i

end

theorem out_row (c : Fin 128) :
    val_main_v59 (F := Ideal) x0 x1 x2 (ix2 ⟨t.val * 8 + hd.val, by omega⟩ c) = refHid x0 x1 x2 t ⟨hd.val * 128 + c.val, by omega⟩ := by
  rw [← row_at]
  unfold val_main_v59
  generalize val_main_v26 (F := Ideal) x0 x1 x2 = h
  pointwise
  exact congrArg (fun k => h (ix2 t k)) (Fin.ext (by show (t.val * 8 + hd.val) % 8 * 128 + c.val = hd.val * 128 + c.val; omega))

theorem out_x (c : Fin 128) :
    val_main_v60 (F := Ideal) x0 (ix2 ⟨t.val * 8 + hd.val, by omega⟩ c) = x0 (ix2 t ⟨hd.val * 128 + c.val, by omega⟩) := by
  unfold val_main_v60
  pointwise
  exact congrArg (fun k => x0 (ix2 t k)) (Fin.ext (by show (t.val * 8 + hd.val) % 8 * 128 + c.val = hd.val * 128 + c.val; omega))

theorem out_id (i : Fin 16) :
    val_main_v61 (F := Ideal) x0 x1 x2 x3 x4 (ix2 t ⟨hd.val * 16 + i.val, by omega⟩) = val_main_v47 (F := Ideal) x0 x1 x2 x3 x4 (ix3 t hd i) := by
  unfold val_main_v61
  generalize val_main_v47 (F := Ideal) x0 x1 x2 x3 x4 = h
  pointwise

theorem out_w (i : Fin 16) :
    val_main_v62 (F := Ideal) x0 x1 x2 x3 x4 (ix2 t ⟨hd.val * 16 + i.val, by omega⟩) = val_main_v58 (F := Ideal) x0 x1 x2 x3 x4 (ix3 t hd i) := by
  unfold val_main_v62
  generalize val_main_v58 (F := Ideal) x0 x1 x2 x3 x4 = h
  pointwise

end Cert.Select

end
-- ==== Proof.SelMain.lean ====
/-
  Which part of each array a grid point of the retrieval stages, and that its arrays after the run are the reference's.
-/
module

public import proofs.«01_k».proof.Proof.SelBlock
public import proofs.«01_k».proof.Proof.SelRef
public import proofs.«01_k».proof.Proof.QkvPure
public import Idealize.ShloMosaic.Lib.StableHlo.ReadAt

@[expose] public section

set_option maxRecDepth 16384

noncomputable section

namespace Cert.Select

open Cert.KernelSelectIdeal Cert.KernelSelectIdeal.Gen Cert.Na Cert.Mix Cert.Qkv Idealize.ShloMosaic Idealize.ShloMosaic.TcCoe
open scoped BigOperators

variable (m : (ℓ : Loc nD τ sig) → Buf (Elt Ideal) ℓ) (c : Dev nD)

abbrev argX : FVec Ideal S12288x1024 .f32 := m ((c : Thread nD τ).loc main_arg0)
abbrev argM : FVec Ideal S8x6x1024 .f32 := m ((c : Thread nD τ).loc main_arg1)
abbrev argN : FVec Ideal S1024 .f32 := m ((c : Thread nD τ).loc main_arg2)
abbrev argW : FVec Ideal S1024x2048 .f32 := m ((c : Thread nD τ).loc main_arg3)
abbrev argS : FVec Ideal S2x128x128 .f32 := m ((c : Thread nD τ).loc main_arg4)

theorem norm_at (k : Fin 1024) : (V m c main_v0 : FVec Ideal S1x1024 .f32) (ix2 0 k) = argN m c (ix1 k) := by
  unfold V
  after_reads_at

theorem w_at (r : Fin 2048) (k : Fin 1024) : (V m c main_v2 : FVec Ideal S2048x1024 .bf16) (ix2 r k) = argW m c (ix2 k r) := by
  unfold V
  after_reads_at

theorem keys_at (p : Fin 2) (n d : Fin 128) : (V m c main_v3 : FVec Ideal S2x128x128 .bf16) (ix3 p n d) = argS m c (ix3 p n d) := by
  unfold V
  after_reads_at

theorem index_moving : ∀ t : Fin cfg0.N,
    (win0_0.index t 0 = t.val ∧ win0_0.index t 1 = 0)
    ∧ (win0_1.index t 0 = t.val / 16 ∧ win0_1.index t 1 = 0 ∧ win0_1.index t 2 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0) :=
  (by decide +kernel : ∀ t : Fin grid0.N, _)

theorem index_still : ∀ t : Fin cfg0.N,
    (win0_2.index t 0 = 0 ∧ win0_2.index t 1 = 0)
    ∧ (win0_3.index t 0 = 0 ∧ win0_3.index t 1 = 0)
    ∧ (win0_4.index t 0 = 0 ∧ win0_4.index t 1 = 0 ∧ win0_4.index t 2 = 0) :=
  (by decide +kernel : ∀ t : Fin grid0.N, _)

variable (t : Fin cfg0.N)

theorem points (t : Fin cfg0.N) : t.val < 48 := t.isLt

/-- The token of a grid point's row. -/
abbrev tokRow (a : Fin 256) : Fin 12288 := ⟨t.val * 256 + a.val, by have := points t; omega⟩

theorem block0 (a : Fin 256) (k : Fin 1024) : (iblk m c 0 t : Vec Ideal S256x1024 .f32) (ix2 a k) = argX m c (ix2 (tokRow t a) k) := by
  obtain ⟨⟨h0, h1⟩, -⟩ := index_moving t
  unfold iblk
  rw [View.read_apply]
  show V m c main_arg0 _ = _
  rw [V_main_arg0]
  congr 1
  funext x
  apply Fin.ext
  match x with
  | ⟨0, _⟩ => show win0_0.index t 0 * 256 + 1 * a.val = t.val * 256 + a.val; rw [h0]; omega
  | ⟨1, _⟩ => show win0_0.index t 1 * 1024 + 1 * k.val = k.val; rw [h1]; omega

theorem block1 (a : Fin 256) (g : Fin 6) (n : Fin 1024) : (iblk m c 1 t : Vec Ideal S1x6x1024 .f32) (ix3 0 g n)
    = argM m c (ix3 (segOf (tokRow t a)) g n) := by
  obtain ⟨-, ⟨h0, h1, h2⟩, -⟩ := index_moving t
  unfold iblk
  rw [View.read_apply]
  show V m c main_arg1 _ = _
  rw [V_main_arg1]
  congr 1
  funext x
  apply Fin.ext
  match x with
  | ⟨0, _⟩ => show win0_1.index t 0 * 1 + 1 * 0 = (t.val * 256 + a.val) / 4096; rw [h0]; omega
  | ⟨1, _⟩ => show win0_1.index t 1 * 6 + 1 * g.val = g.val; rw [h1]; omega
  | ⟨2, _⟩ => show win0_1.index t 2 * 1024 + 1 * n.val = n.val; rw [h2]; omega

theorem block2 (n : Fin 1024) : (iblk m c 2 t : Vec Ideal S1x1024 .f32) (ix2 0 n) = argN m c (ix1 n) := by
  obtain ⟨⟨h0, h1⟩, -⟩ := index_still t
  unfold iblk
  rw [View.read_apply]
  refine (congrArg (V m c main_v0) (?_ : _ = ix2 0 n)).trans (norm_at m c n)
  funext x
  apply Fin.ext
  match x with
  | ⟨0, _⟩ => show win0_2.index t 0 * 1 + 1 * 0 = 0; rw [h0]
  | ⟨1, _⟩ => show win0_2.index t 1 * 1024 + 1 * n.val = n.val; rw [h1]; omega

theorem block3 (r : Fin 2048) (k : Fin 1024) : (iblk m c 3 t : Vec Ideal S2048x1024 .bf16) (ix2 r k) = argW m c (ix2 k r) := by
  obtain ⟨-, ⟨h0, h1⟩, -⟩ := index_still t
  unfold iblk
  rw [View.read_apply]
  refine (congrArg (V m c main_v2) (?_ : _ = ix2 r k)).trans (w_at m c r k)
  funext x
  apply Fin.ext
  match x with
  | ⟨0, _⟩ => show win0_3.index t 0 * 2048 + 1 * r.val = r.val; rw [h0]; omega
  | ⟨1, _⟩ => show win0_3.index t 1 * 1024 + 1 * k.val = k.val; rw [h1]; omega

theorem block4 (p : Fin 2) (n d : Fin 128) : (iblk m c 4 t : Vec Ideal S2x128x128 .bf16) (ix3 p n d) = argS m c (ix3 p n d) := by
  obtain ⟨-, -, h0, h1, h2⟩ := index_still t
  unfold iblk
  rw [View.read_apply]
  refine (congrArg (V m c main_v3) (?_ : _ = ix3 p n d)).trans (keys_at m c p n d)
  funext x
  apply Fin.ext
  match x with
  | ⟨0, _⟩ => show win0_4.index t 0 * 2 + 1 * p.val = p.val; rw [h0]; omega
  | ⟨1, _⟩ => show win0_4.index t 1 * 128 + 1 * n.val = n.val; rw [h1]; omega
  | ⟨2, _⟩ => show win0_4.index t 2 * 128 + 1 * d.val = d.val; rw [h2]; omega

/-- A grid point's row is its token's. -/
theorem row_eq (a : Fin 256) : blkHid (iblk m c 0 t) (iblk m c 1 t) (iblk m c 2 t) a
    = refHid (argX m c) (argM m c) (argN m c) (tokRow t a) := by
  unfold blkHid refHid
  simp only [block0, block1 m c t a, block2]

/-- And its scores are its token's. -/
theorem score_eq (a : Fin 256) : blkScore (iblk m c 0 t) (iblk m c 1 t) (iblk m c 2 t) (iblk m c 3 t) (iblk m c 4 t) a
    = refScore (argX m c) (argM m c) (argN m c) (argW m c) (argS m c) (tokRow t a) := by
  funext hd p n
  unfold blkScore refScore
  rw [row_eq]
  simp only [block3, block4]

/-- What the scores are made of is real, but for the activations. -/
def RealArgs : Prop :=
  (∀ (s : Fin 3) (g : Fin 2) (k : Fin 1024), Real' (argM m c (ix3 ⟨s.val, by omega⟩ ⟨g.val + 3, by omega⟩ k)))
    ∧ (∀ k : Fin 1024, Real' (argN m c (ix1 k)))
    ∧ (∀ (k : Fin 1024) (n : Fin 2048), Real' (argW m c (ix2 k n)))
    ∧ ∀ (p : Fin 2) (n d : Fin 128), Real' (argS m c (ix3 p n d))

variable {m c}

theorem live (hr : RealArgs m c) (t : Fin 12288) (hd : Fin 8) (p : Fin 2) (n : Fin 128) :
    refScore (argX m c) (argM m c) (argN m c) (argW m c) (argS m c) t hd p n ≠ ⊥ :=
  score_live (fun k => real_hid _ (fun k => hr.1 ⟨t.val / 4096, by omega⟩ 0 k) (fun k => hr.1 ⟨t.val / 4096, by omega⟩ 1 k) hr.2.1 k)
    (fun k n => hr.2.2.1 k n) (fun p n d => hr.2.2.2 p n d) hd p n

variable (m c)

/-- A tile of a grid point's block. -/
theorem emb5 (a : Fin 2048) (l : Fin 128) :
    ((cfg0.win 5).blk t).view.emb (ix2 a l : S2048x128.Idx) = (ix2 ⟨t.val * 2048 + a.val, by have := points t; omega⟩ l : S98304x128.Idx) := by
  obtain ⟨-, -, ⟨h0, h1⟩, -⟩ := index_moving t
  funext x
  apply Fin.ext
  match x with
  | ⟨0, _⟩ => show win0_5.index t 0 * 2048 + 1 * a.val = t.val * 2048 + a.val; rw [h0]; omega
  | ⟨1, _⟩ => show win0_5.index t 1 * 128 + 1 * l.val = l.val; rw [h1]; omega

theorem emb6 (a : Fin 2048) (l : Fin 128) :
    ((cfg0.win 6).blk t).view.emb (ix2 a l : S2048x128.Idx) = (ix2 ⟨t.val * 2048 + a.val, by have := points t; omega⟩ l : S98304x128.Idx) := by
  obtain ⟨-, -, -, ⟨h0, h1⟩, -⟩ := index_moving t
  funext x
  apply Fin.ext
  match x with
  | ⟨0, _⟩ => show win0_6.index t 0 * 2048 + 1 * a.val = t.val * 2048 + a.val; rw [h0]; omega
  | ⟨1, _⟩ => show win0_6.index t 1 * 128 + 1 * l.val = l.val; rw [h1]; omega

theorem emb7 (a : Fin 256) (l : Fin 128) :
    ((cfg0.win 7).blk t).view.emb (ix2 a l : S256x128.Idx) = (ix2 (tokRow t a) l : S12288x128.Idx) := by
  obtain ⟨-, -, -, -, ⟨h0, h1⟩, -⟩ := index_moving t
  funext x
  apply Fin.ext
  match x with
  | ⟨0, _⟩ => show win0_7.index t 0 * 256 + 1 * a.val = t.val * 256 + a.val; rw [h0]; omega
  | ⟨1, _⟩ => show win0_7.index t 1 * 128 + 1 * l.val = l.val; rw [h1]; omega

theorem emb8 (a : Fin 256) (l : Fin 128) :
    ((cfg0.win 8).blk t).view.emb (ix2 a l : S256x128.Idx) = (ix2 (tokRow t a) l : S12288x128.Idx) := by
  obtain ⟨-, -, -, -, -, h0, h1⟩ := index_moving t
  funext x
  apply Fin.ext
  match x with
  | ⟨0, _⟩ => show win0_8.index t 0 * 256 + 1 * a.val = t.val * 256 + a.val; rw [h0]; omega
  | ⟨1, _⟩ => show win0_8.index t 1 * 128 + 1 * l.val = l.val; rw [h1]; omega

/-- Two tile arrays agree that agree on every token's tiles. -/
theorem tiles_ext {f g : S98304x128.Idx → EReal}
    (h : ∀ (t : Fin cfg0.N) (a : Fin 256) (s : Fin 8) (l : Fin 128),
      f (ix2 ⟨t.val * 2048 + (a.val * 8 + s.val), by have := points t; omega⟩ l) = g (ix2 ⟨(tokRow t a).val * 8 + s.val, by have := points t; omega⟩ l)) : f = g := by
  funext j
  have hj0 : (j 0).val < 98304 := (j 0).isLt
  have e := h ⟨(j 0).val / 2048, by show _ < 48; omega⟩ ⟨(j 0).val % 2048 / 8, by omega⟩ ⟨(j 0).val % 8, by omega⟩ (j 1)
  have e1 : j = ix2 (⟨(j 0).val / 2048 * 2048 + ((j 0).val % 2048 / 8 * 8 + (j 0).val % 8), by omega⟩ : Fin 98304) (j 1) := by
    funext x
    apply Fin.ext
    match x with
    | ⟨0, _⟩ => show (j 0).val = (j 0).val / 2048 * 2048 + ((j 0).val % 2048 / 8 * 8 + (j 0).val % 8); omega
    | ⟨1, _⟩ => rfl
  have e2 : j = ix2 (⟨((j 0).val / 2048 * 256 + (j 0).val % 2048 / 8) * 8 + (j 0).val % 8, by omega⟩ : Fin 98304) (j 1) := by
    funext x
    apply Fin.ext
    match x with
    | ⟨0, _⟩ => show (j 0).val = ((j 0).val / 2048 * 256 + (j 0).val % 2048 / 8) * 8 + (j 0).val % 8; omega
    | ⟨1, _⟩ => rfl
  exact (congrArg f e1).trans (e.trans (congrArg g e2).symm)

/-- Two arrays of a token's experts agree that agree head by head. -/
theorem heads_ext {α : Type} {f g : S12288x128.Idx → α}
    (h : ∀ (t : Fin cfg0.N) (a : Fin 256) (hd : Fin 8) (n : Fin 16),
      f (ix2 (tokRow t a) ⟨hd.val * 16 + n.val, by omega⟩) = g (ix2 (tokRow t a) ⟨hd.val * 16 + n.val, by omega⟩)) : f = g := by
  funext j
  have hj0 : (j 0).val < 12288 := (j 0).isLt
  have hj1 : (j 1).val < 128 := (j 1).isLt
  have e := h ⟨(j 0).val / 256, by show _ < 48; omega⟩ ⟨(j 0).val % 256, by omega⟩ ⟨(j 1).val / 16, by omega⟩ ⟨(j 1).val % 16, by omega⟩
  have e1 : j = ix2 (⟨(j 0).val / 256 * 256 + (j 0).val % 256, by omega⟩ : Fin 12288) (⟨(j 1).val / 16 * 16 + (j 1).val % 16, by omega⟩ : Fin 128) := by
    funext x
    apply Fin.ext
    match x with
    | ⟨0, _⟩ => show (j 0).val = (j 0).val / 256 * 256 + (j 0).val % 256; omega
    | ⟨1, _⟩ => show (j 1).val = (j 1).val / 16 * 16 + (j 1).val % 16; omega
  exact (congrArg f e1).trans (e.trans (congrArg g e1).symm)

theorem outs5 (a : Fin 256) (s : Fin 8) (l : Fin 128) :
    ((outsAt0 m c t).1 : Vec Ideal S2048x128 .f32) (ix2 ⟨a.val * 8 + s.val, by omega⟩ l)
      = blkHid (iblk m c 0 t) (iblk m c 1 t) (iblk m c 2 t) a ⟨s.val * 128 + l.val, by omega⟩ := by
  unfold outsAt0
  dsimp only
  exact block_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) a ⟨s.val * 128 + l.val, by omega⟩ _ l
    (by show a.val * 8 + s.val = a.val * 8 + (s.val * 128 + l.val) / 128; omega) (by show l.val = (s.val * 128 + l.val) % 128; omega)

theorem outs6 (a : Fin 256) (s : Fin 8) (l : Fin 128) :
    ((outsAt0 m c t).2.1 : Vec Ideal S2048x128 .f32) (ix2 ⟨a.val * 8 + s.val, by omega⟩ l)
      = (iblk m c 0 t : Vec Ideal S256x1024 .f32) (ix2 a ⟨s.val * 128 + l.val, by omega⟩) := by
  unfold outsAt0
  dsimp only
  exact block_x c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) a ⟨s.val * 128 + l.val, by omega⟩ _ l
    (by show a.val * 8 + s.val = a.val * 8 + (s.val * 128 + l.val) / 128; omega) (by show l.val = (s.val * 128 + l.val) % 128; omega)

section
variable (a : Fin 256) (hd : Fin 8) (n : Fin 16)
  (h1 : ∀ n, blkScore (iblk m c 0 t) (iblk m c 1 t) (iblk m c 2 t) (iblk m c 3 t) (iblk m c 4 t) a hd 0 n ≠ ⊥) (h2 : ∀ n, blkScore (iblk m c 0 t) (iblk m c 1 t) (iblk m c 2 t) (iblk m c 3 t) (iblk m c 4 t) a hd 1 n ≠ ⊥)

include h1 h2 in
theorem outs7 : ((outsAt0 m c t).2.2.1 : Vec Ideal S256x128 .i32) (ix2 a ⟨hd.val * 16 + n.val, by omega⟩)
    = BitVec.ofNat 32 (pickId (blkScore (iblk m c 0 t) (iblk m c 1 t) (iblk m c 2 t) (iblk m c 3 t) (iblk m c 4 t) a hd 0) (blkScore (iblk m c 0 t) (iblk m c 1 t) (iblk m c 2 t) (iblk m c 3 t) (iblk m c 4 t) a hd 1) n.val) := by
  unfold outsAt0
  dsimp only
  exact block_ids c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) a hd n h1 h2

include h1 h2 in
theorem outs8 : ((outsAt0 m c t).2.2.2 : Vec Ideal S256x128 .f32) (ix2 a ⟨hd.val * 16 + n.val, by omega⟩)
    = Ideal.div (Ideal.exp (pickScore (blkScore (iblk m c 0 t) (iblk m c 1 t) (iblk m c 2 t) (iblk m c 3 t) (iblk m c 4 t) a hd 0) (blkScore (iblk m c 0 t) (iblk m c 1 t) (iblk m c 2 t) (iblk m c 3 t) (iblk m c 4 t) a hd 1) n.val
          - pickScore (blkScore (iblk m c 0 t) (iblk m c 1 t) (iblk m c 2 t) (iblk m c 3 t) (iblk m c 4 t) a hd 0) (blkScore (iblk m c 0 t) (iblk m c 1 t) (iblk m c 2 t) (iblk m c 3 t) (iblk m c 4 t) a hd 1) 0))
        (∑ j : Fin 16, Ideal.exp (pickScore (blkScore (iblk m c 0 t) (iblk m c 1 t) (iblk m c 2 t) (iblk m c 3 t) (iblk m c 4 t) a hd 0) (blkScore (iblk m c 0 t) (iblk m c 1 t) (iblk m c 2 t) (iblk m c 3 t) (iblk m c 4 t) a hd 1) j.val
          - pickScore (blkScore (iblk m c 0 t) (iblk m c 1 t) (iblk m c 2 t) (iblk m c 3 t) (iblk m c 4 t) a hd 0) (blkScore (iblk m c 0 t) (iblk m c 1 t) (iblk m c 2 t) (iblk m c 3 t) (iblk m c 4 t) a hd 1) 0)) := by
  unfold outsAt0
  dsimp only
  exact block_weights c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) a hd n h1 h2

end

/-- The arrays that the retrieval leaves are the reference's results: the modulated rows, -/
theorem final5 : ((dats m 0 c).arrAt 5 cfg0.N : FVec Ideal S98304x128 .f32)
    = Cert.ReferenceSelectIdeal.Read.val_main_v59 (F := Ideal) (argX m c) (argM m c) (argN m c) :=
  tiles_ext fun t a s l => by
    refine Eq.trans ?_ (out_row (argX m c) (argM m c) (argN m c) (tokRow t a) s l).symm
    rw [← row_eq, ← outs5, ← emb5 t ⟨a.val * 8 + s.val, by omega⟩ l]
    exact (congrFun ((blocks5 m c t (flush0_5 t)).trans (flushed5 m c t)) (ix2 ⟨a.val * 8 + s.val, by omega⟩ l : S2048x128.Idx) :)

/-- the rows, -/
theorem final6 : ((dats m 0 c).arrAt 6 cfg0.N : FVec Ideal S98304x128 .f32)
    = Cert.ReferenceSelectIdeal.Read.val_main_v60 (F := Ideal) (argX m c) :=
  tiles_ext fun t a s l => by
    refine Eq.trans ?_ (out_x (argX m c) (tokRow t a) s l).symm
    rw [← block0, ← outs6, ← emb6 t ⟨a.val * 8 + s.val, by omega⟩ l]
    exact (congrFun ((blocks6 m c t (flush0_6 t)).trans (flushed6 m c t)) (ix2 ⟨a.val * 8 + s.val, by omega⟩ l : S2048x128.Idx) :)

/-- the experts -/
theorem final7 (hr : RealArgs m c) : ((dats m 0 c).arrAt 7 cfg0.N : IVec S12288x128 32)
    = Cert.ReferenceSelectIdeal.Read.val_main_v61 (F := Ideal) (argX m c) (argM m c) (argN m c) (argW m c) (argS m c) :=
  heads_ext fun t a hd n => by
    refine Eq.trans ?_ ((out_id (argX m c) (argM m c) (argN m c) (argW m c) (argS m c) (tokRow t a) hd n).trans
      (expert_id _ _ _ _ _ _ _ (fun n => live hr _ _ _ n) (fun n => live hr _ _ _ n) n)).symm
    rw [← score_eq, ← outs7 m c t a hd n (fun n => by rw [score_eq]; exact live hr _ _ _ n) (fun n => by rw [score_eq]; exact live hr _ _ _ n),
      ← emb7 t a _]
    exact (congrFun ((blocks7 m c t (flush0_7 t)).trans (flushed7 m c t)) (ix2 a ⟨hd.val * 16 + n.val, by omega⟩ : S256x128.Idx) :)

/-- and their weights. -/
theorem final8 (hr : RealArgs m c) : ((dats m 0 c).arrAt 8 cfg0.N : FVec Ideal S12288x128 .f32)
    = Cert.ReferenceSelectIdeal.Read.val_main_v62 (F := Ideal) (argX m c) (argM m c) (argN m c) (argW m c) (argS m c) :=
  heads_ext fun t a hd n => by
    refine Eq.trans ?_ ((out_w (argX m c) (argM m c) (argN m c) (argW m c) (argS m c) (tokRow t a) hd n).trans
      (weight_at _ _ _ _ _ _ _ (fun n => live hr _ _ _ n) (fun n => live hr _ _ _ n) n)).symm
    rw [← score_eq, ← outs8 m c t a hd n (fun n => by rw [score_eq]; exact live hr _ _ _ n) (fun n => by rw [score_eq]; exact live hr _ _ _ n),
      ← emb8 t a _]
    exact (congrFun ((blocks8 m c t (flush0_8 t)).trans (flushed8 m c t)) (ix2 a ⟨hd.val * 16 + n.val, by omega⟩ : S256x128.Idx) :)

end Cert.Select

end
-- ==== Proof.SelClaim.lean ====
/-
  The claims about the retrieval: its reference's frame, and that kernel and reference leave equal results.
-/
module

public import proofs.«01_k».proof.Defs
public import proofs.«01_k».proof.Proof.SelFrameK
public import proofs.«01_k».proof.Proof.NaClaim
public import proofs.«01_k».proof.Proof.SelRun
public import proofs.«01_k».proof.Proof.SelMain
public import Idealize.ShloMosaic.Adequacy
public import Idealize.ShloMosaic.Init

@[expose] public section

set_option maxRecDepth 16384

noncomputable section

namespace Cert.Select

open Cert.Na Idealize.ShloMosaic Idealize.ShloMosaic.TcCoe Idealize.SL.Sem

instance preFacts : Cert.Pre_finite_keys.Facts where
  slices_S8x6x1024_S3x2x1024_0_3_0 := by decide
  bcast_S_S3x2x1024 := by decide
  bcast_S_S1024 := by decide
  bcast_S_S1024x2048 := by decide
  bcast_S_S2x128x128 := by decide

section
open Cert.Pre_finite_keys

theorem modulation_at (x : FVec Ideal S8x6x1024 .f32) (h : S8x6x1024.Slices ![0, 3, 0] S3x2x1024) (s : Fin 3) (g : Fin 2) (k : Fin 1024) :
    extractStridedSlice S3x2x1024 ![0, 3, 0] x h (ix3 s g k) = x (ix3 ⟨s.val, by omega⟩ ⟨g.val + 3, by omega⟩ k) := by
  refine congrArg x (funext fun d => Fin.ext ?_)
  match d with
  | ⟨0, _⟩ => show 0 + s.val = s.val; omega
  | ⟨1, _⟩ => show 3 + g.val = g.val + 3; omega
  | ⟨2, _⟩ => show 0 + k.val = k.val; omega

end

theorem realArgs (m : (ℓ : Loc Cert.KernelSelectIdeal.nD Cert.KernelSelectIdeal.τ Cert.KernelSelectIdeal.sig) → Buf (Elt Ideal) ℓ)
    (h : Cert.Pre_KernelSelectIdeal_finite_keys m) (c : Dev Cert.KernelSelectIdeal.nD) : RealArgs m c :=
  ⟨fun s g k => (modulation_at (argM m c) preFacts.slices_S8x6x1024_S3x2x1024_0_3_0 s g k).symm ▸ real_of_word (congrFun (h c).1 (ix3 s g k)),
    fun k => real_of_word (congrFun (h c).2.1 (ix1 k)),
    fun k n => real_of_word (congrFun (h c).2.2.1 (ix2 k n)),
    fun p n d => real_of_word (congrFun (h c).2.2.2 (ix3 p n d))⟩

theorem frame_reference : Cert.quiescent_ReferenceSelectIdeal := fun m ρ _ =>
  (θ_run Cert.ReferenceSelectIdeal.defs _ _).mono
    (fun r h => ⟨fun c => (h c).2.2.2.2, sem_eq_zero_of_no_sems (by decide) r.2⟩) (reference_run m ρ)

theorem algebraic : Cert.algebraic_KernelSelectIdeal_ReferenceSelectIdeal_pre_finite_keys := fun m g m' g' hpre hargs =>
  ⟨fun c => (Cert.KernelSelectIdeal.Gen.dats m 0 c).arrAt 5 Cert.KernelSelectIdeal.cfg0.N,
    fun c => (Cert.KernelSelectIdeal.Gen.dats m 0 c).arrAt 6 Cert.KernelSelectIdeal.cfg0.N,
    fun c => (Cert.KernelSelectIdeal.Gen.dats m 0 c).arrAt 7 Cert.KernelSelectIdeal.cfg0.N,
    fun c => (Cert.KernelSelectIdeal.Gen.dats m 0 c).arrAt 8 Cert.KernelSelectIdeal.cfg0.N,
    Cert.KernelSelectIdeal.Gen.run_blocks m g,
    (θ_run Cert.ReferenceSelectIdeal.defs _ _).mono (fun r h c => by
        obtain ⟨h0, h1, h2, h3, h4⟩ := hargs c
        have hr := realArgs m hpre c
        refine ⟨(h c).1.trans ?_, (h c).2.1.trans ?_, (h c).2.2.1.trans ?_, (h c).2.2.2.1.trans ?_, (h c).2.2.2.2⟩
        · rw [h0, h1, h2]; exact (final5 m c).symm
        · rw [h0]; exact (final6 m c).symm
        · rw [h0, h1, h2, h3, h4]; exact (final7 m c hr).symm
        · rw [h0, h1, h2, h3, h4]; exact (final8 m c hr).symm)
      (reference_run m' g')⟩

end Cert.Select

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.KernelIdeal.Value
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Read
public import proofs.«01_k».proof.Proof.Gen.ReferenceMixIdeal.Run
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Read
public import proofs.«01_k».proof.Proof.Gen.ReferenceQkvIdeal.Run
public import proofs.«01_k».proof.Proof.Gen.KernelCtx
public import proofs.«01_k».proof.Proof.Gen.KernelCtx.Skeleton
public import proofs.«01_k».proof.Proof.Gen.KernelCtx.Launch
public import proofs.«01_k».proof.Proof.Gen.KernelCtx.Points
public import proofs.«01_k».proof.Proof.Gen.KernelCtx.Frame
public import proofs.«01_k».proof.Proof.Gen.KernelCtxIdeal
public import proofs.«01_k».proof.Proof.Gen.KernelCtxIdeal.Skeleton
public import proofs.«01_k».proof.Proof.Gen.KernelCtxIdeal.Launch
public import proofs.«01_k».proof.Proof.Gen.KernelCtxIdeal.Points
public import proofs.«01_k».proof.Proof.Gen.KernelCtxIdeal.Frame
public import proofs.«01_k».proof.Proof.Gen.KernelCtxIdeal.Value
public import proofs.«01_k».proof.Proof.Gen.ReferenceCtxIdeal
public import proofs.«01_k».proof.Proof.Gen.ReferenceCtxIdeal.Read
public import proofs.«01_k».proof.Proof.Gen.ReferenceCtxIdeal.Run
public import proofs.«01_k».proof.Proof.Gen.KernelSelect
public import proofs.«01_k».proof.Proof.Gen.KernelSelect.Launch
public import proofs.«01_k».proof.Proof.Gen.KernelSelect.Points
public import proofs.«01_k».proof.Proof.Gen.KernelSelect.Skeleton
public import proofs.«01_k».proof.Proof.Gen.KernelSelect.Loops
public import proofs.«01_k».proof.Proof.Gen.KernelSelectIdeal
public import proofs.«01_k».proof.Proof.Gen.KernelSelectIdeal.Launch
public import proofs.«01_k».proof.Proof.Gen.KernelSelectIdeal.Points
public import proofs.«01_k».proof.Proof.Gen.KernelSelectIdeal.Skeleton
public import proofs.«01_k».proof.Proof.Gen.KernelSelectIdeal.Loops
public import proofs.«01_k».proof.Proof.Gen.ReferenceSelectIdeal
public import proofs.«01_k».proof.Proof.Gen.ReferenceSelectIdeal.Run
public import proofs.«01_k».proof.Proof.Gen.ReferenceSelectIdeal.Read
public import proofs.«01_k».proof.Proof.NaClaim
public import proofs.«01_k».proof.Proof.MixClaim
public import proofs.«01_k».proof.Proof.QkvClaim
public import proofs.«01_k».proof.Proof.CtxClaim
public import proofs.«01_k».proof.Proof.SelClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.KernelMix.Gen.facts, Cert.KernelMixIdeal.Gen.facts, Cert.ReferenceMixIdeal.Gen.facts,
    Cert.KernelQkv.Gen.facts, Cert.KernelQkvIdeal.Gen.facts, Cert.ReferenceQkvIdeal.Gen.facts,
    Cert.KernelCtx.Gen.facts, Cert.KernelCtxIdeal.Gen.facts, Cert.ReferenceCtxIdeal.Gen.facts,
    Cert.KernelSelect.Gen.facts, Cert.KernelSelectIdeal.Gen.facts, Cert.ReferenceSelectIdeal.Gen.facts,
    Cert.Na.preFacts, Cert.Qkv.preFacts, Cert.Ctx.preFacts, Cert.Select.preFacts,
    fun m ρ _ => Cert.Kernel.Gen.frame m ρ,
    fun m ρ _ => Cert.KernelIdeal.Gen.frame m ρ,
    fun m ρ _ => Cert.KernelIdeal.Gen.frame m ρ,
    Cert.Na.frame_reference,
    fun m ρ _ => Cert.Na.frame_reference m ρ trivial,
    fun m ρ _ => Cert.KernelMix.Gen.frame m ρ,
    fun m ρ _ => Cert.KernelMixIdeal.Gen.frame m ρ,
    Cert.Mix.frame_reference,
    fun m ρ _ => Cert.KernelQkv.Gen.frame m ρ,
    fun m ρ _ => Cert.KernelQkvIdeal.Gen.frame m ρ,
    fun m ρ _ => Cert.KernelQkvIdeal.Gen.frame m ρ,
    Cert.Qkv.frame_reference,
    fun m ρ _ => Cert.Qkv.frame_reference m ρ trivial,
    fun m ρ _ => Cert.KernelCtx.Gen.frame m ρ,
    fun m ρ _ => Cert.KernelCtxIdeal.Gen.frame m ρ,
    fun m ρ _ => Cert.KernelCtxIdeal.Gen.frame m ρ,
    Cert.Ctx.frame_reference,
    fun m ρ _ => Cert.Ctx.frame_reference m ρ trivial,
    fun m ρ _ => Cert.KernelSelect.Gen.frame m ρ,
    fun m ρ _ => Cert.KernelSelectIdeal.Gen.frame m ρ,
    fun m ρ _ => Cert.KernelSelectIdeal.Gen.frame m ρ,
    Cert.Select.frame_reference,
    fun m ρ _ => Cert.Select.frame_reference m ρ trivial,
    trivial,
    Cert.Na.algebraic,
    trivial,
    Cert.Mix.algebraic,
    trivial,
    Cert.Qkv.algebraic,
    trivial,
    Cert.Ctx.algebraic,
    trivial,
    Cert.Select.algebraic⟩

end Cert.Proof

end
